-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_FrontDec (m : (ℓ : Loc Cert.FrontDec.nD Cert.FrontDec.τ Cert.FrontDec.sig) → Buf (Elt Bits) ℓ) : Prop :=
  True

def Pre_FrontDecIdeal (m : (ℓ : Loc Cert.FrontDecIdeal.nD Cert.FrontDecIdeal.τ Cert.FrontDecIdeal.sig) → Buf (Elt Ideal) ℓ) : Prop :=
  True

def Pre_FrontDecRefIdeal (m : (ℓ : Loc Cert.FrontDecRefIdeal.nD Cert.FrontDecRefIdeal.τ Cert.FrontDecRefIdeal.sig) → Buf (Elt Ideal) ℓ) : Prop :=
  True

def Pre_MixDec (m : (ℓ : Loc Cert.MixDec.nD Cert.MixDec.τ Cert.MixDec.sig) → Buf (Elt Bits) ℓ) : Prop :=
  True

def Pre_MixDecIdeal (m : (ℓ : Loc Cert.MixDecIdeal.nD Cert.MixDecIdeal.τ Cert.MixDecIdeal.sig) → Buf (Elt Ideal) ℓ) : Prop :=
  True

def Pre_MixDecRefIdeal (m : (ℓ : Loc Cert.MixDecRefIdeal.nD Cert.MixDecRefIdeal.τ Cert.MixDecRefIdeal.sig) → Buf (Elt Ideal) ℓ) : Prop :=
  True

def Pre_FfnDec (m : (ℓ : Loc Cert.FfnDec.nD Cert.FfnDec.τ Cert.FfnDec.sig) → Buf (Elt Bits) ℓ) : Prop :=
  True

def Pre_FfnDecIdeal (m : (ℓ : Loc Cert.FfnDecIdeal.nD Cert.FfnDecIdeal.τ Cert.FfnDecIdeal.sig) → Buf (Elt Ideal) ℓ) : Prop :=
  True

def Pre_FfnDecRefIdeal (m : (ℓ : Loc Cert.FfnDecRefIdeal.nD Cert.FfnDecRefIdeal.τ Cert.FfnDecRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_Sel (m : (ℓ : Loc Cert.Sel.nD Cert.Sel.τ Cert.Sel.sig) → Buf (Elt Bits) ℓ) : Prop :=
  True

def Pre_SelIdeal (m : (ℓ : Loc Cert.SelIdeal.nD Cert.SelIdeal.τ Cert.SelIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2))
      ∧ r.2.sem = fun _ => 0)

def quiescent_FrontDec [hFrontDec : Cert.FrontDec.Facts] : Prop :=
  ∀ (m : (ℓ : Loc Cert.FrontDec.nD Cert.FrontDec.τ Cert.FrontDec.sig) → Buf (Elt Bits) ℓ) (g : Dev Cert.FrontDec.nD → PrngReg), Pre_FrontDec m →
    θ_run (Cert.FrontDec.defs (F := Bits)) (onTc (τ := Cert.FrontDec.τ) (Cert.FrontDec.main (F := Bits))) ⟨m, fun _ => 0, g⟩ (fun r => (∀ c : Dev Cert.FrontDec.nD,
      r.2.mem ((c.tc : Thread Cert.FrontDec.nD Cert.FrontDec.τ).loc Cert.FrontDec.main_arg0) = m ((c.tc : Thread Cert.FrontDec.nD Cert.FrontDec.τ).loc Cert.FrontDec.main_arg0)
      ∧ r.2.mem ((c.tc : Thread Cert.FrontDec.nD Cert.FrontDec.τ).loc Cert.FrontDec.main_arg1) = m ((c.tc : Thread Cert.FrontDec.nD Cert.FrontDec.τ).loc Cert.FrontDec.main_arg1)
      ∧ r.2.mem ((c.tc : Thread Cert.FrontDec.nD Cert.FrontDec.τ).loc Cert.FrontDec.main_arg2) = m ((c.tc : Thread Cert.FrontDec.nD Cert.FrontDec.τ).loc Cert.FrontDec.main_arg2))
      ∧ r.2.sem = fun _ => 0)

def quiescent_FrontDecIdeal [hFrontDecIdeal : Cert.FrontDecIdeal.Facts] : Prop :=
  ∀ (m : (ℓ : Loc Cert.FrontDecIdeal.nD Cert.FrontDecIdeal.τ Cert.FrontDecIdeal.sig) → Buf (Elt Ideal) ℓ) (g : Dev Cert.FrontDecIdeal.nD → PrngReg), Pre_FrontDecIdeal m →
    θ_run (Cert.FrontDecIdeal.defs (F := Ideal)) (onTc (τ := Cert.FrontDecIdeal.τ) (Cert.FrontDecIdeal.main (F := Ideal))) ⟨m, fun _ => 0, g⟩ (fun r => (∀ c : Dev Cert.FrontDecIdeal.nD,
      r.2.mem ((c.tc : Thread Cert.FrontDecIdeal.nD Cert.FrontDecIdeal.τ).loc Cert.FrontDecIdeal.main_arg0) = m ((c.tc : Thread Cert.FrontDecIdeal.nD Cert.FrontDecIdeal.τ).loc Cert.FrontDecIdeal.main_arg0)
      ∧ r.2.mem ((c.tc : Thread Cert.FrontDecIdeal.nD Cert.FrontDecIdeal.τ).loc Cert.FrontDecIdeal.main_arg1) = m ((c.tc : Thread Cert.FrontDecIdeal.nD Cert.FrontDecIdeal.τ).loc Cert.FrontDecIdeal.main_arg1)
      ∧ r.2.mem ((c.tc : Thread Cert.FrontDecIdeal.nD Cert.FrontDecIdeal.τ).loc Cert.FrontDecIdeal.main_arg2) = m ((c.tc : Thread Cert.FrontDecIdeal.nD Cert.FrontDecIdeal.τ).loc Cert.FrontDecIdeal.main_arg2))
      ∧ r.2.sem = fun _ => 0)

def quiescent_FrontDecRefIdeal [hFrontDecRefIdeal : Cert.FrontDecRefIdeal.Facts] : Prop :=
  ∀ (m : (ℓ : Loc Cert.FrontDecRefIdeal.nD Cert.FrontDecRefIdeal.τ Cert.FrontDecRefIdeal.sig) → Buf (Elt Ideal) ℓ) (g : Dev Cert.FrontDecRefIdeal.nD → PrngReg), Pre_FrontDecRefIdeal m →
    θ_run (Cert.FrontDecRefIdeal.defs (F := Ideal)) (onTc (τ := Cert.FrontDecRefIdeal.τ) (Cert.FrontDecRefIdeal.main (F := Ideal))) ⟨m, fun _ => 0, g⟩ (fun r => (∀ c : Dev Cert.FrontDecRefIdeal.nD,
      r.2.mem ((c.tc : Thread Cert.FrontDecRefIdeal.nD Cert.FrontDecRefIdeal.τ).loc Cert.FrontDecRefIdeal.main_arg0) = m ((c.tc : Thread Cert.FrontDecRefIdeal.nD Cert.FrontDecRefIdeal.τ).loc Cert.FrontDecRefIdeal.main_arg0)
      ∧ r.2.mem ((c.tc : Thread Cert.FrontDecRefIdeal.nD Cert.FrontDecRefIdeal.τ).loc Cert.FrontDecRefIdeal.main_arg1) = m ((c.tc : Thread Cert.FrontDecRefIdeal.nD Cert.FrontDecRefIdeal.τ).loc Cert.FrontDecRefIdeal.main_arg1)
      ∧ r.2.mem ((c.tc : Thread Cert.FrontDecRefIdeal.nD Cert.FrontDecRefIdeal.τ).loc Cert.FrontDecRefIdeal.main_arg2) = m ((c.tc : Thread Cert.FrontDecRefIdeal.nD Cert.FrontDecRefIdeal.τ).loc Cert.FrontDecRefIdeal.main_arg2))
      ∧ r.2.sem = fun _ => 0)

def quiescent_MixDec [hMixDec : Cert.MixDec.Facts] : Prop :=
  ∀ (m : (ℓ : Loc Cert.MixDec.nD Cert.MixDec.τ Cert.MixDec.sig) → Buf (Elt Bits) ℓ) (g : Dev Cert.MixDec.nD → PrngReg), Pre_MixDec m →
    θ_run (Cert.MixDec.defs (F := Bits)) (onTc (τ := Cert.MixDec.τ) (Cert.MixDec.main (F := Bits))) ⟨m, fun _ => 0, g⟩ (fun r => (∀ c : Dev Cert.MixDec.nD,
      r.2.mem ((c.tc : Thread Cert.MixDec.nD Cert.MixDec.τ).loc Cert.MixDec.main_arg0) = m ((c.tc : Thread Cert.MixDec.nD Cert.MixDec.τ).loc Cert.MixDec.main_arg0)
      ∧ r.2.mem ((c.tc : Thread Cert.MixDec.nD Cert.MixDec.τ).loc Cert.MixDec.main_arg1) = m ((c.tc : Thread Cert.MixDec.nD Cert.MixDec.τ).loc Cert.MixDec.main_arg1)
      ∧ r.2.mem ((c.tc : Thread Cert.MixDec.nD Cert.MixDec.τ).loc Cert.MixDec.main_arg2) = m ((c.tc : Thread Cert.MixDec.nD Cert.MixDec.τ).loc Cert.MixDec.main_arg2)
      ∧ r.2.mem ((c.tc : Thread Cert.MixDec.nD Cert.MixDec.τ).loc Cert.MixDec.main_arg3) = m ((c.tc : Thread Cert.MixDec.nD Cert.MixDec.τ).loc Cert.MixDec.main_arg3)
      ∧ r.2.mem ((c.tc : Thread Cert.MixDec.nD Cert.MixDec.τ).loc Cert.MixDec.main_arg4) = m ((c.tc : Thread Cert.MixDec.nD Cert.MixDec.τ).loc Cert.MixDec.main_arg4)
      ∧ r.2.mem ((c.tc : Thread Cert.MixDec.nD Cert.MixDec.τ).loc Cert.MixDec.main_arg5) = m ((c.tc : Thread Cert.MixDec.nD Cert.MixDec.τ).loc Cert.MixDec.main_arg5)
      ∧ r.2.mem ((c.tc : Thread Cert.MixDec.nD Cert.MixDec.τ).loc Cert.MixDec.main_arg6) = m ((c.tc : Thread Cert.MixDec.nD Cert.MixDec.τ).loc Cert.MixDec.main_arg6)
      ∧ r.2.mem ((c.tc : Thread Cert.MixDec.nD Cert.MixDec.τ).loc Cert.MixDec.main_arg7) = m ((c.tc : Thread Cert.MixDec.nD Cert.MixDec.τ).loc Cert.MixDec.main_arg7)
      ∧ r.2.mem ((c.tc : Thread Cert.MixDec.nD Cert.MixDec.τ).loc Cert.MixDec.main_arg8) = m ((c.tc : Thread Cert.MixDec.nD Cert.MixDec.τ).loc Cert.MixDec.main_arg8)
      ∧ r.2.mem ((c.tc : Thread Cert.MixDec.nD Cert.MixDec.τ).loc Cert.MixDec.main_arg9) = m ((c.tc : Thread Cert.MixDec.nD Cert.MixDec.τ).loc Cert.MixDec.main_arg9))
      ∧ r.2.sem = fun _ => 0)

def quiescent_MixDecIdeal [hMixDecIdeal : Cert.MixDecIdeal.Facts] : Prop :=
  ∀ (m : (ℓ : Loc Cert.MixDecIdeal.nD Cert.MixDecIdeal.τ Cert.MixDecIdeal.sig) → Buf (Elt Ideal) ℓ) (g : Dev Cert.MixDecIdeal.nD → PrngReg), Pre_MixDecIdeal m →
    θ_run (Cert.MixDecIdeal.defs (F := Ideal)) (onTc (τ := Cert.MixDecIdeal.τ) (Cert.MixDecIdeal.main (F := Ideal))) ⟨m, fun _ => 0, g⟩ (fun r => (∀ c : Dev Cert.MixDecIdeal.nD,
      r.2.mem ((c.tc : Thread Cert.MixDecIdeal.nD Cert.MixDecIdeal.τ).loc Cert.MixDecIdeal.main_arg0) = m ((c.tc : Thread Cert.MixDecIdeal.nD Cert.MixDecIdeal.τ).loc Cert.MixDecIdeal.main_arg0)
      ∧ r.2.mem ((c.tc : Thread Cert.MixDecIdeal.nD Cert.MixDecIdeal.τ).loc Cert.MixDecIdeal.main_arg1) = m ((c.tc : Thread Cert.MixDecIdeal.nD Cert.MixDecIdeal.τ).loc Cert.MixDecIdeal.main_arg1)
      ∧ r.2.mem ((c.tc : Thread Cert.MixDecIdeal.nD Cert.MixDecIdeal.τ).loc Cert.MixDecIdeal.main_arg2) = m ((c.tc : Thread Cert.MixDecIdeal.nD Cert.MixDecIdeal.τ).loc Cert.MixDecIdeal.main_arg2)
      ∧ r.2.mem ((c.tc : Thread Cert.MixDecIdeal.nD Cert.MixDecIdeal.τ).loc Cert.MixDecIdeal.main_arg3) = m ((c.tc : Thread Cert.MixDecIdeal.nD Cert.MixDecIdeal.τ).loc Cert.MixDecIdeal.main_arg3)
      ∧ r.2.mem ((c.tc : Thread Cert.MixDecIdeal.nD Cert.MixDecIdeal.τ).loc Cert.MixDecIdeal.main_arg4) = m ((c.tc : Thread Cert.MixDecIdeal.nD Cert.MixDecIdeal.τ).loc Cert.MixDecIdeal.main_arg4)
      ∧ r.2.mem ((c.tc : Thread Cert.MixDecIdeal.nD Cert.MixDecIdeal.τ).loc Cert.MixDecIdeal.main_arg5) = m ((c.tc : Thread Cert.MixDecIdeal.nD Cert.MixDecIdeal.τ).loc Cert.MixDecIdeal.main_arg5)
      ∧ r.2.mem ((c.tc : Thread Cert.MixDecIdeal.nD Cert.MixDecIdeal.τ).loc Cert.MixDecIdeal.main_arg6) = m ((c.tc : Thread Cert.MixDecIdeal.nD Cert.MixDecIdeal.τ).loc Cert.MixDecIdeal.main_arg6)
      ∧ r.2.mem ((c.tc : Thread Cert.MixDecIdeal.nD Cert.MixDecIdeal.τ).loc Cert.MixDecIdeal.main_arg7) = m ((c.tc : Thread Cert.MixDecIdeal.nD Cert.MixDecIdeal.τ).loc Cert.MixDecIdeal.main_arg7)
      ∧ r.2.mem ((c.tc : Thread Cert.MixDecIdeal.nD Cert.MixDecIdeal.τ).loc Cert.MixDecIdeal.main_arg8) = m ((c.tc : Thread Cert.MixDecIdeal.nD Cert.MixDecIdeal.τ).loc Cert.MixDecIdeal.main_arg8)
      ∧ r.2.mem ((c.tc : Thread Cert.MixDecIdeal.nD Cert.MixDecIdeal.τ).loc Cert.MixDecIdeal.main_arg9) = m ((c.tc : Thread Cert.MixDecIdeal.nD Cert.MixDecIdeal.τ).loc Cert.MixDecIdeal.main_arg9))
      ∧ r.2.sem = fun _ => 0)

def quiescent_MixDecRefIdeal [hMixDecRefIdeal : Cert.MixDecRefIdeal.Facts] : Prop :=
  ∀ (m : (ℓ : Loc Cert.MixDecRefIdeal.nD Cert.MixDecRefIdeal.τ Cert.MixDecRefIdeal.sig) → Buf (Elt Ideal) ℓ) (g : Dev Cert.MixDecRefIdeal.nD → PrngReg), Pre_MixDecRefIdeal m →
    θ_run (Cert.MixDecRefIdeal.defs (F := Ideal)) (onTc (τ := Cert.MixDecRefIdeal.τ) (Cert.MixDecRefIdeal.main (F := Ideal))) ⟨m, fun _ => 0, g⟩ (fun r => (∀ c : Dev Cert.MixDecRefIdeal.nD,
      r.2.mem ((c.tc : Thread Cert.MixDecRefIdeal.nD Cert.MixDecRefIdeal.τ).loc Cert.MixDecRefIdeal.main_arg0) = m ((c.tc : Thread Cert.MixDecRefIdeal.nD Cert.MixDecRefIdeal.τ).loc Cert.MixDecRefIdeal.main_arg0)
      ∧ r.2.mem ((c.tc : Thread Cert.MixDecRefIdeal.nD Cert.MixDecRefIdeal.τ).loc Cert.MixDecRefIdeal.main_arg1) = m ((c.tc : Thread Cert.MixDecRefIdeal.nD Cert.MixDecRefIdeal.τ).loc Cert.MixDecRefIdeal.main_arg1)
      ∧ r.2.mem ((c.tc : Thread Cert.MixDecRefIdeal.nD Cert.MixDecRefIdeal.τ).loc Cert.MixDecRefIdeal.main_arg2) = m ((c.tc : Thread Cert.MixDecRefIdeal.nD Cert.MixDecRefIdeal.τ).loc Cert.MixDecRefIdeal.main_arg2)
      ∧ r.2.mem ((c.tc : Thread Cert.MixDecRefIdeal.nD Cert.MixDecRefIdeal.τ).loc Cert.MixDecRefIdeal.main_arg3) = m ((c.tc : Thread Cert.MixDecRefIdeal.nD Cert.MixDecRefIdeal.τ).loc Cert.MixDecRefIdeal.main_arg3)
      ∧ r.2.mem ((c.tc : Thread Cert.MixDecRefIdeal.nD Cert.MixDecRefIdeal.τ).loc Cert.MixDecRefIdeal.main_arg4) = m ((c.tc : Thread Cert.MixDecRefIdeal.nD Cert.MixDecRefIdeal.τ).loc Cert.MixDecRefIdeal.main_arg4)
      ∧ r.2.mem ((c.tc : Thread Cert.MixDecRefIdeal.nD Cert.MixDecRefIdeal.τ).loc Cert.MixDecRefIdeal.main_arg5) = m ((c.tc : Thread Cert.MixDecRefIdeal.nD Cert.MixDecRefIdeal.τ).loc Cert.MixDecRefIdeal.main_arg5)
      ∧ r.2.mem ((c.tc : Thread Cert.MixDecRefIdeal.nD Cert.MixDecRefIdeal.τ).loc Cert.MixDecRefIdeal.main_arg6) = m ((c.tc : Thread Cert.MixDecRefIdeal.nD Cert.MixDecRefIdeal.τ).loc Cert.MixDecRefIdeal.main_arg6)
      ∧ r.2.mem ((c.tc : Thread Cert.MixDecRefIdeal.nD Cert.MixDecRefIdeal.τ).loc Cert.MixDecRefIdeal.main_arg7) = m ((c.tc : Thread Cert.MixDecRefIdeal.nD Cert.MixDecRefIdeal.τ).loc Cert.MixDecRefIdeal.main_arg7)
      ∧ r.2.mem ((c.tc : Thread Cert.MixDecRefIdeal.nD Cert.MixDecRefIdeal.τ).loc Cert.MixDecRefIdeal.main_arg8) = m ((c.tc : Thread Cert.MixDecRefIdeal.nD Cert.MixDecRefIdeal.τ).loc Cert.MixDecRefIdeal.main_arg8)
      ∧ r.2.mem ((c.tc : Thread Cert.MixDecRefIdeal.nD Cert.MixDecRefIdeal.τ).loc Cert.MixDecRefIdeal.main_arg9) = m ((c.tc : Thread Cert.MixDecRefIdeal.nD Cert.MixDecRefIdeal.τ).loc Cert.MixDecRefIdeal.main_arg9))
      ∧ r.2.sem = fun _ => 0)

def quiescent_FfnDec [hFfnDec : Cert.FfnDec.Facts] : Prop :=
  ∀ (m : (ℓ : Loc Cert.FfnDec.nD Cert.FfnDec.τ Cert.FfnDec.sig) → Buf (Elt Bits) ℓ) (g : Dev Cert.FfnDec.nD → PrngReg), Pre_FfnDec m →
    θ_run (Cert.FfnDec.defs (F := Bits)) (onTc (τ := Cert.FfnDec.τ) (Cert.FfnDec.main (F := Bits))) ⟨m, fun _ => 0, g⟩ (fun r => (∀ c : Dev Cert.FfnDec.nD,
      r.2.mem ((c.tc : Thread Cert.FfnDec.nD Cert.FfnDec.τ).loc Cert.FfnDec.main_arg0) = m ((c.tc : Thread Cert.FfnDec.nD Cert.FfnDec.τ).loc Cert.FfnDec.main_arg0)
      ∧ r.2.mem ((c.tc : Thread Cert.FfnDec.nD Cert.FfnDec.τ).loc Cert.FfnDec.main_arg1) = m ((c.tc : Thread Cert.FfnDec.nD Cert.FfnDec.τ).loc Cert.FfnDec.main_arg1)
      ∧ r.2.mem ((c.tc : Thread Cert.FfnDec.nD Cert.FfnDec.τ).loc Cert.FfnDec.main_arg2) = m ((c.tc : Thread Cert.FfnDec.nD Cert.FfnDec.τ).loc Cert.FfnDec.main_arg2)
      ∧ r.2.mem ((c.tc : Thread Cert.FfnDec.nD Cert.FfnDec.τ).loc Cert.FfnDec.main_arg3) = m ((c.tc : Thread Cert.FfnDec.nD Cert.FfnDec.τ).loc Cert.FfnDec.main_arg3)
      ∧ r.2.mem ((c.tc : Thread Cert.FfnDec.nD Cert.FfnDec.τ).loc Cert.FfnDec.main_arg4) = m ((c.tc : Thread Cert.FfnDec.nD Cert.FfnDec.τ).loc Cert.FfnDec.main_arg4)
      ∧ r.2.mem ((c.tc : Thread Cert.FfnDec.nD Cert.FfnDec.τ).loc Cert.FfnDec.main_arg5) = m ((c.tc : Thread Cert.FfnDec.nD Cert.FfnDec.τ).loc Cert.FfnDec.main_arg5)
      ∧ r.2.mem ((c.tc : Thread Cert.FfnDec.nD Cert.FfnDec.τ).loc Cert.FfnDec.main_arg6) = m ((c.tc : Thread Cert.FfnDec.nD Cert.FfnDec.τ).loc Cert.FfnDec.main_arg6)
      ∧ r.2.mem ((c.tc : Thread Cert.FfnDec.nD Cert.FfnDec.τ).loc Cert.FfnDec.main_arg7) = m ((c.tc : Thread Cert.FfnDec.nD Cert.FfnDec.τ).loc Cert.FfnDec.main_arg7))
      ∧ r.2.sem = fun _ => 0)

def quiescent_FfnDecIdeal [hFfnDecIdeal : Cert.FfnDecIdeal.Facts] : Prop :=
  ∀ (m : (ℓ : Loc Cert.FfnDecIdeal.nD Cert.FfnDecIdeal.τ Cert.FfnDecIdeal.sig) → Buf (Elt Ideal) ℓ) (g : Dev Cert.FfnDecIdeal.nD → PrngReg), Pre_FfnDecIdeal m →
    θ_run (Cert.FfnDecIdeal.defs (F := Ideal)) (onTc (τ := Cert.FfnDecIdeal.τ) (Cert.FfnDecIdeal.main (F := Ideal))) ⟨m, fun _ => 0, g⟩ (fun r => (∀ c : Dev Cert.FfnDecIdeal.nD,
      r.2.mem ((c.tc : Thread Cert.FfnDecIdeal.nD Cert.FfnDecIdeal.τ).loc Cert.FfnDecIdeal.main_arg0) = m ((c.tc : Thread Cert.FfnDecIdeal.nD Cert.FfnDecIdeal.τ).loc Cert.FfnDecIdeal.main_arg0)
      ∧ r.2.mem ((c.tc : Thread Cert.FfnDecIdeal.nD Cert.FfnDecIdeal.τ).loc Cert.FfnDecIdeal.main_arg1) = m ((c.tc : Thread Cert.FfnDecIdeal.nD Cert.FfnDecIdeal.τ).loc Cert.FfnDecIdeal.main_arg1)
      ∧ r.2.mem ((c.tc : Thread Cert.FfnDecIdeal.nD Cert.FfnDecIdeal.τ).loc Cert.FfnDecIdeal.main_arg2) = m ((c.tc : Thread Cert.FfnDecIdeal.nD Cert.FfnDecIdeal.τ).loc Cert.FfnDecIdeal.main_arg2)
      ∧ r.2.mem ((c.tc : Thread Cert.FfnDecIdeal.nD Cert.FfnDecIdeal.τ).loc Cert.FfnDecIdeal.main_arg3) = m ((c.tc : Thread Cert.FfnDecIdeal.nD Cert.FfnDecIdeal.τ).loc Cert.FfnDecIdeal.main_arg3)
      ∧ r.2.mem ((c.tc : Thread Cert.FfnDecIdeal.nD Cert.FfnDecIdeal.τ).loc Cert.FfnDecIdeal.main_arg4) = m ((c.tc : Thread Cert.FfnDecIdeal.nD Cert.FfnDecIdeal.τ).loc Cert.FfnDecIdeal.main_arg4)
      ∧ r.2.mem ((c.tc : Thread Cert.FfnDecIdeal.nD Cert.FfnDecIdeal.τ).loc Cert.FfnDecIdeal.main_arg5) = m ((c.tc : Thread Cert.FfnDecIdeal.nD Cert.FfnDecIdeal.τ).loc Cert.FfnDecIdeal.main_arg5)
      ∧ r.2.mem ((c.tc : Thread Cert.FfnDecIdeal.nD Cert.FfnDecIdeal.τ).loc Cert.FfnDecIdeal.main_arg6) = m ((c.tc : Thread Cert.FfnDecIdeal.nD Cert.FfnDecIdeal.τ).loc Cert.FfnDecIdeal.main_arg6)
      ∧ r.2.mem ((c.tc : Thread Cert.FfnDecIdeal.nD Cert.FfnDecIdeal.τ).loc Cert.FfnDecIdeal.main_arg7) = m ((c.tc : Thread Cert.FfnDecIdeal.nD Cert.FfnDecIdeal.τ).loc Cert.FfnDecIdeal.main_arg7))
      ∧ r.2.sem = fun _ => 0)

def quiescent_FfnDecRefIdeal [hFfnDecRefIdeal : Cert.FfnDecRefIdeal.Facts] : Prop :=
  ∀ (m : (ℓ : Loc Cert.FfnDecRefIdeal.nD Cert.FfnDecRefIdeal.τ Cert.FfnDecRefIdeal.sig) → Buf (Elt Ideal) ℓ) (g : Dev Cert.FfnDecRefIdeal.nD → PrngReg), Pre_FfnDecRefIdeal m →
    θ_run (Cert.FfnDecRefIdeal.defs (F := Ideal)) (onTc (τ := Cert.FfnDecRefIdeal.τ) (Cert.FfnDecRefIdeal.main (F := Ideal))) ⟨m, fun _ => 0, g⟩ (fun r => (∀ c : Dev Cert.FfnDecRefIdeal.nD,
      r.2.mem ((c.tc : Thread Cert.FfnDecRefIdeal.nD Cert.FfnDecRefIdeal.τ).loc Cert.FfnDecRefIdeal.main_arg0) = m ((c.tc : Thread Cert.FfnDecRefIdeal.nD Cert.FfnDecRefIdeal.τ).loc Cert.FfnDecRefIdeal.main_arg0)
      ∧ r.2.mem ((c.tc : Thread Cert.FfnDecRefIdeal.nD Cert.FfnDecRefIdeal.τ).loc Cert.FfnDecRefIdeal.main_arg1) = m ((c.tc : Thread Cert.FfnDecRefIdeal.nD Cert.FfnDecRefIdeal.τ).loc Cert.FfnDecRefIdeal.main_arg1)
      ∧ r.2.mem ((c.tc : Thread Cert.FfnDecRefIdeal.nD Cert.FfnDecRefIdeal.τ).loc Cert.FfnDecRefIdeal.main_arg2) = m ((c.tc : Thread Cert.FfnDecRefIdeal.nD Cert.FfnDecRefIdeal.τ).loc Cert.FfnDecRefIdeal.main_arg2)
      ∧ r.2.mem ((c.tc : Thread Cert.FfnDecRefIdeal.nD Cert.FfnDecRefIdeal.τ).loc Cert.FfnDecRefIdeal.main_arg3) = m ((c.tc : Thread Cert.FfnDecRefIdeal.nD Cert.FfnDecRefIdeal.τ).loc Cert.FfnDecRefIdeal.main_arg3)
      ∧ r.2.mem ((c.tc : Thread Cert.FfnDecRefIdeal.nD Cert.FfnDecRefIdeal.τ).loc Cert.FfnDecRefIdeal.main_arg4) = m ((c.tc : Thread Cert.FfnDecRefIdeal.nD Cert.FfnDecRefIdeal.τ).loc Cert.FfnDecRefIdeal.main_arg4)
      ∧ r.2.mem ((c.tc : Thread Cert.FfnDecRefIdeal.nD Cert.FfnDecRefIdeal.τ).loc Cert.FfnDecRefIdeal.main_arg5) = m ((c.tc : Thread Cert.FfnDecRefIdeal.nD Cert.FfnDecRefIdeal.τ).loc Cert.FfnDecRefIdeal.main_arg5)
      ∧ r.2.mem ((c.tc : Thread Cert.FfnDecRefIdeal.nD Cert.FfnDecRefIdeal.τ).loc Cert.FfnDecRefIdeal.main_arg6) = m ((c.tc : Thread Cert.FfnDecRefIdeal.nD Cert.FfnDecRefIdeal.τ).loc Cert.FfnDecRefIdeal.main_arg6)
      ∧ r.2.mem ((c.tc : Thread Cert.FfnDecRefIdeal.nD Cert.FfnDecRefIdeal.τ).loc Cert.FfnDecRefIdeal.main_arg7) = m ((c.tc : Thread Cert.FfnDecRefIdeal.nD Cert.FfnDecRefIdeal.τ).loc Cert.FfnDecRefIdeal.main_arg7))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4))
      ∧ r.2.sem = fun _ => 0)

def quiescent_Sel [hSel : Cert.Sel.Facts] : Prop :=
  ∀ (m : (ℓ : Loc Cert.Sel.nD Cert.Sel.τ Cert.Sel.sig) → Buf (Elt Bits) ℓ) (g : Dev Cert.Sel.nD → PrngReg), Pre_Sel m →
    θ_run (Cert.Sel.defs (F := Bits)) (onTc (τ := Cert.Sel.τ) (Cert.Sel.main (F := Bits))) ⟨m, fun _ => 0, g⟩ (fun r => (∀ c : Dev Cert.Sel.nD,
      r.2.mem ((c.tc : Thread Cert.Sel.nD Cert.Sel.τ).loc Cert.Sel.main_arg0) = m ((c.tc : Thread Cert.Sel.nD Cert.Sel.τ).loc Cert.Sel.main_arg0)
      ∧ r.2.mem ((c.tc : Thread Cert.Sel.nD Cert.Sel.τ).loc Cert.Sel.main_arg1) = m ((c.tc : Thread Cert.Sel.nD Cert.Sel.τ).loc Cert.Sel.main_arg1))
      ∧ r.2.sem = fun _ => 0)

def quiescent_SelIdeal [hSelIdeal : Cert.SelIdeal.Facts] : Prop :=
  ∀ (m : (ℓ : Loc Cert.SelIdeal.nD Cert.SelIdeal.τ Cert.SelIdeal.sig) → Buf (Elt Ideal) ℓ) (g : Dev Cert.SelIdeal.nD → PrngReg), Pre_SelIdeal m →
    θ_run (Cert.SelIdeal.defs (F := Ideal)) (onTc (τ := Cert.SelIdeal.τ) (Cert.SelIdeal.main (F := Ideal))) ⟨m, fun _ => 0, g⟩ (fun r => (∀ c : Dev Cert.SelIdeal.nD,
      r.2.mem ((c.tc : Thread Cert.SelIdeal.nD Cert.SelIdeal.τ).loc Cert.SelIdeal.main_arg0) = m ((c.tc : Thread Cert.SelIdeal.nD Cert.SelIdeal.τ).loc Cert.SelIdeal.main_arg0)
      ∧ r.2.mem ((c.tc : Thread Cert.SelIdeal.nD Cert.SelIdeal.τ).loc Cert.SelIdeal.main_arg1) = m ((c.tc : Thread Cert.SelIdeal.nD Cert.SelIdeal.τ).loc Cert.SelIdeal.main_arg1))
      ∧ r.2.sem = fun _ => 0)

def preserves_Kernel_KernelIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v10_0)) (v1 : (c : Dev Cert.FfnIdeal.nD) → Buf (Elt Ideal) ((c.tc : Thread Cert.FfnIdeal.nD Cert.FfnIdeal.τ).loc Cert.FfnIdeal.main_v10_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_0) = v0 c
          ∧ r.2.mem ((c.tc : Thread Cert.FfnIdeal.nD Cert.FfnIdeal.τ).loc Cert.FfnIdeal.main_v10_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v76) = v0 c
          ∧ r.2.mem ((c.tc : Thread Cert.FfnRefIdeal.nD Cert.FfnRefIdeal.τ).loc Cert.FfnRefIdeal.main_v77) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v19_0)) (v1 : (c : Dev Cert.MixIdeal.nD) → Buf (Elt Ideal) ((c.tc : Thread Cert.MixIdeal.nD Cert.MixIdeal.τ).loc Cert.MixIdeal.main_v19_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v19_0) = v0 c
          ∧ r.2.mem ((c.tc : Thread Cert.MixIdeal.nD Cert.MixIdeal.τ).loc Cert.MixIdeal.main_v19_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v82) = v0 c
          ∧ r.2.mem ((c.tc : Thread Cert.MixRefIdeal.nD Cert.MixRefIdeal.τ).loc Cert.MixRefIdeal.main_v83) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)) →
    ∃ (v0 : (c : Dev Cert.FrontIdeal.nD) → Buf (Elt Ideal) ((c.tc : Thread Cert.FrontIdeal.nD Cert.FrontIdeal.τ).loc Cert.FrontIdeal.main_v13_0)) (v1 : (c : Dev Cert.FrontIdeal.nD) → Buf (Elt Ideal) ((c.tc : Thread Cert.FrontIdeal.nD Cert.FrontIdeal.τ).loc Cert.FrontIdeal.main_v13_1)) (v2 : (c : Dev Cert.FrontIdeal.nD) → Buf (Elt Ideal) ((c.tc : Thread Cert.FrontIdeal.nD Cert.FrontIdeal.τ).loc Cert.FrontIdeal.main_v13_2)) (v3 : (c : Dev Cert.FrontIdeal.nD) → Buf (Elt Ideal) ((c.tc : Thread Cert.FrontIdeal.nD Cert.FrontIdeal.τ).loc Cert.FrontIdeal.main_v13_3)) (v4 : (c : Dev Cert.FrontIdeal.nD) → Buf (Elt Ideal) ((c.tc : Thread Cert.FrontIdeal.nD Cert.FrontIdeal.τ).loc Cert.FrontIdeal.main_v13_4)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v13_0) = v0 c
          ∧ r.2.mem ((c.tc : Thread Cert.FrontIdeal.nD Cert.FrontIdeal.τ).loc Cert.FrontIdeal.main_v13_1) = v1 c
          ∧ r.2.mem ((c.tc : Thread Cert.FrontIdeal.nD Cert.FrontIdeal.τ).loc Cert.FrontIdeal.main_v13_2) = v2 c
          ∧ r.2.mem ((c.tc : Thread Cert.FrontIdeal.nD Cert.FrontIdeal.τ).loc Cert.FrontIdeal.main_v13_3) = v3 c
          ∧ r.2.mem ((c.tc : Thread Cert.FrontIdeal.nD Cert.FrontIdeal.τ).loc Cert.FrontIdeal.main_v13_4) = v4 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v37) = v0 c
          ∧ r.2.mem ((c.tc : Thread Cert.FrontRefIdeal.nD Cert.FrontRefIdeal.τ).loc Cert.FrontRefIdeal.main_v39) = v1 c
          ∧ r.2.mem ((c.tc : Thread Cert.FrontRefIdeal.nD Cert.FrontRefIdeal.τ).loc Cert.FrontRefIdeal.main_v41) = v2 c
          ∧ r.2.mem ((c.tc : Thread Cert.FrontRefIdeal.nD Cert.FrontRefIdeal.τ).loc Cert.FrontRefIdeal.main_v24) = v3 c
          ∧ r.2.mem ((c.tc : Thread Cert.FrontRefIdeal.nD Cert.FrontRefIdeal.τ).loc Cert.FrontRefIdeal.main_v35) = v4 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2))

def preserves_FrontDec_FrontDecIdeal : Prop :=
  True

def algebraic_FrontDecIdeal_FrontDecRefIdeal [hFrontDecIdeal : Cert.FrontDecIdeal.Facts] [hFrontDecRefIdeal : Cert.FrontDecRefIdeal.Facts] : Prop :=
  ∀ (m : (ℓ : Loc Cert.FrontDecIdeal.nD Cert.FrontDecIdeal.τ Cert.FrontDecIdeal.sig) → Buf (Elt Ideal) ℓ) (g : Dev Cert.FrontDecIdeal.nD → PrngReg)
    (m' : (ℓ : Loc Cert.FrontDecRefIdeal.nD Cert.FrontDecRefIdeal.τ Cert.FrontDecRefIdeal.sig) → Buf (Elt Ideal) ℓ) (g' : Dev Cert.FrontDecRefIdeal.nD → PrngReg), Pre_FrontDecIdeal m →
    (∀ c : Dev Cert.FrontDecIdeal.nD,
      m' ((c.tc : Thread Cert.FrontDecRefIdeal.nD Cert.FrontDecRefIdeal.τ).loc Cert.FrontDecRefIdeal.main_arg0) = m ((c.tc : Thread Cert.FrontDecIdeal.nD Cert.FrontDecIdeal.τ).loc Cert.FrontDecIdeal.main_arg0)
      ∧ m' ((c.tc : Thread Cert.FrontDecRefIdeal.nD Cert.FrontDecRefIdeal.τ).loc Cert.FrontDecRefIdeal.main_arg1) = m ((c.tc : Thread Cert.FrontDecIdeal.nD Cert.FrontDecIdeal.τ).loc Cert.FrontDecIdeal.main_arg1)
      ∧ m' ((c.tc : Thread Cert.FrontDecRefIdeal.nD Cert.FrontDecRefIdeal.τ).loc Cert.FrontDecRefIdeal.main_arg2) = m ((c.tc : Thread Cert.FrontDecIdeal.nD Cert.FrontDecIdeal.τ).loc Cert.FrontDecIdeal.main_arg2)) →
    ∃ (v0 : (c : Dev Cert.FrontDecIdeal.nD) → Buf (Elt Ideal) ((c.tc : Thread Cert.FrontDecIdeal.nD Cert.FrontDecIdeal.τ).loc Cert.FrontDecIdeal.main_v13_0)) (v1 : (c : Dev Cert.FrontDecIdeal.nD) → Buf (Elt Ideal) ((c.tc : Thread Cert.FrontDecIdeal.nD Cert.FrontDecIdeal.τ).loc Cert.FrontDecIdeal.main_v13_1)) (v2 : (c : Dev Cert.FrontDecIdeal.nD) → Buf (Elt Ideal) ((c.tc : Thread Cert.FrontDecIdeal.nD Cert.FrontDecIdeal.τ).loc Cert.FrontDecIdeal.main_v13_2)),
      θ_run (Cert.FrontDecIdeal.defs (F := Ideal)) (onTc (τ := Cert.FrontDecIdeal.τ) (Cert.FrontDecIdeal.main (F := Ideal))) ⟨m, fun _ => 0, g⟩ (fun r => ∀ c : Dev Cert.FrontDecIdeal.nD,
          r.2.mem ((c.tc : Thread Cert.FrontDecIdeal.nD Cert.FrontDecIdeal.τ).loc Cert.FrontDecIdeal.main_v13_0) = v0 c
          ∧ r.2.mem ((c.tc : Thread Cert.FrontDecIdeal.nD Cert.FrontDecIdeal.τ).loc Cert.FrontDecIdeal.main_v13_1) = v1 c
          ∧ r.2.mem ((c.tc : Thread Cert.FrontDecIdeal.nD Cert.FrontDecIdeal.τ).loc Cert.FrontDecIdeal.main_v13_2) = v2 c
          ∧ r.2.mem ((c.tc : Thread Cert.FrontDecIdeal.nD Cert.FrontDecIdeal.τ).loc Cert.FrontDecIdeal.main_arg0) = m ((c.tc : Thread Cert.FrontDecIdeal.nD Cert.FrontDecIdeal.τ).loc Cert.FrontDecIdeal.main_arg0)
          ∧ r.2.mem ((c.tc : Thread Cert.FrontDecIdeal.nD Cert.FrontDecIdeal.τ).loc Cert.FrontDecIdeal.main_arg1) = m ((c.tc : Thread Cert.FrontDecIdeal.nD Cert.FrontDecIdeal.τ).loc Cert.FrontDecIdeal.main_arg1)
          ∧ r.2.mem ((c.tc : Thread Cert.FrontDecIdeal.nD Cert.FrontDecIdeal.τ).loc Cert.FrontDecIdeal.main_arg2) = m ((c.tc : Thread Cert.FrontDecIdeal.nD Cert.FrontDecIdeal.τ).loc Cert.FrontDecIdeal.main_arg2))
      ∧ θ_run (Cert.FrontDecRefIdeal.defs (F := Ideal)) (onTc (τ := Cert.FrontDecRefIdeal.τ) (Cert.FrontDecRefIdeal.main (F := Ideal))) ⟨m', fun _ => 0, g'⟩ (fun r => ∀ c : Dev Cert.FrontDecRefIdeal.nD,
          r.2.mem ((c.tc : Thread Cert.FrontDecRefIdeal.nD Cert.FrontDecRefIdeal.τ).loc Cert.FrontDecRefIdeal.main_v29) = v0 c
          ∧ r.2.mem ((c.tc : Thread Cert.FrontDecRefIdeal.nD Cert.FrontDecRefIdeal.τ).loc Cert.FrontDecRefIdeal.main_v30) = v1 c
          ∧ r.2.mem ((c.tc : Thread Cert.FrontDecRefIdeal.nD Cert.FrontDecRefIdeal.τ).loc Cert.FrontDecRefIdeal.main_v31) = v2 c
          ∧ r.2.mem ((c.tc : Thread Cert.FrontDecRefIdeal.nD Cert.FrontDecRefIdeal.τ).loc Cert.FrontDecRefIdeal.main_arg0) = m' ((c.tc : Thread Cert.FrontDecRefIdeal.nD Cert.FrontDecRefIdeal.τ).loc Cert.FrontDecRefIdeal.main_arg0)
          ∧ r.2.mem ((c.tc : Thread Cert.FrontDecRefIdeal.nD Cert.FrontDecRefIdeal.τ).loc Cert.FrontDecRefIdeal.main_arg1) = m' ((c.tc : Thread Cert.FrontDecRefIdeal.nD Cert.FrontDecRefIdeal.τ).loc Cert.FrontDecRefIdeal.main_arg1)
          ∧ r.2.mem ((c.tc : Thread Cert.FrontDecRefIdeal.nD Cert.FrontDecRefIdeal.τ).loc Cert.FrontDecRefIdeal.main_arg2) = m' ((c.tc : Thread Cert.FrontDecRefIdeal.nD Cert.FrontDecRefIdeal.τ).loc Cert.FrontDecRefIdeal.main_arg2))

def preserves_MixDec_MixDecIdeal : Prop :=
  True

def algebraic_MixDecIdeal_MixDecRefIdeal [hMixDecIdeal : Cert.MixDecIdeal.Facts] [hMixDecRefIdeal : Cert.MixDecRefIdeal.Facts] : Prop :=
  ∀ (m : (ℓ : Loc Cert.MixDecIdeal.nD Cert.MixDecIdeal.τ Cert.MixDecIdeal.sig) → Buf (Elt Ideal) ℓ) (g : Dev Cert.MixDecIdeal.nD → PrngReg)
    (m' : (ℓ : Loc Cert.MixDecRefIdeal.nD Cert.MixDecRefIdeal.τ Cert.MixDecRefIdeal.sig) → Buf (Elt Ideal) ℓ) (g' : Dev Cert.MixDecRefIdeal.nD → PrngReg), Pre_MixDecIdeal m →
    (∀ c : Dev Cert.MixDecIdeal.nD,
      m' ((c.tc : Thread Cert.MixDecRefIdeal.nD Cert.MixDecRefIdeal.τ).loc Cert.MixDecRefIdeal.main_arg0) = m ((c.tc : Thread Cert.MixDecIdeal.nD Cert.MixDecIdeal.τ).loc Cert.MixDecIdeal.main_arg0)
      ∧ m' ((c.tc : Thread Cert.MixDecRefIdeal.nD Cert.MixDecRefIdeal.τ).loc Cert.MixDecRefIdeal.main_arg1) = m ((c.tc : Thread Cert.MixDecIdeal.nD Cert.MixDecIdeal.τ).loc Cert.MixDecIdeal.main_arg1)
      ∧ m' ((c.tc : Thread Cert.MixDecRefIdeal.nD Cert.MixDecRefIdeal.τ).loc Cert.MixDecRefIdeal.main_arg2) = m ((c.tc : Thread Cert.MixDecIdeal.nD Cert.MixDecIdeal.τ).loc Cert.MixDecIdeal.main_arg2)
      ∧ m' ((c.tc : Thread Cert.MixDecRefIdeal.nD Cert.MixDecRefIdeal.τ).loc Cert.MixDecRefIdeal.main_arg3) = m ((c.tc : Thread Cert.MixDecIdeal.nD Cert.MixDecIdeal.τ).loc Cert.MixDecIdeal.main_arg3)
      ∧ m' ((c.tc : Thread Cert.MixDecRefIdeal.nD Cert.MixDecRefIdeal.τ).loc Cert.MixDecRefIdeal.main_arg4) = m ((c.tc : Thread Cert.MixDecIdeal.nD Cert.MixDecIdeal.τ).loc Cert.MixDecIdeal.main_arg4)
      ∧ m' ((c.tc : Thread Cert.MixDecRefIdeal.nD Cert.MixDecRefIdeal.τ).loc Cert.MixDecRefIdeal.main_arg5) = m ((c.tc : Thread Cert.MixDecIdeal.nD Cert.MixDecIdeal.τ).loc Cert.MixDecIdeal.main_arg5)
      ∧ m' ((c.tc : Thread Cert.MixDecRefIdeal.nD Cert.MixDecRefIdeal.τ).loc Cert.MixDecRefIdeal.main_arg6) = m ((c.tc : Thread Cert.MixDecIdeal.nD Cert.MixDecIdeal.τ).loc Cert.MixDecIdeal.main_arg6)
      ∧ m' ((c.tc : Thread Cert.MixDecRefIdeal.nD Cert.MixDecRefIdeal.τ).loc Cert.MixDecRefIdeal.main_arg7) = m ((c.tc : Thread Cert.MixDecIdeal.nD Cert.MixDecIdeal.τ).loc Cert.MixDecIdeal.main_arg7)
      ∧ m' ((c.tc : Thread Cert.MixDecRefIdeal.nD Cert.MixDecRefIdeal.τ).loc Cert.MixDecRefIdeal.main_arg8) = m ((c.tc : Thread Cert.MixDecIdeal.nD Cert.MixDecIdeal.τ).loc Cert.MixDecIdeal.main_arg8)
      ∧ m' ((c.tc : Thread Cert.MixDecRefIdeal.nD Cert.MixDecRefIdeal.τ).loc Cert.MixDecRefIdeal.main_arg9) = m ((c.tc : Thread Cert.MixDecIdeal.nD Cert.MixDecIdeal.τ).loc Cert.MixDecIdeal.main_arg9)) →
    ∃ (v0 : (c : Dev Cert.MixDecIdeal.nD) → Buf (Elt Ideal) ((c.tc : Thread Cert.MixDecIdeal.nD Cert.MixDecIdeal.τ).loc Cert.MixDecIdeal.main_v31_0)) (v1 : (c : Dev Cert.MixDecIdeal.nD) → Buf (Elt Ideal) ((c.tc : Thread Cert.MixDecIdeal.nD Cert.MixDecIdeal.τ).loc Cert.MixDecIdeal.main_v31_1)),
      θ_run (Cert.MixDecIdeal.defs (F := Ideal)) (onTc (τ := Cert.MixDecIdeal.τ) (Cert.MixDecIdeal.main (F := Ideal))) ⟨m, fun _ => 0, g⟩ (fun r => ∀ c : Dev Cert.MixDecIdeal.nD,
          r.2.mem ((c.tc : Thread Cert.MixDecIdeal.nD Cert.MixDecIdeal.τ).loc Cert.MixDecIdeal.main_v31_0) = v0 c
          ∧ r.2.mem ((c.tc : Thread Cert.MixDecIdeal.nD Cert.MixDecIdeal.τ).loc Cert.MixDecIdeal.main_v31_1) = v1 c
          ∧ r.2.mem ((c.tc : Thread Cert.MixDecIdeal.nD Cert.MixDecIdeal.τ).loc Cert.MixDecIdeal.main_arg0) = m ((c.tc : Thread Cert.MixDecIdeal.nD Cert.MixDecIdeal.τ).loc Cert.MixDecIdeal.main_arg0)
          ∧ r.2.mem ((c.tc : Thread Cert.MixDecIdeal.nD Cert.MixDecIdeal.τ).loc Cert.MixDecIdeal.main_arg1) = m ((c.tc : Thread Cert.MixDecIdeal.nD Cert.MixDecIdeal.τ).loc Cert.MixDecIdeal.main_arg1)
          ∧ r.2.mem ((c.tc : Thread Cert.MixDecIdeal.nD Cert.MixDecIdeal.τ).loc Cert.MixDecIdeal.main_arg2) = m ((c.tc : Thread Cert.MixDecIdeal.nD Cert.MixDecIdeal.τ).loc Cert.MixDecIdeal.main_arg2)
          ∧ r.2.mem ((c.tc : Thread Cert.MixDecIdeal.nD Cert.MixDecIdeal.τ).loc Cert.MixDecIdeal.main_arg3) = m ((c.tc : Thread Cert.MixDecIdeal.nD Cert.MixDecIdeal.τ).loc Cert.MixDecIdeal.main_arg3)
          ∧ r.2.mem ((c.tc : Thread Cert.MixDecIdeal.nD Cert.MixDecIdeal.τ).loc Cert.MixDecIdeal.main_arg4) = m ((c.tc : Thread Cert.MixDecIdeal.nD Cert.MixDecIdeal.τ).loc Cert.MixDecIdeal.main_arg4)
          ∧ r.2.mem ((c.tc : Thread Cert.MixDecIdeal.nD Cert.MixDecIdeal.τ).loc Cert.MixDecIdeal.main_arg5) = m ((c.tc : Thread Cert.MixDecIdeal.nD Cert.MixDecIdeal.τ).loc Cert.MixDecIdeal.main_arg5)
          ∧ r.2.mem ((c.tc : Thread Cert.MixDecIdeal.nD Cert.MixDecIdeal.τ).loc Cert.MixDecIdeal.main_arg6) = m ((c.tc : Thread Cert.MixDecIdeal.nD Cert.MixDecIdeal.τ).loc Cert.MixDecIdeal.main_arg6)
          ∧ r.2.mem ((c.tc : Thread Cert.MixDecIdeal.nD Cert.MixDecIdeal.τ).loc Cert.MixDecIdeal.main_arg7) = m ((c.tc : Thread Cert.MixDecIdeal.nD Cert.MixDecIdeal.τ).loc Cert.MixDecIdeal.main_arg7)
          ∧ r.2.mem ((c.tc : Thread Cert.MixDecIdeal.nD Cert.MixDecIdeal.τ).loc Cert.MixDecIdeal.main_arg8) = m ((c.tc : Thread Cert.MixDecIdeal.nD Cert.MixDecIdeal.τ).loc Cert.MixDecIdeal.main_arg8)
          ∧ r.2.mem ((c.tc : Thread Cert.MixDecIdeal.nD Cert.MixDecIdeal.τ).loc Cert.MixDecIdeal.main_arg9) = m ((c.tc : Thread Cert.MixDecIdeal.nD Cert.MixDecIdeal.τ).loc Cert.MixDecIdeal.main_arg9))
      ∧ θ_run (Cert.MixDecRefIdeal.defs (F := Ideal)) (onTc (τ := Cert.MixDecRefIdeal.τ) (Cert.MixDecRefIdeal.main (F := Ideal))) ⟨m', fun _ => 0, g'⟩ (fun r => ∀ c : Dev Cert.MixDecRefIdeal.nD,
          r.2.mem ((c.tc : Thread Cert.MixDecRefIdeal.nD Cert.MixDecRefIdeal.τ).loc Cert.MixDecRefIdeal.main_v84) = v0 c
          ∧ r.2.mem ((c.tc : Thread Cert.MixDecRefIdeal.nD Cert.MixDecRefIdeal.τ).loc Cert.MixDecRefIdeal.main_v85) = v1 c
          ∧ r.2.mem ((c.tc : Thread Cert.MixDecRefIdeal.nD Cert.MixDecRefIdeal.τ).loc Cert.MixDecRefIdeal.main_arg0) = m' ((c.tc : Thread Cert.MixDecRefIdeal.nD Cert.MixDecRefIdeal.τ).loc Cert.MixDecRefIdeal.main_arg0)
          ∧ r.2.mem ((c.tc : Thread Cert.MixDecRefIdeal.nD Cert.MixDecRefIdeal.τ).loc Cert.MixDecRefIdeal.main_arg1) = m' ((c.tc : Thread Cert.MixDecRefIdeal.nD Cert.MixDecRefIdeal.τ).loc Cert.MixDecRefIdeal.main_arg1)
          ∧ r.2.mem ((c.tc : Thread Cert.MixDecRefIdeal.nD Cert.MixDecRefIdeal.τ).loc Cert.MixDecRefIdeal.main_arg2) = m' ((c.tc : Thread Cert.MixDecRefIdeal.nD Cert.MixDecRefIdeal.τ).loc Cert.MixDecRefIdeal.main_arg2)
          ∧ r.2.mem ((c.tc : Thread Cert.MixDecRefIdeal.nD Cert.MixDecRefIdeal.τ).loc Cert.MixDecRefIdeal.main_arg3) = m' ((c.tc : Thread Cert.MixDecRefIdeal.nD Cert.MixDecRefIdeal.τ).loc Cert.MixDecRefIdeal.main_arg3)
          ∧ r.2.mem ((c.tc : Thread Cert.MixDecRefIdeal.nD Cert.MixDecRefIdeal.τ).loc Cert.MixDecRefIdeal.main_arg4) = m' ((c.tc : Thread Cert.MixDecRefIdeal.nD Cert.MixDecRefIdeal.τ).loc Cert.MixDecRefIdeal.main_arg4)
          ∧ r.2.mem ((c.tc : Thread Cert.MixDecRefIdeal.nD Cert.MixDecRefIdeal.τ).loc Cert.MixDecRefIdeal.main_arg5) = m' ((c.tc : Thread Cert.MixDecRefIdeal.nD Cert.MixDecRefIdeal.τ).loc Cert.MixDecRefIdeal.main_arg5)
          ∧ r.2.mem ((c.tc : Thread Cert.MixDecRefIdeal.nD Cert.MixDecRefIdeal.τ).loc Cert.MixDecRefIdeal.main_arg6) = m' ((c.tc : Thread Cert.MixDecRefIdeal.nD Cert.MixDecRefIdeal.τ).loc Cert.MixDecRefIdeal.main_arg6)
          ∧ r.2.mem ((c.tc : Thread Cert.MixDecRefIdeal.nD Cert.MixDecRefIdeal.τ).loc Cert.MixDecRefIdeal.main_arg7) = m' ((c.tc : Thread Cert.MixDecRefIdeal.nD Cert.MixDecRefIdeal.τ).loc Cert.MixDecRefIdeal.main_arg7)
          ∧ r.2.mem ((c.tc : Thread Cert.MixDecRefIdeal.nD Cert.MixDecRefIdeal.τ).loc Cert.MixDecRefIdeal.main_arg8) = m' ((c.tc : Thread Cert.MixDecRefIdeal.nD Cert.MixDecRefIdeal.τ).loc Cert.MixDecRefIdeal.main_arg8)
          ∧ r.2.mem ((c.tc : Thread Cert.MixDecRefIdeal.nD Cert.MixDecRefIdeal.τ).loc Cert.MixDecRefIdeal.main_arg9) = m' ((c.tc : Thread Cert.MixDecRefIdeal.nD Cert.MixDecRefIdeal.τ).loc Cert.MixDecRefIdeal.main_arg9))

def preserves_FfnDec_FfnDecIdeal : Prop :=
  True

def algebraic_FfnDecIdeal_FfnDecRefIdeal [hFfnDecIdeal : Cert.FfnDecIdeal.Facts] [hFfnDecRefIdeal : Cert.FfnDecRefIdeal.Facts] : Prop :=
  ∀ (m : (ℓ : Loc Cert.FfnDecIdeal.nD Cert.FfnDecIdeal.τ Cert.FfnDecIdeal.sig) → Buf (Elt Ideal) ℓ) (g : Dev Cert.FfnDecIdeal.nD → PrngReg)
    (m' : (ℓ : Loc Cert.FfnDecRefIdeal.nD Cert.FfnDecRefIdeal.τ Cert.FfnDecRefIdeal.sig) → Buf (Elt Ideal) ℓ) (g' : Dev Cert.FfnDecRefIdeal.nD → PrngReg), Pre_FfnDecIdeal m →
    (∀ c : Dev Cert.FfnDecIdeal.nD,
      m' ((c.tc : Thread Cert.FfnDecRefIdeal.nD Cert.FfnDecRefIdeal.τ).loc Cert.FfnDecRefIdeal.main_arg0) = m ((c.tc : Thread Cert.FfnDecIdeal.nD Cert.FfnDecIdeal.τ).loc Cert.FfnDecIdeal.main_arg0)
      ∧ m' ((c.tc : Thread Cert.FfnDecRefIdeal.nD Cert.FfnDecRefIdeal.τ).loc Cert.FfnDecRefIdeal.main_arg1) = m ((c.tc : Thread Cert.FfnDecIdeal.nD Cert.FfnDecIdeal.τ).loc Cert.FfnDecIdeal.main_arg1)
      ∧ m' ((c.tc : Thread Cert.FfnDecRefIdeal.nD Cert.FfnDecRefIdeal.τ).loc Cert.FfnDecRefIdeal.main_arg2) = m ((c.tc : Thread Cert.FfnDecIdeal.nD Cert.FfnDecIdeal.τ).loc Cert.FfnDecIdeal.main_arg2)
      ∧ m' ((c.tc : Thread Cert.FfnDecRefIdeal.nD Cert.FfnDecRefIdeal.τ).loc Cert.FfnDecRefIdeal.main_arg3) = m ((c.tc : Thread Cert.FfnDecIdeal.nD Cert.FfnDecIdeal.τ).loc Cert.FfnDecIdeal.main_arg3)
      ∧ m' ((c.tc : Thread Cert.FfnDecRefIdeal.nD Cert.FfnDecRefIdeal.τ).loc Cert.FfnDecRefIdeal.main_arg4) = m ((c.tc : Thread Cert.FfnDecIdeal.nD Cert.FfnDecIdeal.τ).loc Cert.FfnDecIdeal.main_arg4)
      ∧ m' ((c.tc : Thread Cert.FfnDecRefIdeal.nD Cert.FfnDecRefIdeal.τ).loc Cert.FfnDecRefIdeal.main_arg5) = m ((c.tc : Thread Cert.FfnDecIdeal.nD Cert.FfnDecIdeal.τ).loc Cert.FfnDecIdeal.main_arg5)
      ∧ m' ((c.tc : Thread Cert.FfnDecRefIdeal.nD Cert.FfnDecRefIdeal.τ).loc Cert.FfnDecRefIdeal.main_arg6) = m ((c.tc : Thread Cert.FfnDecIdeal.nD Cert.FfnDecIdeal.τ).loc Cert.FfnDecIdeal.main_arg6)
      ∧ m' ((c.tc : Thread Cert.FfnDecRefIdeal.nD Cert.FfnDecRefIdeal.τ).loc Cert.FfnDecRefIdeal.main_arg7) = m ((c.tc : Thread Cert.FfnDecIdeal.nD Cert.FfnDecIdeal.τ).loc Cert.FfnDecIdeal.main_arg7)) →
    ∃ (v0 : (c : Dev Cert.FfnDecIdeal.nD) → Buf (Elt Ideal) ((c.tc : Thread Cert.FfnDecIdeal.nD Cert.FfnDecIdeal.τ).loc Cert.FfnDecIdeal.main_v13_0)) (v1 : (c : Dev Cert.FfnDecIdeal.nD) → Buf (Elt Ideal) ((c.tc : Thread Cert.FfnDecIdeal.nD Cert.FfnDecIdeal.τ).loc Cert.FfnDecIdeal.main_v13_1)),
      θ_run (Cert.FfnDecIdeal.defs (F := Ideal)) (onTc (τ := Cert.FfnDecIdeal.τ) (Cert.FfnDecIdeal.main (F := Ideal))) ⟨m, fun _ => 0, g⟩ (fun r => ∀ c : Dev Cert.FfnDecIdeal.nD,
          r.2.mem ((c.tc : Thread Cert.FfnDecIdeal.nD Cert.FfnDecIdeal.τ).loc Cert.FfnDecIdeal.main_v13_0) = v0 c
          ∧ r.2.mem ((c.tc : Thread Cert.FfnDecIdeal.nD Cert.FfnDecIdeal.τ).loc Cert.FfnDecIdeal.main_v13_1) = v1 c
          ∧ r.2.mem ((c.tc : Thread Cert.FfnDecIdeal.nD Cert.FfnDecIdeal.τ).loc Cert.FfnDecIdeal.main_arg0) = m ((c.tc : Thread Cert.FfnDecIdeal.nD Cert.FfnDecIdeal.τ).loc Cert.FfnDecIdeal.main_arg0)
          ∧ r.2.mem ((c.tc : Thread Cert.FfnDecIdeal.nD Cert.FfnDecIdeal.τ).loc Cert.FfnDecIdeal.main_arg1) = m ((c.tc : Thread Cert.FfnDecIdeal.nD Cert.FfnDecIdeal.τ).loc Cert.FfnDecIdeal.main_arg1)
          ∧ r.2.mem ((c.tc : Thread Cert.FfnDecIdeal.nD Cert.FfnDecIdeal.τ).loc Cert.FfnDecIdeal.main_arg2) = m ((c.tc : Thread Cert.FfnDecIdeal.nD Cert.FfnDecIdeal.τ).loc Cert.FfnDecIdeal.main_arg2)
          ∧ r.2.mem ((c.tc : Thread Cert.FfnDecIdeal.nD Cert.FfnDecIdeal.τ).loc Cert.FfnDecIdeal.main_arg3) = m ((c.tc : Thread Cert.FfnDecIdeal.nD Cert.FfnDecIdeal.τ).loc Cert.FfnDecIdeal.main_arg3)
          ∧ r.2.mem ((c.tc : Thread Cert.FfnDecIdeal.nD Cert.FfnDecIdeal.τ).loc Cert.FfnDecIdeal.main_arg4) = m ((c.tc : Thread Cert.FfnDecIdeal.nD Cert.FfnDecIdeal.τ).loc Cert.FfnDecIdeal.main_arg4)
          ∧ r.2.mem ((c.tc : Thread Cert.FfnDecIdeal.nD Cert.FfnDecIdeal.τ).loc Cert.FfnDecIdeal.main_arg5) = m ((c.tc : Thread Cert.FfnDecIdeal.nD Cert.FfnDecIdeal.τ).loc Cert.FfnDecIdeal.main_arg5)
          ∧ r.2.mem ((c.tc : Thread Cert.FfnDecIdeal.nD Cert.FfnDecIdeal.τ).loc Cert.FfnDecIdeal.main_arg6) = m ((c.tc : Thread Cert.FfnDecIdeal.nD Cert.FfnDecIdeal.τ).loc Cert.FfnDecIdeal.main_arg6)
          ∧ r.2.mem ((c.tc : Thread Cert.FfnDecIdeal.nD Cert.FfnDecIdeal.τ).loc Cert.FfnDecIdeal.main_arg7) = m ((c.tc : Thread Cert.FfnDecIdeal.nD Cert.FfnDecIdeal.τ).loc Cert.FfnDecIdeal.main_arg7))
      ∧ θ_run (Cert.FfnDecRefIdeal.defs (F := Ideal)) (onTc (τ := Cert.FfnDecRefIdeal.τ) (Cert.FfnDecRefIdeal.main (F := Ideal))) ⟨m', fun _ => 0, g'⟩ (fun r => ∀ c : Dev Cert.FfnDecRefIdeal.nD,
          r.2.mem ((c.tc : Thread Cert.FfnDecRefIdeal.nD Cert.FfnDecRefIdeal.τ).loc Cert.FfnDecRefIdeal.main_v77) = v0 c
          ∧ r.2.mem ((c.tc : Thread Cert.FfnDecRefIdeal.nD Cert.FfnDecRefIdeal.τ).loc Cert.FfnDecRefIdeal.main_v79) = v1 c
          ∧ r.2.mem ((c.tc : Thread Cert.FfnDecRefIdeal.nD Cert.FfnDecRefIdeal.τ).loc Cert.FfnDecRefIdeal.main_arg0) = m' ((c.tc : Thread Cert.FfnDecRefIdeal.nD Cert.FfnDecRefIdeal.τ).loc Cert.FfnDecRefIdeal.main_arg0)
          ∧ r.2.mem ((c.tc : Thread Cert.FfnDecRefIdeal.nD Cert.FfnDecRefIdeal.τ).loc Cert.FfnDecRefIdeal.main_arg1) = m' ((c.tc : Thread Cert.FfnDecRefIdeal.nD Cert.FfnDecRefIdeal.τ).loc Cert.FfnDecRefIdeal.main_arg1)
          ∧ r.2.mem ((c.tc : Thread Cert.FfnDecRefIdeal.nD Cert.FfnDecRefIdeal.τ).loc Cert.FfnDecRefIdeal.main_arg2) = m' ((c.tc : Thread Cert.FfnDecRefIdeal.nD Cert.FfnDecRefIdeal.τ).loc Cert.FfnDecRefIdeal.main_arg2)
          ∧ r.2.mem ((c.tc : Thread Cert.FfnDecRefIdeal.nD Cert.FfnDecRefIdeal.τ).loc Cert.FfnDecRefIdeal.main_arg3) = m' ((c.tc : Thread Cert.FfnDecRefIdeal.nD Cert.FfnDecRefIdeal.τ).loc Cert.FfnDecRefIdeal.main_arg3)
          ∧ r.2.mem ((c.tc : Thread Cert.FfnDecRefIdeal.nD Cert.FfnDecRefIdeal.τ).loc Cert.FfnDecRefIdeal.main_arg4) = m' ((c.tc : Thread Cert.FfnDecRefIdeal.nD Cert.FfnDecRefIdeal.τ).loc Cert.FfnDecRefIdeal.main_arg4)
          ∧ r.2.mem ((c.tc : Thread Cert.FfnDecRefIdeal.nD Cert.FfnDecRefIdeal.τ).loc Cert.FfnDecRefIdeal.main_arg5) = m' ((c.tc : Thread Cert.FfnDecRefIdeal.nD Cert.FfnDecRefIdeal.τ).loc Cert.FfnDecRefIdeal.main_arg5)
          ∧ r.2.mem ((c.tc : Thread Cert.FfnDecRefIdeal.nD Cert.FfnDecRefIdeal.τ).loc Cert.FfnDecRefIdeal.main_arg6) = m' ((c.tc : Thread Cert.FfnDecRefIdeal.nD Cert.FfnDecRefIdeal.τ).loc Cert.FfnDecRefIdeal.main_arg6)
          ∧ r.2.mem ((c.tc : Thread Cert.FfnDecRefIdeal.nD Cert.FfnDecRefIdeal.τ).loc Cert.FfnDecRefIdeal.main_arg7) = m' ((c.tc : Thread Cert.FfnDecRefIdeal.nD Cert.FfnDecRefIdeal.τ).loc Cert.FfnDecRefIdeal.main_arg7))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)) →
    ∃ (v0 : (c : Dev Cert.CmpIdeal.nD) → Buf (Elt Ideal) ((c.tc : Thread Cert.CmpIdeal.nD Cert.CmpIdeal.τ).loc Cert.CmpIdeal.main_v33)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v33) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v106) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4))

def preserves_Sel_SelIdeal : Prop :=
  True

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hFront : Cert.Front.Facts) (hFrontIdeal : Cert.FrontIdeal.Facts) (hFrontRefIdeal : Cert.FrontRefIdeal.Facts) (hFrontDec : Cert.FrontDec.Facts) (hFrontDecIdeal : Cert.FrontDecIdeal.Facts) (hFrontDecRefIdeal : Cert.FrontDecRefIdeal.Facts) (hMixDec : Cert.MixDec.Facts) (hMixDecIdeal : Cert.MixDecIdeal.Facts) (hMixDecRefIdeal : Cert.MixDecRefIdeal.Facts) (hFfnDec : Cert.FfnDec.Facts) (hFfnDecIdeal : Cert.FfnDecIdeal.Facts) (hFfnDecRefIdeal : Cert.FfnDecRefIdeal.Facts) (hCmp : Cert.Cmp.Facts) (hCmpIdeal : Cert.CmpIdeal.Facts) (hCmpRefIdeal : Cert.CmpRefIdeal.Facts) (hSel : Cert.Sel.Facts) (hSelIdeal : Cert.SelIdeal.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Front (hFront := hFront)
    ∧ quiescent_FrontIdeal (hFrontIdeal := hFrontIdeal)
    ∧ quiescent_FrontRefIdeal (hFrontRefIdeal := hFrontRefIdeal)
    ∧ quiescent_FrontDec (hFrontDec := hFrontDec)
    ∧ quiescent_FrontDecIdeal (hFrontDecIdeal := hFrontDecIdeal)
    ∧ quiescent_FrontDecRefIdeal (hFrontDecRefIdeal := hFrontDecRefIdeal)
    ∧ quiescent_MixDec (hMixDec := hMixDec)
    ∧ quiescent_MixDecIdeal (hMixDecIdeal := hMixDecIdeal)
    ∧ quiescent_MixDecRefIdeal (hMixDecRefIdeal := hMixDecRefIdeal)
    ∧ quiescent_FfnDec (hFfnDec := hFfnDec)
    ∧ quiescent_FfnDecIdeal (hFfnDecIdeal := hFfnDecIdeal)
    ∧ quiescent_FfnDecRefIdeal (hFfnDecRefIdeal := hFfnDecRefIdeal)
    ∧ quiescent_Cmp (hCmp := hCmp)
    ∧ quiescent_CmpIdeal (hCmpIdeal := hCmpIdeal)
    ∧ quiescent_CmpRefIdeal (hCmpRefIdeal := hCmpRefIdeal)
    ∧ quiescent_Sel (hSel := hSel)
    ∧ quiescent_SelIdeal (hSelIdeal := hSelIdeal)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Front_FrontIdeal
    ∧ algebraic_FrontIdeal_FrontRefIdeal (hFrontIdeal := hFrontIdeal) (hFrontRefIdeal := hFrontRefIdeal)
    ∧ preserves_FrontDec_FrontDecIdeal
    ∧ algebraic_FrontDecIdeal_FrontDecRefIdeal (hFrontDecIdeal := hFrontDecIdeal) (hFrontDecRefIdeal := hFrontDecRefIdeal)
    ∧ preserves_MixDec_MixDecIdeal
    ∧ algebraic_MixDecIdeal_MixDecRefIdeal (hMixDecIdeal := hMixDecIdeal) (hMixDecRefIdeal := hMixDecRefIdeal)
    ∧ preserves_FfnDec_FfnDecIdeal
    ∧ algebraic_FfnDecIdeal_FfnDecRefIdeal (hFfnDecIdeal := hFfnDecIdeal) (hFfnDecRefIdeal := hFfnDecRefIdeal)
    ∧ preserves_Cmp_CmpIdeal
    ∧ algebraic_CmpIdeal_CmpRefIdeal (hCmpIdeal := hCmpIdeal) (hCmpRefIdeal := hCmpRefIdeal)
    ∧ preserves_Sel_SelIdeal
-- ==== Kernel.lean ====
abbrev S4x512x4096 : Shape := ⟨3, ![4, 512, 4096]⟩
abbrev S4x32x4096 : Shape := ⟨3, ![4, 32, 4096]⟩
abbrev S4x256x256 : Shape := ⟨3, ![4, 256, 256]⟩
abbrev S4x256x4096 : Shape := ⟨3, ![4, 256, 4096]⟩
abbrev S4x4096x512 : Shape := ⟨3, ![4, 4096, 512]⟩
abbrev S1x512x256 : Shape := ⟨3, ![1, 512, 256]⟩
abbrev S1x32x256 : Shape := ⟨3, ![1, 32, 256]⟩
abbrev S1x256x256 : Shape := ⟨3, ![1, 256, 256]⟩
abbrev S1x256x4096 : Shape := ⟨3, ![1, 256, 4096]⟩
abbrev S1x256x512 : Shape := ⟨3, ![1, 256, 512]⟩
abbrev S2x4096x128 : Shape := ⟨3, ![2, 4096, 128]⟩
abbrev S2x32x80x128 : Shape := ⟨4, ![2, 32, 80, 128]⟩
abbrev S2x4096x64 : Shape := ⟨3, ![2, 4096, 64]⟩
abbrev S2x256x64 : Shape := ⟨3, ![2, 256, 64]⟩
abbrev S2x64x256 : Shape := ⟨3, ![2, 64, 256]⟩
abbrev S128x128 : Shape := ⟨2, ![128, 128]⟩
abbrev S16x128 : Shape := ⟨2, ![16, 128]⟩
abbrev S1x128x128 : Shape := ⟨3, ![1, 128, 128]⟩
abbrev S1x64x128 : Shape := ⟨3, ![1, 64, 128]⟩
abbrev S64x128 : Shape := ⟨2, ![64, 128]⟩
abbrev S1x1x64x128 : Shape := ⟨4, ![1, 1, 64, 128]⟩
abbrev S1x1x16x128 : Shape := ⟨4, ![1, 1, 16, 128]⟩
abbrev S128x64 : Shape := ⟨2, ![128, 64]⟩
abbrev S1x128x64 : Shape := ⟨3, ![1, 128, 64]⟩
abbrev S1x128x256 : Shape := ⟨3, ![1, 128, 256]⟩
abbrev S128x256 : Shape := ⟨2, ![128, 256]⟩
abbrev S1x1024 : Shape := ⟨2, ![1, 1024]⟩
abbrev S128x1024 : Shape := ⟨2, ![128, 1024]⟩
abbrev S256x256 : Shape := ⟨2, ![256, 256]⟩
abbrev S64x256 : Shape := ⟨2, ![64, 256]⟩
abbrev S64x1024 : Shape := ⟨2, ![64, 1024]⟩
abbrev S80x1024 : Shape := ⟨2, ![80, 1024]⟩
abbrev S1x256x64 : Shape := ⟨3, ![1, 256, 64]⟩
abbrev S256x64 : Shape := ⟨2, ![256, 64]⟩
abbrev S256x1024 : Shape := ⟨2, ![256, 1024]⟩
abbrev S1024 : Shape := ⟨1, ![1024]⟩
abbrev S1x64x256 : Shape := ⟨3, ![1, 64, 256]⟩
abbrev S256x768 : Shape := ⟨2, ![256, 768]⟩
abbrev S64x768 : Shape := ⟨2, ![64, 768]⟩
abbrev S1x1 : Shape := ⟨2, ![1, 1]⟩
abbrev S1x1x80x128 : Shape := ⟨4, ![1, 1, 80, 128]⟩
abbrev S80x128 : Shape := ⟨2, ![80, 128]⟩
abbrev S1x256 : Shape := ⟨2, ![1, 256]⟩
abbrev S256 : Shape := ⟨1, ![256]⟩
abbrev S1x1x256 : Shape := ⟨3, ![1, 1, 256]⟩
abbrev S512x256 : Shape := ⟨2, ![512, 256]⟩
abbrev S256x512 : Shape := ⟨2, ![256, 512]⟩

abbrev nBuf : Space → Nat
  | .hbm => 6
  | .vmem => 18
  | .smem => 0
  | _ => 0

abbrev bufTy : (tb : Table) → Fin (tcTables nBuf tb) → BufTy
  | .hbm, ⟨0, _⟩ => ⟨S4x512x4096, .bf16⟩
  | .hbm, ⟨1, _⟩ => ⟨S4x32x4096, .f32⟩
  | .hbm, ⟨2, _⟩ => ⟨S4x256x256, .f32⟩
  | .hbm, ⟨3, _⟩ => ⟨S4x256x4096, .f32⟩
  | .hbm, ⟨4, _⟩ => ⟨S4x256x4096, .f32⟩
  | .hbm, ⟨5, _⟩ => ⟨S4x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x32x256, .f32⟩
  | .local _ .vmem, ⟨3, _⟩ => ⟨S1x32x256, .f32⟩
  | .local _ .vmem, ⟨4, _⟩ => ⟨S1x256x256, .f32⟩
  | .local _ .vmem, ⟨5, _⟩ => ⟨S1x256x256, .f32⟩
  | .local _ .vmem, ⟨6, _⟩ => ⟨S1x256x4096, .f32⟩
  | .local _ .vmem, ⟨7, _⟩ => ⟨S1x256x4096, .f32⟩
  | .local _ .vmem, ⟨8, _⟩ => ⟨S1x256x4096, .f32⟩
  | .local _ .vmem, ⟨9, _⟩ => ⟨S1x256x4096, .f32⟩
  | .local _ .vmem, ⟨10, _⟩ => ⟨S1x256x512, .bf16⟩
  | .local _ .vmem, ⟨11, _⟩ => ⟨S1x256x512, .bf16⟩
  | .local _ .vmem, ⟨12, _⟩ => ⟨S2x4096x128, .bf16⟩
  | .local _ .vmem, ⟨13, _⟩ => ⟨S2x32x80x128, .bf16⟩
  | .local _ .vmem, ⟨14, _⟩ => ⟨S2x4096x64, .bf16⟩
  | .local _ .vmem, ⟨15, _⟩ => ⟨S2x32x80x128, .bf16⟩
  | .local _ .vmem, ⟨16, _⟩ => ⟨S2x256x64, .bf16⟩
  | .local _ .vmem, ⟨17, _⟩ => ⟨S2x64x256, .bf16⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c0_i32_44 : BitVec 32 := 0#32
  let v159 : BitVec 32 := Scalar.addi v158 c0_i32_44
  let c0_i32_45 : BitVec 32 := 0#32
  let v160 : BitVec 32 := Scalar.maxsi v159 c0_i32_45
  let c128_i32 : BitVec 32 := 128#32
  let v178 : BitVec 32 := Scalar.muli v160 c128_i32
  v178
def k0_off1 (i : grid0.Coords) (c0_i32_44 : BitVec 32) : Fin 3 → Nat :=
  let c0_56 : Index := 0#32
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let v159 : BitVec 32 := Scalar.addi v158 c0_i32_44
  let c0_i32_45 : BitVec 32 := 0#32
  let v160 : BitVec 32 := Scalar.maxsi v159 c0_i32_45
  let c128_i32 : BitVec 32 := 128#32
  let v178 : BitVec 32 := Scalar.muli v160 c128_i32
  let v179 : BitVec 32 := v178
  let v180 : Index := Scalar.indexCast v179
  let c0_57 : Index := 0#32
  ![0, v180.toNat, 0]
def k0_mult2 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c0_i32_44 : BitVec 32 := 0#32
  let v159 : BitVec 32 := Scalar.addi v158 c0_i32_44
  let c0_i32_45 : BitVec 32 := 0#32
  let v160 : BitVec 32 := Scalar.maxsi v159 c0_i32_45
  let c128_i32_65 : BitVec 32 := 128#32
  let v197 : BitVec 32 := Scalar.muli v160 c128_i32_65
  v197
def k0_off2 (i : grid0.Coords) (c0_i32_44 : BitVec 32) : Fin 3 → Nat :=
  let c1_66 : Index := 1#32
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let v159 : BitVec 32 := Scalar.addi v158 c0_i32_44
  let c0_i32_45 : BitVec 32 := 0#32
  let v160 : BitVec 32 := Scalar.maxsi v159 c0_i32_45
  let c128_i32_65 : BitVec 32 := 128#32
  let v197 : BitVec 32 := Scalar.muli v160 c128_i32_65
  let v198 : BitVec 32 := v197
  let v199 : Index := Scalar.indexCast v198
  let c0_67 : Index := 0#32
  ![1, v199.toNat, 0]
def k0_mult3 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c1_i32_46 : BitVec 32 := 1#32
  let v161 : BitVec 32 := Scalar.addi v158 c1_i32_46
  let c0_i32_47 : BitVec 32 := 0#32
  let v162 : BitVec 32 := Scalar.maxsi v161 c0_i32_47
  let c128_i32_76 : BitVec 32 := 128#32
  let v216 : BitVec 32 := Scalar.muli v162 c128_i32_76
  v216
def k0_mult4 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c1_i32_46 : BitVec 32 := 1#32
  let v161 : BitVec 32 := Scalar.addi v158 c1_i32_46
  let c0_i32_47 : BitVec 32 := 0#32
  let v162 : BitVec 32 := Scalar.maxsi v161 c0_i32_47
  let c128_i32_86 : BitVec 32 := 128#32
  let v233 : BitVec 32 := Scalar.muli v162 c128_i32_86
  v233
def k0_mult5 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c2_i32_48 : BitVec 32 := 2#32
  let v163 : BitVec 32 := Scalar.addi v158 c2_i32_48
  let c0_i32_49 : BitVec 32 := 0#32
  let v164 : BitVec 32 := Scalar.maxsi v163 c0_i32_49
  let c128_i32_97 : BitVec 32 := 128#32
  let v250 : BitVec 32 := Scalar.muli v164 c128_i32_97
  v250
def k0_mult6 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c2_i32_48 : BitVec 32 := 2#32
  let v163 : BitVec 32 := Scalar.addi v158 c2_i32_48
  let c0_i32_49 : BitVec 32 := 0#32
  let v164 : BitVec 32 := Scalar.maxsi v163 c0_i32_49
  let c128_i32_105 : BitVec 32 := 128#32
  let v261 : BitVec 32 := Scalar.muli v164 c128_i32_105
  v261
def k0_mult7 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c3_i32 : BitVec 32 := 3#32
  let v165 : BitVec 32 := Scalar.addi v158 c3_i32
  let c0_i32_50 : BitVec 32 := 0#32
  let v166 : BitVec 32 := Scalar.maxsi v165 c0_i32_50
  let c128_i32_113 : BitVec 32 := 128#32
  let v272 : BitVec 32 := Scalar.muli v166 c128_i32_113
  v272
def k0_mult8 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c3_i32 : BitVec 32 := 3#32
  let v165 : BitVec 32 := Scalar.addi v158 c3_i32
  let c0_i32_50 : BitVec 32 := 0#32
  let v166 : BitVec 32 := Scalar.maxsi v165 c0_i32_50
  let c128_i32_121 : BitVec 32 := 128#32
  let v283 : BitVec 32 := Scalar.muli v166 c128_i32_121
  v283
def k0_mult9 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c4_i32_51 : BitVec 32 := 4#32
  let v167 : BitVec 32 := Scalar.addi v158 c4_i32_51
  let c0_i32_52 : BitVec 32 := 0#32
  let v168 : BitVec 32 := Scalar.maxsi v167 c0_i32_52
  let c128_i32_129 : BitVec 32 := 128#32
  let v294 : BitVec 32 := Scalar.muli v168 c128_i32_129
  v294
def k0_mult10 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c4_i32_51 : BitVec 32 := 4#32
  let v167 : BitVec 32 := Scalar.addi v158 c4_i32_51
  let c0_i32_52 : BitVec 32 := 0#32
  let v168 : BitVec 32 := Scalar.maxsi v167 c0_i32_52
  let c128_i32_136 : BitVec 32 := 128#32
  let v306 : BitVec 32 := Scalar.muli v168 c128_i32_136
  v306
def k0_mult11 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c5_i32 : BitVec 32 := 5#32
  let v169 : BitVec 32 := Scalar.addi v158 c5_i32
  let c0_i32_53 : BitVec 32 := 0#32
  let v170 : BitVec 32 := Scalar.maxsi v169 c0_i32_53
  let c128_i32_143 : BitVec 32 := 128#32
  let v318 : BitVec 32 := Scalar.muli v170 c128_i32_143
  v318
def k0_mult12 (i : grid0.Coords) : BitVec 32 :=
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let c5_i32 : BitVec 32 := 5#32
  let v169 : BitVec 32 := Scalar.addi v158 c5_i32
  let c0_i32_53 : BitVec 32 := 0#32
  let v170 : BitVec 32 := Scalar.maxsi v169 c0_i32_53
  let c128_i32_149 : BitVec 32 := 128#32
  let v330 : BitVec 32 := Scalar.muli v170 c128_i32_149
  v330
def k0_off3 (i : grid0.Coords) (c0_i32_44 : BitVec 32) : Fin 4 → Nat :=
  let c0_157 : Index := 0#32
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let v159 : BitVec 32 := Scalar.addi v158 c0_i32_44
  let c0_i32_45 : BitVec 32 := 0#32
  let v160 : BitVec 32 := Scalar.maxsi v159 c0_i32_45
  let v353 : Index := Scalar.indexCast v160
  let c0_158 : Index := 0#32
  let c0_159 : Index := 0#32
  ![0, v353.toNat, 0, 0]
def k0_off4 (i : grid0.Coords) (c0_i32_44 : BitVec 32) : Fin 4 → Nat :=
  let c1_162 : Index := 1#32
  let arg1 : BitVec 32 := BitVec.ofNat 32 (i 1).val
  let c2_i32 : BitVec 32 := 2#32
  let v157 : BitVec 32 := Scalar.muli arg1 c2_i32
  let c4_i32_43 : BitVec 32 := 4#32
  let v158 : BitVec 32 := Scalar.subi v157 c4_i32_43
  let v159 : BitVec 32 := Scalar.addi v158 c0_i32_44
  let c0_i32_45 : BitVec 32 := 0#32
  let v160 : BitVec 32 := Scalar.maxsi v159 c0_i32_45
  let v369 : Index := Scalar.indexCast v160
  let c0_163 : Index := 0#32
  let c0_164 : Index := 0#32
  ![1, v369.toNat, 0, 0]
@[reducible] def k0_t1_loop (i : grid0.Coords) : Scf.Loop 32 :=
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_408 : BitVec 32 := 1#32
  ⟨c0_i32_406, v1096, c1_i32_408⟩
def k0_mult13 (i : grid0.Coords) (k0_t1 : Fin (k0_t1_loop i).trips) : BitVec 32 :=
  let c0_i32_531 : BitVec 32 := 0#32
  let c0_i32_406 : BitVec 32 := 0#32
  let c1_i32_408 : BitVec 32 := 1#32
  let arg14 : BitVec 32 := Scf.iv c0_i32_406 c1_i32_408 k0_t1
  let c8_i32_530 : BitVec 32 := 8#32
  let v1389 : BitVec 32 := Scalar.muli arg14 c8_i32_530
  let v1390 : BitVec 32 := Scalar.addi c0_i32_531 v1389
  let c0_i32_532 : BitVec 32 := 0#32
  let v1391 : BitVec 32 := Scalar.addi v1390 c0_i32_532
  let c128_i32_553 : BitVec 32 := 128#32
  let v1413 : BitVec 32 := Scalar.muli v1391 c128_i32_553
  v1413
def k0_off5 (i : grid0.Coords) (k0_t1 : Fin (k0_t1_loop i).trips) (c0_i32_532 : BitVec 32) : Fin 3 → Nat :=
  let c0_554 : Index := 0#32
  let c0_i32_531 : BitVec 32 := 0#32
  let c0_i32_406 : BitVec 32 := 0#32
  let c1_i32_408 : BitVec 32 := 1#32
  let arg14 : BitVec 32 := Scf.iv c0_i32_406 c1_i32_408 k0_t1
  let c8_i32_530 : BitVec 32 := 8#32
  let v1389 : BitVec 32 := Scalar.muli arg14 c8_i32_530
  let v1390 : BitVec 32 := Scalar.addi c0_i32_531 v1389
  let v1391 : BitVec 32 := Scalar.addi v1390 c0_i32_532
  let c128_i32_553 : BitVec 32 := 128#32
  let v1413 : BitVec 32 := Scalar.muli v1391 c128_i32_553
  let v1414 : BitVec 32 := v1413
  let v1415 : Index := Scalar.indexCast v1414
  let c0_555 : Index := 0#32
  ![0, v1415.toNat, 0]
def k0_mult14 (i : grid0.Coords) (k0_t1 : Fin (k0_t1_loop i).trips) : BitVec 32 :=
  let c0_i32_531 : BitVec 32 := 0#32
  let c0_i32_406 : BitVec 32 := 0#32
  let c1_i32_408 : BitVec 32 := 1#32
  let arg14 : BitVec 32 := Scf.iv c0_i32_406 c1_i32_408 k0_t1
  let c8_i32_530 : BitVec 32 := 8#32
  let v1389 : BitVec 32 := Scalar.muli arg14 c8_i32_530
  let v1390 : BitVec 32 := Scalar.addi c0_i32_531 v1389
  let c0_i32_532 : BitVec 32 := 0#32
  let v1391 : BitVec 32 := Scalar.addi v1390 c0_i32_532
  let c128_i32_557 : BitVec 32 := 128#32
  let v1419 : BitVec 32 := Scalar.muli v1391 c128_i32_557
  v1419
def k0_off6 (i : grid0.Coords) (k0_t1 : Fin (k0_t1_loop i).trips) (c0_i32_532 : BitVec 32) : Fin 3 → Nat :=
  let c1_558 : Index := 1#32
  let c0_i32_531 : BitVec 32 := 0#32
  let c0_i32_406 : BitVec 32 := 0#32
  let c1_i32_408 : BitVec 32 := 1#32
  let arg14 : BitVec 32 := Scf.iv c0_i32_406 c1_i32_408 k0_t1
  let c8_i32_530 : BitVec 32 := 8#32
  let v1389 : BitVec 32 := Scalar.muli arg14 c8_i32_530
  let v1390 : BitVec 32 := Scalar.addi c0_i32_531 v1389
  let v1391 : BitVec 32 := Scalar.addi v1390 c0_i32_532
  let c128_i32_557 : BitVec 32 := 128#32
  let v1419 : BitVec 32 := Scalar.muli v1391 c128_i32_557
  let v1420 : BitVec 32 := v1419
  let v1421 : Index := Scalar.indexCast v1420
  let c0_559 : Index := 0#32
  ![1, v1421.toNat, 0]
def k0_mult15 (i : grid0.Coords) (k0_t1 : Fin (k0_t1_loop i).trips) : BitVec 32 :=
  let c0_i32_534 : BitVec 32 := 0#32
  let c0_i32_406 : BitVec 32 := 0#32
  let c1_i32_408 : BitVec 32 := 1#32
  let arg14 : BitVec 32 := Scf.iv c0_i32_406 c1_i32_408 k0_t1
  let c8_i32_533 : BitVec 32 := 8#32
  let v1392 : BitVec 32 := Scalar.muli arg14 c8_i32_533
  let v1393 : BitVec 32 := Scalar.addi c0_i32_534 v1392
  let c1_i32_535 : BitVec 32 := 1#32
  let v1394 : BitVec 32 := Scalar.addi v1393 c1_i32_535
  let c128_i32_561 : BitVec 32 := 128#32
  let v1425 : BitVec 32 := Scalar.muli v1394 c128_i32_561
  v1425
def k0_mult16 (i : grid0.Coords) (k0_t1 : Fin (k0_t1_loop i).trips) : BitVec 32 :=
  let c0_i32_534 : BitVec 32 := 0#32
  let c0_i32_406 : BitVec 32 := 0#32
  let c1_i32_408 : BitVec 32 := 1#32
  let arg14 : BitVec 32 := Scf.iv c0_i32_406 c1_i32_408 k0_t1
  let c8_i32_533 : BitVec 32 := 8#32
  let v1392 : BitVec 32 := Scalar.muli arg14 c8_i32_533
  let v1393 : BitVec 32 := Scalar.addi c0_i32_534 v1392
  let c1_i32_535 : BitVec 32 := 1#32
  let v1394 : BitVec 32 := Scalar.addi v1393 c1_i32_535
  let c128_i32_565 : BitVec 32 := 128#32
  let v1431 : BitVec 32 := Scalar.muli v1394 c128_i32_565
  v1431
def k0_mult17 (i : grid0.Coords) (k0_t1 : Fin (k0_t1_loop i).trips) : BitVec 32 :=
  let c0_i32_537 : BitVec 32 := 0#32
  let c0_i32_406 : BitVec 32 := 0#32
  let c1_i32_408 : BitVec 32 := 1#32
  let arg14 : BitVec 32 := Scf.iv c0_i32_406 c1_i32_408 k0_t1
  let c8_i32_536 : BitVec 32 := 8#32
  let v1395 : BitVec 32 := Scalar.muli arg14 c8_i32_536
  let v1396 : BitVec 32 := Scalar.addi c0_i32_537 v1395
  let c2_i32_538 : BitVec 32 := 2#32
  let v1397 : BitVec 32 := Scalar.addi v1396 c2_i32_538
  let c128_i32_569 : BitVec 32 := 128#32
  let v1437 : BitVec 32 := Scalar.muli v1397 c128_i32_569
  v1437
def k0_mult18 (i : grid0.Coords) (k0_t1 : Fin (k0_t1_loop i).trips) : BitVec 32 :=
  let c0_i32_537 : BitVec 32 := 0#32
  let c0_i32_406 : BitVec 32 := 0#32
  let c1_i32_408 : BitVec 32 := 1#32
  let arg14 : BitVec 32 := Scf.iv c0_i32_406 c1_i32_408 k0_t1
  let c8_i32_536 : BitVec 32 := 8#32
  let v1395 : BitVec 32 := Scalar.muli arg14 c8_i32_536
  let v1396 : BitVec 32 := Scalar.addi c0_i32_537 v1395
  let c2_i32_538 : BitVec 32 := 2#32
  let v1397 : BitVec 32 := Scalar.addi v1396 c2_i32_538
  let c128_i32_573 : BitVec 32 := 128#32
  let v1443 : BitVec 32 := Scalar.muli v1397 c128_i32_573
  v1443
def k0_mult19 (i : grid0.Coords) (k0_t1 : Fin (k0_t1_loop i).trips) : BitVec 32 :=
  let c0_i32_540 : BitVec 32 := 0#32
  let c0_i32_406 : BitVec 32 := 0#32
  let c1_i32_408 : BitVec 32 := 1#32
  let arg14 : BitVec 32 := Scf.iv c0_i32_406 c1_i32_408 k0_t1
  let c8_i32_539 : BitVec 32 := 8#32
  let v1398 : BitVec 32 := Scalar.muli arg14 c8_i32_539
  let v1399 : BitVec 32 := Scalar.addi c0_i32_540 v1398
  let c3_i32_541 : BitVec 32 := 3#32
  let v1400 : BitVec 32 := Scalar.addi v1399 c3_i32_541
  let c128_i32_577 : BitVec 32 := 128#32
  let v1449 : BitVec 32 := Scalar.muli v1400 c128_i32_577
  v1449
def k0_mult20 (i : grid0.Coords) (k0_t1 : Fin (k0_t1_loop i).trips) : BitVec 32 :=
  let c0_i32_540 : BitVec 32 := 0#32
  let c0_i32_406 : BitVec 32 := 0#32
  let c1_i32_408 : BitVec 32 := 1#32
  let arg14 : BitVec 32 := Scf.iv c0_i32_406 c1_i32_408 k0_t1
  let c8_i32_539 : BitVec 32 := 8#32
  let v1398 : BitVec 32 := Scalar.muli arg14 c8_i32_539
  let v1399 : BitVec 32 := Scalar.addi c0_i32_540 v1398
  let c3_i32_541 : BitVec 32 := 3#32
  let v1400 : BitVec 32 := Scalar.addi v1399 c3_i32_541
  let c128_i32_581 : BitVec 32 := 128#32
  let v1455 : BitVec 32 := Scalar.muli v1400 c128_i32_581
  v1455
def k0_mult21 (i : grid0.Coords) (k0_t1 : Fin (k0_t1_loop i).trips) : BitVec 32 :=
  let c0_i32_543 : BitVec 32 := 0#32
  let c0_i32_406 : BitVec 32 := 0#32
  let c1_i32_408 : BitVec 32 := 1#32
  let arg14 : BitVec 32 := Scf.iv c0_i32_406 c1_i32_408 k0_t1
  let c8_i32_542 : BitVec 32 := 8#32
  let v1401 : BitVec 32 := Scalar.muli arg14 c8_i32_542
  let v1402 : BitVec 32 := Scalar.addi c0_i32_543 v1401
  let c4_i32_544 : BitVec 32 := 4#32
  let v1403 : BitVec 32 := Scalar.addi v1402 c4_i32_544
  let c128_i32_585 : BitVec 32 := 128#32
  let v1461 : BitVec 32 := Scalar.muli v1403 c128_i32_585
  v1461
def k0_mult22 (i : grid0.Coords) (k0_t1 : Fin (k0_t1_loop i).trips) : BitVec 32 :=
  let c0_i32_543 : BitVec 32 := 0#32
  let c0_i32_406 : BitVec 32 := 0#32
  let c1_i32_408 : BitVec 32 := 1#32
  let arg14 : BitVec 32 := Scf.iv c0_i32_406 c1_i32_408 k0_t1
  let c8_i32_542 : BitVec 32 := 8#32
  let v1401 : BitVec 32 := Scalar.muli arg14 c8_i32_542
  let v1402 : BitVec 32 := Scalar.addi c0_i32_543 v1401
  let c4_i32_544 : BitVec 32 := 4#32
  let v1403 : BitVec 32 := Scalar.addi v1402 c4_i32_544
  let c128_i32_589 : BitVec 32 := 128#32
  let v1467 : BitVec 32 := Scalar.muli v1403 c128_i32_589
  v1467
def k0_mult23 (i : grid0.Coords) (k0_t1 : Fin (k0_t1_loop i).trips) : BitVec 32 :=
  let c0_i32_546 : BitVec 32 := 0#32
  let c0_i32_406 : BitVec 32 := 0#32
  let c1_i32_408 : BitVec 32 := 1#32
  let arg14 : BitVec 32 := Scf.iv c0_i32_406 c1_i32_408 k0_t1
  let c8_i32_545 : BitVec 32 := 8#32
  let v1404 : BitVec 32 := Scalar.muli arg14 c8_i32_545
  let v1405 : BitVec 32 := Scalar.addi c0_i32_546 v1404
  let c5_i32_547 : BitVec 32 := 5#32
  let v1406 : BitVec 32 := Scalar.addi v1405 c5_i32_547
  let c128_i32_593 : BitVec 32 := 128#32
  let v1473 : BitVec 32 := Scalar.muli v1406 c128_i32_593
  v1473
def k0_mult24 (i : grid0.Coords) (k0_t1 : Fin (k0_t1_loop i).trips) : BitVec 32 :=
  let c0_i32_546 : BitVec 32 := 0#32
  let c0_i32_406 : BitVec 32 := 0#32
  let c1_i32_408 : BitVec 32 := 1#32
  let arg14 : BitVec 32 := Scf.iv c0_i32_406 c1_i32_408 k0_t1
  let c8_i32_545 : BitVec 32 := 8#32
  let v1404 : BitVec 32 := Scalar.muli arg14 c8_i32_545
  let v1405 : BitVec 32 := Scalar.addi c0_i32_546 v1404
  let c5_i32_547 : BitVec 32 := 5#32
  let v1406 : BitVec 32 := Scalar.addi v1405 c5_i32_547
  let c128_i32_597 : BitVec 32 := 128#32
  let v1479 : BitVec 32 := Scalar.muli v1406 c128_i32_597
  v1479
def k0_mult25 (i : grid0.Coords) (k0_t1 : Fin (k0_t1_loop i).trips) : BitVec 32 :=
  let c0_i32_549 : BitVec 32 := 0#32
  let c0_i32_406 : BitVec 32 := 0#32
  let c1_i32_408 : BitVec 32 := 1#32
  let arg14 : BitVec 32 := Scf.iv c0_i32_406 c1_i32_408 k0_t1
  let c8_i32_548 : BitVec 32 := 8#32
  let v1407 : BitVec 32 := Scalar.muli arg14 c8_i32_548
  let v1408 : BitVec 32 := Scalar.addi c0_i32_549 v1407
  let c6_i32_550 : BitVec 32 := 6#32
  let v1409 : BitVec 32 := Scalar.addi v1408 c6_i32_550
  let c128_i32_601 : BitVec 32 := 128#32
  let v1485 : BitVec 32 := Scalar.muli v1409 c128_i32_601
  v1485
def k0_mult26 (i : grid0.Coords) (k0_t1 : Fin (k0_t1_loop i).trips) : BitVec 32 :=
  let c0_i32_549 : BitVec 32 := 0#32
  let c0_i32_406 : BitVec 32 := 0#32
  let c1_i32_408 : BitVec 32 := 1#32
  let arg14 : BitVec 32 := Scf.iv c0_i32_406 c1_i32_408 k0_t1
  let c8_i32_548 : BitVec 32 := 8#32
  let v1407 : BitVec 32 := Scalar.muli arg14 c8_i32_548
  let v1408 : BitVec 32 := Scalar.addi c0_i32_549 v1407
  let c6_i32_550 : BitVec 32 := 6#32
  let v1409 : BitVec 32 := Scalar.addi v1408 c6_i32_550
  let c128_i32_605 : BitVec 32 := 128#32
  let v1491 : BitVec 32 := Scalar.muli v1409 c128_i32_605
  v1491
def k0_mult27 (i : grid0.Coords) (k0_t1 : Fin (k0_t1_loop i).trips) : BitVec 32 :=
  let c0_i32_552 : BitVec 32 := 0#32
  let c0_i32_406 : BitVec 32 := 0#32
  let c1_i32_408 : BitVec 32 := 1#32
  let arg14 : BitVec 32 := Scf.iv c0_i32_406 c1_i32_408 k0_t1
  let c8_i32_551 : BitVec 32 := 8#32
  let v1410 : BitVec 32 := Scalar.muli arg14 c8_i32_551
  let v1411 : BitVec 32 := Scalar.addi c0_i32_552 v1410
  let c7_i32 : BitVec 32 := 7#32
  let v1412 : BitVec 32 := Scalar.addi v1411 c7_i32
  let c128_i32_609 : BitVec 32 := 128#32
  let v1497 : BitVec 32 := Scalar.muli v1412 c128_i32_609
  v1497
def k0_mult28 (i : grid0.Coords) (k0_t1 : Fin (k0_t1_loop i).trips) : BitVec 32 :=
  let c0_i32_552 : BitVec 32 := 0#32
  let c0_i32_406 : BitVec 32 := 0#32
  let c1_i32_408 : BitVec 32 := 1#32
  let arg14 : BitVec 32 := Scf.iv c0_i32_406 c1_i32_408 k0_t1
  let c8_i32_551 : BitVec 32 := 8#32
  let v1410 : BitVec 32 := Scalar.muli arg14 c8_i32_551
  let v1411 : BitVec 32 := Scalar.addi c0_i32_552 v1410
  let c7_i32 : BitVec 32 := 7#32
  let v1412 : BitVec 32 := Scalar.addi v1411 c7_i32
  let c128_i32_613 : BitVec 32 := 128#32
  let v1503 : BitVec 32 := Scalar.muli v1412 c128_i32_613
  v1503
def k0_off7 (i : grid0.Coords) (k0_t1 : Fin (k0_t1_loop i).trips) (c0_i32_532 : BitVec 32) : Fin 4 → Nat :=
  let c0_618 : Index := 0#32
  let c0_i32_531 : BitVec 32 := 0#32
  let c0_i32_406 : BitVec 32 := 0#32
  let c1_i32_408 : BitVec 32 := 1#32
  let arg14 : BitVec 32 := Scf.iv c0_i32_406 c1_i32_408 k0_t1
  let c8_i32_530 : BitVec 32 := 8#32
  let v1389 : BitVec 32 := Scalar.muli arg14 c8_i32_530
  let v1390 : BitVec 32 := Scalar.addi c0_i32_531 v1389
  let v1391 : BitVec 32 := Scalar.addi v1390 c0_i32_532
  let v1520 : Index := Scalar.indexCast v1391
  let c0_619 : Index := 0#32
  let c0_620 : Index := 0#32
  ![0, v1520.toNat, 0, 0]
def k0_off8 (i : grid0.Coords) (k0_t1 : Fin (k0_t1_loop i).trips) (c0_i32_532 : BitVec 32) : Fin 4 → Nat :=
  let c1_623 : Index := 1#32
  let c0_i32_531 : BitVec 32 := 0#32
  let c0_i32_406 : BitVec 32 := 0#32
  let c1_i32_408 : BitVec 32 := 1#32
  let arg14 : BitVec 32 := Scf.iv c0_i32_406 c1_i32_408 k0_t1
  let c8_i32_530 : BitVec 32 := 8#32
  let v1389 : BitVec 32 := Scalar.muli arg14 c8_i32_530
  let v1390 : BitVec 32 := Scalar.addi c0_i32_531 v1389
  let v1391 : BitVec 32 := Scalar.addi v1390 c0_i32_532
  let v1536 : Index := Scalar.indexCast v1391
  let c0_624 : Index := 0#32
  let c0_625 : Index := 0#32
  ![1, v1536.toNat, 0, 0]
@[reducible] def k0_t2_loop (i : grid0.Coords) : Scf.Loop 32 :=
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let v1093 : BitVec 32 := Scalar.addi c0_i32_406 v1092
  let c1_i32_409 : BitVec 32 := 1#32
  ⟨v1096, v1093, c1_i32_409⟩
def k0_mult29 (i : grid0.Coords) (k0_t2 : Fin (k0_t2_loop i).trips) : BitVec 32 :=
  let c0_i32_531 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_530 : BitVec 32 := 8#32
  let v1389 : BitVec 32 := Scalar.muli arg14 c8_i32_530
  let v1390 : BitVec 32 := Scalar.addi c0_i32_531 v1389
  let c0_i32_532 : BitVec 32 := 0#32
  let v1391 : BitVec 32 := Scalar.addi v1390 c0_i32_532
  let c128_i32_553 : BitVec 32 := 128#32
  let v1413 : BitVec 32 := Scalar.muli v1391 c128_i32_553
  v1413
def k0_off9 (i : grid0.Coords) (k0_t2 : Fin (k0_t2_loop i).trips) (c0_i32_532 : BitVec 32) : Fin 3 → Nat :=
  let c0_554 : Index := 0#32
  let c0_i32_531 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_530 : BitVec 32 := 8#32
  let v1389 : BitVec 32 := Scalar.muli arg14 c8_i32_530
  let v1390 : BitVec 32 := Scalar.addi c0_i32_531 v1389
  let v1391 : BitVec 32 := Scalar.addi v1390 c0_i32_532
  let c128_i32_553 : BitVec 32 := 128#32
  let v1413 : BitVec 32 := Scalar.muli v1391 c128_i32_553
  let v1414 : BitVec 32 := v1413
  let v1415 : Index := Scalar.indexCast v1414
  let c0_555 : Index := 0#32
  ![0, v1415.toNat, 0]
def k0_mult30 (i : grid0.Coords) (k0_t2 : Fin (k0_t2_loop i).trips) : BitVec 32 :=
  let c0_i32_531 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_530 : BitVec 32 := 8#32
  let v1389 : BitVec 32 := Scalar.muli arg14 c8_i32_530
  let v1390 : BitVec 32 := Scalar.addi c0_i32_531 v1389
  let c0_i32_532 : BitVec 32 := 0#32
  let v1391 : BitVec 32 := Scalar.addi v1390 c0_i32_532
  let c128_i32_557 : BitVec 32 := 128#32
  let v1419 : BitVec 32 := Scalar.muli v1391 c128_i32_557
  v1419
def k0_off10 (i : grid0.Coords) (k0_t2 : Fin (k0_t2_loop i).trips) (c0_i32_532 : BitVec 32) : Fin 3 → Nat :=
  let c1_558 : Index := 1#32
  let c0_i32_531 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_530 : BitVec 32 := 8#32
  let v1389 : BitVec 32 := Scalar.muli arg14 c8_i32_530
  let v1390 : BitVec 32 := Scalar.addi c0_i32_531 v1389
  let v1391 : BitVec 32 := Scalar.addi v1390 c0_i32_532
  let c128_i32_557 : BitVec 32 := 128#32
  let v1419 : BitVec 32 := Scalar.muli v1391 c128_i32_557
  let v1420 : BitVec 32 := v1419
  let v1421 : Index := Scalar.indexCast v1420
  let c0_559 : Index := 0#32
  ![1, v1421.toNat, 0]
def k0_mult31 (i : grid0.Coords) (k0_t2 : Fin (k0_t2_loop i).trips) : BitVec 32 :=
  let c0_i32_534 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_533 : BitVec 32 := 8#32
  let v1392 : BitVec 32 := Scalar.muli arg14 c8_i32_533
  let v1393 : BitVec 32 := Scalar.addi c0_i32_534 v1392
  let c1_i32_535 : BitVec 32 := 1#32
  let v1394 : BitVec 32 := Scalar.addi v1393 c1_i32_535
  let c128_i32_561 : BitVec 32 := 128#32
  let v1425 : BitVec 32 := Scalar.muli v1394 c128_i32_561
  v1425
def k0_mult32 (i : grid0.Coords) (k0_t2 : Fin (k0_t2_loop i).trips) : BitVec 32 :=
  let c0_i32_534 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_533 : BitVec 32 := 8#32
  let v1392 : BitVec 32 := Scalar.muli arg14 c8_i32_533
  let v1393 : BitVec 32 := Scalar.addi c0_i32_534 v1392
  let c1_i32_535 : BitVec 32 := 1#32
  let v1394 : BitVec 32 := Scalar.addi v1393 c1_i32_535
  let c128_i32_565 : BitVec 32 := 128#32
  let v1431 : BitVec 32 := Scalar.muli v1394 c128_i32_565
  v1431
def k0_mult33 (i : grid0.Coords) (k0_t2 : Fin (k0_t2_loop i).trips) : BitVec 32 :=
  let c0_i32_537 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_536 : BitVec 32 := 8#32
  let v1395 : BitVec 32 := Scalar.muli arg14 c8_i32_536
  let v1396 : BitVec 32 := Scalar.addi c0_i32_537 v1395
  let c2_i32_538 : BitVec 32 := 2#32
  let v1397 : BitVec 32 := Scalar.addi v1396 c2_i32_538
  let c128_i32_569 : BitVec 32 := 128#32
  let v1437 : BitVec 32 := Scalar.muli v1397 c128_i32_569
  v1437
def k0_mult34 (i : grid0.Coords) (k0_t2 : Fin (k0_t2_loop i).trips) : BitVec 32 :=
  let c0_i32_537 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_536 : BitVec 32 := 8#32
  let v1395 : BitVec 32 := Scalar.muli arg14 c8_i32_536
  let v1396 : BitVec 32 := Scalar.addi c0_i32_537 v1395
  let c2_i32_538 : BitVec 32 := 2#32
  let v1397 : BitVec 32 := Scalar.addi v1396 c2_i32_538
  let c128_i32_573 : BitVec 32 := 128#32
  let v1443 : BitVec 32 := Scalar.muli v1397 c128_i32_573
  v1443
def k0_mult35 (i : grid0.Coords) (k0_t2 : Fin (k0_t2_loop i).trips) : BitVec 32 :=
  let c0_i32_540 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_539 : BitVec 32 := 8#32
  let v1398 : BitVec 32 := Scalar.muli arg14 c8_i32_539
  let v1399 : BitVec 32 := Scalar.addi c0_i32_540 v1398
  let c3_i32_541 : BitVec 32 := 3#32
  let v1400 : BitVec 32 := Scalar.addi v1399 c3_i32_541
  let c128_i32_577 : BitVec 32 := 128#32
  let v1449 : BitVec 32 := Scalar.muli v1400 c128_i32_577
  v1449
def k0_mult36 (i : grid0.Coords) (k0_t2 : Fin (k0_t2_loop i).trips) : BitVec 32 :=
  let c0_i32_540 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_539 : BitVec 32 := 8#32
  let v1398 : BitVec 32 := Scalar.muli arg14 c8_i32_539
  let v1399 : BitVec 32 := Scalar.addi c0_i32_540 v1398
  let c3_i32_541 : BitVec 32 := 3#32
  let v1400 : BitVec 32 := Scalar.addi v1399 c3_i32_541
  let c128_i32_581 : BitVec 32 := 128#32
  let v1455 : BitVec 32 := Scalar.muli v1400 c128_i32_581
  v1455
def k0_mult37 (i : grid0.Coords) (k0_t2 : Fin (k0_t2_loop i).trips) : BitVec 32 :=
  let c0_i32_543 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_542 : BitVec 32 := 8#32
  let v1401 : BitVec 32 := Scalar.muli arg14 c8_i32_542
  let v1402 : BitVec 32 := Scalar.addi c0_i32_543 v1401
  let c4_i32_544 : BitVec 32 := 4#32
  let v1403 : BitVec 32 := Scalar.addi v1402 c4_i32_544
  let c128_i32_585 : BitVec 32 := 128#32
  let v1461 : BitVec 32 := Scalar.muli v1403 c128_i32_585
  v1461
def k0_mult38 (i : grid0.Coords) (k0_t2 : Fin (k0_t2_loop i).trips) : BitVec 32 :=
  let c0_i32_543 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_542 : BitVec 32 := 8#32
  let v1401 : BitVec 32 := Scalar.muli arg14 c8_i32_542
  let v1402 : BitVec 32 := Scalar.addi c0_i32_543 v1401
  let c4_i32_544 : BitVec 32 := 4#32
  let v1403 : BitVec 32 := Scalar.addi v1402 c4_i32_544
  let c128_i32_589 : BitVec 32 := 128#32
  let v1467 : BitVec 32 := Scalar.muli v1403 c128_i32_589
  v1467
def k0_mult39 (i : grid0.Coords) (k0_t2 : Fin (k0_t2_loop i).trips) : BitVec 32 :=
  let c0_i32_546 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_545 : BitVec 32 := 8#32
  let v1404 : BitVec 32 := Scalar.muli arg14 c8_i32_545
  let v1405 : BitVec 32 := Scalar.addi c0_i32_546 v1404
  let c5_i32_547 : BitVec 32 := 5#32
  let v1406 : BitVec 32 := Scalar.addi v1405 c5_i32_547
  let c128_i32_593 : BitVec 32 := 128#32
  let v1473 : BitVec 32 := Scalar.muli v1406 c128_i32_593
  v1473
def k0_mult40 (i : grid0.Coords) (k0_t2 : Fin (k0_t2_loop i).trips) : BitVec 32 :=
  let c0_i32_546 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_545 : BitVec 32 := 8#32
  let v1404 : BitVec 32 := Scalar.muli arg14 c8_i32_545
  let v1405 : BitVec 32 := Scalar.addi c0_i32_546 v1404
  let c5_i32_547 : BitVec 32 := 5#32
  let v1406 : BitVec 32 := Scalar.addi v1405 c5_i32_547
  let c128_i32_597 : BitVec 32 := 128#32
  let v1479 : BitVec 32 := Scalar.muli v1406 c128_i32_597
  v1479
def k0_mult41 (i : grid0.Coords) (k0_t2 : Fin (k0_t2_loop i).trips) : BitVec 32 :=
  let c0_i32_549 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_548 : BitVec 32 := 8#32
  let v1407 : BitVec 32 := Scalar.muli arg14 c8_i32_548
  let v1408 : BitVec 32 := Scalar.addi c0_i32_549 v1407
  let c6_i32_550 : BitVec 32 := 6#32
  let v1409 : BitVec 32 := Scalar.addi v1408 c6_i32_550
  let c128_i32_601 : BitVec 32 := 128#32
  let v1485 : BitVec 32 := Scalar.muli v1409 c128_i32_601
  v1485
def k0_mult42 (i : grid0.Coords) (k0_t2 : Fin (k0_t2_loop i).trips) : BitVec 32 :=
  let c0_i32_549 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_548 : BitVec 32 := 8#32
  let v1407 : BitVec 32 := Scalar.muli arg14 c8_i32_548
  let v1408 : BitVec 32 := Scalar.addi c0_i32_549 v1407
  let c6_i32_550 : BitVec 32 := 6#32
  let v1409 : BitVec 32 := Scalar.addi v1408 c6_i32_550
  let c128_i32_605 : BitVec 32 := 128#32
  let v1491 : BitVec 32 := Scalar.muli v1409 c128_i32_605
  v1491
def k0_mult43 (i : grid0.Coords) (k0_t2 : Fin (k0_t2_loop i).trips) : BitVec 32 :=
  let c0_i32_552 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_551 : BitVec 32 := 8#32
  let v1410 : BitVec 32 := Scalar.muli arg14 c8_i32_551
  let v1411 : BitVec 32 := Scalar.addi c0_i32_552 v1410
  let c7_i32 : BitVec 32 := 7#32
  let v1412 : BitVec 32 := Scalar.addi v1411 c7_i32
  let c128_i32_609 : BitVec 32 := 128#32
  let v1497 : BitVec 32 := Scalar.muli v1412 c128_i32_609
  v1497
def k0_mult44 (i : grid0.Coords) (k0_t2 : Fin (k0_t2_loop i).trips) : BitVec 32 :=
  let c0_i32_552 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_551 : BitVec 32 := 8#32
  let v1410 : BitVec 32 := Scalar.muli arg14 c8_i32_551
  let v1411 : BitVec 32 := Scalar.addi c0_i32_552 v1410
  let c7_i32 : BitVec 32 := 7#32
  let v1412 : BitVec 32 := Scalar.addi v1411 c7_i32
  let c128_i32_613 : BitVec 32 := 128#32
  let v1503 : BitVec 32 := Scalar.muli v1412 c128_i32_613
  v1503
def k0_off11 (i : grid0.Coords) (k0_t2 : Fin (k0_t2_loop i).trips) (c0_i32_532 : BitVec 32) : Fin 4 → Nat :=
  let c0_618 : Index := 0#32
  let c0_i32_531 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_530 : BitVec 32 := 8#32
  let v1389 : BitVec 32 := Scalar.muli arg14 c8_i32_530
  let v1390 : BitVec 32 := Scalar.addi c0_i32_531 v1389
  let v1391 : BitVec 32 := Scalar.addi v1390 c0_i32_532
  let v1520 : Index := Scalar.indexCast v1391
  let c0_619 : Index := 0#32
  let c0_620 : Index := 0#32
  ![0, v1520.toNat, 0, 0]
def k0_off12 (i : grid0.Coords) (k0_t2 : Fin (k0_t2_loop i).trips) (c0_i32_532 : BitVec 32) : Fin 4 → Nat :=
  let c1_623 : Index := 1#32
  let c0_i32_531 : BitVec 32 := 0#32
  let c0_i32_406 : BitVec 32 := 0#32
  let arg1 : BitVec 32 := BitVec.ofNat 32 (i 1).val
  let c2_i32_404 : BitVec 32 := 2#32
  let v1090 : BitVec 32 := Scalar.muli arg1 c2_i32_404
  let c3_i32_405 : BitVec 32 := 3#32
  let v1091 : BitVec 32 := Scalar.shrsi v1090 c3_i32_405
  let v1092 : BitVec 32 := Scalar.subi v1091 c0_i32_406
  let c1_i32_407 : BitVec 32 := 1#32
  let v1094 : BitVec 32 := Scalar.divsi v1092 c1_i32_407
  let v1095 : BitVec 32 := Scalar.muli v1094 c1_i32_407
  let v1096 : BitVec 32 := Scalar.addi c0_i32_406 v1095
  let c1_i32_409 : BitVec 32 := 1#32
  let arg14 : BitVec 32 := Scf.iv v1096 c1_i32_409 k0_t2
  let c8_i32_530 : BitVec 32 := 8#32
  let v1389 : BitVec 32 := Scalar.muli arg14 c8_i32_530
  let v1390 : BitVec 32 := Scalar.addi c0_i32_531 v1389
  let v1391 : BitVec 32 := Scalar.addi v1390 c0_i32_532
  let v1536 : Index := Scalar.indexCast v1391
  let c0_624 : Index := 0#32
  let c0_625 : Index := 0#32
  ![1, v1536.toNat, 0, 0]
@[reducible] def k0_t3_loop (i : grid0.Coords) : Scf.Loop 32 :=
  let c0_i32_413 : BitVec 32 := 0#32
  let arg1 : BitVec 32 := BitVec.ofNat 32 (i 1).val
  let c2_i32_404 : BitVec 32 := 2#32
  let v1090 : BitVec 32 := Scalar.muli arg1 c2_i32_404
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_415 : BitVec 32 := 1#32
  ⟨c0_i32_413, v1107, c1_i32_415⟩
def k0_mult45 (i : grid0.Coords) (k0_t3 : Fin (k0_t3_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_530 : BitVec 32 := 4#32
  let v1389 : BitVec 32 := Scalar.muli arg14 c4_i32_530
  let v1390 : BitVec 32 := Scalar.addi v1100 v1389
  let c0_i32_531 : BitVec 32 := 0#32
  let v1391 : BitVec 32 := Scalar.addi v1390 c0_i32_531
  let c128_i32_538 : BitVec 32 := 128#32
  let v1401 : BitVec 32 := Scalar.muli v1391 c128_i32_538
  v1401
def k0_off13 (i : grid0.Coords) (k0_t3 : Fin (k0_t3_loop i).trips) (c0_i32_531 : BitVec 32) : Fin 3 → Nat :=
  let c0_539 : Index := 0#32
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_530 : BitVec 32 := 4#32
  let v1389 : BitVec 32 := Scalar.muli arg14 c4_i32_530
  let v1390 : BitVec 32 := Scalar.addi v1100 v1389
  let v1391 : BitVec 32 := Scalar.addi v1390 c0_i32_531
  let c128_i32_538 : BitVec 32 := 128#32
  let v1401 : BitVec 32 := Scalar.muli v1391 c128_i32_538
  let v1402 : BitVec 32 := v1401
  let v1403 : Index := Scalar.indexCast v1402
  let c0_540 : Index := 0#32
  ![0, v1403.toNat, 0]
def k0_mult46 (i : grid0.Coords) (k0_t3 : Fin (k0_t3_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_530 : BitVec 32 := 4#32
  let v1389 : BitVec 32 := Scalar.muli arg14 c4_i32_530
  let v1390 : BitVec 32 := Scalar.addi v1100 v1389
  let c0_i32_531 : BitVec 32 := 0#32
  let v1391 : BitVec 32 := Scalar.addi v1390 c0_i32_531
  let c128_i32_542 : BitVec 32 := 128#32
  let v1407 : BitVec 32 := Scalar.muli v1391 c128_i32_542
  v1407
def k0_off14 (i : grid0.Coords) (k0_t3 : Fin (k0_t3_loop i).trips) (c0_i32_531 : BitVec 32) : Fin 3 → Nat :=
  let c1_543 : Index := 1#32
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_530 : BitVec 32 := 4#32
  let v1389 : BitVec 32 := Scalar.muli arg14 c4_i32_530
  let v1390 : BitVec 32 := Scalar.addi v1100 v1389
  let v1391 : BitVec 32 := Scalar.addi v1390 c0_i32_531
  let c128_i32_542 : BitVec 32 := 128#32
  let v1407 : BitVec 32 := Scalar.muli v1391 c128_i32_542
  let v1408 : BitVec 32 := v1407
  let v1409 : Index := Scalar.indexCast v1408
  let c0_544 : Index := 0#32
  ![1, v1409.toNat, 0]
def k0_mult47 (i : grid0.Coords) (k0_t3 : Fin (k0_t3_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_532 : BitVec 32 := 4#32
  let v1392 : BitVec 32 := Scalar.muli arg14 c4_i32_532
  let v1393 : BitVec 32 := Scalar.addi v1100 v1392
  let c1_i32_533 : BitVec 32 := 1#32
  let v1394 : BitVec 32 := Scalar.addi v1393 c1_i32_533
  let c128_i32_546 : BitVec 32 := 128#32
  let v1413 : BitVec 32 := Scalar.muli v1394 c128_i32_546
  v1413
def k0_mult48 (i : grid0.Coords) (k0_t3 : Fin (k0_t3_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_532 : BitVec 32 := 4#32
  let v1392 : BitVec 32 := Scalar.muli arg14 c4_i32_532
  let v1393 : BitVec 32 := Scalar.addi v1100 v1392
  let c1_i32_533 : BitVec 32 := 1#32
  let v1394 : BitVec 32 := Scalar.addi v1393 c1_i32_533
  let c128_i32_550 : BitVec 32 := 128#32
  let v1419 : BitVec 32 := Scalar.muli v1394 c128_i32_550
  v1419
def k0_mult49 (i : grid0.Coords) (k0_t3 : Fin (k0_t3_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_534 : BitVec 32 := 4#32
  let v1395 : BitVec 32 := Scalar.muli arg14 c4_i32_534
  let v1396 : BitVec 32 := Scalar.addi v1100 v1395
  let c2_i32_535 : BitVec 32 := 2#32
  let v1397 : BitVec 32 := Scalar.addi v1396 c2_i32_535
  let c128_i32_554 : BitVec 32 := 128#32
  let v1425 : BitVec 32 := Scalar.muli v1397 c128_i32_554
  v1425
def k0_mult50 (i : grid0.Coords) (k0_t3 : Fin (k0_t3_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_534 : BitVec 32 := 4#32
  let v1395 : BitVec 32 := Scalar.muli arg14 c4_i32_534
  let v1396 : BitVec 32 := Scalar.addi v1100 v1395
  let c2_i32_535 : BitVec 32 := 2#32
  let v1397 : BitVec 32 := Scalar.addi v1396 c2_i32_535
  let c128_i32_558 : BitVec 32 := 128#32
  let v1431 : BitVec 32 := Scalar.muli v1397 c128_i32_558
  v1431
def k0_mult51 (i : grid0.Coords) (k0_t3 : Fin (k0_t3_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_536 : BitVec 32 := 4#32
  let v1398 : BitVec 32 := Scalar.muli arg14 c4_i32_536
  let v1399 : BitVec 32 := Scalar.addi v1100 v1398
  let c3_i32_537 : BitVec 32 := 3#32
  let v1400 : BitVec 32 := Scalar.addi v1399 c3_i32_537
  let c128_i32_562 : BitVec 32 := 128#32
  let v1437 : BitVec 32 := Scalar.muli v1400 c128_i32_562
  v1437
def k0_mult52 (i : grid0.Coords) (k0_t3 : Fin (k0_t3_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_536 : BitVec 32 := 4#32
  let v1398 : BitVec 32 := Scalar.muli arg14 c4_i32_536
  let v1399 : BitVec 32 := Scalar.addi v1100 v1398
  let c3_i32_537 : BitVec 32 := 3#32
  let v1400 : BitVec 32 := Scalar.addi v1399 c3_i32_537
  let c128_i32_566 : BitVec 32 := 128#32
  let v1443 : BitVec 32 := Scalar.muli v1400 c128_i32_566
  v1443
def k0_off15 (i : grid0.Coords) (k0_t3 : Fin (k0_t3_loop i).trips) (c0_i32_531 : BitVec 32) : Fin 4 → Nat :=
  let c0_571 : Index := 0#32
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_530 : BitVec 32 := 4#32
  let v1389 : BitVec 32 := Scalar.muli arg14 c4_i32_530
  let v1390 : BitVec 32 := Scalar.addi v1100 v1389
  let v1391 : BitVec 32 := Scalar.addi v1390 c0_i32_531
  let v1460 : Index := Scalar.indexCast v1391
  let c0_572 : Index := 0#32
  let c0_573 : Index := 0#32
  ![0, v1460.toNat, 0, 0]
def k0_off16 (i : grid0.Coords) (k0_t3 : Fin (k0_t3_loop i).trips) (c0_i32_531 : BitVec 32) : Fin 4 → Nat :=
  let c1_576 : Index := 1#32
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c1_i32_415 : BitVec 32 := 1#32
  let arg14 : BitVec 32 := Scf.iv c0_i32_413 c1_i32_415 k0_t3
  let c4_i32_530 : BitVec 32 := 4#32
  let v1389 : BitVec 32 := Scalar.muli arg14 c4_i32_530
  let v1390 : BitVec 32 := Scalar.addi v1100 v1389
  let v1391 : BitVec 32 := Scalar.addi v1390 c0_i32_531
  let v1476 : Index := Scalar.indexCast v1391
  let c0_577 : Index := 0#32
  let c0_578 : Index := 0#32
  ![1, v1476.toNat, 0, 0]
@[reducible] def k0_t4_loop (i : grid0.Coords) : Scf.Loop 32 :=
  let c0_i32_413 : BitVec 32 := 0#32
  let arg1 : BitVec 32 := BitVec.ofNat 32 (i 1).val
  let c2_i32_404 : BitVec 32 := 2#32
  let v1090 : BitVec 32 := Scalar.muli arg1 c2_i32_404
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let v1104 : BitVec 32 := Scalar.addi c0_i32_413 v1103
  let c1_i32_416 : BitVec 32 := 1#32
  ⟨v1107, v1104, c1_i32_416⟩
def k0_mult53 (i : grid0.Coords) (k0_t4 : Fin (k0_t4_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_530 : BitVec 32 := 4#32
  let v1389 : BitVec 32 := Scalar.muli arg14 c4_i32_530
  let v1390 : BitVec 32 := Scalar.addi v1100 v1389
  let c0_i32_531 : BitVec 32 := 0#32
  let v1391 : BitVec 32 := Scalar.addi v1390 c0_i32_531
  let c128_i32_538 : BitVec 32 := 128#32
  let v1401 : BitVec 32 := Scalar.muli v1391 c128_i32_538
  v1401
def k0_off17 (i : grid0.Coords) (k0_t4 : Fin (k0_t4_loop i).trips) (c0_i32_531 : BitVec 32) : Fin 3 → Nat :=
  let c0_539 : Index := 0#32
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_530 : BitVec 32 := 4#32
  let v1389 : BitVec 32 := Scalar.muli arg14 c4_i32_530
  let v1390 : BitVec 32 := Scalar.addi v1100 v1389
  let v1391 : BitVec 32 := Scalar.addi v1390 c0_i32_531
  let c128_i32_538 : BitVec 32 := 128#32
  let v1401 : BitVec 32 := Scalar.muli v1391 c128_i32_538
  let v1402 : BitVec 32 := v1401
  let v1403 : Index := Scalar.indexCast v1402
  let c0_540 : Index := 0#32
  ![0, v1403.toNat, 0]
def k0_mult54 (i : grid0.Coords) (k0_t4 : Fin (k0_t4_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_530 : BitVec 32 := 4#32
  let v1389 : BitVec 32 := Scalar.muli arg14 c4_i32_530
  let v1390 : BitVec 32 := Scalar.addi v1100 v1389
  let c0_i32_531 : BitVec 32 := 0#32
  let v1391 : BitVec 32 := Scalar.addi v1390 c0_i32_531
  let c128_i32_542 : BitVec 32 := 128#32
  let v1407 : BitVec 32 := Scalar.muli v1391 c128_i32_542
  v1407
def k0_off18 (i : grid0.Coords) (k0_t4 : Fin (k0_t4_loop i).trips) (c0_i32_531 : BitVec 32) : Fin 3 → Nat :=
  let c1_543 : Index := 1#32
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_530 : BitVec 32 := 4#32
  let v1389 : BitVec 32 := Scalar.muli arg14 c4_i32_530
  let v1390 : BitVec 32 := Scalar.addi v1100 v1389
  let v1391 : BitVec 32 := Scalar.addi v1390 c0_i32_531
  let c128_i32_542 : BitVec 32 := 128#32
  let v1407 : BitVec 32 := Scalar.muli v1391 c128_i32_542
  let v1408 : BitVec 32 := v1407
  let v1409 : Index := Scalar.indexCast v1408
  let c0_544 : Index := 0#32
  ![1, v1409.toNat, 0]
def k0_mult55 (i : grid0.Coords) (k0_t4 : Fin (k0_t4_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_532 : BitVec 32 := 4#32
  let v1392 : BitVec 32 := Scalar.muli arg14 c4_i32_532
  let v1393 : BitVec 32 := Scalar.addi v1100 v1392
  let c1_i32_533 : BitVec 32 := 1#32
  let v1394 : BitVec 32 := Scalar.addi v1393 c1_i32_533
  let c128_i32_546 : BitVec 32 := 128#32
  let v1413 : BitVec 32 := Scalar.muli v1394 c128_i32_546
  v1413
def k0_mult56 (i : grid0.Coords) (k0_t4 : Fin (k0_t4_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_532 : BitVec 32 := 4#32
  let v1392 : BitVec 32 := Scalar.muli arg14 c4_i32_532
  let v1393 : BitVec 32 := Scalar.addi v1100 v1392
  let c1_i32_533 : BitVec 32 := 1#32
  let v1394 : BitVec 32 := Scalar.addi v1393 c1_i32_533
  let c128_i32_550 : BitVec 32 := 128#32
  let v1419 : BitVec 32 := Scalar.muli v1394 c128_i32_550
  v1419
def k0_mult57 (i : grid0.Coords) (k0_t4 : Fin (k0_t4_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_534 : BitVec 32 := 4#32
  let v1395 : BitVec 32 := Scalar.muli arg14 c4_i32_534
  let v1396 : BitVec 32 := Scalar.addi v1100 v1395
  let c2_i32_535 : BitVec 32 := 2#32
  let v1397 : BitVec 32 := Scalar.addi v1396 c2_i32_535
  let c128_i32_554 : BitVec 32 := 128#32
  let v1425 : BitVec 32 := Scalar.muli v1397 c128_i32_554
  v1425
def k0_mult58 (i : grid0.Coords) (k0_t4 : Fin (k0_t4_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_534 : BitVec 32 := 4#32
  let v1395 : BitVec 32 := Scalar.muli arg14 c4_i32_534
  let v1396 : BitVec 32 := Scalar.addi v1100 v1395
  let c2_i32_535 : BitVec 32 := 2#32
  let v1397 : BitVec 32 := Scalar.addi v1396 c2_i32_535
  let c128_i32_558 : BitVec 32 := 128#32
  let v1431 : BitVec 32 := Scalar.muli v1397 c128_i32_558
  v1431
def k0_mult59 (i : grid0.Coords) (k0_t4 : Fin (k0_t4_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_536 : BitVec 32 := 4#32
  let v1398 : BitVec 32 := Scalar.muli arg14 c4_i32_536
  let v1399 : BitVec 32 := Scalar.addi v1100 v1398
  let c3_i32_537 : BitVec 32 := 3#32
  let v1400 : BitVec 32 := Scalar.addi v1399 c3_i32_537
  let c128_i32_562 : BitVec 32 := 128#32
  let v1437 : BitVec 32 := Scalar.muli v1400 c128_i32_562
  v1437
def k0_mult60 (i : grid0.Coords) (k0_t4 : Fin (k0_t4_loop i).trips) : BitVec 32 :=
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_536 : BitVec 32 := 4#32
  let v1398 : BitVec 32 := Scalar.muli arg14 c4_i32_536
  let v1399 : BitVec 32 := Scalar.addi v1100 v1398
  let c3_i32_537 : BitVec 32 := 3#32
  let v1400 : BitVec 32 := Scalar.addi v1399 c3_i32_537
  let c128_i32_566 : BitVec 32 := 128#32
  let v1443 : BitVec 32 := Scalar.muli v1400 c128_i32_566
  v1443
def k0_off19 (i : grid0.Coords) (k0_t4 : Fin (k0_t4_loop i).trips) (c0_i32_531 : BitVec 32) : Fin 4 → Nat :=
  let c0_571 : Index := 0#32
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_530 : BitVec 32 := 4#32
  let v1389 : BitVec 32 := Scalar.muli arg14 c4_i32_530
  let v1390 : BitVec 32 := Scalar.addi v1100 v1389
  let v1391 : BitVec 32 := Scalar.addi v1390 c0_i32_531
  let v1460 : Index := Scalar.indexCast v1391
  let c0_572 : Index := 0#32
  let c0_573 : Index := 0#32
  ![0, v1460.toNat, 0, 0]
def k0_off20 (i : grid0.Coords) (k0_t4 : Fin (k0_t4_loop i).trips) (c0_i32_531 : BitVec 32) : Fin 4 → Nat :=
  let c1_576 : Index := 1#32
  let arg1 : BitVec 32 := BitVec.ofNat 32 (i 1).val
  let c2_i32_404 : BitVec 32 := 2#32
  let v1090 : BitVec 32 := Scalar.muli arg1 c2_i32_404
  let c3_i32_410 : BitVec 32 := 3#32
  let v1099 : BitVec 32 := Scalar.shrsi v1090 c3_i32_410
  let c8_i32 : BitVec 32 := 8#32
  let v1100 : BitVec 32 := Scalar.muli v1099 c8_i32
  let c0_i32_413 : BitVec 32 := 0#32
  let c2_i32_411 : BitVec 32 := 2#32
  let v1101 : BitVec 32 := Scalar.shrsi v1090 c2_i32_411
  let c1_i32_412 : BitVec 32 := 1#32
  let v1102 : BitVec 32 := Scalar.andi v1101 c1_i32_412
  let v1103 : BitVec 32 := Scalar.subi v1102 c0_i32_413
  let c1_i32_414 : BitVec 32 := 1#32
  let v1105 : BitVec 32 := Scalar.divsi v1103 c1_i32_414
  let v1106 : BitVec 32 := Scalar.muli v1105 c1_i32_414
  let v1107 : BitVec 32 := Scalar.addi c0_i32_413 v1106
  let c1_i32_416 : BitVec 32 := 1#32
  let arg14 : BitVec 32 := Scf.iv v1107 c1_i32_416 k0_t4
  let c4_i32_530 : BitVec 32 := 4#32
  let v1389 : BitVec 32 := Scalar.muli arg14 c4_i32_530
  let v1390 : BitVec 32 := Scalar.addi v1100 v1389
  let v1391 : BitVec 32 := Scalar.addi v1390 c0_i32_531
  let v1476 : Index := Scalar.indexCast v1391
  let c0_577 : Index := 0#32
  let c0_578 : Index := 0#32
  ![1, v1476.toNat, 0, 0]
@[reducible] def k0_t5_loop (i : grid0.Coords) : Scf.Loop 32 :=
  let c0_i32_421 : BitVec 32 := 0#32
  let arg1 : BitVec 32 := BitVec.ofNat 32 (i 1).val
  let c2_i32_404 : BitVec 32 := 2#32
  let v1090 : BitVec 32 := Scalar.muli arg1 c2_i32_404
  let c1_i32_419 : BitVec 32 := 1#32
  let v1112 : BitVec 32 := Scalar.shrsi v1090 c1_i32_419
  let c1_i32_420 : BitVec 32 := 1#32
  let v1113 : BitVec 32 := Scalar.andi v1112 c1_i32_420
  let v1114 : BitVec 32 := Scalar.subi v1113 c0_i32_421
  let c1_i32_422 : BitVec 32 := 1#32
  let v1116 : BitVec 32 := Scalar.divsi v1114 c1_i32_422
  let v1117 : BitVec 32 := Scalar.muli v1116 c1_i32_422
  let v1118 : BitVec 32 := Scalar.addi c0_i32_421 v1117
  let c1_i32_423 : BitVec 32 := 1#32
  ⟨c0_i32_421, v1118, c1_i32_423⟩
def k0_mult61 (i : grid0.Coords) (k0_t5 : Fin (k0_t5_loop i).trips) : BitVec 32 :=
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_423 : BitVec 32 := 1#32
  let arg14 : BitVec 32 := Scf.iv c0_i32_421 c1_i32_423 k0_t5
  let c2_i32_530 : BitVec 32 := 2#32
  let v1389 : BitVec 32 := Scalar.muli arg14 c2_i32_530
  let v1390 : BitVec 32 := Scalar.addi v1111 v1389
  let c0_i32_531 : BitVec 32 := 0#32
  let v1391 : BitVec 32 := Scalar.addi v1390 c0_i32_531
  let c128_i32_534 : BitVec 32 := 128#32
  let v1395 : BitVec 32 := Scalar.muli v1391 c128_i32_534
  v1395
def k0_off21 (i : grid0.Coords) (k0_t5 : Fin (k0_t5_loop i).trips) (c0_i32_531 : BitVec 32) : Fin 3 → Nat :=
  let c0_535 : Index := 0#32
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_423 : BitVec 32 := 1#32
  let arg14 : BitVec 32 := Scf.iv c0_i32_421 c1_i32_423 k0_t5
  let c2_i32_530 : BitVec 32 := 2#32
  let v1389 : BitVec 32 := Scalar.muli arg14 c2_i32_530
  let v1390 : BitVec 32 := Scalar.addi v1111 v1389
  let v1391 : BitVec 32 := Scalar.addi v1390 c0_i32_531
  let c128_i32_534 : BitVec 32 := 128#32
  let v1395 : BitVec 32 := Scalar.muli v1391 c128_i32_534
  let v1396 : BitVec 32 := v1395
  let v1397 : Index := Scalar.indexCast v1396
  let c0_536 : Index := 0#32
  ![0, v1397.toNat, 0]
def k0_mult62 (i : grid0.Coords) (k0_t5 : Fin (k0_t5_loop i).trips) : BitVec 32 :=
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_423 : BitVec 32 := 1#32
  let arg14 : BitVec 32 := Scf.iv c0_i32_421 c1_i32_423 k0_t5
  let c2_i32_530 : BitVec 32 := 2#32
  let v1389 : BitVec 32 := Scalar.muli arg14 c2_i32_530
  let v1390 : BitVec 32 := Scalar.addi v1111 v1389
  let c0_i32_531 : BitVec 32 := 0#32
  let v1391 : BitVec 32 := Scalar.addi v1390 c0_i32_531
  let c128_i32_538 : BitVec 32 := 128#32
  let v1401 : BitVec 32 := Scalar.muli v1391 c128_i32_538
  v1401
def k0_off22 (i : grid0.Coords) (k0_t5 : Fin (k0_t5_loop i).trips) (c0_i32_531 : BitVec 32) : Fin 3 → Nat :=
  let c1_539 : Index := 1#32
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_423 : BitVec 32 := 1#32
  let arg14 : BitVec 32 := Scf.iv c0_i32_421 c1_i32_423 k0_t5
  let c2_i32_530 : BitVec 32 := 2#32
  let v1389 : BitVec 32 := Scalar.muli arg14 c2_i32_530
  let v1390 : BitVec 32 := Scalar.addi v1111 v1389
  let v1391 : BitVec 32 := Scalar.addi v1390 c0_i32_531
  let c128_i32_538 : BitVec 32 := 128#32
  let v1401 : BitVec 32 := Scalar.muli v1391 c128_i32_538
  let v1402 : BitVec 32 := v1401
  let v1403 : Index := Scalar.indexCast v1402
  let c0_540 : Index := 0#32
  ![1, v1403.toNat, 0]
def k0_mult63 (i : grid0.Coords) (k0_t5 : Fin (k0_t5_loop i).trips) : BitVec 32 :=
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_423 : BitVec 32 := 1#32
  let arg14 : BitVec 32 := Scf.iv c0_i32_421 c1_i32_423 k0_t5
  let c2_i32_532 : BitVec 32 := 2#32
  let v1392 : BitVec 32 := Scalar.muli arg14 c2_i32_532
  let v1393 : BitVec 32 := Scalar.addi v1111 v1392
  let c1_i32_533 : BitVec 32 := 1#32
  let v1394 : BitVec 32 := Scalar.addi v1393 c1_i32_533
  let c128_i32_542 : BitVec 32 := 128#32
  let v1407 : BitVec 32 := Scalar.muli v1394 c128_i32_542
  v1407
def k0_mult64 (i : grid0.Coords) (k0_t5 : Fin (k0_t5_loop i).trips) : BitVec 32 :=
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_423 : BitVec 32 := 1#32
  let arg14 : BitVec 32 := Scf.iv c0_i32_421 c1_i32_423 k0_t5
  let c2_i32_532 : BitVec 32 := 2#32
  let v1392 : BitVec 32 := Scalar.muli arg14 c2_i32_532
  let v1393 : BitVec 32 := Scalar.addi v1111 v1392
  let c1_i32_533 : BitVec 32 := 1#32
  let v1394 : BitVec 32 := Scalar.addi v1393 c1_i32_533
  let c128_i32_546 : BitVec 32 := 128#32
  let v1413 : BitVec 32 := Scalar.muli v1394 c128_i32_546
  v1413
def k0_off23 (i : grid0.Coords) (k0_t5 : Fin (k0_t5_loop i).trips) (c0_i32_531 : BitVec 32) : Fin 4 → Nat :=
  let c0_551 : Index := 0#32
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_423 : BitVec 32 := 1#32
  let arg14 : BitVec 32 := Scf.iv c0_i32_421 c1_i32_423 k0_t5
  let c2_i32_530 : BitVec 32 := 2#32
  let v1389 : BitVec 32 := Scalar.muli arg14 c2_i32_530
  let v1390 : BitVec 32 := Scalar.addi v1111 v1389
  let v1391 : BitVec 32 := Scalar.addi v1390 c0_i32_531
  let v1430 : Index := Scalar.indexCast v1391
  let c0_552 : Index := 0#32
  let c0_553 : Index := 0#32
  ![0, v1430.toNat, 0, 0]
def k0_off24 (i : grid0.Coords) (k0_t5 : Fin (k0_t5_loop i).trips) (c0_i32_531 : BitVec 32) : Fin 4 → Nat :=
  let c1_556 : Index := 1#32
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_423 : BitVec 32 := 1#32
  let arg14 : BitVec 32 := Scf.iv c0_i32_421 c1_i32_423 k0_t5
  let c2_i32_530 : BitVec 32 := 2#32
  let v1389 : BitVec 32 := Scalar.muli arg14 c2_i32_530
  let v1390 : BitVec 32 := Scalar.addi v1111 v1389
  let v1391 : BitVec 32 := Scalar.addi v1390 c0_i32_531
  let v1446 : Index := Scalar.indexCast v1391
  let c0_557 : Index := 0#32
  let c0_558 : Index := 0#32
  ![1, v1446.toNat, 0, 0]
@[reducible] def k0_t6_loop (i : grid0.Coords) : Scf.Loop 32 :=
  let c0_i32_421 : BitVec 32 := 0#32
  let arg1 : BitVec 32 := BitVec.ofNat 32 (i 1).val
  let c2_i32_404 : BitVec 32 := 2#32
  let v1090 : BitVec 32 := Scalar.muli arg1 c2_i32_404
  let c1_i32_419 : BitVec 32 := 1#32
  let v1112 : BitVec 32 := Scalar.shrsi v1090 c1_i32_419
  let c1_i32_420 : BitVec 32 := 1#32
  let v1113 : BitVec 32 := Scalar.andi v1112 c1_i32_420
  let v1114 : BitVec 32 := Scalar.subi v1113 c0_i32_421
  let c1_i32_422 : BitVec 32 := 1#32
  let v1116 : BitVec 32 := Scalar.divsi v1114 c1_i32_422
  let v1117 : BitVec 32 := Scalar.muli v1116 c1_i32_422
  let v1118 : BitVec 32 := Scalar.addi c0_i32_421 v1117
  let v1115 : BitVec 32 := Scalar.addi c0_i32_421 v1114
  let c1_i32_424 : BitVec 32 := 1#32
  ⟨v1118, v1115, c1_i32_424⟩
def k0_mult65 (i : grid0.Coords) (k0_t6 : Fin (k0_t6_loop i).trips) : BitVec 32 :=
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_419 : BitVec 32 := 1#32
  let v1112 : BitVec 32 := Scalar.shrsi v1090 c1_i32_419
  let c1_i32_420 : BitVec 32 := 1#32
  let v1113 : BitVec 32 := Scalar.andi v1112 c1_i32_420
  let v1114 : BitVec 32 := Scalar.subi v1113 c0_i32_421
  let c1_i32_422 : BitVec 32 := 1#32
  let v1116 : BitVec 32 := Scalar.divsi v1114 c1_i32_422
  let v1117 : BitVec 32 := Scalar.muli v1116 c1_i32_422
  let v1118 : BitVec 32 := Scalar.addi c0_i32_421 v1117
  let c1_i32_424 : BitVec 32 := 1#32
  let arg14 : BitVec 32 := Scf.iv v1118 c1_i32_424 k0_t6
  let c2_i32_530 : BitVec 32 := 2#32
  let v1389 : BitVec 32 := Scalar.muli arg14 c2_i32_530
  let v1390 : BitVec 32 := Scalar.addi v1111 v1389
  let c0_i32_531 : BitVec 32 := 0#32
  let v1391 : BitVec 32 := Scalar.addi v1390 c0_i32_531
  let c128_i32_534 : BitVec 32 := 128#32
  let v1395 : BitVec 32 := Scalar.muli v1391 c128_i32_534
  v1395
def k0_off25 (i : grid0.Coords) (k0_t6 : Fin (k0_t6_loop i).trips) (c0_i32_531 : BitVec 32) : Fin 3 → Nat :=
  let c0_535 : Index := 0#32
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_419 : BitVec 32 := 1#32
  let v1112 : BitVec 32 := Scalar.shrsi v1090 c1_i32_419
  let c1_i32_420 : BitVec 32 := 1#32
  let v1113 : BitVec 32 := Scalar.andi v1112 c1_i32_420
  let v1114 : BitVec 32 := Scalar.subi v1113 c0_i32_421
  let c1_i32_422 : BitVec 32 := 1#32
  let v1116 : BitVec 32 := Scalar.divsi v1114 c1_i32_422
  let v1117 : BitVec 32 := Scalar.muli v1116 c1_i32_422
  let v1118 : BitVec 32 := Scalar.addi c0_i32_421 v1117
  let c1_i32_424 : BitVec 32 := 1#32
  let arg14 : BitVec 32 := Scf.iv v1118 c1_i32_424 k0_t6
  let c2_i32_530 : BitVec 32 := 2#32
  let v1389 : BitVec 32 := Scalar.muli arg14 c2_i32_530
  let v1390 : BitVec 32 := Scalar.addi v1111 v1389
  let v1391 : BitVec 32 := Scalar.addi v1390 c0_i32_531
  let c128_i32_534 : BitVec 32 := 128#32
  let v1395 : BitVec 32 := Scalar.muli v1391 c128_i32_534
  let v1396 : BitVec 32 := v1395
  let v1397 : Index := Scalar.indexCast v1396
  let c0_536 : Index := 0#32
  ![0, v1397.toNat, 0]
def k0_mult66 (i : grid0.Coords) (k0_t6 : Fin (k0_t6_loop i).trips) : BitVec 32 :=
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_419 : BitVec 32 := 1#32
  let v1112 : BitVec 32 := Scalar.shrsi v1090 c1_i32_419
  let c1_i32_420 : BitVec 32 := 1#32
  let v1113 : BitVec 32 := Scalar.andi v1112 c1_i32_420
  let v1114 : BitVec 32 := Scalar.subi v1113 c0_i32_421
  let c1_i32_422 : BitVec 32 := 1#32
  let v1116 : BitVec 32 := Scalar.divsi v1114 c1_i32_422
  let v1117 : BitVec 32 := Scalar.muli v1116 c1_i32_422
  let v1118 : BitVec 32 := Scalar.addi c0_i32_421 v1117
  let c1_i32_424 : BitVec 32 := 1#32
  let arg14 : BitVec 32 := Scf.iv v1118 c1_i32_424 k0_t6
  let c2_i32_530 : BitVec 32 := 2#32
  let v1389 : BitVec 32 := Scalar.muli arg14 c2_i32_530
  let v1390 : BitVec 32 := Scalar.addi v1111 v1389
  let c0_i32_531 : BitVec 32 := 0#32
  let v1391 : BitVec 32 := Scalar.addi v1390 c0_i32_531
  let c128_i32_538 : BitVec 32 := 128#32
  let v1401 : BitVec 32 := Scalar.muli v1391 c128_i32_538
  v1401
def k0_off26 (i : grid0.Coords) (k0_t6 : Fin (k0_t6_loop i).trips) (c0_i32_531 : BitVec 32) : Fin 3 → Nat :=
  let c1_539 : Index := 1#32
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_419 : BitVec 32 := 1#32
  let v1112 : BitVec 32 := Scalar.shrsi v1090 c1_i32_419
  let c1_i32_420 : BitVec 32 := 1#32
  let v1113 : BitVec 32 := Scalar.andi v1112 c1_i32_420
  let v1114 : BitVec 32 := Scalar.subi v1113 c0_i32_421
  let c1_i32_422 : BitVec 32 := 1#32
  let v1116 : BitVec 32 := Scalar.divsi v1114 c1_i32_422
  let v1117 : BitVec 32 := Scalar.muli v1116 c1_i32_422
  let v1118 : BitVec 32 := Scalar.addi c0_i32_421 v1117
  let c1_i32_424 : BitVec 32 := 1#32
  let arg14 : BitVec 32 := Scf.iv v1118 c1_i32_424 k0_t6
  let c2_i32_530 : BitVec 32 := 2#32
  let v1389 : BitVec 32 := Scalar.muli arg14 c2_i32_530
  let v1390 : BitVec 32 := Scalar.addi v1111 v1389
  let v1391 : BitVec 32 := Scalar.addi v1390 c0_i32_531
  let c128_i32_538 : BitVec 32 := 128#32
  let v1401 : BitVec 32 := Scalar.muli v1391 c128_i32_538
  let v1402 : BitVec 32 := v1401
  let v1403 : Index := Scalar.indexCast v1402
  let c0_540 : Index := 0#32
  ![1, v1403.toNat, 0]
def k0_mult67 (i : grid0.Coords) (k0_t6 : Fin (k0_t6_loop i).trips) : BitVec 32 :=
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_419 : BitVec 32 := 1#32
  let v1112 : BitVec 32 := Scalar.shrsi v1090 c1_i32_419
  let c1_i32_420 : BitVec 32 := 1#32
  let v1113 : BitVec 32 := Scalar.andi v1112 c1_i32_420
  let v1114 : BitVec 32 := Scalar.subi v1113 c0_i32_421
  let c1_i32_422 : BitVec 32 := 1#32
  let v1116 : BitVec 32 := Scalar.divsi v1114 c1_i32_422
  let v1117 : BitVec 32 := Scalar.muli v1116 c1_i32_422
  let v1118 : BitVec 32 := Scalar.addi c0_i32_421 v1117
  let c1_i32_424 : BitVec 32 := 1#32
  let arg14 : BitVec 32 := Scf.iv v1118 c1_i32_424 k0_t6
  let c2_i32_532 : BitVec 32 := 2#32
  let v1392 : BitVec 32 := Scalar.muli arg14 c2_i32_532
  let v1393 : BitVec 32 := Scalar.addi v1111 v1392
  let c1_i32_533 : BitVec 32 := 1#32
  let v1394 : BitVec 32 := Scalar.addi v1393 c1_i32_533
  let c128_i32_542 : BitVec 32 := 128#32
  let v1407 : BitVec 32 := Scalar.muli v1394 c128_i32_542
  v1407
def k0_mult68 (i : grid0.Coords) (k0_t6 : Fin (k0_t6_loop i).trips) : BitVec 32 :=
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_419 : BitVec 32 := 1#32
  let v1112 : BitVec 32 := Scalar.shrsi v1090 c1_i32_419
  let c1_i32_420 : BitVec 32 := 1#32
  let v1113 : BitVec 32 := Scalar.andi v1112 c1_i32_420
  let v1114 : BitVec 32 := Scalar.subi v1113 c0_i32_421
  let c1_i32_422 : BitVec 32 := 1#32
  let v1116 : BitVec 32 := Scalar.divsi v1114 c1_i32_422
  let v1117 : BitVec 32 := Scalar.muli v1116 c1_i32_422
  let v1118 : BitVec 32 := Scalar.addi c0_i32_421 v1117
  let c1_i32_424 : BitVec 32 := 1#32
  let arg14 : BitVec 32 := Scf.iv v1118 c1_i32_424 k0_t6
  let c2_i32_532 : BitVec 32 := 2#32
  let v1392 : BitVec 32 := Scalar.muli arg14 c2_i32_532
  let v1393 : BitVec 32 := Scalar.addi v1111 v1392
  let c1_i32_533 : BitVec 32 := 1#32
  let v1394 : BitVec 32 := Scalar.addi v1393 c1_i32_533
  let c128_i32_546 : BitVec 32 := 128#32
  let v1413 : BitVec 32 := Scalar.muli v1394 c128_i32_546
  v1413
def k0_off27 (i : grid0.Coords) (k0_t6 : Fin (k0_t6_loop i).trips) (c0_i32_531 : BitVec 32) : Fin 4 → Nat :=
  let c0_551 : Index := 0#32
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_419 : BitVec 32 := 1#32
  let v1112 : BitVec 32 := Scalar.shrsi v1090 c1_i32_419
  let c1_i32_420 : BitVec 32 := 1#32
  let v1113 : BitVec 32 := Scalar.andi v1112 c1_i32_420
  let v1114 : BitVec 32 := Scalar.subi v1113 c0_i32_421
  let c1_i32_422 : BitVec 32 := 1#32
  let v1116 : BitVec 32 := Scalar.divsi v1114 c1_i32_422
  let v1117 : BitVec 32 := Scalar.muli v1116 c1_i32_422
  let v1118 : BitVec 32 := Scalar.addi c0_i32_421 v1117
  let c1_i32_424 : BitVec 32 := 1#32
  let arg14 : BitVec 32 := Scf.iv v1118 c1_i32_424 k0_t6
  let c2_i32_530 : BitVec 32 := 2#32
  let v1389 : BitVec 32 := Scalar.muli arg14 c2_i32_530
  let v1390 : BitVec 32 := Scalar.addi v1111 v1389
  let v1391 : BitVec 32 := Scalar.addi v1390 c0_i32_531
  let v1430 : Index := Scalar.indexCast v1391
  let c0_552 : Index := 0#32
  let c0_553 : Index := 0#32
  ![0, v1430.toNat, 0, 0]
def k0_off28 (i : grid0.Coords) (k0_t6 : Fin (k0_t6_loop i).trips) (c0_i32_531 : BitVec 32) : Fin 4 → Nat :=
  let c1_556 : Index := 1#32
  let arg1 : BitVec 32 := BitVec.ofNat 32 (i 1).val
  let c2_i32_404 : BitVec 32 := 2#32
  let v1090 : BitVec 32 := Scalar.muli arg1 c2_i32_404
  let c2_i32_417 : BitVec 32 := 2#32
  let v1110 : BitVec 32 := Scalar.shrsi v1090 c2_i32_417
  let c4_i32_418 : BitVec 32 := 4#32
  let v1111 : BitVec 32 := Scalar.muli v1110 c4_i32_418
  let c0_i32_421 : BitVec 32 := 0#32
  let c1_i32_419 : BitVec 32 := 1#32
  let v1112 : BitVec 32 := Scalar.shrsi v1090 c1_i32_419
  let c1_i32_420 : BitVec 32 := 1#32
  let v1113 : BitVec 32 := Scalar.andi v1112 c1_i32_420
  let v1114 : BitVec 32 := Scalar.subi v1113 c0_i32_421
  let c1_i32_422 : BitVec 32 := 1#32
  let v1116 : BitVec 32 := Scalar.divsi v1114 c1_i32_422
  let v1117 : BitVec 32 := Scalar.muli v1116 c1_i32_422
  let v1118 : BitVec 32 := Scalar.addi c0_i32_421 v1117
  let c1_i32_424 : BitVec 32 := 1#32
  let arg14 : BitVec 32 := Scf.iv v1118 c1_i32_424 k0_t6
  let c2_i32_530 : BitVec 32 := 2#32
  let v1389 : BitVec 32 := Scalar.muli arg14 c2_i32_530
  let v1390 : BitVec 32 := Scalar.addi v1111 v1389
  let v1391 : BitVec 32 := Scalar.addi v1390 c0_i32_531
  let v1446 : Index := Scalar.indexCast v1391
  let c0_557 : Index := 0#32
  let c0_558 : Index := 0#32
  ![1, v1446.toNat, 0, 0]
def k0_mult69 (i : grid0.Coords) : BitVec 32 :=
  let arg1 : BitVec 32 := BitVec.ofNat 32 (i 1).val
  let c2_i32_404 : BitVec 32 := 2#32
  let v1090 : BitVec 32 := Scalar.muli arg1 c2_i32_404
  let c0_i32_425 : BitVec 32 := 0#32
  let v1121 : BitVec 32 := Scalar.addi v1090 c0_i32_425
  let c128_i32_427 : BitVec 32 := 128#32
  let v1123 : BitVec 32 := Scalar.muli v1121 c128_i32_427
  v1123
def k0_off29 (i : grid0.Coords) (c0_i32_425 : BitVec 32) : Fin 3 → Nat :=
  let c0_428 : Index := 0#32
  let arg1 : BitVec 32 := BitVec.ofNat 32 (i 1).val
  let c2_i32_404 : BitVec 32 := 2#32
  let v1090 : BitVec 32 := Scalar.muli arg1 c2_i32_404
  let v1121 : BitVec 32 := Scalar.addi v1090 c0_i32_425
  let c128_i32_427 : BitVec 32 := 128#32
  let v1123 : BitVec 32 := Scalar.muli v1121 c128_i32_427
  let v1124 : BitVec 32 := v1123
  let v1125 : Index := Scalar.indexCast v1124
  let c0_429 : Index := 0#32
  ![0, v1125.toNat, 0]
def k0_mult70 (i : grid0.Coords) : BitVec 32 :=
  let arg1 : BitVec 32 := BitVec.ofNat 32 (i 1).val
  let c2_i32_404 : BitVec 32 := 2#32
  let v1090 : BitVec 32 := Scalar.muli arg1 c2_i32_404
  let c0_i32_425 : BitVec 32 := 0#32
  let v1121 : BitVec 32 := Scalar.addi v1090 c0_i32_425
  let c128_i32_434 : BitVec 32 := 128#32
  let v1135 : BitVec 32 := Scalar.muli v1121 c128_i32_434
  v1135
def k0_off30 (i : grid0.Coords) (c0_i32_425 : BitVec 32) : Fin 3 → Nat :=
  let c1_435 : Index := 1#32
  let arg1 : BitVec 32 := BitVec.ofNat 32 (i 1).val
  let c2_i32_404 : BitVec 32 := 2#32
  let v1090 : BitVec 32 := Scalar.muli arg1 c2_i32_404
  let v1121 : BitVec 32 := Scalar.addi v1090 c0_i32_425
  let c128_i32_434 : BitVec 32 := 128#32
  let v1135 : BitVec 32 := Scalar.muli v1121 c128_i32_434
  let v1136 : BitVec 32 := v1135
  let v1137 : Index := Scalar.indexCast v1136
  let c0_436 : Index := 0#32
  ![1, v1137.toNat, 0]
def k0_mult71 (i : grid0.Coords) : BitVec 32 :=
  let arg1 : BitVec 32 := BitVec.ofNat 32 (i 1).val
  let c2_i32_404 : BitVec 32 := 2#32
  let v1090 : BitVec 32 := Scalar.muli arg1 c2_i32_404
  let c1_i32_426 : BitVec 32 := 1#32
  let v1122 : BitVec 32 := Scalar.addi v1090 c1_i32_426
  let c128_i32_441 : BitVec 32 := 128#32
  let v1147 : BitVec 32 := Scalar.muli v1122 c128_i32_441
  v1147
def k0_mult72 (i : grid0.Coords) : BitVec 32 :=
  let arg1 : BitVec 32 := BitVec.ofNat 32 (i 1).val
  let c2_i32_404 : BitVec 32 := 2#32
  let v1090 : BitVec 32 := Scalar.muli arg1 c2_i32_404
  let c1_i32_426 : BitVec 32 := 1#32
  let v1122 : BitVec 32 := Scalar.addi v1090 c1_i32_426
  let c128_i32_448 : BitVec 32 := 128#32
  let v1159 : BitVec 32 := Scalar.muli v1122 c128_i32_448
  v1159
def k0_off31 (i : grid0.Coords) (c0_i32_425 : BitVec 32) : Fin 4 → Nat :=
  let c0_456 : Index := 0#32
  let arg1 : BitVec 32 := BitVec.ofNat 32 (i 1).val
  let c2_i32_404 : BitVec 32 := 2#32
  let v1090 : BitVec 32 := Scalar.muli arg1 c2_i32_404
  let v1121 : BitVec 32 := Scalar.addi v1090 c0_i32_425
  let v1182 : Index := Scalar.indexCast v1121
  let c0_457 : Index := 0#32
  let c0_458 : Index := 0#32
  ![0, v1182.toNat, 0, 0]
def k0_off32 (i : grid0.Coords) (c0_i32_425 : BitVec 32) : Fin 4 → Nat :=
  let c1_461 : Index := 1#32
  let arg1 : BitVec 32 := BitVec.ofNat 32 (i 1).val
  let c2_i32_404 : BitVec 32 := 2#32
  let v1090 : BitVec 32 := Scalar.muli arg1 c2_i32_404
  let v1121 : BitVec 32 := Scalar.addi v1090 c0_i32_425
  let v1198 : Index := Scalar.indexCast v1121
  let c0_462 : Index := 0#32
  let c0_463 : Index := 0#32
  ![1, v1198.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Ffn.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S3x2816 : Shape := ⟨2, ![3, 2816]⟩
abbrev S2816 : Shape := ⟨1, ![2816]⟩
abbrev S4x2x2816 : Shape := ⟨3, ![4, 2, 2816]⟩
abbrev S1x1024x1024 : Shape := ⟨3, ![1, 1024, 1024]⟩
abbrev S1x8x1024 : Shape := ⟨3, ![1, 8, 1024]⟩
abbrev S1x2x2816 : Shape := ⟨3, ![1, 2, 2816]⟩
abbrev S1024x1024 : Shape := ⟨2, ![1024, 1024]⟩
abbrev S8x1024 : Shape := ⟨2, ![8, 1024]⟩
abbrev S1032x1024 : Shape := ⟨2, ![1032, 1024]⟩
abbrev S1032 : Shape := ⟨1, ![1032]⟩
abbrev S1032x1 : Shape := ⟨2, ![1032, 1]⟩
abbrev S1032x1408 : Shape := ⟨2, ![1032, 1408]⟩
abbrev S1024x1408 : Shape := ⟨2, ![1024, 1408]⟩
abbrev S2x1408 : Shape := ⟨2, ![2, 1408]⟩
abbrev S1x2x1408 : Shape := ⟨3, ![1, 2, 1408]⟩
abbrev S1x1408 : Shape := ⟨2, ![1, 1408]⟩
abbrev S1408x1024 : Shape := ⟨2, ![1408, 1024]⟩
abbrev S1024x1 : Shape := ⟨2, ![1024, 1]⟩

abbrev nBuf : Space → Nat
  | .hbm => 19
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S1024x5632, .f32⟩
  | .hbm, ⟨8, _⟩ => ⟨S1024x5632, .bf16⟩
  | .hbm, ⟨9, _⟩ => ⟨S2816x1024, .f32⟩
  | .hbm, ⟨10, _⟩ => ⟨S2816x1024, .bf16⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S3x2816, .f32⟩
  | .hbm, ⟨15, _⟩ => ⟨S2816, .f32⟩
  | .hbm, ⟨16, _⟩ => ⟨S1x2816, .f32⟩
  | .hbm, ⟨17, _⟩ => ⟨S4x4096x1024, .f32⟩
  | .hbm, ⟨18, _⟩ => ⟨S4x2x2816, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x5632, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x2x2816, .f32⟩
  | .local _ .vmem, ⟨13, _⟩ => ⟨S1x2x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S4x2x2816 : Shape := ⟨3, ![4, 2, 2816]⟩
abbrev S4x4098x2816 : Shape := ⟨3, ![4, 4098, 2816]⟩
abbrev S2816 : Shape := ⟨1, ![2816]⟩
abbrev S3x2816 : Shape := ⟨2, ![3, 2816]⟩
abbrev S1x1x2816 : Shape := ⟨3, ![1, 1, 2816]⟩
abbrev S2816x1024 : Shape := ⟨2, ![2816, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S1024x5632, .f32⟩
  | .hbm, ⟨25, _⟩ => ⟨S4x4096x5632, .f32⟩
  | .hbm, ⟨26, _⟩ => ⟨S4x4096x2816, .f32⟩
  | .hbm, ⟨27, _⟩ => ⟨S4x4096x2816, .f32⟩
  | .hbm, ⟨28, _⟩ => ⟨S_, .f32⟩
  | .hbm, ⟨29, _⟩ => ⟨S4x2x2816, .f32⟩
  | .hbm, ⟨30, _⟩ => ⟨S4x4098x2816, .f32⟩
  | .hbm, ⟨31, _⟩ => ⟨S2816, .f32⟩
  | .hbm, ⟨32, _⟩ => ⟨S4x4096x2816, .f32⟩
  | .hbm, ⟨33, _⟩ => ⟨S3x2816, .f32⟩
  | .hbm, ⟨34, _⟩ => ⟨S1x2816, .f32⟩
  | .hbm, ⟨35, _⟩ => ⟨S2816, .f32⟩
  | .hbm, ⟨36, _⟩ => ⟨S1x1x2816, .f32⟩
  | .hbm, ⟨37, _⟩ => ⟨S4x4096x2816, .f32⟩
  | .hbm, ⟨38, _⟩ => ⟨S4x4096x2816, .f32⟩
  | .hbm, ⟨39, _⟩ => ⟨S1x1x2816, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S3x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S4x4096x2816, .f32⟩
  | .hbm, ⟨51, _⟩ => ⟨S3x2816, .f32⟩
  | .hbm, ⟨52, _⟩ => ⟨S1x2816, .f32⟩
  | .hbm, ⟨53, _⟩ => ⟨S2816, .f32⟩
  | .hbm, ⟨54, _⟩ => ⟨S1x1x2816, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S_, .f32⟩
  | .hbm, ⟨69, _⟩ => ⟨S4x4096x2816, .f32⟩
  | .hbm, ⟨70, _⟩ => ⟨S4x4096x2816, .f32⟩
  | .hbm, ⟨71, _⟩ => ⟨S_, .f32⟩
  | .hbm, ⟨72, _⟩ => ⟨S4x4096x2816, .f32⟩
  | .hbm, ⟨73, _⟩ => ⟨S4x4096x2816, .f32⟩
  | .hbm, ⟨74, _⟩ => ⟨S4x4096x2816, .f32⟩
  | .hbm, ⟨75, _⟩ => ⟨S4x4096x2816, .f32⟩
  | .hbm, ⟨76, _⟩ => ⟨S2816x1024, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S4x4096x1, .f32⟩
  | .hbm, ⟨90, _⟩ => ⟨S4x4096x1024, .f32⟩
  | .hbm, ⟨91, _⟩ => ⟨S4x4096x1024, .f32⟩
  | .hbm, ⟨92, _⟩ => ⟨S1x1x1024, .f32⟩
  | .hbm, ⟨93, _⟩ => ⟨S4x4096x1024, .f32⟩
  | .hbm, ⟨94, _⟩ => ⟨S4x4096x1024, .f32⟩
  | .hbm, ⟨95, _⟩ => ⟨S4x2x2816, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_3 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_7 : Ref sig .tc := ⟨.hbm, 80, rfl⟩
abbrev main_v65 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]
-- ==== Mix.lean ====
abbrev S4x4096x1024 : Shape := ⟨3, ![4, 4096, 1024]⟩
abbrev S4x4096x512 : Shape := ⟨3, ![4, 4096, 512]⟩
abbrev S1x1024 : Shape := ⟨2, ![1, 1024]⟩
abbrev S1x1024x4376 : Shape := ⟨3, ![1, 1024, 4376]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1024x4376 : Shape := ⟨2, ![1024, 4376]⟩
abbrev S4376x1024 : Shape := ⟨2, ![4376, 1024]⟩
abbrev S1024x1024 : Shape := ⟨2, ![1024, 1024]⟩
abbrev S2048x1024 : Shape := ⟨2, ![2048, 1024]⟩
abbrev S1024 : Shape := ⟨1, ![1024]⟩
abbrev S512 : Shape := ⟨1, ![512]⟩
abbrev S512x1024 : Shape := ⟨2, ![512, 1024]⟩
abbrev S4x128x128 : Shape := ⟨3, ![4, 128, 128]⟩
abbrev S4x128 : Shape := ⟨2, ![4, 128]⟩
abbrev S128x4 : Shape := ⟨2, ![128, 4]⟩
abbrev S4x128x512 : Shape := ⟨3, ![4, 128, 512]⟩
abbrev S1x1024x512 : Shape := ⟨3, ![1, 1024, 512]⟩
abbrev S1x128x512 : Shape := ⟨3, ![1, 128, 512]⟩
abbrev S1024x1 : Shape := ⟨2, ![1024, 1]⟩
abbrev S1024x512 : Shape := ⟨2, ![1024, 512]⟩
abbrev S1024x2048 : Shape := ⟨2, ![1024, 2048]⟩
abbrev S128x512 : Shape := ⟨2, ![128, 512]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 31
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S1x1024, .f32⟩
  | .hbm, ⟨3, _⟩ => ⟨S1x1024x4376, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024x4376, .f32⟩
  | .hbm, ⟨11, _⟩ => ⟨S4376x1024, .f32⟩
  | .hbm, ⟨12, _⟩ => ⟨S1024x1024, .f32⟩
  | .hbm, ⟨13, _⟩ => ⟨S1024x1024, .bf16⟩
  | .hbm, ⟨14, _⟩ => ⟨S2048x1024, .f32⟩
  | .hbm, ⟨15, _⟩ => ⟨S2048x1024, .bf16⟩
  | .hbm, ⟨16, _⟩ => ⟨S1024, .f32⟩
  | .hbm, ⟨17, _⟩ => ⟨S1x1024, .f32⟩
  | .hbm, ⟨18, _⟩ => ⟨S512, .f32⟩
  | .hbm, ⟨19, _⟩ => ⟨S1x512, .f32⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1024x1024, .f32⟩
  | .hbm, ⟨25, _⟩ => ⟨S1024x1024, .bf16⟩
  | .hbm, ⟨26, _⟩ => ⟨S4x128x128, .f32⟩
  | .hbm, ⟨27, _⟩ => ⟨S4x128, .f32⟩
  | .hbm, ⟨28, _⟩ => ⟨S128x4, .f32⟩
  | .hbm, ⟨29, _⟩ => ⟨S4x4096x1024, .f32⟩
  | .hbm, ⟨30, _⟩ => ⟨S4x128x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024, .f32⟩
  | .local _ .vmem, ⟨5, _⟩ => ⟨S1024x1024, .bf16⟩
  | .local _ .vmem, ⟨6, _⟩ => ⟨S2048x1024, .bf16⟩
  | .local _ .vmem, ⟨7, _⟩ => ⟨S1x512, .f32⟩
  | .local _ .vmem, ⟨8, _⟩ => ⟨S4x128x128, .f32⟩
  | .local _ .vmem, ⟨9, _⟩ => ⟨S128x4, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1x128x512, .f32⟩
  | .local _ .vmem, ⟨16, _⟩ => ⟨S1x128x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MixRefIdeal.lean ====
abbrev S4x4096x1024 : Shape := ⟨3, ![4, 4096, 1024]⟩
abbrev S4x4096x512 : Shape := ⟨3, ![4, 4096, 512]⟩
abbrev S1x1024 : Shape := ⟨2, ![1, 1024]⟩
abbrev S1x1024x4376 : Shape := ⟨3, ![1, 1024, 4376]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4376 : Shape := ⟨2, ![1024, 4376]⟩
abbrev S4x4096x4376 : Shape := ⟨3, ![4, 4096, 4376]⟩
abbrev S4x4096x2048 : Shape := ⟨3, ![4, 4096, 2048]⟩
abbrev S4x4096x2x1024 : Shape := ⟨4, ![4, 4096, 2, 1024]⟩
abbrev S512 : Shape := ⟨1, ![512]⟩
abbrev S1x1x512 : Shape := ⟨3, ![1, 1, 512]⟩
abbrev S512x1024 : Shape := ⟨2, ![512, 1024]⟩
abbrev S4x32x128x4x128 : Shape := ⟨5, ![4, 32, 128, 4, 128]⟩
abbrev S128x128 : Shape := ⟨2, ![128, 128]⟩
abbrev S4x128x128 : Shape := ⟨3, ![4, 128, 128]⟩
abbrev S4x4x32x128x128 : Shape := ⟨5, ![4, 4, 32, 128, 128]⟩
abbrev S4x128 : Shape := ⟨2, ![4, 128]⟩
abbrev S128x4 : Shape := ⟨2, ![128, 4]⟩
abbrev S1x1x128x4x1 : Shape := ⟨5, ![1, 1, 128, 4, 1]⟩
abbrev S4x4096x1x1024 : Shape := ⟨4, ![4, 4096, 1, 1024]⟩
abbrev S1024x1024 : Shape := ⟨2, ![1024, 1024]⟩
abbrev S4x128x512 : Shape := ⟨3, ![4, 128, 512]⟩

abbrev nBuf : Space → Nat
  | .hbm => 119
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S1x1024, .f32⟩
  | .hbm, ⟨3, _⟩ => ⟨S1x1024x4376, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S1024x4376, .f32⟩
  | .hbm, ⟨28, _⟩ => ⟨S4x4096x4376, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x4096x512, .f32⟩
  | .hbm, ⟨48, _⟩ => ⟨S4x4096x512, .f32⟩
  | .hbm, ⟨49, _⟩ => ⟨S4x4096x2048, .f32⟩
  | .hbm, ⟨50, _⟩ => ⟨S4x4096x2x1024, .f32⟩
  | .hbm, ⟨51, _⟩ => ⟨S4x4096x2x1024, .f32⟩
  | .hbm, ⟨52, _⟩ => ⟨S4x4096x2x1024, .f32⟩
  | .hbm, ⟨53, _⟩ => ⟨S_, .f32⟩
  | .hbm, ⟨54, _⟩ => ⟨S4x4096x2x1024, .f32⟩
  | .hbm, ⟨55, _⟩ => ⟨S4x4096x2x1024, .f32⟩
  | .hbm, ⟨56, _⟩ => ⟨S_, .f32⟩
  | .hbm, ⟨57, _⟩ => ⟨S4x4096x2x1024, .f32⟩
  | .hbm, ⟨58, _⟩ => ⟨S4x4096x2x1024, .f32⟩
  | .hbm, ⟨59, _⟩ => ⟨S512, .f32⟩
  | .hbm, ⟨60, _⟩ => ⟨S4x4096x512, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x512, .f32⟩
  | .hbm, ⟨72, _⟩ => ⟨S4x4096x512, .f32⟩
  | .hbm, ⟨73, _⟩ => ⟨S1x1x512, .f32⟩
  | .hbm, ⟨74, _⟩ => ⟨S4x4096x512, .f32⟩
  | .hbm, ⟨75, _⟩ => ⟨S4x4096x512, .f32⟩
  | .hbm, ⟨76, _⟩ => ⟨S4x4096x512, .f32⟩
  | .hbm, ⟨77, _⟩ => ⟨S512x1024, .f32⟩
  | .hbm, ⟨78, _⟩ => ⟨S4x4096x1024, .f32⟩
  | .hbm, ⟨79, _⟩ => ⟨S4x32x128x4x128, .f32⟩
  | .hbm, ⟨80, _⟩ => ⟨S_, .i1⟩
  | .hbm, ⟨81, _⟩ => ⟨S128x128, .i1⟩
  | .hbm, ⟨82, _⟩ => ⟨S128x128, .i32⟩
  | .hbm, ⟨83, _⟩ => ⟨S_, .i32⟩
  | .hbm, ⟨84, _⟩ => ⟨S128x128, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S_, .i1⟩
  | .hbm, ⟨89, _⟩ => ⟨S128x128, .i1⟩
  | .hbm, ⟨90, _⟩ => ⟨S128x128, .i1⟩
  | .hbm, ⟨91, _⟩ => ⟨S4x128x128, .f32⟩
  | .hbm, ⟨92, _⟩ => ⟨S_, .f32⟩
  | .hbm, ⟨93, _⟩ => ⟨S_, .f32⟩
  | .hbm, ⟨94, _⟩ => ⟨S4x128x128, .i1⟩
  | .hbm, ⟨95, _⟩ => ⟨S4x128x128, .f32⟩
  | .hbm, ⟨96, _⟩ => ⟨S4x128x128, .f32⟩
  | .hbm, ⟨97, _⟩ => ⟨S4x4x32x128x128, .f32⟩
  | .hbm, ⟨98, _⟩ => ⟨S4x32x128x4x128, .f32⟩
  | .hbm, ⟨99, _⟩ => ⟨S4x128, .f32⟩
  | .hbm, ⟨100, _⟩ => ⟨S128x4, .f32⟩
  | .hbm, ⟨101, _⟩ => ⟨S1x1x128x4x1, .f32⟩
  | .hbm, ⟨102, _⟩ => ⟨S4x32x128x4x128, .f32⟩
  | .hbm, ⟨103, _⟩ => ⟨S4x32x128x4x128, .f32⟩
  | .hbm, ⟨104, _⟩ => ⟨S4x4096x512, .f32⟩
  | .hbm, ⟨105, _⟩ => ⟨S4x4096x512, .f32⟩
  | .hbm, ⟨106, _⟩ => ⟨S512x1024, .f32⟩
  | .hbm, ⟨107, _⟩ => ⟨S4x4096x1024, .f32⟩
  | .hbm, ⟨108, _⟩ => ⟨S4x4096x1x1024, .f32⟩
  | .hbm, ⟨109, _⟩ => ⟨S4x4096x1024, .f32⟩
  | .hbm, ⟨110, _⟩ => ⟨S4x4096x1024, .f32⟩
  | .hbm, ⟨111, _⟩ => ⟨S4x4096x1x1024, .f32⟩
  | .hbm, ⟨112, _⟩ => ⟨S4x4096x1024, .f32⟩
  | .hbm, ⟨113, _⟩ => ⟨S4x4096x1024, .f32⟩
  | .hbm, ⟨114, _⟩ => ⟨S4x4096x1024, .f32⟩
  | .hbm, ⟨115, _⟩ => ⟨S1024x1024, .f32⟩
  | .hbm, ⟨116, _⟩ => ⟨S4x4096x1024, .f32⟩
  | .hbm, ⟨117, _⟩ => ⟨S4x4096x1024, .f32⟩
  | .hbm, ⟨118, _⟩ => ⟨S4x128x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c : Ref sig .tc := ⟨.hbm, 80, rfl⟩
abbrev main_v58 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== Front.lean ====
abbrev S4x4096x1024 : Shape := ⟨3, ![4, 4096, 1024]⟩
abbrev S1x1024 : Shape := ⟨2, ![1, 1024]⟩
abbrev S1x1024x4376 : Shape := ⟨3, ![1, 1024, 4376]⟩
abbrev S1024x4376 : Shape := ⟨2, ![1024, 4376]⟩
abbrev S4376x1024 : Shape := ⟨2, ![4376, 1024]⟩
abbrev S512x1024 : Shape := ⟨2, ![512, 1024]⟩
abbrev S768x1024 : Shape := ⟨2, ![768, 1024]⟩
abbrev S24x1024 : Shape := ⟨2, ![24, 1024]⟩
abbrev S2x12x1024 : Shape := ⟨3, ![2, 12, 1024]⟩
abbrev S_ : Shape := ⟨0, ![]⟩
abbrev S2x16x1024 : Shape := ⟨3, ![2, 16, 1024]⟩
abbrev S32x1024 : Shape := ⟨2, ![32, 1024]⟩
abbrev S1024 : Shape := ⟨1, ![1024]⟩
abbrev S4x256x4096 : Shape := ⟨3, ![4, 256, 4096]⟩
abbrev S4x512x4096 : Shape := ⟨3, ![4, 512, 4096]⟩
abbrev S4x32x4096 : Shape := ⟨3, ![4, 32, 4096]⟩
abbrev S1x1024x1024 : Shape := ⟨3, ![1, 1024, 1024]⟩
abbrev S1x256x1024 : Shape := ⟨3, ![1, 256, 1024]⟩
abbrev S1x512x1024 : Shape := ⟨3, ![1, 512, 1024]⟩
abbrev S1x32x1024 : Shape := ⟨3, ![1, 32, 1024]⟩
abbrev S1024x1024 : Shape := ⟨2, ![1024, 1024]⟩
abbrev S1024x1 : Shape := ⟨2, ![1024, 1]⟩
abbrev S256x1024 : Shape := ⟨2, ![256, 1024]⟩

abbrev nBuf : Space → Nat
  | .hbm => 23
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4376, .f32⟩
  | .hbm, ⟨3, _⟩ => ⟨S1024x4376, .f32⟩
  | .hbm, ⟨4, _⟩ => ⟨S4376x1024, .f32⟩
  | .hbm, ⟨5, _⟩ => ⟨S512x1024, .f32⟩
  | .hbm, ⟨6, _⟩ => ⟨S512x1024, .bf16⟩
  | .hbm, ⟨7, _⟩ => ⟨S768x1024, .f32⟩
  | .hbm, ⟨8, _⟩ => ⟨S768x1024, .bf16⟩
  | .hbm, ⟨9, _⟩ => ⟨S24x1024, .f32⟩
  | .hbm, ⟨10, _⟩ => ⟨S24x1024, .bf16⟩
  | .hbm, ⟨11, _⟩ => ⟨S2x12x1024, .bf16⟩
  | .hbm, ⟨12, _⟩ => ⟨S_, .i32⟩
  | .hbm, ⟨13, _⟩ => ⟨S_, .bf16⟩
  | .hbm, ⟨14, _⟩ => ⟨S2x16x1024, .bf16⟩
  | .hbm, ⟨15, _⟩ => ⟨S32x1024, .bf16⟩
  | .hbm, ⟨16, _⟩ => ⟨S1024, .f32⟩
  | .hbm, ⟨17, _⟩ => ⟨S1x1024, .f32⟩
  | .hbm, ⟨18, _⟩ => ⟨S4x256x4096, .f32⟩
  | .hbm, ⟨19, _⟩ => ⟨S4x256x4096, .f32⟩
  | .hbm, ⟨20, _⟩ => ⟨S4x256x4096, .f32⟩
  | .hbm, ⟨21, _⟩ => ⟨S4x512x4096, .bf16⟩
  | .hbm, ⟨22, _⟩ => ⟨S4x32x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S768x1024, .bf16⟩
  | .local _ .vmem, ⟨4, _⟩ => ⟨S512x1024, .bf16⟩
  | .local _ .vmem, ⟨5, _⟩ => ⟨S32x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x32x1024, .f32⟩
  | .local _ .vmem, ⟨15, _⟩ => ⟨S1x32x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FrontRefIdeal.lean ====
abbrev S4x4096x1024 : Shape := ⟨3, ![4, 4096, 1024]⟩
abbrev S1x1024 : Shape := ⟨2, ![1, 1024]⟩
abbrev S1x1024x4376 : Shape := ⟨3, ![1, 1024, 4376]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4376 : Shape := ⟨2, ![1024, 4376]⟩
abbrev S1024x1304 : Shape := ⟨2, ![1024, 1304]⟩
abbrev S4x4096x1304 : Shape := ⟨3, ![4, 4096, 1304]⟩
abbrev S4x4096x768 : Shape := ⟨3, ![4, 4096, 768]⟩
abbrev S4x4096x3x256 : Shape := ⟨4, ![4, 4096, 3, 256]⟩
abbrev S3x4x256x4096 : Shape := ⟨4, ![3, 4, 256, 4096]⟩
abbrev S4x4096x512 : Shape := ⟨3, ![4, 4096, 512]⟩
abbrev S4x512x4096 : Shape := ⟨3, ![4, 512, 4096]⟩
abbrev S4x4096x24 : Shape := ⟨3, ![4, 4096, 24]⟩
abbrev S4x4096x2x12 : Shape := ⟨4, ![4, 4096, 2, 12]⟩
abbrev S4x2x12x4096 : Shape := ⟨4, ![4, 2, 12, 4096]⟩
abbrev S4x2x16x4096 : Shape := ⟨4, ![4, 2, 16, 4096]⟩
abbrev S4x32x4096 : Shape := ⟨3, ![4, 32, 4096]⟩
abbrev S1x4x256x4096 : Shape := ⟨4, ![1, 4, 256, 4096]⟩
abbrev S4x256x4096 : Shape := ⟨3, ![4, 256, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4376, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x4376, .f32⟩
  | .hbm, ⟨21, _⟩ => ⟨S1024x1304, .f32⟩
  | .hbm, ⟨22, _⟩ => ⟨S4x4096x1304, .f32⟩
  | .hbm, ⟨23, _⟩ => ⟨S4x4096x768, .f32⟩
  | .hbm, ⟨24, _⟩ => ⟨S4x4096x3x256, .f32⟩
  | .hbm, ⟨25, _⟩ => ⟨S3x4x256x4096, .f32⟩
  | .hbm, ⟨26, _⟩ => ⟨S4x4096x512, .f32⟩
  | .hbm, ⟨27, _⟩ => ⟨S_, .f32⟩
  | .hbm, ⟨28, _⟩ => ⟨S4x4096x512, .f32⟩
  | .hbm, ⟨29, _⟩ => ⟨S4x4096x512, .f32⟩
  | .hbm, ⟨30, _⟩ => ⟨S4x512x4096, .f32⟩
  | .hbm, ⟨31, _⟩ => ⟨S4x512x4096, .bf16⟩
  | .hbm, ⟨32, _⟩ => ⟨S4x4096x24, .f32⟩
  | .hbm, ⟨33, _⟩ => ⟨S4x4096x2x12, .f32⟩
  | .hbm, ⟨34, _⟩ => ⟨S4x2x12x4096, .f32⟩
  | .hbm, ⟨35, _⟩ => ⟨S_, .i32⟩
  | .hbm, ⟨36, _⟩ => ⟨S_, .f32⟩
  | .hbm, ⟨37, _⟩ => ⟨S4x2x16x4096, .f32⟩
  | .hbm, ⟨38, _⟩ => ⟨S4x32x4096, .f32⟩
  | .hbm, ⟨39, _⟩ => ⟨S4x32x4096, .f32⟩
  | .hbm, ⟨40, _⟩ => ⟨S4x32x4096, .f32⟩
  | .hbm, ⟨41, _⟩ => ⟨S_, .f32⟩
  | .hbm, ⟨42, _⟩ => ⟨S4x32x4096, .f32⟩
  | .hbm, ⟨43, _⟩ => ⟨S4x32x4096, .f32⟩
  | .hbm, ⟨44, _⟩ => ⟨S_, .f32⟩
  | .hbm, ⟨45, _⟩ => ⟨S4x32x4096, .f32⟩
  | .hbm, ⟨46, _⟩ => ⟨S4x32x4096, .f32⟩
  | .hbm, ⟨47, _⟩ => ⟨S1x4x256x4096, .f32⟩
  | .hbm, ⟨48, _⟩ => ⟨S4x256x4096, .f32⟩
  | .hbm, ⟨49, _⟩ => ⟨S1x4x256x4096, .f32⟩
  | .hbm, ⟨50, _⟩ => ⟨S4x256x4096, .f32⟩
  | .hbm, ⟨51, _⟩ => ⟨S1x4x256x4096, .f32⟩
  | .hbm, ⟨52, _⟩ => ⟨S4x256x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_call0_v0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== FrontDec.lean ====
abbrev S32x1x1024 : Shape := ⟨3, ![32, 1, 1024]⟩
abbrev S1x1024 : Shape := ⟨2, ![1, 1024]⟩
abbrev S1x1024x4376 : Shape := ⟨3, ![1, 1024, 4376]⟩
abbrev S32x1024 : Shape := ⟨2, ![32, 1024]⟩
abbrev S1024x4376 : Shape := ⟨2, ![1024, 4376]⟩
abbrev S4376x1024 : Shape := ⟨2, ![4376, 1024]⟩
abbrev S512x1024 : Shape := ⟨2, ![512, 1024]⟩
abbrev S768x1024 : Shape := ⟨2, ![768, 1024]⟩
abbrev S24x1024 : Shape := ⟨2, ![24, 1024]⟩
abbrev S_ : Shape := ⟨0, ![]⟩
abbrev S128x1024 : Shape := ⟨2, ![128, 1024]⟩
abbrev S1408x1024 : Shape := ⟨2, ![1408, 1024]⟩
abbrev S1024 : Shape := ⟨1, ![1024]⟩
abbrev S32x512 : Shape := ⟨2, ![32, 512]⟩
abbrev S32x768 : Shape := ⟨2, ![32, 768]⟩
abbrev S32x128 : Shape := ⟨2, ![32, 128]⟩
abbrev S32 : Shape := ⟨1, ![32]⟩
abbrev S32x1 : Shape := ⟨2, ![32, 1]⟩
abbrev S32x1408 : Shape := ⟨2, ![32, 1408]⟩

abbrev nBuf : Space → Nat
  | .hbm => 21
  | .vmem => 6
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x4376, .f32⟩
  | .hbm, ⟨3, _⟩ => ⟨S32x1024, .f32⟩
  | .hbm, ⟨4, _⟩ => ⟨S1024x4376, .f32⟩
  | .hbm, ⟨5, _⟩ => ⟨S4376x1024, .f32⟩
  | .hbm, ⟨6, _⟩ => ⟨S512x1024, .f32⟩
  | .hbm, ⟨7, _⟩ => ⟨S512x1024, .bf16⟩
  | .hbm, ⟨8, _⟩ => ⟨S768x1024, .f32⟩
  | .hbm, ⟨9, _⟩ => ⟨S768x1024, .bf16⟩
  | .hbm, ⟨10, _⟩ => ⟨S24x1024, .f32⟩
  | .hbm, ⟨11, _⟩ => ⟨S24x1024, .bf16⟩
  | .hbm, ⟨12, _⟩ => ⟨S_, .i32⟩
  | .hbm, ⟨13, _⟩ => ⟨S_, .bf16⟩
  | .hbm, ⟨14, _⟩ => ⟨S128x1024, .bf16⟩
  | .hbm, ⟨15, _⟩ => ⟨S1408x1024, .bf16⟩
  | .hbm, ⟨16, _⟩ => ⟨S1024, .f32⟩
  | .hbm, ⟨17, _⟩ => ⟨S1x1024, .f32⟩
  | .hbm, ⟨18, _⟩ => ⟨S32x512, .f32⟩
  | .hbm, ⟨19, _⟩ => ⟨S32x768, .f32⟩
  | .hbm, ⟨20, _⟩ => ⟨S32x128, .f32⟩
  | .local _ .vmem, ⟨0, _⟩ => ⟨S32x1024, .f32⟩
  | .local _ .vmem, ⟨1, _⟩ => ⟨S1x1024, .f32⟩
  | .local _ .vmem, ⟨2, _⟩ => ⟨S1408x1024, .bf16⟩
  | .local _ .vmem, ⟨3, _⟩ => ⟨S32x512, .f32⟩
  | .local _ .vmem, ⟨4, _⟩ => ⟨S32x768, .f32⟩
  | .local _ .vmem, ⟨5, _⟩ => ⟨S32x128, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FrontDecRefIdeal.lean ====
abbrev S32x1x1024 : Shape := ⟨3, ![32, 1, 1024]⟩
abbrev S1x1024 : Shape := ⟨2, ![1, 1024]⟩
abbrev S1x1024x4376 : Shape := ⟨3, ![1, 1024, 4376]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x4376 : Shape := ⟨2, ![1024, 4376]⟩
abbrev S1024x1304 : Shape := ⟨2, ![1024, 1304]⟩
abbrev S32x1x1304 : Shape := ⟨3, ![32, 1, 1304]⟩
abbrev S32x1x512 : Shape := ⟨3, ![32, 1, 512]⟩
abbrev S32x1x768 : Shape := ⟨3, ![32, 1, 768]⟩
abbrev S32x1x24 : Shape := ⟨3, ![32, 1, 24]⟩
abbrev S32x1x128 : Shape := ⟨3, ![32, 1, 128]⟩
abbrev S32x512 : Shape := ⟨2, ![32, 512]⟩
abbrev S32x768 : Shape := ⟨2, ![32, 768]⟩
abbrev S32x128 : Shape := ⟨2, ![32, 128]⟩

abbrev nBuf : Space → Nat
  | .hbm => 43
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x4376, .f32⟩
  | .hbm, ⟨3, _⟩ => ⟨S1024, .f32⟩
  | .hbm, ⟨4, _⟩ => ⟨S32x1x1024, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x1024, .f32⟩
  | .hbm, ⟨16, _⟩ => ⟨S32x1x1024, .f32⟩
  | .hbm, ⟨17, _⟩ => ⟨S1x1x1024, .f32⟩
  | .hbm, ⟨18, _⟩ => ⟨S32x1x1024, .f32⟩
  | .hbm, ⟨19, _⟩ => ⟨S32x1x1024, .f32⟩
  | .hbm, ⟨20, _⟩ => ⟨S1024x4376, .f32⟩
  | .hbm, ⟨21, _⟩ => ⟨S1024x1304, .f32⟩
  | .hbm, ⟨22, _⟩ => ⟨S32x1x1304, .f32⟩
  | .hbm, ⟨23, _⟩ => ⟨S32x1x512, .f32⟩
  | .hbm, ⟨24, _⟩ => ⟨S_, .f32⟩
  | .hbm, ⟨25, _⟩ => ⟨S32x1x512, .f32⟩
  | .hbm, ⟨26, _⟩ => ⟨S32x1x512, .f32⟩
  | .hbm, ⟨27, _⟩ => ⟨S32x1x768, .f32⟩
  | .hbm, ⟨28, _⟩ => ⟨S32x1x24, .f32⟩
  | .hbm, ⟨29, _⟩ => ⟨S_, .i32⟩
  | .hbm, ⟨30, _⟩ => ⟨S_, .f32⟩
  | .hbm, ⟨31, _⟩ => ⟨S32x1x128, .f32⟩
  | .hbm, ⟨32, _⟩ => ⟨S32x1x128, .f32⟩
  | .hbm, ⟨33, _⟩ => ⟨S32x1x128, .f32⟩
  | .hbm, ⟨34, _⟩ => ⟨S_, .f32⟩
  | .hbm, ⟨35, _⟩ => ⟨S32x1x128, .f32⟩
  | .hbm, ⟨36, _⟩ => ⟨S32x1x128, .f32⟩
  | .hbm, ⟨37, _⟩ => ⟨S_, .f32⟩
  | .hbm, ⟨38, _⟩ => ⟨S32x1x128, .f32⟩
  | .hbm, ⟨39, _⟩ => ⟨S32x1x128, .f32⟩
  | .hbm, ⟨40, _⟩ => ⟨S32x512, .f32⟩
  | .hbm, ⟨41, _⟩ => ⟨S32x768, .f32⟩
  | .hbm, ⟨42, _⟩ => ⟨S32x128, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== MixDec.lean ====
abbrev S32x1x1024 : Shape := ⟨3, ![32, 1, 1024]⟩
abbrev S32x1x512 : Shape := ⟨3, ![32, 1, 512]⟩
abbrev S1x1024 : Shape := ⟨2, ![1, 1024]⟩
abbrev S1x1024x4376 : Shape := ⟨3, ![1, 1024, 4376]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S32x1024 : Shape := ⟨2, ![32, 1024]⟩
abbrev S1024x4376 : Shape := ⟨2, ![1024, 4376]⟩
abbrev S4376x1024 : Shape := ⟨2, ![4376, 1024]⟩
abbrev S1024x1024 : Shape := ⟨2, ![1024, 1024]⟩
abbrev S2048x1024 : Shape := ⟨2, ![2048, 1024]⟩
abbrev S1024 : Shape := ⟨1, ![1024]⟩
abbrev S512 : Shape := ⟨1, ![512]⟩
abbrev S512x1024 : Shape := ⟨2, ![512, 1024]⟩
abbrev S4x128x128 : Shape := ⟨3, ![4, 128, 128]⟩
abbrev S4x128 : Shape := ⟨2, ![4, 128]⟩
abbrev S4x1x1 : Shape := ⟨3, ![4, 1, 1]⟩
abbrev S4 : Shape := ⟨1, ![4]⟩
abbrev S4x1 : Shape := ⟨2, ![4, 1]⟩
abbrev S1x32x1024 : Shape := ⟨3, ![1, 32, 1024]⟩
abbrev S1x32x512 : Shape := ⟨3, ![1, 32, 512]⟩
abbrev S32 : Shape := ⟨1, ![32]⟩
abbrev S32x1 : Shape := ⟨2, ![32, 1]⟩
abbrev S32x512 : Shape := ⟨2, ![32, 512]⟩
abbrev S32x2048 : Shape := ⟨2, ![32, 2048]⟩

abbrev nBuf : Space → Nat
  | .hbm => 43
  | .vmem => 13
  | .smem => 0
  | _ => 0

abbrev bufTy : (tb : Table) → Fin (tcTables nBuf tb) → BufTy
  | .hbm, ⟨0, _⟩ => ⟨S32x1x1024, .f32⟩
  | .hbm, ⟨1, _⟩ => ⟨S32x1x512, .f32⟩
  | .hbm, ⟨2, _⟩ => ⟨S1x1024, .f32⟩
  | .hbm, ⟨3, _⟩ => ⟨S1x1024x4376, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S32x1024, .f32⟩
  | .hbm, ⟨11, _⟩ => ⟨S1024x4376, .f32⟩
  | .hbm, ⟨12, _⟩ => ⟨S4376x1024, .f32⟩
  | .hbm, ⟨13, _⟩ => ⟨S1024x1024, .f32⟩
  | .hbm, ⟨14, _⟩ => ⟨S1024x1024, .bf16⟩
  | .hbm, ⟨15, _⟩ => ⟨S2048x1024, .f32⟩
  | .hbm, ⟨16, _⟩ => ⟨S2048x1024, .bf16⟩
  | .hbm, ⟨17, _⟩ => ⟨S1024, .f32⟩
  | .hbm, ⟨18, _⟩ => ⟨S1x1024, .f32⟩
  | .hbm, ⟨19, _⟩ => ⟨S512, .f32⟩
  | .hbm, ⟨20, _⟩ => ⟨S1x512, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S4x128x128, .f32⟩
  | .hbm, ⟨28, _⟩ => ⟨S4x128, .f32⟩
  | .hbm, ⟨29, _⟩ => ⟨S4x1x1, .f32⟩
  | .hbm, ⟨30, _⟩ => ⟨S4, .f32⟩
  | .hbm, ⟨31, _⟩ => ⟨S4x128, .f32⟩
  | .hbm, ⟨32, _⟩ => ⟨S512, .f32⟩
  | .hbm, ⟨33, _⟩ => ⟨S1x512, .f32⟩
  | .hbm, ⟨34, _⟩ => ⟨S4x1, .f32⟩
  | .hbm, ⟨35, _⟩ => ⟨S4, .f32⟩
  | .hbm, ⟨36, _⟩ => ⟨S4x128, .f32⟩
  | .hbm, ⟨37, _⟩ => ⟨S512, .f32⟩
  | .hbm, ⟨38, _⟩ => ⟨S1x512, .f32⟩
  | .hbm, ⟨39, _⟩ => ⟨S1x32x1024, .f32⟩
  | .hbm, ⟨40, _⟩ => ⟨S1x32x512, .f32⟩
  | .hbm, ⟨41, _⟩ => ⟨S1x32x1024, .f32⟩
  | .hbm, ⟨42, _⟩ => ⟨S1x32x512, .f32⟩
  | .local _ .vmem, ⟨0, _⟩ => ⟨S1x32x1024, .f32⟩
  | .local _ .vmem, ⟨1, _⟩ => ⟨S1x32x512, .f32⟩
  | .local _ .vmem, ⟨2, _⟩ => ⟨S1x1024, .f32⟩
  | .local _ .vmem, ⟨3, _⟩ => ⟨S1024x1024, .bf16⟩
  | .local _ .vmem, ⟨4, _⟩ => ⟨S2048x1024, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x32x1024, .f32⟩
  | .local _ .vmem, ⟨12, _⟩ => ⟨S1x32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== MixDecRefIdeal.lean ====
abbrev S32x1x1024 : Shape := ⟨3, ![32, 1, 1024]⟩
abbrev S32x1x512 : Shape := ⟨3, ![32, 1, 512]⟩
abbrev S1x1024 : Shape := ⟨2, ![1, 1024]⟩
abbrev S1x1024x4376 : Shape := ⟨3, ![1, 1024, 4376]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x4376 : Shape := ⟨2, ![1024, 4376]⟩
abbrev S32x1x4376 : Shape := ⟨3, ![32, 1, 4376]⟩
abbrev S32x1x2048 : Shape := ⟨3, ![32, 1, 2048]⟩
abbrev S32x1x2x1024 : Shape := ⟨4, ![32, 1, 2, 1024]⟩
abbrev S512 : Shape := ⟨1, ![512]⟩
abbrev S1x1x512 : Shape := ⟨3, ![1, 1, 512]⟩
abbrev S512x1024 : Shape := ⟨2, ![512, 1024]⟩
abbrev S32x128x512 : Shape := ⟨3, ![32, 128, 512]⟩
abbrev S32x1x128x4x128 : Shape := ⟨5, ![32, 1, 128, 4, 128]⟩
abbrev S128x128 : Shape := ⟨2, ![128, 128]⟩
abbrev S4x128x128 : Shape := ⟨3, ![4, 128, 128]⟩
abbrev S4x32x1x128x128 : Shape := ⟨5, ![4, 32, 1, 128, 128]⟩
abbrev S4x128 : Shape := ⟨2, ![4, 128]⟩
abbrev S128x4 : Shape := ⟨2, ![128, 4]⟩
abbrev S1x1x128x4x1 : Shape := ⟨5, ![1, 1, 128, 4, 1]⟩
abbrev S32x1x1x1024 : Shape := ⟨4, ![32, 1, 1, 1024]⟩
abbrev S1024x1024 : Shape := ⟨2, ![1024, 1024]⟩
abbrev S1x32x1024 : Shape := ⟨3, ![1, 32, 1024]⟩
abbrev S1x32x512 : Shape := ⟨3, ![1, 32, 512]⟩

abbrev nBuf : Space → Nat
  | .hbm => 123
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x512, .f32⟩
  | .hbm, ⟨2, _⟩ => ⟨S1x1024, .f32⟩
  | .hbm, ⟨3, _⟩ => ⟨S1x1024x4376, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024, .f32⟩
  | .hbm, ⟨11, _⟩ => ⟨S32x1x1024, .f32⟩
  | .hbm, ⟨12, _⟩ => ⟨S_, .f32⟩
  | .hbm, ⟨13, _⟩ => ⟨S32x1, .f32⟩
  | .hbm, ⟨14, _⟩ => ⟨S32x1x1, .f32⟩
  | .hbm, ⟨15, _⟩ => ⟨S_, .f32⟩
  | .hbm, ⟨16, _⟩ => ⟨S32x1x1, .f32⟩
  | .hbm, ⟨17, _⟩ => ⟨S32x1x1, .f32⟩
  | .hbm, ⟨18, _⟩ => ⟨S_, .f32⟩
  | .hbm, ⟨19, _⟩ => ⟨S32x1x1, .f32⟩
  | .hbm, ⟨20, _⟩ => ⟨S32x1x1, .f32⟩
  | .hbm, ⟨21, _⟩ => ⟨S32x1x1, .f32⟩
  | .hbm, ⟨22, _⟩ => ⟨S32x1x1024, .f32⟩
  | .hbm, ⟨23, _⟩ => ⟨S32x1x1024, .f32⟩
  | .hbm, ⟨24, _⟩ => ⟨S1x1x1024, .f32⟩
  | .hbm, ⟨25, _⟩ => ⟨S32x1x1024, .f32⟩
  | .hbm, ⟨26, _⟩ => ⟨S32x1x1024, .f32⟩
  | .hbm, ⟨27, _⟩ => ⟨S1024x4376, .f32⟩
  | .hbm, ⟨28, _⟩ => ⟨S32x1x4376, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S_, .f32⟩
  | .hbm, ⟨33, _⟩ => ⟨S32x1x1024, .f32⟩
  | .hbm, ⟨34, _⟩ => ⟨S32x1x1024, .f32⟩
  | .hbm, ⟨35, _⟩ => ⟨S32x1x1024, .f32⟩
  | .hbm, ⟨36, _⟩ => ⟨S_, .f32⟩
  | .hbm, ⟨37, _⟩ => ⟨S32x1x1024, .f32⟩
  | .hbm, ⟨38, _⟩ => ⟨S32x1x1024, .f32⟩
  | .hbm, ⟨39, _⟩ => ⟨S32x1x1024, .f32⟩
  | .hbm, ⟨40, _⟩ => ⟨S_, .f32⟩
  | .hbm, ⟨41, _⟩ => ⟨S32x1x1024, .f32⟩
  | .hbm, ⟨42, _⟩ => ⟨S32x1x1024, .f32⟩
  | .hbm, ⟨43, _⟩ => ⟨S_, .f32⟩
  | .hbm, ⟨44, _⟩ => ⟨S32x1x1024, .f32⟩
  | .hbm, ⟨45, _⟩ => ⟨S32x1x1024, .f32⟩
  | .hbm, ⟨46, _⟩ => ⟨S32x1x1024, .f32⟩
  | .hbm, ⟨47, _⟩ => ⟨S32x1x512, .f32⟩
  | .hbm, ⟨48, _⟩ => ⟨S32x1x512, .f32⟩
  | .hbm, ⟨49, _⟩ => ⟨S32x1x2048, .f32⟩
  | .hbm, ⟨50, _⟩ => ⟨S32x1x2x1024, .f32⟩
  | .hbm, ⟨51, _⟩ => ⟨S32x1x2x1024, .f32⟩
  | .hbm, ⟨52, _⟩ => ⟨S32x1x2x1024, .f32⟩
  | .hbm, ⟨53, _⟩ => ⟨S_, .f32⟩
  | .hbm, ⟨54, _⟩ => ⟨S32x1x2x1024, .f32⟩
  | .hbm, ⟨55, _⟩ => ⟨S32x1x2x1024, .f32⟩
  | .hbm, ⟨56, _⟩ => ⟨S_, .f32⟩
  | .hbm, ⟨57, _⟩ => ⟨S32x1x2x1024, .f32⟩
  | .hbm, ⟨58, _⟩ => ⟨S32x1x2x1024, .f32⟩
  | .hbm, ⟨59, _⟩ => ⟨S512, .f32⟩
  | .hbm, ⟨60, _⟩ => ⟨S32x1x512, .f32⟩
  | .hbm, ⟨61, _⟩ => ⟨S_, .f32⟩
  | .hbm, ⟨62, _⟩ => ⟨S32x1, .f32⟩
  | .hbm, ⟨63, _⟩ => ⟨S32x1x1, .f32⟩
  | .hbm, ⟨64, _⟩ => ⟨S_, .f32⟩
  | .hbm, ⟨65, _⟩ => ⟨S32x1x1, .f32⟩
  | .hbm, ⟨66, _⟩ => ⟨S32x1x1, .f32⟩
  | .hbm, ⟨67, _⟩ => ⟨S_, .f32⟩
  | .hbm, ⟨68, _⟩ => ⟨S32x1x1, .f32⟩
  | .hbm, ⟨69, _⟩ => ⟨S32x1x1, .f32⟩
  | .hbm, ⟨70, _⟩ => ⟨S32x1x1, .f32⟩
  | .hbm, ⟨71, _⟩ => ⟨S32x1x512, .f32⟩
  | .hbm, ⟨72, _⟩ => ⟨S32x1x512, .f32⟩
  | .hbm, ⟨73, _⟩ => ⟨S1x1x512, .f32⟩
  | .hbm, ⟨74, _⟩ => ⟨S32x1x512, .f32⟩
  | .hbm, ⟨75, _⟩ => ⟨S32x1x512, .f32⟩
  | .hbm, ⟨76, _⟩ => ⟨S512x1024, .f32⟩
  | .hbm, ⟨77, _⟩ => ⟨S32x1x1024, .f32⟩
  | .hbm, ⟨78, _⟩ => ⟨S_, .i32⟩
  | .hbm, ⟨79, _⟩ => ⟨S_, .f32⟩
  | .hbm, ⟨80, _⟩ => ⟨S32x128x512, .f32⟩
  | .hbm, ⟨81, _⟩ => ⟨S32x1x128x4x128, .f32⟩
  | .hbm, ⟨82, _⟩ => ⟨S_, .i1⟩
  | .hbm, ⟨83, _⟩ => ⟨S128x128, .i1⟩
  | .hbm, ⟨84, _⟩ => ⟨S128x128, .i32⟩
  | .hbm, ⟨85, _⟩ => ⟨S_, .i32⟩
  | .hbm, ⟨86, _⟩ => ⟨S128x128, .i32⟩
  | .hbm, ⟨87, _⟩ => ⟨S128x128, .i32⟩
  | .hbm, ⟨88, _⟩ => ⟨S128x128, .i32⟩
  | .hbm, ⟨89, _⟩ => ⟨S128x128, .i1⟩
  | .hbm, ⟨90, _⟩ => ⟨S_, .i1⟩
  | .hbm, ⟨91, _⟩ => ⟨S128x128, .i1⟩
  | .hbm, ⟨92, _⟩ => ⟨S128x128, .i1⟩
  | .hbm, ⟨93, _⟩ => ⟨S4x128x128, .f32⟩
  | .hbm, ⟨94, _⟩ => ⟨S_, .f32⟩
  | .hbm, ⟨95, _⟩ => ⟨S_, .f32⟩
  | .hbm, ⟨96, _⟩ => ⟨S4x128x128, .i1⟩
  | .hbm, ⟨97, _⟩ => ⟨S4x128x128, .f32⟩
  | .hbm, ⟨98, _⟩ => ⟨S4x128x128, .f32⟩
  | .hbm, ⟨99, _⟩ => ⟨S4x32x1x128x128, .f32⟩
  | .hbm, ⟨100, _⟩ => ⟨S32x1x128x4x128, .f32⟩
  | .hbm, ⟨101, _⟩ => ⟨S4x128, .f32⟩
  | .hbm, ⟨102, _⟩ => ⟨S128x4, .f32⟩
  | .hbm, ⟨103, _⟩ => ⟨S1x1x128x4x1, .f32⟩
  | .hbm, ⟨104, _⟩ => ⟨S32x1x128x4x128, .f32⟩
  | .hbm, ⟨105, _⟩ => ⟨S32x1x128x4x128, .f32⟩
  | .hbm, ⟨106, _⟩ => ⟨S32x128x512, .f32⟩
  | .hbm, ⟨107, _⟩ => ⟨S32x1x512, .f32⟩
  | .hbm, ⟨108, _⟩ => ⟨S32x1x512, .f32⟩
  | .hbm, ⟨109, _⟩ => ⟨S512x1024, .f32⟩
  | .hbm, ⟨110, _⟩ => ⟨S32x1x1024, .f32⟩
  | .hbm, ⟨111, _⟩ => ⟨S32x1x1x1024, .f32⟩
  | .hbm, ⟨112, _⟩ => ⟨S32x1x1024, .f32⟩
  | .hbm, ⟨113, _⟩ => ⟨S32x1x1024, .f32⟩
  | .hbm, ⟨114, _⟩ => ⟨S32x1x1x1024, .f32⟩
  | .hbm, ⟨115, _⟩ => ⟨S32x1x1024, .f32⟩
  | .hbm, ⟨116, _⟩ => ⟨S32x1x1024, .f32⟩
  | .hbm, ⟨117, _⟩ => ⟨S32x1x1024, .f32⟩
  | .hbm, ⟨118, _⟩ => ⟨S1024x1024, .f32⟩
  | .hbm, ⟨119, _⟩ => ⟨S32x1x1024, .f32⟩
  | .hbm, ⟨120, _⟩ => ⟨S32x1x1024, .f32⟩
  | .hbm, ⟨121, _⟩ => ⟨S1x32x1024, .f32⟩
  | .hbm, ⟨122, _⟩ => ⟨S1x32x512, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c : Ref sig .tc := ⟨.hbm, 78, rfl⟩
abbrev main_call0_v0 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_call1_v0 : Ref sig .tc := ⟨.hbm, 84, rfl⟩
abbrev main_call1_c : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_c_0 : Ref sig .tc := ⟨.hbm, 90, rfl⟩
abbrev main_call1_v5 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]
-- ==== FfnDec.lean ====
abbrev S32x1x1024 : Shape := ⟨3, ![32, 1, 1024]⟩
abbrev S1x32x2x2816 : Shape := ⟨4, ![1, 32, 2, 2816]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S3x2816 : Shape := ⟨2, ![3, 2816]⟩
abbrev S2816 : Shape := ⟨1, ![2816]⟩
abbrev S32x2x2816 : Shape := ⟨3, ![32, 2, 2816]⟩
abbrev S2x32x2816 : Shape := ⟨3, ![2, 32, 2816]⟩
abbrev S1x32x1024 : Shape := ⟨3, ![1, 32, 1024]⟩
abbrev S1x32x2816 : Shape := ⟨3, ![1, 32, 2816]⟩
abbrev S32x1024 : Shape := ⟨2, ![32, 1024]⟩
abbrev S32 : Shape := ⟨1, ![32]⟩
abbrev S32x1 : Shape := ⟨2, ![32, 1]⟩
abbrev S1024x1408 : Shape := ⟨2, ![1024, 1408]⟩
abbrev S32x1408 : Shape := ⟨2, ![32, 1408]⟩
abbrev S1x32x1408 : Shape := ⟨3, ![1, 32, 1408]⟩
abbrev S1x1408 : Shape := ⟨2, ![1, 1408]⟩
abbrev S1408x1024 : Shape := ⟨2, ![1408, 1024]⟩

abbrev nBuf : Space → Nat
  | .hbm => 23
  | .vmem => 10
  | .smem => 0
  | _ => 0

abbrev bufTy : (tb : Table) → Fin (tcTables nBuf tb) → BufTy
  | .hbm, ⟨0, _⟩ => ⟨S32x1x1024, .f32⟩
  | .hbm, ⟨1, _⟩ => ⟨S1x32x2x2816, .f32⟩
  | .hbm, ⟨2, _⟩ => ⟨S1x1024, .f32⟩
  | .hbm, ⟨3, _⟩ => ⟨S1x1024x5632, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S1024x5632, .f32⟩
  | .hbm, ⟨9, _⟩ => ⟨S1024x5632, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S3x2816, .f32⟩
  | .hbm, ⟨16, _⟩ => ⟨S2816, .f32⟩
  | .hbm, ⟨17, _⟩ => ⟨S1x2816, .f32⟩
  | .hbm, ⟨18, _⟩ => ⟨S32x2x2816, .f32⟩
  | .hbm, ⟨19, _⟩ => ⟨S2x32x2816, .f32⟩
  | .hbm, ⟨20, _⟩ => ⟨S1x32x1024, .f32⟩
  | .hbm, ⟨21, _⟩ => ⟨S1x32x1024, .f32⟩
  | .hbm, ⟨22, _⟩ => ⟨S1x32x2816, .f32⟩
  | .local _ .vmem, ⟨0, _⟩ => ⟨S1x32x1024, .f32⟩
  | .local _ .vmem, ⟨1, _⟩ => ⟨S2x32x2816, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1x32x1024, .f32⟩
  | .local _ .vmem, ⟨9, _⟩ => ⟨S1x32x2816, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x32x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x32x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== FfnDecRefIdeal.lean ====
abbrev S32x1x1024 : Shape := ⟨3, ![32, 1, 1024]⟩
abbrev S1x32x2x2816 : Shape := ⟨4, ![1, 32, 2, 2816]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x5632 : Shape := ⟨2, ![1024, 5632]⟩
abbrev S32x1x5632 : Shape := ⟨3, ![32, 1, 5632]⟩
abbrev S32x1x2816 : Shape := ⟨3, ![32, 1, 2816]⟩
abbrev S32x2x2816 : Shape := ⟨3, ![32, 2, 2816]⟩
abbrev S32x3x2816 : Shape := ⟨3, ![32, 3, 2816]⟩
abbrev S2816 : Shape := ⟨1, ![2816]⟩
abbrev S3x2816 : Shape := ⟨2, ![3, 2816]⟩
abbrev S1x1x2816 : Shape := ⟨3, ![1, 1, 2816]⟩
abbrev S2816x1024 : Shape := ⟨2, ![2816, 1024]⟩
abbrev S1x32x1024 : Shape := ⟨3, ![1, 32, 1024]⟩
abbrev S1x32x2816 : Shape := ⟨3, ![1, 32, 2816]⟩

abbrev nBuf : Space → Nat
  | .hbm => 98
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x32x2x2816, .f32⟩
  | .hbm, ⟨2, _⟩ => ⟨S1x1024, .f32⟩
  | .hbm, ⟨3, _⟩ => ⟨S1x1024x5632, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S1024, .f32⟩
  | .hbm, ⟨9, _⟩ => ⟨S32x1x1024, .f32⟩
  | .hbm, ⟨10, _⟩ => ⟨S_, .f32⟩
  | .hbm, ⟨11, _⟩ => ⟨S32x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S_, .f32⟩
  | .hbm, ⟨17, _⟩ => ⟨S32x1x1, .f32⟩
  | .hbm, ⟨18, _⟩ => ⟨S32x1x1, .f32⟩
  | .hbm, ⟨19, _⟩ => ⟨S32x1x1, .f32⟩
  | .hbm, ⟨20, _⟩ => ⟨S32x1x1024, .f32⟩
  | .hbm, ⟨21, _⟩ => ⟨S32x1x1024, .f32⟩
  | .hbm, ⟨22, _⟩ => ⟨S1x1x1024, .f32⟩
  | .hbm, ⟨23, _⟩ => ⟨S32x1x1024, .f32⟩
  | .hbm, ⟨24, _⟩ => ⟨S32x1x1024, .f32⟩
  | .hbm, ⟨25, _⟩ => ⟨S1024x5632, .f32⟩
  | .hbm, ⟨26, _⟩ => ⟨S32x1x5632, .f32⟩
  | .hbm, ⟨27, _⟩ => ⟨S32x1x2816, .f32⟩
  | .hbm, ⟨28, _⟩ => ⟨S32x1x2816, .f32⟩
  | .hbm, ⟨29, _⟩ => ⟨S32x2x2816, .f32⟩
  | .hbm, ⟨30, _⟩ => ⟨S32x3x2816, .f32⟩
  | .hbm, ⟨31, _⟩ => ⟨S2816, .f32⟩
  | .hbm, ⟨32, _⟩ => ⟨S32x1x2816, .f32⟩
  | .hbm, ⟨33, _⟩ => ⟨S3x2816, .f32⟩
  | .hbm, ⟨34, _⟩ => ⟨S1x2816, .f32⟩
  | .hbm, ⟨35, _⟩ => ⟨S2816, .f32⟩
  | .hbm, ⟨36, _⟩ => ⟨S1x1x2816, .f32⟩
  | .hbm, ⟨37, _⟩ => ⟨S32x1x2816, .f32⟩
  | .hbm, ⟨38, _⟩ => ⟨S32x1x2816, .f32⟩
  | .hbm, ⟨39, _⟩ => ⟨S1x1x2816, .f32⟩
  | .hbm, ⟨40, _⟩ => ⟨S32x1x2816, .f32⟩
  | .hbm, ⟨41, _⟩ => ⟨S32x1x2816, .f32⟩
  | .hbm, ⟨42, _⟩ => ⟨S32x1x2816, .f32⟩
  | .hbm, ⟨43, _⟩ => ⟨S3x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S32x1x2816, .f32⟩
  | .hbm, ⟨48, _⟩ => ⟨S32x1x2816, .f32⟩
  | .hbm, ⟨49, _⟩ => ⟨S32x1x2816, .f32⟩
  | .hbm, ⟨50, _⟩ => ⟨S32x1x2816, .f32⟩
  | .hbm, ⟨51, _⟩ => ⟨S3x2816, .f32⟩
  | .hbm, ⟨52, _⟩ => ⟨S1x2816, .f32⟩
  | .hbm, ⟨53, _⟩ => ⟨S2816, .f32⟩
  | .hbm, ⟨54, _⟩ => ⟨S1x1x2816, .f32⟩
  | .hbm, ⟨55, _⟩ => ⟨S32x1x2816, .f32⟩
  | .hbm, ⟨56, _⟩ => ⟨S32x1x2816, .f32⟩
  | .hbm, ⟨57, _⟩ => ⟨S32x1x2816, .f32⟩
  | .hbm, ⟨58, _⟩ => ⟨S32x1x2816, .f32⟩
  | .hbm, ⟨59, _⟩ => ⟨S32x1x2816, .f32⟩
  | .hbm, ⟨60, _⟩ => ⟨S_, .f32⟩
  | .hbm, ⟨61, _⟩ => ⟨S32x1x2816, .f32⟩
  | .hbm, ⟨62, _⟩ => ⟨S32x1x2816, .f32⟩
  | .hbm, ⟨63, _⟩ => ⟨S32x1x2816, .f32⟩
  | .hbm, ⟨64, _⟩ => ⟨S_, .f32⟩
  | .hbm, ⟨65, _⟩ => ⟨S32x1x2816, .f32⟩
  | .hbm, ⟨66, _⟩ => ⟨S32x1x2816, .f32⟩
  | .hbm, ⟨67, _⟩ => ⟨S32x1x2816, .f32⟩
  | .hbm, ⟨68, _⟩ => ⟨S_, .f32⟩
  | .hbm, ⟨69, _⟩ => ⟨S32x1x2816, .f32⟩
  | .hbm, ⟨70, _⟩ => ⟨S32x1x2816, .f32⟩
  | .hbm, ⟨71, _⟩ => ⟨S_, .f32⟩
  | .hbm, ⟨72, _⟩ => ⟨S32x1x2816, .f32⟩
  | .hbm, ⟨73, _⟩ => ⟨S32x1x2816, .f32⟩
  | .hbm, ⟨74, _⟩ => ⟨S32x1x2816, .f32⟩
  | .hbm, ⟨75, _⟩ => ⟨S32x1x2816, .f32⟩
  | .hbm, ⟨76, _⟩ => ⟨S2816x1024, .f32⟩
  | .hbm, ⟨77, _⟩ => ⟨S32x1x1024, .f32⟩
  | .hbm, ⟨78, _⟩ => ⟨S32x1x1024, .f32⟩
  | .hbm, ⟨79, _⟩ => ⟨S32x1x1024, .f32⟩
  | .hbm, ⟨80, _⟩ => ⟨S_, .f32⟩
  | .hbm, ⟨81, _⟩ => ⟨S32x1, .f32⟩
  | .hbm, ⟨82, _⟩ => ⟨S32x1x1, .f32⟩
  | .hbm, ⟨83, _⟩ => ⟨S_, .f32⟩
  | .hbm, ⟨84, _⟩ => ⟨S32x1x1, .f32⟩
  | .hbm, ⟨85, _⟩ => ⟨S32x1x1, .f32⟩
  | .hbm, ⟨86, _⟩ => ⟨S_, .f32⟩
  | .hbm, ⟨87, _⟩ => ⟨S32x1x1, .f32⟩
  | .hbm, ⟨88, _⟩ => ⟨S32x1x1, .f32⟩
  | .hbm, ⟨89, _⟩ => ⟨S32x1x1, .f32⟩
  | .hbm, ⟨90, _⟩ => ⟨S32x1x1024, .f32⟩
  | .hbm, ⟨91, _⟩ => ⟨S32x1x1024, .f32⟩
  | .hbm, ⟨92, _⟩ => ⟨S1x1x1024, .f32⟩
  | .hbm, ⟨93, _⟩ => ⟨S32x1x1024, .f32⟩
  | .hbm, ⟨94, _⟩ => ⟨S32x1x1024, .f32⟩
  | .hbm, ⟨95, _⟩ => ⟨S1x32x1024, .f32⟩
  | .hbm, ⟨96, _⟩ => ⟨S32x1x2816, .f32⟩
  | .hbm, ⟨97, _⟩ => ⟨S1x32x2816, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_4 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_cst_8 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== Cmp.lean ====
abbrev S4x256x4096 : Shape := ⟨3, ![4, 256, 4096]⟩
abbrev S1x2x32x64 : Shape := ⟨4, ![1, 2, 32, 64]⟩
abbrev S1x2x2048x128 : Shape := ⟨4, ![1, 2, 2048, 128]⟩
abbrev S1x2x128 : Shape := ⟨3, ![1, 2, 128]⟩
abbrev S1x2x128x64 : Shape := ⟨4, ![1, 2, 128, 64]⟩
abbrev S2x2 : Shape := ⟨2, ![2, 2]⟩
abbrev S_ : Shape := ⟨0, ![]⟩
abbrev S2x32x64 : Shape := ⟨3, ![2, 32, 64]⟩
abbrev S2x2x16x1x64 : Shape := ⟨5, ![2, 2, 16, 1, 64]⟩
abbrev S2x2x16x2x64 : Shape := ⟨5, ![2, 2, 16, 2, 64]⟩
abbrev S2x2x1x2048 : Shape := ⟨4, ![2, 2, 1, 2048]⟩
abbrev S2x2048x128 : Shape := ⟨3, ![2, 2048, 128]⟩
abbrev S2x2x16x64x128 : Shape := ⟨5, ![2, 2, 16, 64, 128]⟩
abbrev S2x16x64x2x128 : Shape := ⟨5, ![2, 16, 64, 2, 128]⟩
abbrev S2x16x1x64x2x1x128 : Shape := ⟨7, ![2, 16, 1, 64, 2, 1, 128]⟩
abbrev S1x1x2x1x1x2x1 : Shape := ⟨7, ![1, 1, 2, 1, 1, 2, 1]⟩
abbrev S2x16x2x64x2x2x128 : Shape := ⟨7, ![2, 16, 2, 64, 2, 2, 128]⟩
abbrev S2x2048x512 : Shape := ⟨3, ![2, 2048, 512]⟩
abbrev S2x128 : Shape := ⟨2, ![2, 128]⟩
abbrev S1x2x1x128 : Shape := ⟨4, ![1, 2, 1, 128]⟩
abbrev S1x2x2x128 : Shape := ⟨4, ![1, 2, 2, 128]⟩
abbrev S2x256 : Shape := ⟨2, ![2, 256]⟩
abbrev S2x1x256 : Shape := ⟨3, ![2, 1, 256]⟩
abbrev S2x128x64 : Shape := ⟨3, ![2, 128, 64]⟩
abbrev S2x1x128x1x64 : Shape := ⟨5, ![2, 1, 128, 1, 64]⟩
abbrev S1x2x1x2x1 : Shape := ⟨5, ![1, 2, 1, 2, 1]⟩
abbrev S2x2x128x2x64 : Shape := ⟨5, ![2, 2, 128, 2, 64]⟩
abbrev S2x256x128 : Shape := ⟨3, ![2, 256, 128]⟩
abbrev S4x256x256 : Shape := ⟨3, ![4, 256, 256]⟩
abbrev S1x256x4096 : Shape := ⟨3, ![1, 256, 4096]⟩
abbrev S1x256x256 : Shape := ⟨3, ![1, 256, 256]⟩
abbrev S2x8x256 : Shape := ⟨3, ![2, 8, 256]⟩
abbrev S2x5120x128 : Shape := ⟨3, ![2, 5120, 128]⟩
abbrev S1x128x128 : Shape := ⟨3, ![1, 128, 128]⟩
abbrev S128x128 : Shape := ⟨2, ![128, 128]⟩
abbrev S16x128 : Shape := ⟨2, ![16, 128]⟩
abbrev S1x16x128 : Shape := ⟨3, ![1, 16, 128]⟩
abbrev S1x256x128 : Shape := ⟨3, ![1, 256, 128]⟩
abbrev S256x128 : Shape := ⟨2, ![256, 128]⟩
abbrev S256x2048 : Shape := ⟨2, ![256, 2048]⟩
abbrev S1x1x1x2048 : Shape := ⟨4, ![1, 1, 1, 2048]⟩
abbrev S1x2048 : Shape := ⟨2, ![1, 2048]⟩
abbrev S1x2048x256 : Shape := ⟨3, ![1, 2048, 256]⟩
abbrev S2048x256 : Shape := ⟨2, ![2048, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 40
  | .vmem => 10
  | .smem => 0
  | _ => 0

abbrev bufTy : (tb : Table) → Fin (tcTables nBuf tb) → BufTy
  | .hbm, ⟨0, _⟩ => ⟨S4x256x4096, .f32⟩
  | .hbm, ⟨1, _⟩ => ⟨S1x2x32x64, .f32⟩
  | .hbm, ⟨2, _⟩ => ⟨S1x2x2048x128, .f32⟩
  | .hbm, ⟨3, _⟩ => ⟨S1x2x128, .f32⟩
  | .hbm, ⟨4, _⟩ => ⟨S1x2x128x64, .f32⟩
  | .hbm, ⟨5, _⟩ => ⟨S2x2, .i32⟩
  | .hbm, ⟨6, _⟩ => ⟨S2x2, .i32⟩
  | .hbm, ⟨7, _⟩ => ⟨S_, .i32⟩
  | .hbm, ⟨8, _⟩ => ⟨S2x2, .i32⟩
  | .hbm, ⟨9, _⟩ => ⟨S2x2, .i32⟩
  | .hbm, ⟨10, _⟩ => ⟨S2x2, .i1⟩
  | .hbm, ⟨11, _⟩ => ⟨S2x2, .f32⟩
  | .hbm, ⟨12, _⟩ => ⟨S2x32x64, .f32⟩
  | .hbm, ⟨13, _⟩ => ⟨S2x2x16x1x64, .f32⟩
  | .hbm, ⟨14, _⟩ => ⟨S2x2x16x2x64, .f32⟩
  | .hbm, ⟨15, _⟩ => ⟨S2x2x1x2048, .f32⟩
  | .hbm, ⟨16, _⟩ => ⟨S2x2048x128, .f32⟩
  | .hbm, ⟨17, _⟩ => ⟨S2x2x16x64x128, .f32⟩
  | .hbm, ⟨18, _⟩ => ⟨S2x16x64x2x128, .f32⟩
  | .hbm, ⟨19, _⟩ => ⟨S2x16x1x64x2x1x128, .f32⟩
  | .hbm, ⟨20, _⟩ => ⟨S1x1x2x1x1x2x1, .f32⟩
  | .hbm, ⟨21, _⟩ => ⟨S2x16x2x64x2x2x128, .f32⟩
  | .hbm, ⟨22, _⟩ => ⟨S2x16x2x64x2x2x128, .f32⟩
  | .hbm, ⟨23, _⟩ => ⟨S2x16x2x64x2x2x128, .f32⟩
  | .hbm, ⟨24, _⟩ => ⟨S2x2048x512, .f32⟩
  | .hbm, ⟨25, _⟩ => ⟨S2x2048x512, .bf16⟩
  | .hbm, ⟨26, _⟩ => ⟨S2x128, .f32⟩
  | .hbm, ⟨27, _⟩ => ⟨S1x2x1x128, .f32⟩
  | .hbm, ⟨28, _⟩ => ⟨S1x2x2x128, .f32⟩
  | .hbm, ⟨29, _⟩ => ⟨S2x256, .f32⟩
  | .hbm, ⟨30, _⟩ => ⟨S2x1x256, .f32⟩
  | .hbm, ⟨31, _⟩ => ⟨S2x128x64, .f32⟩
  | .hbm, ⟨32, _⟩ => ⟨S2x1x128x1x64, .f32⟩
  | .hbm, ⟨33, _⟩ => ⟨S1x2x1x2x1, .f32⟩
  | .hbm, ⟨34, _⟩ => ⟨S2x2x128x2x64, .f32⟩
  | .hbm, ⟨35, _⟩ => ⟨S2x2x128x2x64, .f32⟩
  | .hbm, ⟨36, _⟩ => ⟨S2x2x128x2x64, .f32⟩
  | .hbm, ⟨37, _⟩ => ⟨S2x256x128, .f32⟩
  | .hbm, ⟨38, _⟩ => ⟨S2x256x128, .bf16⟩
  | .hbm, ⟨39, _⟩ => ⟨S4x256x256, .f32⟩
  | .local _ .vmem, ⟨0, _⟩ => ⟨S1x256x4096, .f32⟩
  | .local _ .vmem, ⟨1, _⟩ => ⟨S1x256x4096, .f32⟩
  | .local _ .vmem, ⟨2, _⟩ => ⟨S2x2x1x2048, .f32⟩
  | .local _ .vmem, ⟨3, _⟩ => ⟨S2x2048x512, .bf16⟩
  | .local _ .vmem, ⟨4, _⟩ => ⟨S2x1x256, .f32⟩
  | .local _ .vmem, ⟨5, _⟩ => ⟨S2x256x128, .bf16⟩
  | .local _ .vmem, ⟨6, _⟩ => ⟨S1x256x256, .f32⟩
  | .local _ .vmem, ⟨7, _⟩ => ⟨S1x256x256, .f32⟩
  | .local _ .vmem, ⟨8, _⟩ => ⟨S2x8x256, .f32⟩
  | .local _ .vmem, ⟨9, _⟩ => ⟨S2x5120x128, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x2x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CmpRefIdeal.lean ====
abbrev S4x256x4096 : Shape := ⟨3, ![4, 256, 4096]⟩
abbrev S1x2x32x64 : Shape := ⟨4, ![1, 2, 32, 64]⟩
abbrev S1x2x2048x128 : Shape := ⟨4, ![1, 2, 2048, 128]⟩
abbrev S1x2x128 : Shape := ⟨3, ![1, 2, 128]⟩
abbrev S1x2x128x64 : Shape := ⟨4, ![1, 2, 128, 64]⟩
abbrev S4x2x2x64x256x16 : Shape := ⟨6, ![4, 2, 2, 64, 256, 16]⟩
abbrev S1x1x32x64 : Shape := ⟨4, ![1, 1, 32, 64]⟩
abbrev S32x64 : Shape := ⟨2, ![32, 64]⟩
abbrev S2x16x64 : Shape := ⟨3, ![2, 16, 64]⟩
abbrev S1x1x2048x128 : Shape := ⟨4, ![1, 1, 2048, 128]⟩
abbrev S2048x128 : Shape := ⟨2, ![2048, 128]⟩
abbrev S2x16x64x128 : Shape := ⟨4, ![2, 16, 64, 128]⟩
abbrev S4x1x2x64x256x16 : Shape := ⟨6, ![4, 1, 2, 64, 256, 16]⟩
abbrev S4x2x64x256x16 : Shape := ⟨5, ![4, 2, 64, 256, 16]⟩
abbrev S4x256x16x2x64 : Shape := ⟨5, ![4, 256, 16, 2, 64]⟩
abbrev S1x16x64 : Shape := ⟨3, ![1, 16, 64]⟩
abbrev S16x64 : Shape := ⟨2, ![16, 64]⟩
abbrev S16x1x64 : Shape := ⟨3, ![16, 1, 64]⟩
abbrev S1x1x16x1x64 : Shape := ⟨5, ![1, 1, 16, 1, 64]⟩
abbrev S1x16x64x128 : Shape := ⟨4, ![1, 16, 64, 128]⟩
abbrev S16x64x128 : Shape := ⟨3, ![16, 64, 128]⟩
abbrev S4x256x2x128 : Shape := ⟨4, ![4, 256, 2, 128]⟩
abbrev S_ : Shape := ⟨0, ![]⟩
abbrev S4x257x2x128 : Shape := ⟨4, ![4, 257, 2, 128]⟩
abbrev S1x1x128 : Shape := ⟨3, ![1, 1, 128]⟩
abbrev S128 : Shape := ⟨1, ![128]⟩
abbrev S1x1x1x128 : Shape := ⟨4, ![1, 1, 1, 128]⟩
abbrev S1x1x128x64 : Shape := ⟨4, ![1, 1, 128, 64]⟩
abbrev S128x64 : Shape := ⟨2, ![128, 64]⟩
abbrev S4x256x2x64 : Shape := ⟨4, ![4, 256, 2, 64]⟩
abbrev S4x256x1x2x64 : Shape := ⟨5, ![4, 256, 1, 2, 64]⟩
abbrev S4x256x2x2x64 : Shape := ⟨5, ![4, 256, 2, 2, 64]⟩
abbrev S4x256x256 : Shape := ⟨3, ![4, 256, 256]⟩

abbrev nBuf : Space → Nat
  | .hbm => 124
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x2x32x64, .f32⟩
  | .hbm, ⟨2, _⟩ => ⟨S1x2x2048x128, .f32⟩
  | .hbm, ⟨3, _⟩ => ⟨S1x2x128, .f32⟩
  | .hbm, ⟨4, _⟩ => ⟨S1x2x128x64, .f32⟩
  | .hbm, ⟨5, _⟩ => ⟨S4x2x2x64x256x16, .f32⟩
  | .hbm, ⟨6, _⟩ => ⟨S1x1x32x64, .f32⟩
  | .hbm, ⟨7, _⟩ => ⟨S32x64, .f32⟩
  | .hbm, ⟨8, _⟩ => ⟨S2x16x64, .f32⟩
  | .hbm, ⟨9, _⟩ => ⟨S1x1x2048x128, .f32⟩
  | .hbm, ⟨10, _⟩ => ⟨S2048x128, .f32⟩
  | .hbm, ⟨11, _⟩ => ⟨S2x16x64x128, .f32⟩
  | .hbm, ⟨12, _⟩ => ⟨S4x1x2x64x256x16, .f32⟩
  | .hbm, ⟨13, _⟩ => ⟨S4x2x64x256x16, .f32⟩
  | .hbm, ⟨14, _⟩ => ⟨S4x256x16x2x64, .f32⟩
  | .hbm, ⟨15, _⟩ => ⟨S1x16x64, .f32⟩
  | .hbm, ⟨16, _⟩ => ⟨S16x64, .f32⟩
  | .hbm, ⟨17, _⟩ => ⟨S16x1x64, .f32⟩
  | .hbm, ⟨18, _⟩ => ⟨S1x1x16x1x64, .f32⟩
  | .hbm, ⟨19, _⟩ => ⟨S4x256x16x2x64, .f32⟩
  | .hbm, ⟨20, _⟩ => ⟨S4x256x16x2x64, .f32⟩
  | .hbm, ⟨21, _⟩ => ⟨S1x16x64x128, .f32⟩
  | .hbm, ⟨22, _⟩ => ⟨S16x64x128, .f32⟩
  | .hbm, ⟨23, _⟩ => ⟨S4x256x2x128, .f32⟩
  | .hbm, ⟨24, _⟩ => ⟨S1x16x64, .f32⟩
  | .hbm, ⟨25, _⟩ => ⟨S16x64, .f32⟩
  | .hbm, ⟨26, _⟩ => ⟨S16x1x64, .f32⟩
  | .hbm, ⟨27, _⟩ => ⟨S1x1x16x1x64, .f32⟩
  | .hbm, ⟨28, _⟩ => ⟨S4x256x16x2x64, .f32⟩
  | .hbm, ⟨29, _⟩ => ⟨S4x256x16x2x64, .f32⟩
  | .hbm, ⟨30, _⟩ => ⟨S1x16x64x128, .f32⟩
  | .hbm, ⟨31, _⟩ => ⟨S16x64x128, .f32⟩
  | .hbm, ⟨32, _⟩ => ⟨S4x256x2x128, .f32⟩
  | .hbm, ⟨33, _⟩ => ⟨S_, .i32⟩
  | .hbm, ⟨34, _⟩ => ⟨S_, .f32⟩
  | .hbm, ⟨35, _⟩ => ⟨S4x257x2x128, .f32⟩
  | .hbm, ⟨36, _⟩ => ⟨S4x256x2x128, .f32⟩
  | .hbm, ⟨37, _⟩ => ⟨S1x1x128, .f32⟩
  | .hbm, ⟨38, _⟩ => ⟨S128, .f32⟩
  | .hbm, ⟨39, _⟩ => ⟨S1x1x1x128, .f32⟩
  | .hbm, ⟨40, _⟩ => ⟨S4x256x2x128, .f32⟩
  | .hbm, ⟨41, _⟩ => ⟨S4x256x2x128, .f32⟩
  | .hbm, ⟨42, _⟩ => ⟨S4x256x2x128, .f32⟩
  | .hbm, ⟨43, _⟩ => ⟨S4x256x2x128, .f32⟩
  | .hbm, ⟨44, _⟩ => ⟨S4x256x2x128, .f32⟩
  | .hbm, ⟨45, _⟩ => ⟨S_, .f32⟩
  | .hbm, ⟨46, _⟩ => ⟨S4x256x2x128, .f32⟩
  | .hbm, ⟨47, _⟩ => ⟨S4x256x2x128, .f32⟩
  | .hbm, ⟨48, _⟩ => ⟨S4x256x2x128, .f32⟩
  | .hbm, ⟨49, _⟩ => ⟨S_, .f32⟩
  | .hbm, ⟨50, _⟩ => ⟨S4x256x2x128, .f32⟩
  | .hbm, ⟨51, _⟩ => ⟨S4x256x2x128, .f32⟩
  | .hbm, ⟨52, _⟩ => ⟨S4x256x2x128, .f32⟩
  | .hbm, ⟨53, _⟩ => ⟨S_, .f32⟩
  | .hbm, ⟨54, _⟩ => ⟨S4x256x2x128, .f32⟩
  | .hbm, ⟨55, _⟩ => ⟨S4x256x2x128, .f32⟩
  | .hbm, ⟨56, _⟩ => ⟨S_, .f32⟩
  | .hbm, ⟨57, _⟩ => ⟨S4x256x2x128, .f32⟩
  | .hbm, ⟨58, _⟩ => ⟨S4x256x2x128, .f32⟩
  | .hbm, ⟨59, _⟩ => ⟨S4x256x2x128, .f32⟩
  | .hbm, ⟨60, _⟩ => ⟨S1x1x128x64, .f32⟩
  | .hbm, ⟨61, _⟩ => ⟨S128x64, .f32⟩
  | .hbm, ⟨62, _⟩ => ⟨S4x256x2x64, .f32⟩
  | .hbm, ⟨63, _⟩ => ⟨S1x1x32x64, .f32⟩
  | .hbm, ⟨64, _⟩ => ⟨S32x64, .f32⟩
  | .hbm, ⟨65, _⟩ => ⟨S2x16x64, .f32⟩
  | .hbm, ⟨66, _⟩ => ⟨S1x1x2048x128, .f32⟩
  | .hbm, ⟨67, _⟩ => ⟨S2048x128, .f32⟩
  | .hbm, ⟨68, _⟩ => ⟨S2x16x64x128, .f32⟩
  | .hbm, ⟨69, _⟩ => ⟨S4x1x2x64x256x16, .f32⟩
  | .hbm, ⟨70, _⟩ => ⟨S4x2x64x256x16, .f32⟩
  | .hbm, ⟨71, _⟩ => ⟨S4x256x16x2x64, .f32⟩
  | .hbm, ⟨72, _⟩ => ⟨S1x16x64, .f32⟩
  | .hbm, ⟨73, _⟩ => ⟨S16x64, .f32⟩
  | .hbm, ⟨74, _⟩ => ⟨S16x1x64, .f32⟩
  | .hbm, ⟨75, _⟩ => ⟨S1x1x16x1x64, .f32⟩
  | .hbm, ⟨76, _⟩ => ⟨S4x256x16x2x64, .f32⟩
  | .hbm, ⟨77, _⟩ => ⟨S4x256x16x2x64, .f32⟩
  | .hbm, ⟨78, _⟩ => ⟨S1x16x64x128, .f32⟩
  | .hbm, ⟨79, _⟩ => ⟨S16x64x128, .f32⟩
  | .hbm, ⟨80, _⟩ => ⟨S4x256x2x128, .f32⟩
  | .hbm, ⟨81, _⟩ => ⟨S1x16x64, .f32⟩
  | .hbm, ⟨82, _⟩ => ⟨S16x64, .f32⟩
  | .hbm, ⟨83, _⟩ => ⟨S16x1x64, .f32⟩
  | .hbm, ⟨84, _⟩ => ⟨S1x1x16x1x64, .f32⟩
  | .hbm, ⟨85, _⟩ => ⟨S4x256x16x2x64, .f32⟩
  | .hbm, ⟨86, _⟩ => ⟨S4x256x16x2x64, .f32⟩
  | .hbm, ⟨87, _⟩ => ⟨S1x16x64x128, .f32⟩
  | .hbm, ⟨88, _⟩ => ⟨S16x64x128, .f32⟩
  | .hbm, ⟨89, _⟩ => ⟨S4x256x2x128, .f32⟩
  | .hbm, ⟨90, _⟩ => ⟨S_, .i32⟩
  | .hbm, ⟨91, _⟩ => ⟨S_, .f32⟩
  | .hbm, ⟨92, _⟩ => ⟨S4x257x2x128, .f32⟩
  | .hbm, ⟨93, _⟩ => ⟨S4x256x2x128, .f32⟩
  | .hbm, ⟨94, _⟩ => ⟨S1x1x128, .f32⟩
  | .hbm, ⟨95, _⟩ => ⟨S128, .f32⟩
  | .hbm, ⟨96, _⟩ => ⟨S1x1x1x128, .f32⟩
  | .hbm, ⟨97, _⟩ => ⟨S4x256x2x128, .f32⟩
  | .hbm, ⟨98, _⟩ => ⟨S4x256x2x128, .f32⟩
  | .hbm, ⟨99, _⟩ => ⟨S4x256x2x128, .f32⟩
  | .hbm, ⟨100, _⟩ => ⟨S4x256x2x128, .f32⟩
  | .hbm, ⟨101, _⟩ => ⟨S4x256x2x128, .f32⟩
  | .hbm, ⟨102, _⟩ => ⟨S_, .f32⟩
  | .hbm, ⟨103, _⟩ => ⟨S4x256x2x128, .f32⟩
  | .hbm, ⟨104, _⟩ => ⟨S4x256x2x128, .f32⟩
  | .hbm, ⟨105, _⟩ => ⟨S4x256x2x128, .f32⟩
  | .hbm, ⟨106, _⟩ => ⟨S_, .f32⟩
  | .hbm, ⟨107, _⟩ => ⟨S4x256x2x128, .f32⟩
  | .hbm, ⟨108, _⟩ => ⟨S4x256x2x128, .f32⟩
  | .hbm, ⟨109, _⟩ => ⟨S4x256x2x128, .f32⟩
  | .hbm, ⟨110, _⟩ => ⟨S_, .f32⟩
  | .hbm, ⟨111, _⟩ => ⟨S4x256x2x128, .f32⟩
  | .hbm, ⟨112, _⟩ => ⟨S4x256x2x128, .f32⟩
  | .hbm, ⟨113, _⟩ => ⟨S_, .f32⟩
  | .hbm, ⟨114, _⟩ => ⟨S4x256x2x128, .f32⟩
  | .hbm, ⟨115, _⟩ => ⟨S4x256x2x128, .f32⟩
  | .hbm, ⟨116, _⟩ => ⟨S4x256x2x128, .f32⟩
  | .hbm, ⟨117, _⟩ => ⟨S1x1x128x64, .f32⟩
  | .hbm, ⟨118, _⟩ => ⟨S128x64, .f32⟩
  | .hbm, ⟨119, _⟩ => ⟨S4x256x2x64, .f32⟩
  | .hbm, ⟨120, _⟩ => ⟨S4x256x1x2x64, .f32⟩
  | .hbm, ⟨121, _⟩ => ⟨S4x256x1x2x64, .f32⟩
  | .hbm, ⟨122, _⟩ => ⟨S4x256x2x2x64, .f32⟩
  | .hbm, ⟨123, _⟩ => ⟨S4x256x256, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_call0_v0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_0 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_1 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_c_3 : Ref sig .tc := ⟨.hbm, 90, rfl⟩
abbrev main_call1_v0 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_4 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_5 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_6 : Ref sig .tc := ⟨.hbm, 110, rfl⟩
abbrev main_v95 : Ref sig .tc := ⟨.hbm, 111, rfl⟩
abbrev main_v96 : Ref sig .tc := ⟨.hbm, 112, rfl⟩
abbrev main_cst_7 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩

abbrev nD : Nat := 1
abbrev τ : Topo := Topo.v7x

variable {F : FTy → Type} [FloatOps F]
-- ==== Sel.lean ====
abbrev S32x8x64 : Shape := ⟨3, ![32, 8, 64]⟩
abbrev S32x1024x256 : Shape := ⟨3, ![32, 1024, 256]⟩
abbrev S32x8x128 : Shape := ⟨3, ![32, 8, 128]⟩
abbrev S1x8x64 : Shape := ⟨3, ![1, 8, 64]⟩
abbrev S1x1024x256 : Shape := ⟨3, ![1, 1024, 256]⟩
abbrev S1024x384 : Shape := ⟨2, ![1024, 384]⟩
abbrev S32x8x384 : Shape := ⟨3, ![32, 8, 384]⟩
abbrev S8x64 : Shape := ⟨2, ![8, 64]⟩
abbrev S64x128 : Shape := ⟨2, ![64, 128]⟩
abbrev S8x128 : Shape := ⟨2, ![8, 128]⟩
abbrev S8x1024 : Shape := ⟨2, ![8, 1024]⟩
abbrev S1x1024x128 : Shape := ⟨3, ![1, 1024, 128]⟩
abbrev S1024x128 : Shape := ⟨2, ![1024, 128]⟩
abbrev S8 : Shape := ⟨1, ![8]⟩
abbrev S8x1 : Shape := ⟨2, ![8, 1]⟩
abbrev S1024 : Shape := ⟨1, ![1024]⟩
abbrev S1x1024 : Shape := ⟨2, ![1, 1024]⟩
abbrev S24x1024 : Shape := ⟨2, ![24, 1024]⟩
abbrev S24x384 : Shape := ⟨2, ![24, 384]⟩
abbrev S8x384 : Shape := ⟨2, ![8, 384]⟩
abbrev S1x8x384 : Shape := ⟨3, ![1, 8, 384]⟩
abbrev S256x384 : Shape := ⟨2, ![256, 384]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S32x8x64, .f32⟩
  | .hbm, ⟨1, _⟩ => ⟨S32x1024x256, .f32⟩
  | .hbm, ⟨2, _⟩ => ⟨S32x8x64, .f32⟩
  | .hbm, ⟨3, _⟩ => ⟨S32x8x128, .i32⟩
  | .local _ .vmem, ⟨0, _⟩ => ⟨S1x8x64, .f32⟩
  | .local _ .vmem, ⟨1, _⟩ => ⟨S1x8x64, .f32⟩
  | .local _ .vmem, ⟨2, _⟩ => ⟨S1x1024x256, .f32⟩
  | .local _ .vmem, ⟨3, _⟩ => ⟨S1x1024x256, .f32⟩
  | .local _ .vmem, ⟨4, _⟩ => ⟨S1x8x64, .f32⟩
  | .local _ .vmem, ⟨5, _⟩ => ⟨S1x8x64, .f32⟩
  | .local _ .vmem, ⟨6, _⟩ => ⟨S32x8x128, .i32⟩
  | .local _ .vmem, ⟨7, _⟩ => ⟨S1024x384, .bf16⟩
  | .local _ .vmem, ⟨8, _⟩ => ⟨S32x8x384, .f32⟩
  | _, _ => ⟨S32x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let v158 : Index := Scalar.indexCast arg0
  let c0_52 : Index := 0#32
  let c0_53 : Index := 0#32
  ![v158.toNat, 0, 0]
def k0_cond2 (i : grid0.Coords) : BitVec 1 :=
  let arg0 : BitVec 32 := BitVec.ofNat 32 (i 0).val
  let c31_i32 : BitVec 32 := 31#32
  let v162 : BitVec 1 := Scalar.cmpi .eq arg0 c31_i32
  let v163 : BitVec 32 := Scalar.extui v162
  let c0_i32_54 : BitVec 32 := 0#32
  let v164 : BitVec 1 := Scalar.cmpi .ne v163 c0_i32_54
  v164

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Proof.AttnIdealRuns.lean ====
/- What the attention's runs share: the frame from a run over relational proof data, the condition of the
   body in closed form, the memrefs and the scratch of a point. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x4096x128 .bf16 := Memref.whole cc0_scratch0
abbrev scM0_1 : Memref sig .tc .vmem S2x32x80x128 .bf16 := Memref.whole cc0_scratch1
abbrev scM0_2 : Memref sig .tc .vmem S2x4096x64 .bf16 := Memref.whole cc0_scratch2
abbrev scM0_3 : Memref sig .tc .vmem S2x32x80x128 .bf16 := Memref.whole cc0_scratch3
abbrev scM0_4 : Memref sig .tc .vmem S2x256x64 .bf16 := Memref.whole cc0_scratch4
abbrev scM0_5 : Memref sig .tc .vmem S2x64x256 .bf16 := Memref.whole cc0_scratch5
/-- The scratch `arg8` the kernel carries between points, as a view: what it holds is stated through it. -/
abbrev VS0_0 : View sig .tc .vmem S2x4096x128 .bf16 := scM0_0.view
/-- The scratch `arg9` the kernel carries between points, as a view: what it holds is stated through it. -/
abbrev VS0_1 : View sig .tc .vmem S2x32x80x128 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.AttnIdealOff.lean ====
/- The attention's window loads: where each one lies, in closed form. -/
module

public import proofs.«01_k».proof.Proof.AttnIdealRuns

@[expose] public section

namespace Cert.KernelIdeal.Gen

open Idealize.ShloMosaic Idealize.ShloMosaic.TcCoe Idealize.ShloMosaic.Tactic

/-- The place of the window loads through `k0_off1`: the tile `2 i + u - 4`, at least zero. -/
theorem off1_eq : ∀ i : grid0.Coords, ∀ r : Fin 6, k0_off1 i (BitVec.ofNat 32 r.val) = ![0, 128 * (2 * (i 1).val + r.val - 4), 0] := by decide +kernel
instance off1_0 (i : grid0.Coords) : ClosedOff (k0_off1 i 0#32) := ⟨![0, 128 * (2 * (i 1).val + 0 - 4), 0], off1_eq i ⟨0, by decide⟩⟩
instance off1_1 (i : grid0.Coords) : ClosedOff (k0_off1 i 1#32) := ⟨![0, 128 * (2 * (i 1).val + 1 - 4), 0], off1_eq i ⟨1, by decide⟩⟩
instance off1_2 (i : grid0.Coords) : ClosedOff (k0_off1 i 2#32) := ⟨![0, 128 * (2 * (i 1).val + 2 - 4), 0], off1_eq i ⟨2, by decide⟩⟩
instance off1_3 (i : grid0.Coords) : ClosedOff (k0_off1 i 3#32) := ⟨![0, 128 * (2 * (i 1).val + 3 - 4), 0], off1_eq i ⟨3, by decide⟩⟩
instance off1_4 (i : grid0.Coords) : ClosedOff (k0_off1 i 4#32) := ⟨![0, 128 * (2 * (i 1).val + 4 - 4), 0], off1_eq i ⟨4, by decide⟩⟩
instance off1_5 (i : grid0.Coords) : ClosedOff (k0_off1 i 5#32) := ⟨![0, 128 * (2 * (i 1).val + 5 - 4), 0], off1_eq i ⟨5, by decide⟩⟩

/-- The place of the window loads through `k0_off2`: the tile `2 i + u - 4`, at least zero. -/
theorem off2_eq : ∀ i : grid0.Coords, ∀ r : Fin 6, k0_off2 i (BitVec.ofNat 32 r.val) = ![1, 128 * (2 * (i 1).val + r.val - 4), 0] := by decide +kernel
instance off2_0 (i : grid0.Coords) : ClosedOff (k0_off2 i 0#32) := ⟨![1, 128 * (2 * (i 1).val + 0 - 4), 0], off2_eq i ⟨0, by decide⟩⟩
instance off2_1 (i : grid0.Coords) : ClosedOff (k0_off2 i 1#32) := ⟨![1, 128 * (2 * (i 1).val + 1 - 4), 0], off2_eq i ⟨1, by decide⟩⟩
instance off2_2 (i : grid0.Coords) : ClosedOff (k0_off2 i 2#32) := ⟨![1, 128 * (2 * (i 1).val + 2 - 4), 0], off2_eq i ⟨2, by decide⟩⟩
instance off2_3 (i : grid0.Coords) : ClosedOff (k0_off2 i 3#32) := ⟨![1, 128 * (2 * (i 1).val + 3 - 4), 0], off2_eq i ⟨3, by decide⟩⟩
instance off2_4 (i : grid0.Coords) : ClosedOff (k0_off2 i 4#32) := ⟨![1, 128 * (2 * (i 1).val + 4 - 4), 0], off2_eq i ⟨4, by decide⟩⟩
instance off2_5 (i : grid0.Coords) : ClosedOff (k0_off2 i 5#32) := ⟨![1, 128 * (2 * (i 1).val + 5 - 4), 0], off2_eq i ⟨5, by decide⟩⟩

/-- The place of the window loads through `k0_off3`: the tile `2 i + u - 4`, at least zero. -/
theorem off3_eq : ∀ i : grid0.Coords, ∀ r : Fin 6, k0_off3 i (BitVec.ofNat 32 r.val) = ![0, 2 * (i 1).val + r.val - 4, 0, 0] := by decide +kernel
instance off3_0 (i : grid0.Coords) : ClosedOff (k0_off3 i 0#32) := ⟨![0, 2 * (i 1).val + 0 - 4, 0, 0], off3_eq i ⟨0, by decide⟩⟩
instance off3_1 (i : grid0.Coords) : ClosedOff (k0_off3 i 1#32) := ⟨![0, 2 * (i 1).val + 1 - 4, 0, 0], off3_eq i ⟨1, by decide⟩⟩
instance off3_2 (i : grid0.Coords) : ClosedOff (k0_off3 i 2#32) := ⟨![0, 2 * (i 1).val + 2 - 4, 0, 0], off3_eq i ⟨2, by decide⟩⟩
instance off3_3 (i : grid0.Coords) : ClosedOff (k0_off3 i 3#32) := ⟨![0, 2 * (i 1).val + 3 - 4, 0, 0], off3_eq i ⟨3, by decide⟩⟩
instance off3_4 (i : grid0.Coords) : ClosedOff (k0_off3 i 4#32) := ⟨![0, 2 * (i 1).val + 4 - 4, 0, 0], off3_eq i ⟨4, by decide⟩⟩
instance off3_5 (i : grid0.Coords) : ClosedOff (k0_off3 i 5#32) := ⟨![0, 2 * (i 1).val + 5 - 4, 0, 0], off3_eq i ⟨5, by decide⟩⟩

/-- The place of the window loads through `k0_off4`: the tile `2 i + u - 4`, at least zero. -/
theorem off4_eq : ∀ i : grid0.Coords, ∀ r : Fin 6, k0_off4 i (BitVec.ofNat 32 r.val) = ![1, 2 * (i 1).val + r.val - 4, 0, 0] := by decide +kernel
instance off4_0 (i : grid0.Coords) : ClosedOff (k0_off4 i 0#32) := ⟨![1, 2 * (i 1).val + 0 - 4, 0, 0], off4_eq i ⟨0, by decide⟩⟩
instance off4_1 (i : grid0.Coords) : ClosedOff (k0_off4 i 1#32) := ⟨![1, 2 * (i 1).val + 1 - 4, 0, 0], off4_eq i ⟨1, by decide⟩⟩
instance off4_2 (i : grid0.Coords) : ClosedOff (k0_off4 i 2#32) := ⟨![1, 2 * (i 1).val + 2 - 4, 0, 0], off4_eq i ⟨2, by decide⟩⟩
instance off4_3 (i : grid0.Coords) : ClosedOff (k0_off4 i 3#32) := ⟨![1, 2 * (i 1).val + 3 - 4, 0, 0], off4_eq i ⟨3, by decide⟩⟩
instance off4_4 (i : grid0.Coords) : ClosedOff (k0_off4 i 4#32) := ⟨![1, 2 * (i 1).val + 4 - 4, 0, 0], off4_eq i ⟨4, by decide⟩⟩
instance off4_5 (i : grid0.Coords) : ClosedOff (k0_off4 i 5#32) := ⟨![1, 2 * (i 1).val + 5 - 4, 0, 0], off4_eq i ⟨5, by decide⟩⟩

end Cert.KernelIdeal.Gen
-- ==== Proof.AttnIdealRunA.lean ====
/- The attention's body in its ideal form at a point of the first case of its condition. -/
module

public import proofs.«01_k».proof.Proof.AttnIdealOff

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7884000 in
/-- What the body's stores leave in each output's staging memref, as pieces (last first) IN CASE A (`scf.if` 0 taken: points 0, 16, 32, 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_A (c : Dev nD) (i : grid0.Coords) (arg2 : Memref sig .tc .vmem S1x512x256 .bf16) (harg2 : arg2.IsWhole) (arg3 : Memref sig .tc .vmem S1x32x256 .f32) (harg3 : arg3.IsWhole) (arg4 : Memref sig .tc .vmem S1x256x256 .f32) (harg4 : arg4.IsWhole) (arg5 : Memref sig .tc .vmem S1x256x4096 .f32) (harg5 : arg5.IsWhole) (arg6 : Memref sig .tc .vmem S1x256x4096 .f32) (harg6 : arg6.IsWhole) (arg7 : Memref sig .tc .vmem S1x256x512 .bf16) (harg7 : arg7.IsWhole) (arg8 : Memref sig .tc .vmem S2x4096x128 .bf16) (harg8 : arg8.IsWhole) (arg9 : Memref sig .tc .vmem S2x32x80x128 .bf16) (harg9 : arg9.IsWhole) (arg10 : Memref sig .tc .vmem S2x4096x64 .bf16) (harg10 : arg10.IsWhole) (arg11 : Memref sig .tc .vmem S2x32x80x128 .bf16) (harg11 : arg11.IsWhole) (arg12 : Memref sig .tc .vmem S2x256x64 .bf16) (harg12 : arg12.IsWhole) (arg13 : Memref sig .tc .vmem S2x64x256 .bf16) (harg13 : arg13.IsWhole) (hc0 : cond0_0 i)
    (x0 : Vec F S1x512x256 .bf16) (x1 : Vec F S1x32x256 .f32) (x2 : Vec F S1x256x256 .f32) (x3 : Vec F S1x256x4096 .f32) (x4 : Vec F S1x256x4096 .f32) :
    Σ' (LS0 : List (View.Piece (Elt F) S2x4096x128 .bf16)), { LS1 : List (View.Piece (Elt F) S2x32x80x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_attention_eq_skeleton]; unfold cc0_attention_skel
    simp only [k0_part150_eq_skeleton, k0_part118_eq_skeleton, k0_part86_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part87_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Gen

end
-- ==== Proof.AttnIdealRunB.lean ====
/- The attention's body in its ideal form at a point of the second case of its condition. -/
module

public import proofs.«01_k».proof.Proof.AttnIdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1700000 in
/-- What the body's stores leave in each output's staging memref, as pieces (last first) IN CASE B (`scf.if` 0 not taken: points 1, 2, … 63: 60 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_B (c : Dev nD) (i : grid0.Coords) (arg2 : Memref sig .tc .vmem S1x512x256 .bf16) (harg2 : arg2.IsWhole) (arg3 : Memref sig .tc .vmem S1x32x256 .f32) (harg3 : arg3.IsWhole) (arg4 : Memref sig .tc .vmem S1x256x256 .f32) (harg4 : arg4.IsWhole) (arg5 : Memref sig .tc .vmem S1x256x4096 .f32) (harg5 : arg5.IsWhole) (arg6 : Memref sig .tc .vmem S1x256x4096 .f32) (harg6 : arg6.IsWhole) (arg7 : Memref sig .tc .vmem S1x256x512 .bf16) (harg7 : arg7.IsWhole) (arg8 : Memref sig .tc .vmem S2x4096x128 .bf16) (harg8 : arg8.IsWhole) (arg9 : Memref sig .tc .vmem S2x32x80x128 .bf16) (harg9 : arg9.IsWhole) (arg10 : Memref sig .tc .vmem S2x4096x64 .bf16) (harg10 : arg10.IsWhole) (arg11 : Memref sig .tc .vmem S2x32x80x128 .bf16) (harg11 : arg11.IsWhole) (arg12 : Memref sig .tc .vmem S2x256x64 .bf16) (harg12 : arg12.IsWhole) (arg13 : Memref sig .tc .vmem S2x64x256 .bf16) (harg13 : arg13.IsWhole) (hc0 : ¬cond0_0 i)
    (x0 : Vec F S1x512x256 .bf16) (x1 : Vec F S1x32x256 .f32) (x2 : Vec F S1x256x256 .f32) (x3 : Vec F S1x256x4096 .f32) (x4 : Vec F S1x256x4096 .f32) (xs0 : Vec F S2x4096x128 .bf16) (xs1 : Vec F S2x32x80x128 .bf16) :
    Σ' (LS0 : List (View.Piece (Elt F) S2x4096x128 .bf16)), { LS1 : List (View.Piece (Elt F) S2x32x80x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12 arg13 harg13) K } := by
  refine ⟨[], [], fun E K => ?run⟩
  case run =>
    simp only [cc0_attention_eq_skeleton]; unfold cc0_attention_skel
    simp only [k0_part150_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _; isplitr; · ipureintro; exact harg8.read_unread _
      iexact HS0
    isplitl [HS1]
    · iexists _; isplitr; · ipureintro; exact harg9.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Gen

end
-- ==== Proof.AttnIdealFrame.lean ====
/- The frame of the attention's call in its ideal form: what its carried scratch holds point by point, the body's triple at every
   point, the run and the frame. Of the output nothing is named. -/
module

public import proofs.«01_k».proof.Proof.AttnIdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg8`, which the kernel carries between points, cover it: 64 pieces of `S1x128x128` tiling it (Lib/Ring.lean `Piece.tiledL`). -/
theorem scover0_A_0 (c : Dev nD) (i : grid0.Coords) (arg2 : Memref sig .tc .vmem S1x512x256 .bf16) (harg2 : arg2.IsWhole) (arg3 : Memref sig .tc .vmem S1x32x256 .f32) (harg3 : arg3.IsWhole) (arg4 : Memref sig .tc .vmem S1x256x256 .f32) (harg4 : arg4.IsWhole) (arg5 : Memref sig .tc .vmem S1x256x4096 .f32) (harg5 : arg5.IsWhole) (arg6 : Memref sig .tc .vmem S1x256x4096 .f32) (harg6 : arg6.IsWhole) (arg7 : Memref sig .tc .vmem S1x256x512 .bf16) (harg7 : arg7.IsWhole) (arg8 : Memref sig .tc .vmem S2x4096x128 .bf16) (harg8 : arg8.IsWhole) (arg9 : Memref sig .tc .vmem S2x32x80x128 .bf16) (harg9 : arg9.IsWhole) (arg10 : Memref sig .tc .vmem S2x4096x64 .bf16) (harg10 : arg10.IsWhole) (arg11 : Memref sig .tc .vmem S2x32x80x128 .bf16) (harg11 : arg11.IsWhole) (arg12 : Memref sig .tc .vmem S2x256x64 .bf16) (harg12 : arg12.IsWhole) (arg13 : Memref sig .tc .vmem S2x64x256 .bf16) (harg13 : arg13.IsWhole) (hc0 : cond0_0 i)
    (x0 : Vec F S1x512x256 .bf16) (x1 : Vec F S1x32x256 .f32) (x2 : Vec F S1x256x256 .f32) (x3 : Vec F S1x256x4096 .f32) (x4 : Vec F S1x256x4096 .f32) (y : S2x4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1 S1x128x128.size (by sl_kernel_rfl) y

/-- What case A leaves in scratch `arg8`: its pieces read back over junk. -/
def sout0_A_0 (c : Dev nD) (i : grid0.Coords) (arg2 : Memref sig .tc .vmem S1x512x256 .bf16) (harg2 : arg2.IsWhole) (arg3 : Memref sig .tc .vmem S1x32x256 .f32) (harg3 : arg3.IsWhole) (arg4 : Memref sig .tc .vmem S1x256x256 .f32) (harg4 : arg4.IsWhole) (arg5 : Memref sig .tc .vmem S1x256x4096 .f32) (harg5 : arg5.IsWhole) (arg6 : Memref sig .tc .vmem S1x256x4096 .f32) (harg6 : arg6.IsWhole) (arg7 : Memref sig .tc .vmem S1x256x512 .bf16) (harg7 : arg7.IsWhole) (arg8 : Memref sig .tc .vmem S2x4096x128 .bf16) (harg8 : arg8.IsWhole) (arg9 : Memref sig .tc .vmem S2x32x80x128 .bf16) (harg9 : arg9.IsWhole) (arg10 : Memref sig .tc .vmem S2x4096x64 .bf16) (harg10 : arg10.IsWhole) (arg11 : Memref sig .tc .vmem S2x32x80x128 .bf16) (harg11 : arg11.IsWhole) (arg12 : Memref sig .tc .vmem S2x256x64 .bf16) (harg12 : arg12.IsWhole) (arg13 : Memref sig .tc .vmem S2x64x256 .bf16) (harg13 : arg13.IsWhole) (hc0 : cond0_0 i)
    (x0 : Vec F S1x512x256 .bf16) (x1 : Vec F S1x32x256 .f32) (x2 : Vec F S1x256x256 .f32) (x3 : Vec F S1x256x4096 .f32) (x4 : Vec F S1x256x4096 .f32) : Vec F S2x4096x128 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).1)

/-- Case A's pieces for scratch `arg9`, which the kernel carries between points, cover it: 128 pieces (stores and landed copies) of several sizes (`S1x1x16x128`, `S1x1x64x128`) tiling it when cut into blocks of `![1, 1, 16, 128]` (Lib/Ring.lean `Piece.tiledBy`). -/
theorem scover0_A_1 (c : Dev nD) (i : grid0.Coords) (arg2 : Memref sig .tc .vmem S1x512x256 .bf16) (harg2 : arg2.IsWhole) (arg3 : Memref sig .tc .vmem S1x32x256 .f32) (harg3 : arg3.IsWhole) (arg4 : Memref sig .tc .vmem S1x256x256 .f32) (harg4 : arg4.IsWhole) (arg5 : Memref sig .tc .vmem S1x256x4096 .f32) (harg5 : arg5.IsWhole) (arg6 : Memref sig .tc .vmem S1x256x4096 .f32) (harg6 : arg6.IsWhole) (arg7 : Memref sig .tc .vmem S1x256x512 .bf16) (harg7 : arg7.IsWhole) (arg8 : Memref sig .tc .vmem S2x4096x128 .bf16) (harg8 : arg8.IsWhole) (arg9 : Memref sig .tc .vmem S2x32x80x128 .bf16) (harg9 : arg9.IsWhole) (arg10 : Memref sig .tc .vmem S2x4096x64 .bf16) (harg10 : arg10.IsWhole) (arg11 : Memref sig .tc .vmem S2x32x80x128 .bf16) (harg11 : arg11.IsWhole) (arg12 : Memref sig .tc .vmem S2x256x64 .bf16) (harg12 : arg12.IsWhole) (arg13 : Memref sig .tc .vmem S2x64x256 .bf16) (harg13 : arg13.IsWhole) (hc0 : cond0_0 i)
    (x0 : Vec F S1x512x256 .bf16) (x1 : Vec F S1x32x256 .f32) (x2 : Vec F S1x256x256 .f32) (x3 : Vec F S1x256x4096 .f32) (x4 : Vec F S1x256x4096 .f32) (y : S2x32x80x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1 ![1, 1, 16, 128] (by sl_kernel_rfl) y

/-- What case A leaves in scratch `arg9`: its pieces read back over junk. -/
def sout0_A_1 (c : Dev nD) (i : grid0.Coords) (arg2 : Memref sig .tc .vmem S1x512x256 .bf16) (harg2 : arg2.IsWhole) (arg3 : Memref sig .tc .vmem S1x32x256 .f32) (harg3 : arg3.IsWhole) (arg4 : Memref sig .tc .vmem S1x256x256 .f32) (harg4 : arg4.IsWhole) (arg5 : Memref sig .tc .vmem S1x256x4096 .f32) (harg5 : arg5.IsWhole) (arg6 : Memref sig .tc .vmem S1x256x4096 .f32) (harg6 : arg6.IsWhole) (arg7 : Memref sig .tc .vmem S1x256x512 .bf16) (harg7 : arg7.IsWhole) (arg8 : Memref sig .tc .vmem S2x4096x128 .bf16) (harg8 : arg8.IsWhole) (arg9 : Memref sig .tc .vmem S2x32x80x128 .bf16) (harg9 : arg9.IsWhole) (arg10 : Memref sig .tc .vmem S2x4096x64 .bf16) (harg10 : arg10.IsWhole) (arg11 : Memref sig .tc .vmem S2x32x80x128 .bf16) (harg11 : arg11.IsWhole) (arg12 : Memref sig .tc .vmem S2x256x64 .bf16) (harg12 : arg12.IsWhole) (arg13 : Memref sig .tc .vmem S2x64x256 .bf16) (harg13 : arg13.IsWhole) (hc0 : cond0_0 i)
    (x0 : Vec F S1x512x256 .bf16) (x1 : Vec F S1x32x256 .f32) (x2 : Vec F S1x256x256 .f32) (x3 : Vec F S1x256x4096 .f32) (x4 : Vec F S1x256x4096 .f32) : Vec F S2x32x80x128 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4).2.1)

/-- Case B stores nothing into scratch `arg8`: it holds what the point before left. -/
def sout0_B_0 (c : Dev nD) (i : grid0.Coords) (arg2 : Memref sig .tc .vmem S1x512x256 .bf16) (harg2 : arg2.IsWhole) (arg3 : Memref sig .tc .vmem S1x32x256 .f32) (harg3 : arg3.IsWhole) (arg4 : Memref sig .tc .vmem S1x256x256 .f32) (harg4 : arg4.IsWhole) (arg5 : Memref sig .tc .vmem S1x256x4096 .f32) (harg5 : arg5.IsWhole) (arg6 : Memref sig .tc .vmem S1x256x4096 .f32) (harg6 : arg6.IsWhole) (arg7 : Memref sig .tc .vmem S1x256x512 .bf16) (harg7 : arg7.IsWhole) (arg8 : Memref sig .tc .vmem S2x4096x128 .bf16) (harg8 : arg8.IsWhole) (arg9 : Memref sig .tc .vmem S2x32x80x128 .bf16) (harg9 : arg9.IsWhole) (arg10 : Memref sig .tc .vmem S2x4096x64 .bf16) (harg10 : arg10.IsWhole) (arg11 : Memref sig .tc .vmem S2x32x80x128 .bf16) (harg11 : arg11.IsWhole) (arg12 : Memref sig .tc .vmem S2x256x64 .bf16) (harg12 : arg12.IsWhole) (arg13 : Memref sig .tc .vmem S2x64x256 .bf16) (harg13 : arg13.IsWhole) (hc0 : ¬cond0_0 i)
    (x0 : Vec F S1x512x256 .bf16) (x1 : Vec F S1x32x256 .f32) (x2 : Vec F S1x256x256 .f32) (x3 : Vec F S1x256x4096 .f32) (x4 : Vec F S1x256x4096 .f32) (xs0 : Vec F S2x4096x128 .bf16) (xs1 : Vec F S2x32x80x128 .bf16) : Vec F S2x4096x128 .bf16 := xs0

/-- Case B stores nothing into scratch `arg9`: it holds what the point before left. -/
def sout0_B_1 (c : Dev nD) (i : grid0.Coords) (arg2 : Memref sig .tc .vmem S1x512x256 .bf16) (harg2 : arg2.IsWhole) (arg3 : Memref sig .tc .vmem S1x32x256 .f32) (harg3 : arg3.IsWhole) (arg4 : Memref sig .tc .vmem S1x256x256 .f32) (harg4 : arg4.IsWhole) (arg5 : Memref sig .tc .vmem S1x256x4096 .f32) (harg5 : arg5.IsWhole) (arg6 : Memref sig .tc .vmem S1x256x4096 .f32) (harg6 : arg6.IsWhole) (arg7 : Memref sig .tc .vmem S1x256x512 .bf16) (harg7 : arg7.IsWhole) (arg8 : Memref sig .tc .vmem S2x4096x128 .bf16) (harg8 : arg8.IsWhole) (arg9 : Memref sig .tc .vmem S2x32x80x128 .bf16) (harg9 : arg9.IsWhole) (arg10 : Memref sig .tc .vmem S2x4096x64 .bf16) (harg10 : arg10.IsWhole) (arg11 : Memref sig .tc .vmem S2x32x80x128 .bf16) (harg11 : arg11.IsWhole) (arg12 : Memref sig .tc .vmem S2x256x64 .bf16) (harg12 : arg12.IsWhole) (arg13 : Memref sig .tc .vmem S2x64x256 .bf16) (harg13 : arg13.IsWhole) (hc0 : ¬cond0_0 i)
    (x0 : Vec F S1x512x256 .bf16) (x1 : Vec F S1x32x256 .f32) (x2 : Vec F S1x256x256 .f32) (x3 : Vec F S1x256x4096 .f32) (x4 : Vec F S1x256x4096 .f32) (xs0 : Vec F S2x4096x128 .bf16) (xs1 : Vec F S2x32x80x128 .bf16) : Vec F S2x32x80x128 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x4096x128 .bf16 × Vec F S2x32x80x128 .bf16
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 16 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases hz : t.val = 0
    · rw [PhiS_castSucc m c t, PhiS_zero m c _ _ hz, PhiA0_eq]
      rw [outsAt0_A m c t h0]
      unfold sout0_A_0 sout0_A_1; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, ⟨%es0, HS0⟩, ⟨%es1, HS1⟩, HS2, HS3, HS4, HS5⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          isplitl [HS2]
          · iexact HS2
          isplitl [HS3]
          · iexact HS3
          isplitl [HS4]
          · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      rw [outsAt0_A m c t h0]
      unfold sout0_A_0 sout0_A_1; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HS2]; · iexact HS2
      isplitl [HS3]; · iexact HS3
      isplitl [HS4]; · iexact HS4
      isplitl [HS5]; · iexact HS5
      iintro ⟨H0, H1, H2, H3, H4, H5, ⟨%es0, HS0⟩, ⟨%es1, HS1⟩, HS2, HS3, HS4, HS5⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          isplitl [HS2]
          · iexact HS2
          isplitl [HS3]
          · iexact HS3
          isplitl [HS4]
          · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold sout0_B_0 sout0_B_1; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, HS0, HS1, HS2, HS3, HS4, HS5⟩
      isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexact HS2
    isplitl [HS3]
    · iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_ofR m ρ (fun c => (dats m 0 c).toRForget forgets0) (A_eq m) (run_main m ρ)

/-- THE FRAME: `Cert.quiescent_KernelIdeal`'s statement (Defs.lean) at any `F` — Proof.lean cites it at `Ideal`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.CmpRows.lean ====
/- The prompt's keys and values as the compression's kernel lays them out: 256 groups of sixteen positions, twenty rows apart. -/
module

public import proofs.«01_k».proof.Proof.Gen.CmpIdeal.Frame
public import Idealize.ShloMosaic.Lib.Pipeline.ValueKit

@[expose] public section

set_option maxRecDepth 65536

noncomputable section

namespace Cert.CmpIdeal.Val

open Cert.CmpIdeal Cert.CmpIdeal.Gen Idealize.ShloMosaic Idealize.ShloMosaic.TcCoe Idealize.SL.Sem

variable (c : Dev nD) (arg2 : Memref sig .tc .vmem S1x256x4096 .f32) (harg2 : arg2.IsWhole) (x0 : Vec Ideal S1x256x4096 .f32)

theorem inb_piece (k : Fin 2) (n : Fin 256) : ∀ a, (![k.val, n.val * 20, 0] : Fin 3 → Nat) a + S1x16x128.size a ≤ S2x5120x128.size a := by
  intro a
  match a with
  | ⟨0, _⟩ => show k.val + 1 ≤ 2; omega
  | ⟨1, _⟩ => show n.val * 20 + 16 ≤ 5120; omega
  | ⟨2, _⟩ => show 0 + 128 ≤ 128; omega

theorem inb_load (k : Fin 2) (n : Fin 256) : ∀ a, (![0, 128 * k.val, 128 * (n.val / 8)] : Fin 3 → Nat) a + S1x128x128.size a ≤ S1x256x4096.size a := by
  intro a
  match a with
  | ⟨0, _⟩ => show 0 + 1 ≤ 1; omega
  | ⟨1, _⟩ => show 128 * k.val + 128 ≤ 256; omega
  | ⟨2, _⟩ => show 128 * (n.val / 8) + 128 ≤ 4096; omega

theorem slices_piece (n : Fin 256) : S128x128.Slices ![16 * (n.val % 8), 0] S16x128 := by
  refine ⟨rfl, fun a => ?_⟩
  match a with
  | ⟨0, _⟩ => show 16 * (n.val % 8) + 16 ≤ 128; omega
  | ⟨1, _⟩ => show 0 + 128 ≤ 128; omega

/-- The rows of group `n`, as the kernel turns them: the sixteen positions of the group, channel by channel. -/
def rowsOf (k : Fin 2) (n : Fin 256) : FVec Ideal S1x16x128 .f32 :=
  shapeCast S1x16x128 (extractStridedSlice S16x128 ![16 * (n.val % 8), 0]
    (k0_pay635 (View.readAt (Elt Ideal) arg2.view (Rect.unit (s := S1x256x4096) ![0, 128 * k.val, 128 * (n.val / 8)] S1x128x128.size (inb_load k n)).toLoadRect (harg2.unread x0)))
    (slices_piece n)) shapeCasts_S16x128_S1x16x128

/-- The piece that stores group `n`. -/
def piece (k : Fin 2) (n : Fin 256) : View.Piece (Elt Ideal) S2x5120x128 .f32 :=
  ⟨Rect.unit (s := S2x5120x128) ![k.val, n.val * 20, 0] S1x16x128.size (inb_piece k n), rowsOf arg2 harg2 x0 k n⟩

/-- The pieces of the groups below `n`, the last one first. -/
def pieces (k : Fin 2) (acc : List (View.Piece (Elt Ideal) S2x5120x128 .f32)) (n : Nat) : List (View.Piece (Elt Ideal) S2x5120x128 .f32) :=
  Nat.rec acc (fun n ih => piece arg2 harg2 x0 k (Fin.ofNat 256 n) :: ih) n

theorem keys_stored : kernelRun0_A.sl.HS1_256 (F := Ideal) c arg2 harg2 x0 = pieces arg2 harg2 x0 0 [] 256 := by
  unfold kernelRun0_A.sl.HS1_256
  rfl

theorem values_stored : kernelRun0_A.sl.HS1_512 (F := Ideal) c arg2 harg2 x0 = pieces arg2 harg2 x0 1 (pieces arg2 harg2 x0 0 [] 256) 256 := by
  unfold kernelRun0_A.sl.HS1_512
  rfl

/-- What the scratch holds: the channel `c` of half `k` at the position that row `p` stands for. -/
def held (y : S2x5120x128.Idx) : EReal :=
  x0 (ix3 0 ⟨128 * (y 0).val + (y 2).val, by have : (y 0).val < 2 := (y 0).isLt; have : (y 2).val < 128 := (y 2).isLt; omega⟩
    (Fin.ofNat 4096 (16 * ((y 1).val / 20) + (y 1).val % 20)))

theorem rows_ix (k : Fin 2) (n : Fin 256) (s : Fin 16) (l : Fin 128) :
    rowsOf arg2 harg2 x0 k n (ix3 0 s l) = x0 (ix3 0 ⟨128 * k.val + l.val, by omega⟩ ⟨16 * n.val + s.val, by omega⟩) := by
  unfold rowsOf k0_pay635
  pointwise
  refine (congrFun (harg2.read_unread x0) _).trans (congrArg x0 (funext fun a => Fin.ext ?_))
  match a with
  | ⟨0, _⟩ => show 0 + 1 * 0 = 0; rfl
  | ⟨1, _⟩ => show 128 * k.val + 1 * l.val = 128 * k.val + l.val; omega
  | ⟨2, _⟩ => show 128 * (n.val / 8) + 1 * (16 * (n.val % 8) + s.val) = 16 * n.val + s.val; omega

theorem rows_held (k : Fin 2) (n : Fin 256) (y : S1x16x128.Idx) :
    rowsOf arg2 harg2 x0 k n y = held x0 ((piece arg2 harg2 x0 k n).1.emb y) := by
  idx_vars y
  obtain rfl : y0 = 0 := Subsingleton.elim _ _
  have e0 : ((piece arg2 harg2 x0 k n).1.emb (ix3 0 y1 y2) 0).val = k.val := rfl
  have e1 : ((piece arg2 harg2 x0 k n).1.emb (ix3 0 y1 y2) 1).val = n.val * 20 + 1 * y1.val := rfl
  have e2 : ((piece arg2 harg2 x0 k n).1.emb (ix3 0 y1 y2) 2).val = 0 + 1 * y2.val := rfl
  rw [rows_ix]
  unfold held
  refine congrArg x0 (congrArg₂ (ix3 0) (Fin.ext ?_) (Fin.ext ?_))
  · show 128 * k.val + y2.val = 128 * _ + _
    rw [e0, e2]; omega
  · show 16 * n.val + y1.val = (16 * (_ / 20) + _ % 20) % 4096
    rw [e1]; omega

theorem pieces_held (k : Fin 2) (acc : List (View.Piece (Elt Ideal) S2x5120x128 .f32)) (h : ∀ p ∈ acc, ∀ y, p.2 y = held x0 (p.1.emb y)) (n : Nat) :
    ∀ p ∈ pieces arg2 harg2 x0 k acc n, ∀ y, p.2 y = held x0 (p.1.emb y) := by
  induction n with
  | zero => exact h
  | succ n ih =>
    intro p hp
    rcases List.mem_cons.1 hp with rfl | hp
    · exact rows_held arg2 harg2 x0 k _
    · exact ih p hp

theorem mem_pieces (k : Fin 2) (acc : List (View.Piece (Elt Ideal) S2x5120x128 .f32)) (n i : Nat) (hi : i < n) :
    piece arg2 harg2 x0 k (Fin.ofNat 256 i) ∈ pieces arg2 harg2 x0 k acc n := by
  induction n with
  | zero => omega
  | succ n ih =>
    by_cases h : i = n
    · subst h; exact List.mem_cons_self ..
    · exact List.mem_cons_of_mem _ (ih (by omega))

/-- A read of the rows `s`, `s + 20`, … of half `k`, after all its groups are stored. -/
theorem read_rows (v : View sig .tc .vmem S2x5120x128 .f32) (k : Fin 2) (s : Fin 16) (acc : List (View.Piece (Elt Ideal) S2x5120x128 .f32))
    (h : ∀ p ∈ acc, ∀ y, p.2 y = held x0 (p.1.emb y)) (hin) (n : Fin 256) (l : Fin 128) :
    v.readCov (pieces arg2 harg2 x0 k acc 256) ({ off := ![k.val, s.val, 0], size := S1x256x128.size, stride := ![1, 20, 1], inb := hin } : LoadRect S2x5120x128) (ix3 0 n l)
      = x0 (ix3 0 ⟨128 * k.val + l.val, by omega⟩ ⟨16 * n.val + s.val, by omega⟩) := by
  rw [View.readCov_eq_canon']
  set y := ({ off := ![k.val, s.val, 0], size := S1x256x128.size, stride := ![1, 20, 1], inb := hin } : LoadRect S2x5120x128).idx (ix3 0 n l) with hy
  have e0 : (y 0).val = k.val := rfl
  have e1 : (y 1).val = s.val + 20 * n.val := rfl
  have e2 : (y 2).val = 0 + 1 * l.val := rfl
  show View.canon _ y = _
  rw [View.canon_apply_of_pieces (held x0) _ (pieces_held arg2 harg2 x0 k acc h 256) y ⟨_, mem_pieces arg2 harg2 x0 k acc 256 n.val n.isLt, ?_⟩]
  · unfold held
    refine congrArg x0 (congrArg₂ (ix3 0) (Fin.ext ?_) (Fin.ext ?_))
    · show 128 * (y 0).val + (y 2).val = _
      rw [e0, e2]; show _ = 128 * k.val + l.val; omega
    · show (16 * ((y 1).val / 20) + (y 1).val % 20) % 4096 = 16 * n.val + s.val
      rw [e1]; omega
  · rw [LoadRect.mem_set]
    have hn : (Fin.ofNat 256 n.val).val = n.val := Nat.mod_eq_of_lt n.isLt
    intro a
    match a with
    | ⟨0, _⟩ => exact ⟨0, Nat.one_pos, show (y 0).val = k.val + 1 * 0 by omega⟩
    | ⟨1, _⟩ => exact ⟨s.val, s.isLt, show (y 1).val = (Fin.ofNat 256 n.val).val * 20 + 1 * s.val by rw [hn]; omega⟩
    | ⟨2, _⟩ => exact ⟨l.val, l.isLt, show (y 2).val = 0 + 1 * l.val by omega⟩

theorem nil_held : ∀ p ∈ ([] : List (View.Piece (Elt Ideal) S2x5120x128 .f32)), ∀ y, p.2 y = held x0 (p.1.emb y) := fun p hp => absurd hp List.not_mem_nil

theorem read_keys (arg9 : Memref sig .tc .vmem S2x5120x128 .f32) (s : Fin 16) (hin) (n : Fin 256) (l : Fin 128) :
    arg9.view.readCov (kernelRun0_A.sl.HS1_256 (F := Ideal) c arg2 harg2 x0) ({ off := ![0, s.val, 0], size := S1x256x128.size, stride := ![1, 20, 1], inb := hin } : LoadRect S2x5120x128) (ix3 0 n l)
      = x0 (ix3 0 ⟨l.val, by omega⟩ ⟨16 * n.val + s.val, by omega⟩) := by
  rw [keys_stored]
  refine (read_rows arg2 harg2 x0 arg9.view 0 s [] (nil_held x0) hin n l).trans (congrArg x0 (congrArg₂ (ix3 0) (Fin.ext ?_) rfl))
  show 128 * 0 + l.val = l.val
  omega

theorem read_values (arg9 : Memref sig .tc .vmem S2x5120x128 .f32) (s : Fin 16) (hin) (n : Fin 256) (l : Fin 128) :
    arg9.view.readCov (kernelRun0_A.sl.HS1_512 (F := Ideal) c arg2 harg2 x0) ({ off := ![1, s.val, 0], size := S1x256x128.size, stride := ![1, 20, 1], inb := hin } : LoadRect S2x5120x128) (ix3 0 n l)
      = x0 (ix3 0 ⟨128 + l.val, by omega⟩ ⟨16 * n.val + s.val, by omega⟩) := by
  rw [values_stored]
  exact read_rows arg2 harg2 x0 arg9.view 1 s _ (pieces_held arg2 harg2 x0 0 [] (nil_held x0) 256) hin n l

end Cert.CmpIdeal.Val

end
-- ==== Proof.Nrm.lean ====
/- Scalar mathematics shared by the value proofs, as functions of extended reals: the root-mean-square norm,
   gelu, a projection of a normed row, and the gated feed-forward row with its causal convolution. -/
module

public import Idealize.ShloMosaic.Lib.Pointwise

@[expose] public section

noncomputable section

namespace Cert.Layer

open Idealize.ShloMosaic

/-- The root-mean-square norm of the row `x` with the gain `g`, at the coordinate `k`. -/
def nrm {n : ℕ} (cnt : EReal) (x g : Fin n → EReal) (k : Fin n) : EReal :=
  x k * Ideal.rsqrt (Ideal.div (∑ l : Fin n, x l * x l) cnt + Ideal.ofBits .f32 0x358637BD#32) * g k

/-- The row length 1024, as the programs write it. -/
def c1024 : EReal := Ideal.ofBits .f32 0x44800000#32

/-- gelu by its hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- The normed row times one column of a matrix. -/
def proj (x g w : Fin 1024 → EReal) : EReal := ∑ k : Fin 1024, nrm c1024 x g k * w k

/-- The sequence `a` with `d` zeros before it. -/
def lag (d : ℕ) (a : ℕ → EReal) (s : ℕ) : EReal := if s < d then 0 else a (s - d)

theorem lag_eight (a : ℕ → EReal) (s : ℕ) : lag 8 a (s + 6) = lag 2 a s := by
  unfold lag
  by_cases h : s < 2
  · rw [if_pos h, if_pos (by omega)]
  · rw [if_neg h, if_neg (by omega)]; congr 1

/-- The three-tap causal convolution of `a` at `t`. -/
def conv (a : ℕ → EReal) (b w0 w1 w2 : EReal) (t : ℕ) : EReal :=
  b + lag 2 a t * w0 + lag 2 a (t + 1) * w1 + lag 2 a (t + 2) * w2

/-- One hidden unit of the feed-forward part at the row `t` of the sequence `xs`. -/
def hid (xs : ℕ → Fin 1024 → EReal) (g wa wv : Fin 1024 → EReal) (b w0 w1 w2 : EReal) (t : ℕ) : EReal :=
  gelu (conv (fun s => proj (xs s) g wa) b w0 w1 w2 t) * proj (xs t) g wv

/-- The feed-forward row: hidden units, the product with the second matrix, the residual and the last norm. -/
def ffnRow (xs : ℕ → Fin 1024 → EReal) (g : Fin 1024 → EReal) (wup : Fin 1024 → Fin 5632 → EReal) (cw : Fin 3 → Fin 2816 → EReal)
    (cb : Fin 2816 → EReal) (wd : Fin 2816 → Fin 1024 → EReal) (gf : Fin 1024 → EReal) (t : ℕ) (n : Fin 1024) : EReal :=
  nrm c1024 (fun n => xs t n + ∑ c : Fin 2816,
    hid xs g (fun k => wup k ⟨c.val, by omega⟩) (fun k => wup k ⟨2816 + c.val, by omega⟩) (cb c) (cw 0 c) (cw 1 c) (cw 2 c) t * wd c n) gf n

/-- The rows of batch member `b`, as a sequence. -/
def seqOf (x : (⟨3, ![4, 4096, 1024]⟩ : Shape).Idx → EReal) (b : Fin 4) (t : ℕ) (k : Fin 1024) : EReal :=
  if h : t < 4096 then x (ix3 b ⟨t, h⟩ k) else 0

/-- The feed-forward result as one function of the arguments. -/
def ffnOut (x0 : (⟨3, ![4, 4096, 1024]⟩ : Shape).Idx → EReal) (x1 : (⟨2, ![1, 1024]⟩ : Shape).Idx → EReal) (x2 : (⟨3, ![1, 1024, 5632]⟩ : Shape).Idx → EReal)
    (x3 : (⟨3, ![1, 3, 2816]⟩ : Shape).Idx → EReal) (x4 : (⟨2, ![1, 2816]⟩ : Shape).Idx → EReal) (x5 : (⟨3, ![1, 2816, 1024]⟩ : Shape).Idx → EReal)
    (x6 : (⟨1, ![1024]⟩ : Shape).Idx → EReal) (i : (⟨3, ![4, 4096, 1024]⟩ : Shape).Idx) : EReal :=
  ffnRow (seqOf x0 (i 0)) (fun k => x1 (ix2 0 k)) (fun k c => x2 (ix3 0 k c)) (fun j c => x3 (ix3 0 j c)) (fun c => x4 (ix2 0 c))
    (fun c n => x5 (ix3 0 c n)) (fun n => x6 (ix1 n)) (i 1).val (i 2)

/-- The convolution's last two rows as one function of the arguments. -/
def ffnTail (x0 : (⟨3, ![4, 4096, 1024]⟩ : Shape).Idx → EReal) (x1 : (⟨2, ![1, 1024]⟩ : Shape).Idx → EReal) (x2 : (⟨3, ![1, 1024, 5632]⟩ : Shape).Idx → EReal)
    (b : Fin 4) (r : Fin 2) (c : Fin 2816) : EReal :=
  lag 2 (fun s => proj (seqOf x0 b s) (fun k => x1 (ix2 0 k)) (fun k => x2 (ix3 0 k ⟨c.val, by omega⟩))) (4096 + r.val)

end Cert.Layer

end
-- ==== Proof.CmpMath.lean ====
/- The compressed rows as functions of extended reals: a weighted sum over sixteen positions, a hidden unit over two neighbours, a row. -/
module

public import proofs.«01_k».proof.Proof.Nrm

@[expose] public section

noncomputable section

namespace Cert.Layer

open Idealize.ShloMosaic

variable (kv : (⟨3, ![4, 256, 4096]⟩ : Shape).Idx → EReal) (pe : (⟨4, ![1, 2, 32, 64]⟩ : Shape).Idx → EReal) (w1 : (⟨4, ![1, 2, 2048, 128]⟩ : Shape).Idx → EReal)
  (b1 : (⟨3, ![1, 2, 128]⟩ : Shape).Idx → EReal) (w2 : (⟨4, ![1, 2, 128, 64]⟩ : Shape).Idx → EReal)

/-- The sixteen positions of group `n` of head `g`, with their places added, times half `r` of the first matrix. -/
def half (k r : Fin 2) (b : Fin 4) (g : Fin 2) (n : Fin 256) (h : Fin 128) : EReal :=
  ∑ d : Fin 64, ∑ s : Fin 16, (kv (ix3 b ⟨128 * k.val + 64 * g.val + d.val, by omega⟩ ⟨16 * n.val + s.val, by omega⟩) + pe (ix4 0 k ⟨16 * r.val + s.val, by omega⟩ d))
    * w1 (ix4 0 k ⟨1024 * r.val + 64 * s.val + d.val, by omega⟩ h)

/-- A hidden unit: the group before, if there is one, and the group itself. -/
def unit (k : Fin 2) (b : Fin 4) (g : Fin 2) (n : Fin 256) (h : Fin 128) : EReal :=
  b1 (ix3 0 k h) + (if n.val = 0 then 0 else half kv pe w1 k 0 b g ⟨n.val - 1, by omega⟩ h) + half kv pe w1 k 1 b g n h

/-- Coordinate `d` of the compressed row `n` of head `g`. -/
def cmpRow (k : Fin 2) (b : Fin 4) (g : Fin 2) (n : Fin 256) (d : Fin 64) : EReal :=
  ∑ h : Fin 128, gelu (unit kv pe w1 b1 k b g n h) * w2 (ix4 0 k h d)

/-- The compressed keys and values as one function of the arguments. -/
def cmpOut : (⟨3, ![4, 256, 256]⟩ : Shape).Idx → EReal := fun i =>
  cmpRow kv pe w1 b1 w2 ⟨(i 2).val / 128, by have : (i 2).val < 256 := (i 2).isLt; omega⟩ (i 0) ⟨(i 2).val / 64 % 2, by omega⟩ (i 1) ⟨(i 2).val % 64, by omega⟩

theorem sum_split {a b : ℕ} (f : Fin (a * b) → EReal) : ∑ j, f j = ∑ i : Fin a, ∑ l : Fin b, f (finProdFinEquiv (i, l)) := by
  rw [← finProdFinEquiv.sum_comp, Fintype.sum_prod_type]

/-- A sum over 2048 columns, by position, head and coordinate. -/
theorem sum_2048 (f : Fin 2048 → EReal) :
    ∑ j, f j = ∑ d : Fin 64, ∑ s : Fin 16, ∑ g : Fin 2, f ⟨128 * s.val + (64 * g.val + d.val), by omega⟩ := by
  have h1 : ∑ j, f j = ∑ s : Fin 16, ∑ l : Fin 128, f ⟨128 * s.val + l.val, by omega⟩ := by
    refine (sum_split (a := 16) (b := 128) f).trans (Finset.sum_congr rfl fun s _ => Finset.sum_congr rfl fun l _ => congrArg f (Fin.ext ?_))
    show l.val + 128 * s.val = 128 * s.val + l.val
    omega
  have h2 : ∀ F : Fin 128 → EReal, ∑ l, F l = ∑ d : Fin 64, ∑ g : Fin 2, F ⟨64 * g.val + d.val, by omega⟩ := fun F => by
    rw [Finset.sum_comm]
    refine (sum_split (a := 2) (b := 64) F).trans (Finset.sum_congr rfl fun s _ => Finset.sum_congr rfl fun l _ => congrArg F (Fin.ext ?_))
    show l.val + 64 * s.val = 64 * s.val + l.val
    omega
  rw [h1, Finset.sum_congr rfl fun s _ => h2 _]
  rw [Finset.sum_comm]

/-- A sum over 256 hidden columns, by head and unit. -/
theorem sum_256 (f : Fin 256 → EReal) : ∑ j, f j = ∑ h : Fin 128, ∑ g : Fin 2, f ⟨128 * g.val + h.val, by omega⟩ := by
  rw [Finset.sum_comm]
  refine (sum_split (a := 2) (b := 128) f).trans (Finset.sum_congr rfl fun s _ => Finset.sum_congr rfl fun l _ => congrArg f (Fin.ext ?_))
  show l.val + 128 * s.val = 128 * s.val + l.val
  omega

/-- Of two heads, one. -/
theorem sum_head (f : Fin 2 → EReal) (g : Fin 2) : ∑ g' : Fin 2, f g' * (if g' = g then 1 else 0) = f g := by
  simp only [mul_ite, mul_one, mul_zero, Finset.sum_ite_eq', Finset.mem_univ, if_true]

end Cert.Layer

end
-- ==== Proof.CmpKer.lean ====
/- What the compression's kernel computes at a grid point, read at an index. -/
module

public import proofs.«01_k».proof.Proof.CmpRows
public import proofs.«01_k».proof.Proof.CmpMath

@[expose] public section

set_option maxRecDepth 65536

noncomputable section

namespace Cert.CmpIdeal.Val

open Cert.CmpIdeal Cert.CmpIdeal.Gen Idealize.ShloMosaic Idealize.ShloMosaic.TcCoe Idealize.SL.Sem Cert.Layer

theorem cast_ix (v : Vec Ideal S1x256x128 .f32) (n : Fin 256) (l : Fin 128) : (shapeCast S256x128 v shapeCasts_S1x256x128_S256x128 : FVec Ideal S256x128 .f32) (ix2 n l) = v (ix3 0 n l) := by
  pointwise

theorem off_axis (n : Fin 256) (l : Fin 128) (j : Fin 2048) : ∀ b : Fin 2, b ≠ 1 → ((ix2 n l : S256x128.Idx) b).val = ((ix2 n j : S256x2048.Idx) b).val := by
  intro b hb
  match b with
  | ⟨0, _⟩ => rfl
  | ⟨1, _⟩ => exact absurd rfl hb

/-- Sixteen matrices beside each other. -/
theorem wide (f : Fin 16 → FVec Ideal S256x128 .f32)
    (h : Shape.Concatenates ((List.ofFn fun m : Fin 16 => (⟨S256x128, f m⟩ : (s : Shape) × (s.Idx → EReal))).map (·.1)) S256x2048 1) (n : Fin 256) (s : Fin 16) (l : Fin 128) :
    concatenate S256x2048 1 (List.ofFn fun m : Fin 16 => (⟨S256x128, f m⟩ : (s : Shape) × (s.Idx → EReal))) h (ix2 n ⟨128 * s.val + l.val, by omega⟩) = f s (ix2 n l) :=
  concatenate_ofFn_apply 1 f h rfl 128 rfl _ s (show (128 * s.val + l.val) / 128 = s.val by omega) (ix2 n l)
    (show l.val = (128 * s.val + l.val) % 128 by omega) (off_axis n l _)

theorem pay660_apply (v0 v1 v2 v3 v4 v5 v6 v7 v8 v9 v10 v11 v12 v13 v14 : FVec Ideal S256x128 .f32) (v15 : Vec Ideal S1x256x128 .f32) (n : Fin 256) (X : Fin 16 → Fin 128 → EReal)
    (h0 : ∀ l, v0 (ix2 n l) = X 0 l)
    (h1 : ∀ l, v1 (ix2 n l) = X 1 l)
    (h2 : ∀ l, v2 (ix2 n l) = X 2 l)
    (h3 : ∀ l, v3 (ix2 n l) = X 3 l)
    (h4 : ∀ l, v4 (ix2 n l) = X 4 l)
    (h5 : ∀ l, v5 (ix2 n l) = X 5 l)
    (h6 : ∀ l, v6 (ix2 n l) = X 6 l)
    (h7 : ∀ l, v7 (ix2 n l) = X 7 l)
    (h8 : ∀ l, v8 (ix2 n l) = X 8 l)
    (h9 : ∀ l, v9 (ix2 n l) = X 9 l)
    (h10 : ∀ l, v10 (ix2 n l) = X 10 l)
    (h11 : ∀ l, v11 (ix2 n l) = X 11 l)
    (h12 : ∀ l, v12 (ix2 n l) = X 12 l)
    (h13 : ∀ l, v13 (ix2 n l) = X 13 l)
    (h14 : ∀ l, v14 (ix2 n l) = X 14 l)
    (h15 : ∀ l, v15 (ix3 0 n l) = X 15 l) (s : Fin 16) (l : Fin 128) :
    k0_pay660 v0 v1 v2 v3 v4 v5 v6 v7 v8 v9 v10 v11 v12 v13 v14 v15 (ix2 n ⟨128 * s.val + l.val, by omega⟩) = X s l := by
  refine (wide (![v0, v1, v2, v3, v4, v5, v6, v7, v8, v9, v10, v11, v12, v13, v14, shapeCast S256x128 v15 shapeCasts_S1x256x128_S256x128] : Fin 16 → FVec Ideal S256x128 .f32) concatenates_S256x128_S256x128_S256x128_S256x128_S256x128_S256x128_S256x128_S256x128_S256x128_S256x128_S256x128_S256x128_S256x128_S256x128_S256x128_S256x128_S256x2048_d1 n s l).trans ?_
  match s with
  | ⟨0, _⟩ => exact h0 l
  | ⟨1, _⟩ => exact h1 l
  | ⟨2, _⟩ => exact h2 l
  | ⟨3, _⟩ => exact h3 l
  | ⟨4, _⟩ => exact h4 l
  | ⟨5, _⟩ => exact h5 l
  | ⟨6, _⟩ => exact h6 l
  | ⟨7, _⟩ => exact h7 l
  | ⟨8, _⟩ => exact h8 l
  | ⟨9, _⟩ => exact h9 l
  | ⟨10, _⟩ => exact h10 l
  | ⟨11, _⟩ => exact h11 l
  | ⟨12, _⟩ => exact h12 l
  | ⟨13, _⟩ => exact h13 l
  | ⟨14, _⟩ => exact h14 l
  | ⟨15, _⟩ => exact (cast_ix v15 n l).trans (h15 l)
  | ⟨_ + 16, h⟩ => exact absurd h (by omega)

theorem pay319_apply (v0 v1 v2 v3 v4 v5 : FVec Ideal S256x128 .f32) (v6 v7 v8 v9 v10 v11 v12 v13 v14 v15 : Vec Ideal S1x256x128 .f32) (n : Fin 256) (X : Fin 16 → Fin 128 → EReal)
    (h0 : ∀ l, v0 (ix2 n l) = X 0 l)
    (h1 : ∀ l, v1 (ix2 n l) = X 1 l)
    (h2 : ∀ l, v2 (ix2 n l) = X 2 l)
    (h3 : ∀ l, v3 (ix2 n l) = X 3 l)
    (h4 : ∀ l, v4 (ix2 n l) = X 4 l)
    (h5 : ∀ l, v5 (ix2 n l) = X 5 l)
    (h6 : ∀ l, v6 (ix3 0 n l) = X 6 l)
    (h7 : ∀ l, v7 (ix3 0 n l) = X 7 l)
    (h8 : ∀ l, v8 (ix3 0 n l) = X 8 l)
    (h9 : ∀ l, v9 (ix3 0 n l) = X 9 l)
    (h10 : ∀ l, v10 (ix3 0 n l) = X 10 l)
    (h11 : ∀ l, v11 (ix3 0 n l) = X 11 l)
    (h12 : ∀ l, v12 (ix3 0 n l) = X 12 l)
    (h13 : ∀ l, v13 (ix3 0 n l) = X 13 l)
    (h14 : ∀ l, v14 (ix3 0 n l) = X 14 l)
    (h15 : ∀ l, v15 (ix3 0 n l) = X 15 l) (s : Fin 16) (l : Fin 128) :
    k0_pay319 v0 v1 v2 v3 v4 v5 v6 v7 v8 v9 v10 v11 v12 v13 v14 v15 (ix2 n ⟨128 * s.val + l.val, by omega⟩) = X s l := by
  refine (wide (![v0, v1, v2, v3, v4, v5, shapeCast S256x128 v6 shapeCasts_S1x256x128_S256x128, shapeCast S256x128 v7 shapeCasts_S1x256x128_S256x128, shapeCast S256x128 v8 shapeCasts_S1x256x128_S256x128, shapeCast S256x128 v9 shapeCasts_S1x256x128_S256x128, shapeCast S256x128 v10 shapeCasts_S1x256x128_S256x128, shapeCast S256x128 v11 shapeCasts_S1x256x128_S256x128, shapeCast S256x128 v12 shapeCasts_S1x256x128_S256x128, shapeCast S256x128 v13 shapeCasts_S1x256x128_S256x128, shapeCast S256x128 v14 shapeCasts_S1x256x128_S256x128, shapeCast S256x128 v15 shapeCasts_S1x256x128_S256x128] : Fin 16 → FVec Ideal S256x128 .f32) concatenates_S256x128_S256x128_S256x128_S256x128_S256x128_S256x128_S256x128_S256x128_S256x128_S256x128_S256x128_S256x128_S256x128_S256x128_S256x128_S256x128_S256x2048_d1 n s l).trans ?_
  match s with
  | ⟨0, _⟩ => exact h0 l
  | ⟨1, _⟩ => exact h1 l
  | ⟨2, _⟩ => exact h2 l
  | ⟨3, _⟩ => exact h3 l
  | ⟨4, _⟩ => exact h4 l
  | ⟨5, _⟩ => exact h5 l
  | ⟨6, _⟩ => exact (cast_ix v6 n l).trans (h6 l)
  | ⟨7, _⟩ => exact (cast_ix v7 n l).trans (h7 l)
  | ⟨8, _⟩ => exact (cast_ix v8 n l).trans (h8 l)
  | ⟨9, _⟩ => exact (cast_ix v9 n l).trans (h9 l)
  | ⟨10, _⟩ => exact (cast_ix v10 n l).trans (h10 l)
  | ⟨11, _⟩ => exact (cast_ix v11 n l).trans (h11 l)
  | ⟨12, _⟩ => exact (cast_ix v12 n l).trans (h12 l)
  | ⟨13, _⟩ => exact (cast_ix v13 n l).trans (h13 l)
  | ⟨14, _⟩ => exact (cast_ix v14 n l).trans (h14 l)
  | ⟨15, _⟩ => exact (cast_ix v15 n l).trans (h15 l)
  | ⟨_ + 16, h⟩ => exact absurd h (by omega)

/-- The inner sum of the gelu's argument: one product of the rows with their places and half of the first matrix. -/
def part (X : Vec Ideal S256x2048 .f32) (P : Vec Ideal S1x1x1x2048 .f32) (W : Vec Ideal S1x2048x256 .bf16) (n c : Fin 256) : EReal :=
  ∑ j : Fin 2048, (X (ix2 n j) + P (ix4 0 0 0 j)) * W (ix3 0 j c)

def hidK (X : Vec Ideal S256x2048 .f32) (P Q : Vec Ideal S1x1x1x2048 .f32) (W Y : Vec Ideal S1x2048x256 .bf16) (B C : Vec Ideal S1x1x256 .f32) (n c : Fin 256) : EReal :=
  B (ix3 0 0 c) + (if n.val = 0 then C (ix3 0 0 c) else part X P W ⟨n.val - 1, by omega⟩ c) + part X Q Y n c

theorem pay323_apply (X : FVec Ideal S256x2048 .f32) (Z : FVec Ideal S256x2048 .bf16) (P Q : Vec Ideal S1x1x1x2048 .f32) (W Y : Vec Ideal S1x2048x256 .bf16) (B C : Vec Ideal S1x1x256 .f32)
    (hZ : ∀ n j, Z (ix2 n j) = X (ix2 n j) + P (ix4 0 0 0 j)) (n c : Fin 256) :
    k0_pay323 X Z W Q Y C B (ix2 n c) = hidK X P Q W Y B C n c := by
  unfold k0_pay323 k0_pay321 hidK part
  pointwise
  simp only [hZ]
  by_cases h0 : n.val = 0
  · have hs : IntOp.cmpi .eq (BitVec.ofNat 32 n.val) 0#32 = 1#1 := by
      rw [h0]; rfl
    rw [if_pos h0, hs]
    rfl
  · have hs : IntOp.cmpi .eq (BitVec.ofNat 32 n.val) 0#32 = 0#1 := by
      revert h0
      revert n
      decide +kernel
    have hm : (n.val + 256 - 1) % 256 = n.val - 1 := by omega
    rw [if_neg h0, hs]
    simp only [hm]
    rfl

theorem pay325_apply (H G : FVec Ideal S256x256 .f32) (V : Vec Ideal S1x256x128 .bf16) (n : Fin 256) (d : Fin 128) :
    k0_pay325 H G V (ix3 0 n d) = ∑ c : Fin 256, H (ix2 n c) * (Ideal.ofBits .f32 0x3F000000#32 * (1 + Ideal.tanh (G (ix2 n c)))) * V (ix3 0 c d) := by
  unfold k0_pay325
  pointwise

theorem pay324_apply (X : FVec Ideal S256x2048 .f32) (Z : FVec Ideal S256x2048 .bf16) (Q : Vec Ideal S1x1x1x2048 .f32) (W Y : Vec Ideal S1x2048x256 .bf16) (B C : Vec Ideal S1x1x256 .f32) (n c : Fin 256) :
    k0_pay324 X Z W Q Y C B (ix2 n c) = Ideal.ofBits .f32 0x3F4C422A#32 * (k0_pay323 X Z W Q Y C B (ix2 n c) + Ideal.ofBits .f32 0x3D372713#32 * (k0_pay323 X Z W Q Y C B (ix2 n c)
      * (k0_pay323 X Z W Q Y C B (ix2 n c) * k0_pay323 X Z W Q Y C B (ix2 n c)))) := by
  unfold k0_pay324
  pointwise

theorem pay1_apply (H G : FVec Ideal S256x256 .f32) (B : Vec Ideal S1x1x256 .f32) (V : Vec Ideal S1x256x128 .bf16) (n : Fin 256) (d : Fin 128) :
    k0_pay1 H G B V (ix3 0 n d) = ∑ c : Fin 256, gelu (B (ix3 0 0 c) + G (ix2 n c) + H (ix2 n c)) * V (ix3 0 c d) := by
  unfold k0_pay1 gelu
  pointwise

section run

variable (c : Dev nD) (arg2 : Memref sig .tc .vmem S1x256x4096 .f32) (harg2 : arg2.IsWhole) (arg3 : Memref sig .tc .vmem S2x2x1x2048 .f32) (harg3 : arg3.IsWhole)
  (arg4 : Memref sig .tc .vmem S2x2048x512 .bf16) (harg4 : arg4.IsWhole)
  (arg8 : Memref sig .tc .vmem S2x8x256 .f32) (arg9 : Memref sig .tc .vmem S2x5120x128 .f32) (x0 : Vec Ideal S1x256x4096 .f32) (x1 : Vec Ideal S2x2x1x2048 .f32) (x2 : Vec Ideal S2x2048x512 .bf16)

theorem keys_ix (n : Fin 256) (s : Fin 16) (l : Fin 128) :
    kernelRun0_A.sl.r_2 (F := Ideal) c arg2 harg2 arg9 x0 (ix2 n ⟨128 * s.val + l.val, by omega⟩) = x0 (ix3 0 ⟨l.val, by omega⟩ ⟨16 * n.val + s.val, by omega⟩) := by
  unfold kernelRun0_A.sl.r_2
  exact pay319_apply _ _ _ _ _ _ _ _ _ _ _ _ _ _ _ _ n (fun s l => x0 (ix3 0 ⟨l.val, by omega⟩ ⟨16 * n.val + s.val, by omega⟩))
    (fun l => (cast_ix _ n l).trans (read_keys c arg2 harg2 x0 arg9 0 _ n l))
    (fun l => (cast_ix _ n l).trans (read_keys c arg2 harg2 x0 arg9 1 _ n l))
    (fun l => (cast_ix _ n l).trans (read_keys c arg2 harg2 x0 arg9 2 _ n l))
    (fun l => (cast_ix _ n l).trans (read_keys c arg2 harg2 x0 arg9 3 _ n l))
    (fun l => (cast_ix _ n l).trans (read_keys c arg2 harg2 x0 arg9 4 _ n l))
    (fun l => (cast_ix _ n l).trans (read_keys c arg2 harg2 x0 arg9 5 _ n l))
    (fun l => (read_keys c arg2 harg2 x0 arg9 6 _ n l))
    (fun l => (read_keys c arg2 harg2 x0 arg9 7 _ n l))
    (fun l => (read_keys c arg2 harg2 x0 arg9 8 _ n l))
    (fun l => (read_keys c arg2 harg2 x0 arg9 9 _ n l))
    (fun l => (read_keys c arg2 harg2 x0 arg9 10 _ n l))
    (fun l => (read_keys c arg2 harg2 x0 arg9 11 _ n l))
    (fun l => (read_keys c arg2 harg2 x0 arg9 12 _ n l))
    (fun l => (read_keys c arg2 harg2 x0 arg9 13 _ n l))
    (fun l => (read_keys c arg2 harg2 x0 arg9 14 _ n l))
    (fun l => (read_keys c arg2 harg2 x0 arg9 15 _ n l)) s l

theorem values_ix (n : Fin 256) (s : Fin 16) (l : Fin 128) :
    k0_pay660 (kernelRun0_A.sl.r_40 c arg2 harg2 arg9 x0) (kernelRun0_A.sl.r_41 c arg2 harg2 arg9 x0) (kernelRun0_A.sl.r_42 c arg2 harg2 arg9 x0) (kernelRun0_A.sl.r_43 c arg2 harg2 arg9 x0) (kernelRun0_A.sl.r_44 c arg2 harg2 arg9 x0) (kernelRun0_A.sl.r_45 c arg2 harg2 arg9 x0) (kernelRun0_A.sl.r_46 c arg2 harg2 arg9 x0) (kernelRun0_A.sl.r_47 c arg2 harg2 arg9 x0) (kernelRun0_A.sl.r_48 c arg2 harg2 arg9 x0) (kernelRun0_A.sl.r_49 c arg2 harg2 arg9 x0) (kernelRun0_A.sl.r_50 c arg2 harg2 arg9 x0) (kernelRun0_A.sl.r_51 c arg2 harg2 arg9 x0) (kernelRun0_A.sl.r_52 c arg2 harg2 arg9 x0) (kernelRun0_A.sl.r_53 c arg2 harg2 arg9 x0) (kernelRun0_A.sl.r_54 c arg2 harg2 arg9 x0) (kernelRun0_A.sl.v2360 (F := Ideal) c arg2 harg2 arg9 x0)
      (ix2 n ⟨128 * s.val + l.val, by omega⟩) = x0 (ix3 0 ⟨128 + l.val, by omega⟩ ⟨16 * n.val + s.val, by omega⟩) := by
  exact pay660_apply _ _ _ _ _ _ _ _ _ _ _ _ _ _ _ _ n (fun s l => x0 (ix3 0 ⟨128 + l.val, by omega⟩ ⟨16 * n.val + s.val, by omega⟩))
    (fun l => (cast_ix _ n l).trans (read_values c arg2 harg2 x0 arg9 0 _ n l))
    (fun l => (cast_ix _ n l).trans (read_values c arg2 harg2 x0 arg9 1 _ n l))
    (fun l => (cast_ix _ n l).trans (read_values c arg2 harg2 x0 arg9 2 _ n l))
    (fun l => (cast_ix _ n l).trans (read_values c arg2 harg2 x0 arg9 3 _ n l))
    (fun l => (cast_ix _ n l).trans (read_values c arg2 harg2 x0 arg9 4 _ n l))
    (fun l => (cast_ix _ n l).trans (read_values c arg2 harg2 x0 arg9 5 _ n l))
    (fun l => (cast_ix _ n l).trans (read_values c arg2 harg2 x0 arg9 6 _ n l))
    (fun l => (cast_ix _ n l).trans (read_values c arg2 harg2 x0 arg9 7 _ n l))
    (fun l => (cast_ix _ n l).trans (read_values c arg2 harg2 x0 arg9 8 _ n l))
    (fun l => (cast_ix _ n l).trans (read_values c arg2 harg2 x0 arg9 9 _ n l))
    (fun l => (cast_ix _ n l).trans (read_values c arg2 harg2 x0 arg9 10 _ n l))
    (fun l => (cast_ix _ n l).trans (read_values c arg2 harg2 x0 arg9 11 _ n l))
    (fun l => (cast_ix _ n l).trans (read_values c arg2 harg2 x0 arg9 12 _ n l))
    (fun l => (cast_ix _ n l).trans (read_values c arg2 harg2 x0 arg9 13 _ n l))
    (fun l => (cast_ix _ n l).trans (read_values c arg2 harg2 x0 arg9 14 _ n l))
    (fun l => (read_values c arg2 harg2 x0 arg9 15 _ n l)) s l

theorem carry0 (q : Fin 256) : kernelRun0_A.sl.v1172 (F := Ideal) c arg8 (ix3 0 0 q) = 0 := by
  unfold kernelRun0_A.sl.v1172
  rw [View.readCov_eq_canon']
  unfold kernelRun0_A.sl.HS0_1
  frame_out
  unfold k0_pay2
  pointwise

theorem carry1 (q : Fin 256) : kernelRun0_A.sl.v2379 (F := Ideal) c arg2 harg2 arg3 harg3 arg4 harg4 arg8 arg9 x0 x1 x2 (ix3 0 0 q) = 0 := by
  unfold kernelRun0_A.sl.v2379
  rw [View.readCov_eq_canon']
  unfold kernelRun0_A.sl.HS0_2 kernelRun0_A.sl.HS0_1
  generalize k0_pay322 (F := Ideal) _ _ = w
  frame_out
  rw [View.canon_cons_of_not_mem]
  · frame_out
    unfold k0_pay2
    pointwise
  · rw [LoadRect.mem_set]
    intro h
    obtain ⟨j, hj, e⟩ := h 0
    have hj' : j < 1 := hj
    have e' : 1 + 1 * 0 = 0 + 1 * j := e
    omega

end run

theorem pay662_apply (v0 v1 v2 v3 v4 v5 v6 v7 v8 v9 v10 v11 v12 v13 v14 : FVec Ideal S256x128 .f32) (v15 : Vec Ideal S1x256x128 .f32) (Q : Vec Ideal S1x1x1x2048 .f32) (Y : Vec Ideal S1x2048x256 .bf16) (n c : Fin 256) :
    k0_pay662 v0 v1 v2 v3 v4 v5 v6 v7 v8 v9 v10 v11 v12 v13 v14 v15 Q Y (ix2 n c) = part (k0_pay660 v0 v1 v2 v3 v4 v5 v6 v7 v8 v9 v10 v11 v12 v13 v14 v15) Q Y n c := by
  unfold k0_pay662 part
  pointwise

theorem pay663_apply (v0 v1 v2 v3 v4 v5 v6 v7 v8 v9 v10 v11 v12 v13 v14 : FVec Ideal S256x128 .f32) (v15 : Vec Ideal S1x256x128 .f32) (P : Vec Ideal S1x1x1x2048 .f32) (W : Vec Ideal S1x2048x256 .bf16) (C : Vec Ideal S1x1x256 .f32) (n c : Fin 256) :
    k0_pay663 v0 v1 v2 v3 v4 v5 v6 v7 v8 v9 v10 v11 v12 v13 v14 v15 P W C (ix2 n c) = if n.val = 0 then C (ix3 0 0 c) else part (k0_pay660 v0 v1 v2 v3 v4 v5 v6 v7 v8 v9 v10 v11 v12 v13 v14 v15) P W ⟨n.val - 1, by omega⟩ c := by
  unfold k0_pay663 k0_pay661 part
  pointwise
  by_cases h0 : n.val = 0
  · have hs : IntOp.cmpi .eq (BitVec.ofNat 32 n.val) 0#32 = 1#1 := by
      rw [h0]; rfl
    rw [if_pos h0, hs]
    rfl
  · have hs : IntOp.cmpi .eq (BitVec.ofNat 32 n.val) 0#32 = 0#1 := by
      revert h0
      revert n
      decide +kernel
    have hm : (n.val + 256 - 1) % 256 = n.val - 1 := by omega
    rw [if_neg h0, hs]
    simp only [hm]
    rfl

/-- The rows of one half, by column: position first, channel within it. -/
def rowK (x0 : Vec Ideal S1x256x4096 .f32) (k : Fin 2) (n : Fin 256) (j : Fin 2048) : EReal :=
  x0 (ix3 0 ⟨128 * k.val + j.val % 128, by omega⟩ ⟨16 * n.val + j.val / 128, by omega⟩)

def partK (x0 : Vec Ideal S1x256x4096 .f32) (x1 : Vec Ideal S2x2x1x2048 .f32) (x2 : Vec Ideal S2x2048x512 .bf16) (k r : Fin 2) (n c : Fin 256) : EReal :=
  ∑ j : Fin 2048, (rowK x0 k n j + x1 (ix4 k r 0 j)) * x2 (ix3 k j ⟨256 * r.val + c.val, by omega⟩)

def unitK (x0 : Vec Ideal S1x256x4096 .f32) (x1 : Vec Ideal S2x2x1x2048 .f32) (x2 : Vec Ideal S2x2048x512 .bf16) (x3 : Vec Ideal S2x1x256 .f32) (k : Fin 2) (n c : Fin 256) : EReal :=
  x3 (ix3 k 0 c) + (if n.val = 0 then 0 else partK x0 x1 x2 k 0 ⟨n.val - 1, by omega⟩ c) + partK x0 x1 x2 k 1 n c

def outK (x0 : Vec Ideal S1x256x4096 .f32) (x1 : Vec Ideal S2x2x1x2048 .f32) (x2 : Vec Ideal S2x2048x512 .bf16) (x3 : Vec Ideal S2x1x256 .f32) (x4 : Vec Ideal S2x256x128 .bf16)
    (k : Fin 2) (n : Fin 256) (d : Fin 128) : EReal :=
  ∑ c : Fin 256, gelu (unitK x0 x1 x2 x3 k n c) * x4 (ix3 k c d)

theorem outK_congr (x0 : Vec Ideal S1x256x4096 .f32) (x1 : Vec Ideal S2x2x1x2048 .f32) (x2 : Vec Ideal S2x2048x512 .bf16) (x3 : Vec Ideal S2x1x256 .f32) (x4 : Vec Ideal S2x256x128 .bf16)
    {k k' : Fin 2} {n n' : Fin 256} {d d' : Fin 128} (hk : k.val = k'.val) (hn : n.val = n'.val) (hd : d.val = d'.val) :
    outK x0 x1 x2 x3 x4 k n d = outK x0 x1 x2 x3 x4 k' n' d' := by
  rw [Fin.ext hk, Fin.ext hn, Fin.ext hd]

section point

variable (c : Dev nD) (arg2 : Memref sig .tc .vmem S1x256x4096 .f32) (harg2 : arg2.IsWhole) (arg3 : Memref sig .tc .vmem S2x2x1x2048 .f32) (harg3 : arg3.IsWhole)
  (arg4 : Memref sig .tc .vmem S2x2048x512 .bf16) (harg4 : arg4.IsWhole) (arg5 : Memref sig .tc .vmem S2x1x256 .f32) (harg5 : arg5.IsWhole)
  (arg6 : Memref sig .tc .vmem S2x256x128 .bf16) (harg6 : arg6.IsWhole)
  (arg8 : Memref sig .tc .vmem S2x8x256 .f32) (arg9 : Memref sig .tc .vmem S2x5120x128 .f32) (x0 : Vec Ideal S1x256x4096 .f32) (x1 : Vec Ideal S2x2x1x2048 .f32) (x2 : Vec Ideal S2x2048x512 .bf16)
  (x3 : Vec Ideal S2x1x256 .f32) (x4 : Vec Ideal S2x256x128 .bf16)

theorem ld1 (k r : Fin 2) (hin) (j : Fin 2048) :
    View.readAt (Elt Ideal) arg3.view (Rect.unit (s := S2x2x1x2048) ![k.val, r.val, 0, 0] S1x1x1x2048.size hin).toLoadRect (harg3.unread x1) (ix4 0 0 0 j) = x1 (ix4 k r 0 j) := by
  refine (congrFun (harg3.read_unread x1) _).trans (congrArg x1 (funext fun a => Fin.ext ?_))
  match a with
  | ⟨0, _⟩ => show k.val + 1 * 0 = k.val; omega
  | ⟨1, _⟩ => show r.val + 1 * 0 = r.val; omega
  | ⟨2, _⟩ => show 0 + 1 * 0 = 0; omega
  | ⟨3, _⟩ => show 0 + 1 * j.val = j.val; omega

theorem ld2 (k : Fin 2) (o : Nat) (ho : o ≤ 256) (hin) (j : Fin 2048) (q : Fin 256) :
    View.readAt (Elt Ideal) arg4.view (Rect.unit (s := S2x2048x512) ![k.val, 0, o] S1x2048x256.size hin).toLoadRect (harg4.unread x2) (ix3 0 j q) = x2 (ix3 k j ⟨o + q.val, by omega⟩) := by
  refine (congrFun (harg4.read_unread x2) _).trans (congrArg x2 (funext fun a => Fin.ext ?_))
  match a with
  | ⟨0, _⟩ => show k.val + 1 * 0 = k.val; omega
  | ⟨1, _⟩ => show 0 + 1 * j.val = j.val; omega
  | ⟨2, _⟩ => show o + 1 * q.val = o + q.val; omega

theorem ld3 (k : Fin 2) (hin) (q : Fin 256) :
    View.readAt (Elt Ideal) arg5.view (Rect.unit (s := S2x1x256) ![k.val, 0, 0] S1x1x256.size hin).toLoadRect (harg5.unread x3) (ix3 0 0 q) = x3 (ix3 k 0 q) := by
  refine (congrFun (harg5.read_unread x3) _).trans (congrArg x3 (funext fun a => Fin.ext ?_))
  match a with
  | ⟨0, _⟩ => show k.val + 1 * 0 = k.val; omega
  | ⟨1, _⟩ => show 0 + 1 * 0 = 0; omega
  | ⟨2, _⟩ => show 0 + 1 * q.val = q.val; omega

theorem ld4 (k : Fin 2) (hin) (q : Fin 256) (d : Fin 128) :
    View.readAt (Elt Ideal) arg6.view (Rect.unit (s := S2x256x128) ![k.val, 0, 0] S1x256x128.size hin).toLoadRect (harg6.unread x4) (ix3 0 q d) = x4 (ix3 k q d) := by
  refine (congrFun (harg6.read_unread x4) _).trans (congrArg x4 (funext fun a => Fin.ext ?_))
  match a with
  | ⟨0, _⟩ => show k.val + 1 * 0 = k.val; omega
  | ⟨1, _⟩ => show 0 + 1 * q.val = q.val; omega
  | ⟨2, _⟩ => show 0 + 1 * d.val = d.val; omega

theorem rowK_keys (n : Fin 256) (j : Fin 2048) : kernelRun0_A.sl.r_2 (F := Ideal) c arg2 harg2 arg9 x0 (ix2 n j) = rowK x0 0 n j := by
  have hj : j = ⟨128 * (j.val / 128) + j.val % 128, by omega⟩ := Fin.ext (by show j.val = 128 * (j.val / 128) + j.val % 128; omega)
  refine (congrArg (fun j => kernelRun0_A.sl.r_2 (F := Ideal) c arg2 harg2 arg9 x0 (ix2 n j)) hj).trans ((keys_ix c arg2 harg2 arg9 x0 n ⟨j.val / 128, by omega⟩ ⟨j.val % 128, by omega⟩).trans ?_)
  unfold rowK
  refine congrArg x0 (congrArg₂ (ix3 0) (Fin.ext ?_) rfl)
  show j.val % 128 = 128 * 0 + j.val % 128
  omega

/-- The values' rows, before their places are added. -/
def rowsV : FVec Ideal S256x2048 .f32 :=
  k0_pay660 (kernelRun0_A.sl.r_40 c arg2 harg2 arg9 x0) (kernelRun0_A.sl.r_41 c arg2 harg2 arg9 x0) (kernelRun0_A.sl.r_42 c arg2 harg2 arg9 x0) (kernelRun0_A.sl.r_43 c arg2 harg2 arg9 x0) (kernelRun0_A.sl.r_44 c arg2 harg2 arg9 x0) (kernelRun0_A.sl.r_45 c arg2 harg2 arg9 x0) (kernelRun0_A.sl.r_46 c arg2 harg2 arg9 x0) (kernelRun0_A.sl.r_47 c arg2 harg2 arg9 x0) (kernelRun0_A.sl.r_48 c arg2 harg2 arg9 x0) (kernelRun0_A.sl.r_49 c arg2 harg2 arg9 x0) (kernelRun0_A.sl.r_50 c arg2 harg2 arg9 x0) (kernelRun0_A.sl.r_51 c arg2 harg2 arg9 x0) (kernelRun0_A.sl.r_52 c arg2 harg2 arg9 x0) (kernelRun0_A.sl.r_53 c arg2 harg2 arg9 x0) (kernelRun0_A.sl.r_54 c arg2 harg2 arg9 x0) (kernelRun0_A.sl.v2360 (F := Ideal) c arg2 harg2 arg9 x0)

theorem rowK_values (n : Fin 256) (j : Fin 2048) : rowsV c arg2 harg2 arg9 x0 (ix2 n j) = rowK x0 1 n j := by
  have hj : j = ⟨128 * (j.val / 128) + j.val % 128, by omega⟩ := Fin.ext (by show j.val = 128 * (j.val / 128) + j.val % 128; omega)
  exact (congrArg (fun j => rowsV c arg2 harg2 arg9 x0 (ix2 n j)) hj).trans (values_ix c arg2 harg2 arg9 x0 n ⟨j.val / 128, by omega⟩ ⟨j.val % 128, by omega⟩)

theorem placed (n : Fin 256) (j : Fin 2048) : kernelRun0_A.sl.r_3 (F := Ideal) c arg2 harg2 arg3 harg3 arg9 x0 x1 (ix2 n j)
    = kernelRun0_A.sl.r_2 (F := Ideal) c arg2 harg2 arg9 x0 (ix2 n j)
      + View.readAt (Elt Ideal) arg3.view (Rect.unit (s := S2x2x1x2048) ![0, 0, 0, 0] S1x1x1x2048.size inb_S2x2x1x2048_S1x1x1x2048_0_0_0_0).toLoadRect (harg3.unread x1) (ix4 0 0 0 j) := by
  unfold kernelRun0_A.sl.r_3 kernelRun0_A.sl.r_2 k0_pay320
  generalize k0_pay319 (F := Ideal) _ _ _ _ _ _ _ _ _ _ _ _ _ _ _ _ = X
  pointwise

theorem unit_keys (n q : Fin 256) : kernelRun0_A.sl.r_4 (F := Ideal) c arg2 harg2 arg3 harg3 arg4 harg4 arg5 harg5 arg8 arg9 x0 x1 x2 x3 (ix2 n q) = unitK x0 x1 x2 x3 0 n q := by
  unfold kernelRun0_A.sl.r_4
  rw [pay323_apply _ _ _ _ _ _ _ _ (placed c arg2 harg2 arg3 harg3 arg9 x0 x1)]
  unfold hidK part unitK partK
  refine congrArg₂ (· + ·) (congrArg₂ (· + ·) (ld3 arg5 harg5 x3 0 _ q) ?_) (Finset.sum_congr rfl fun j _ => ?_)
  · by_cases h0 : n.val = 0
    · rw [if_pos h0, if_pos h0]
      exact carry0 c arg8 q
    · rw [if_neg h0, if_neg h0]
      refine Finset.sum_congr rfl fun j _ => ?_
      exact congrArg₂ (· * ·) (congrArg₂ (· + ·) (rowK_keys c arg2 harg2 arg9 x0 _ j) (ld1 arg3 harg3 x1 0 0 _ j)) (ld2 arg4 harg4 x2 0 0 (by omega) _ j q)
  · exact congrArg₂ (· * ·) (congrArg₂ (· + ·) (rowK_keys c arg2 harg2 arg9 x0 _ j) (ld1 arg3 harg3 x1 0 1 _ j)) (ld2 arg4 harg4 x2 0 256 (by omega) _ j q)

theorem arg_keys (n q : Fin 256) : kernelRun0_A.sl.r_5 (F := Ideal) c arg2 harg2 arg3 harg3 arg4 harg4 arg5 harg5 arg8 arg9 x0 x1 x2 x3 (ix2 n q)
    = Ideal.ofBits .f32 0x3F4C422A#32 * (unitK x0 x1 x2 x3 0 n q + Ideal.ofBits .f32 0x3D372713#32 * (unitK x0 x1 x2 x3 0 n q * (unitK x0 x1 x2 x3 0 n q * unitK x0 x1 x2 x3 0 n q))) := by
  have h := unit_keys c arg2 harg2 arg3 harg3 arg4 harg4 arg5 harg5 arg8 arg9 x0 x1 x2 x3 n q
  unfold kernelRun0_A.sl.r_4 at h
  unfold kernelRun0_A.sl.r_5
  rw [pay324_apply, h]

theorem out_keys (n : Fin 256) (d : Fin 128) (hin) :
    k0_pay325 (F := Ideal) (kernelRun0_A.sl.r_4 c arg2 harg2 arg3 harg3 arg4 harg4 arg5 harg5 arg8 arg9 x0 x1 x2 x3) (kernelRun0_A.sl.r_5 c arg2 harg2 arg3 harg3 arg4 harg4 arg5 harg5 arg8 arg9 x0 x1 x2 x3)
      (View.readAt (Elt Ideal) arg6.view (Rect.unit (s := S2x256x128) ![0, 0, 0] S1x256x128.size hin).toLoadRect (harg6.unread x4)) (ix3 0 n d) = outK x0 x1 x2 x3 x4 0 n d := by
  rw [pay325_apply]
  unfold outK gelu
  refine Finset.sum_congr rfl fun q _ => ?_
  rw [unit_keys, arg_keys]
  exact congrArg (_ * ·) (ld4 arg6 harg6 x4 0 _ q d)

theorem out_values (n : Fin 256) (d : Fin 128) (hb) (hin) :
    k0_pay1 (F := Ideal) (kernelRun0_A.sl.r_55 c arg2 harg2 arg3 harg3 arg4 harg4 arg9 x0 x1 x2) (kernelRun0_A.sl.r_56 c arg2 harg2 arg3 harg3 arg4 harg4 arg8 arg9 x0 x1 x2)
      (View.readAt (Elt Ideal) arg5.view (Rect.unit (s := S2x1x256) ![1, 0, 0] S1x1x256.size hb).toLoadRect (harg5.unread x3))
      (View.readAt (Elt Ideal) arg6.view (Rect.unit (s := S2x256x128) ![1, 0, 0] S1x256x128.size hin).toLoadRect (harg6.unread x4)) (ix3 0 n d) = outK x0 x1 x2 x3 x4 1 n d := by
  rw [pay1_apply]
  unfold outK
  refine Finset.sum_congr rfl fun q _ => congrArg₂ (· * ·) (congrArg gelu ?_) (ld4 arg6 harg6 x4 1 _ q d)
  unfold kernelRun0_A.sl.r_55 kernelRun0_A.sl.r_56
  rw [pay662_apply, pay663_apply]
  unfold part unitK partK
  refine congrArg₂ (· + ·) (congrArg₂ (· + ·) (ld3 arg5 harg5 x3 1 _ q) ?_) (Finset.sum_congr rfl fun j _ => ?_)
  · by_cases h0 : n.val = 0
    · rw [if_pos h0, if_pos h0]
      exact carry1 c arg2 harg2 arg3 harg3 arg4 harg4 arg8 arg9 x0 x1 x2 q
    · rw [if_neg h0, if_neg h0]
      refine Finset.sum_congr rfl fun j _ => ?_
      exact congrArg₂ (· * ·) (congrArg₂ (· + ·) (rowK_values c arg2 harg2 arg9 x0 _ j) (ld1 arg3 harg3 x1 1 0 _ j)) (ld2 arg4 harg4 x2 1 0 (by omega) _ j q)
  · exact congrArg₂ (· * ·) (congrArg₂ (· + ·) (rowK_values c arg2 harg2 arg9 x0 _ j) (ld1 arg3 harg3 x1 1 1 _ j)) (ld2 arg4 harg4 x2 1 256 (by omega) _ j q)

theorem out_point (i : grid0.Coords) (arg7 : Memref sig .tc .vmem S1x256x256 .f32) (harg7 : arg7.IsWhole) (harg8 : arg8.IsWhole) (harg9 : arg9.IsWhole) (hc0 : cond0_0 i) (n q : Fin 256) :
    out0_A_5 (F := Ideal) c i arg2 harg2 arg3 harg3 arg4 harg4 arg5 harg5 arg6 harg6 arg7 harg7 arg8 harg8 arg9 harg9 hc0 x0 x1 x2 x3 x4 (ix3 0 n q)
      = outK x0 x1 x2 x3 x4 ⟨q.val / 128, by omega⟩ n ⟨q.val % 128, by omega⟩ := by
  unfold out0_A_5 kernelRun0_A
  dsimp only
  rw [View.read_writes_junk_eq_canon]
  refine View.canon_apply_of_pieces (Val := Elt Ideal) (S := S1x256x256) (e := .f32) (fun y => outK x0 x1 x2 x3 x4 ⟨(y 2).val / 128, by have : (y 2).val < 256 := (y 2).isLt; omega⟩ (y 1) ⟨(y 2).val % 128, by omega⟩) _ ?_ (ix3 0 n q) ?_
  · intro p hp
    rcases List.mem_cons.1 hp with rfl | hp
    · intro (z : S1x256x128.Idx)
      idx_vars z
      obtain rfl : z0 = 0 := Subsingleton.elim _ _
      refine (out_values c arg2 harg2 arg3 harg3 arg4 harg4 arg5 harg5 arg6 harg6 arg8 arg9 x0 x1 x2 x3 x4 z1 z2 _ _).trans ?_
      exact outK_congr x0 x1 x2 x3 x4 (show 1 = (128 + 1 * z2.val) / 128 by omega) (show z1.val = 0 + 1 * z1.val by omega) (show z2.val = (128 + 1 * z2.val) % 128 by omega)
    · rcases List.mem_singleton.1 hp with rfl
      intro (z : S1x256x128.Idx)
      idx_vars z
      obtain rfl : z0 = 0 := Subsingleton.elim _ _
      refine (out_keys c arg2 harg2 arg3 harg3 arg4 harg4 arg5 harg5 arg6 harg6 arg8 arg9 x0 x1 x2 x3 x4 z1 z2 _).trans ?_
      exact outK_congr x0 x1 x2 x3 x4 (show 0 = (0 + 1 * z2.val) / 128 by omega) (show z1.val = 0 + 1 * z1.val by omega) (show z2.val = (0 + 1 * z2.val) % 128 by omega)
  · by_cases hq : q.val < 128
    · refine ⟨_, List.mem_cons_of_mem _ (List.mem_singleton.2 rfl), ?_⟩
      rw [LoadRect.mem_set]
      intro a
      match a with
      | ⟨0, _⟩ => exact ⟨0, Nat.one_pos, show (0 : Fin 1).val = 0 + 1 * 0 by rfl⟩
      | ⟨1, _⟩ => exact ⟨n.val, n.isLt, show n.val = 0 + 1 * n.val by omega⟩
      | ⟨2, _⟩ => exact ⟨q.val, hq, show q.val = 0 + 1 * q.val by omega⟩
    · refine ⟨_, List.mem_cons_self, ?_⟩
      rw [LoadRect.mem_set]
      intro a
      match a with
      | ⟨0, _⟩ => exact ⟨0, Nat.one_pos, show (0 : Fin 1).val = 0 + 1 * 0 by rfl⟩
      | ⟨1, _⟩ => exact ⟨n.val, n.isLt, show n.val = 0 + 1 * n.val by omega⟩
      | ⟨2, _⟩ => exact ⟨q.val - 128, show q.val - 128 < 128 by omega, show q.val = 128 + 1 * (q.val - 128) by omega⟩

end point

end Cert.CmpIdeal.Val

end
-- ==== Proof.CmpVal.lean ====
/- The compressed rows after the run, as a function of the kernel's arguments. -/
module

public import proofs.«01_k».proof.Proof.CmpKer

@[expose] public section

set_option maxRecDepth 16384

noncomputable section

namespace Cert.CmpIdeal.Val

open Cert.CmpIdeal Cert.CmpIdeal.Gen Idealize.ShloMosaic Idealize.ShloMosaic.TcCoe Idealize.SL.Sem Cert.Layer
open Idealize.ShloMosaic.Pipeline (Dat)

section rows

variable (kv : (⟨3, ![4, 256, 4096]⟩ : Shape).Idx → EReal) (pe : (⟨4, ![1, 2, 32, 64]⟩ : Shape).Idx → EReal) (w1 : (⟨4, ![1, 2, 2048, 128]⟩ : Shape).Idx → EReal)
  (b1 : (⟨3, ![1, 2, 128]⟩ : Shape).Idx → EReal) (w2 : (⟨4, ![1, 2, 128, 64]⟩ : Shape).Idx → EReal)
  (x0 : Vec Ideal S1x256x4096 .f32) (x1 : Vec Ideal S2x2x1x2048 .f32) (x2 : Vec Ideal S2x2048x512 .bf16) (x3 : Vec Ideal S2x1x256 .f32) (x4 : Vec Ideal S2x256x128 .bf16) (b : Fin 4)
  (h0 : ∀ (l : Fin 256) (p : Fin 4096), x0 (ix3 0 l p) = kv (ix3 b l p))
  (h1 : ∀ (k r : Fin 2) (s : Fin 16) (g : Fin 2) (d : Fin 64), x1 (ix4 k r 0 ⟨128 * s.val + (64 * g.val + d.val), by omega⟩) = pe (ix4 0 k ⟨16 * r.val + s.val, by omega⟩ d))
  (h2 : ∀ (k r : Fin 2) (s : Fin 16) (g' : Fin 2) (d : Fin 64) (g : Fin 2) (h : Fin 128), x2 (ix3 k ⟨128 * s.val + (64 * g'.val + d.val), by omega⟩ ⟨256 * r.val + (128 * g.val + h.val), by omega⟩)
    = w1 (ix4 0 k ⟨1024 * r.val + 64 * s.val + d.val, by omega⟩ h) * (if g' = g then 1 else 0))
  (h3 : ∀ (k g : Fin 2) (h : Fin 128), x3 (ix3 k 0 ⟨128 * g.val + h.val, by omega⟩) = b1 (ix3 0 k h))
  (h4 : ∀ (k g' : Fin 2) (h : Fin 128) (g : Fin 2) (d : Fin 64), x4 (ix3 k ⟨128 * g'.val + h.val, by omega⟩ ⟨64 * g.val + d.val, by omega⟩) = w2 (ix4 0 k h d) * (if g' = g then 1 else 0))

include h0 h1 h2 in
theorem partK_half (k r : Fin 2) (g : Fin 2) (n : Fin 256) (h : Fin 128) : partK x0 x1 x2 k r n ⟨128 * g.val + h.val, by omega⟩ = half kv pe w1 k r b g n h := by
  unfold partK half
  rw [sum_2048]
  refine Finset.sum_congr rfl fun d _ => Finset.sum_congr rfl fun s _ => ?_
  refine (Finset.sum_congr rfl fun g' _ => ?_).trans (sum_head (fun g' => (kv (ix3 b ⟨128 * k.val + 64 * g'.val + d.val, by omega⟩ ⟨16 * n.val + s.val, by omega⟩) + pe (ix4 0 k ⟨16 * r.val + s.val, by omega⟩ d))
    * w1 (ix4 0 k ⟨1024 * r.val + 64 * s.val + d.val, by omega⟩ h)) g)
  rw [h1, h2, ← mul_assoc]
  unfold rowK
  rw [h0]
  refine congrArg (· * _) (congrArg (· * _) (congrArg (· + _) (congrArg kv (congrArg₂ (ix3 b) (Fin.ext ?_) (Fin.ext ?_)))))
  · show 128 * k.val + (128 * s.val + (64 * g'.val + d.val)) % 128 = 128 * k.val + 64 * g'.val + d.val
    omega
  · show 16 * n.val + (128 * s.val + (64 * g'.val + d.val)) / 128 = 16 * n.val + s.val
    omega

include h0 h1 h2 h3 in
theorem unitK_unit (k : Fin 2) (g : Fin 2) (n : Fin 256) (h : Fin 128) : unitK x0 x1 x2 x3 k n ⟨128 * g.val + h.val, by omega⟩ = unit kv pe w1 b1 k b g n h := by
  unfold unitK unit
  rw [h3, partK_half kv pe w1 x0 x1 x2 b h0 h1 h2, partK_half kv pe w1 x0 x1 x2 b h0 h1 h2]

include h0 h1 h2 h3 h4 in
theorem outK_row (k : Fin 2) (g : Fin 2) (n : Fin 256) (d : Fin 64) : outK x0 x1 x2 x3 x4 k n ⟨64 * g.val + d.val, by omega⟩ = cmpRow kv pe w1 b1 w2 k b g n d := by
  unfold outK cmpRow
  rw [sum_256]
  refine Finset.sum_congr rfl fun h _ => ?_
  refine (Finset.sum_congr rfl fun g' _ => ?_).trans (sum_head (fun g' => gelu (unit kv pe w1 b1 k b g' n h) * w2 (ix4 0 k h d)) g)
  rw [h4, unitK_unit kv pe w1 b1 x0 x1 x2 x3 b h0 h1 h2 h3, ← mul_assoc]

end rows

variable (m : (ℓ : Loc nD τ sig) → Buf (Elt Ideal) ℓ)

theorem idx : ∀ t : Fin cfg0.N,
    win0_0.index t = ![(grid0.coords t 0).val, 0, 0]
    ∧ win0_1.index t = ![0, 0, 0, 0] ∧ win0_2.index t = ![0, 0, 0] ∧ win0_3.index t = ![0, 0, 0] ∧ win0_4.index t = ![0, 0, 0]
    ∧ win0_5.index t = ![(grid0.coords t 0).val, 0, 0] :=
  (by decide +kernel : ∀ t : Fin grid0.N, _)

/-- An entry of the two-by-two identity. -/
theorem eye (a b : ℕ) (g' g : Fin 2) (ha : a = g'.val) (hb : b = g.val) :
    FloatOps.uitofp (F := Ideal) .f32 (IntOp.cmpi .eq (IntOp.addi (BitVec.ofNat 32 a) 0#32) (BitVec.ofNat 32 b)) = (if g' = g then (1 : EReal) else 0) := by
  have h : IntOp.cmpi .eq (IntOp.addi (BitVec.ofNat 32 a) 0#32) (BitVec.ofNat 32 b) = (if g' = g then 1#1 else 0#1 : BitVec 1) := by
    have key : ∀ g' g : Fin 2, IntOp.cmpi .eq (IntOp.addi (BitVec.ofNat 32 g'.val) 0#32) (BitVec.ofNat 32 g.val) = (if g' = g then 1#1 else 0#1 : BitVec 1) := by decide +kernel
    rw [ha, hb]
    exact key g' g
  rw [h]
  show (((if g' = g then 1#1 else 0#1 : BitVec 1).toNat : ℝ) : EReal) = _
  by_cases e : g' = g
  · rw [if_pos e, if_pos e]
    simp
  · rw [if_neg e, if_neg e]
    simp

theorem blk0 (c : Dev nD) (t : Fin cfg0.N) (l : Fin 256) (p : Fin 4096) : iblk m c 0 t (ix3 0 l p) = m ((c : Thread nD τ).loc main_arg0) (ix3 (grid0.coords t 0) l p) := by
  blk_ext [iblk, V, idx t]

theorem blk1 (c : Dev nD) (t : Fin cfg0.N) (k r : Fin 2) (s : Fin 16) (g : Fin 2) (d : Fin 64) :
    iblk m c 1 t (ix4 k r 0 ⟨128 * s.val + (64 * g.val + d.val), by omega⟩) = m ((c : Thread nD τ).loc main_arg1) (ix4 0 k ⟨16 * r.val + s.val, by omega⟩ d) := by
  have e : ((cfg0.win 1).blk t).view.emb (ix4 k r 0 ⟨128 * s.val + (64 * g.val + d.val), by omega⟩) = ix4 k r 0 ⟨128 * s.val + (64 * g.val + d.val), by omega⟩ := by blk_ext [idx t]
  show V m c main_v9 (((cfg0.win 1).blk t).view.emb (ix4 k r 0 ⟨128 * s.val + (64 * g.val + d.val), by omega⟩)) = _
  rw [e]
  unfold V
  entry_read
  pointwise
  exact congrArg (m ((c : Thread nD τ).loc main_arg1)) (congrArg (fun z => ix4 0 k z d) (Fin.ext (by show r.val * 16 + s.val = 16 * r.val + s.val; omega)))

theorem blk2 (c : Dev nD) (t : Fin cfg0.N) (k r : Fin 2) (s : Fin 16) (g' : Fin 2) (d : Fin 64) (g : Fin 2) (h : Fin 128) :
    iblk m c 2 t (ix3 k ⟨128 * s.val + (64 * g'.val + d.val), by omega⟩ ⟨256 * r.val + (128 * g.val + h.val), by omega⟩)
      = HMul.hMul (α := EReal) (β := EReal) (γ := EReal) (m ((c : Thread nD τ).loc main_arg2) (ix4 0 k ⟨1024 * r.val + 64 * s.val + d.val, by omega⟩ h)) (if g' = g then 1 else 0) := by
  have e : ((cfg0.win 2).blk t).view.emb (ix3 k ⟨128 * s.val + (64 * g'.val + d.val), by omega⟩ ⟨256 * r.val + (128 * g.val + h.val), by omega⟩) = ix3 k ⟨128 * s.val + (64 * g'.val + d.val), by omega⟩ ⟨256 * r.val + (128 * g.val + h.val), by omega⟩ := by blk_ext [idx t]
  show V m c main_v19 (((cfg0.win 2).blk t).view.emb (ix3 k ⟨128 * s.val + (64 * g'.val + d.val), by omega⟩ ⟨256 * r.val + (128 * g.val + h.val), by omega⟩)) = _
  rw [e]
  unfold V
  entry_read
  pointwise
  refine congrArg₂ (fun a b : EReal => a * b) (congrArg (m ((c : Thread nD τ).loc main_arg2)) (congrArg₂ (ix4 0 k) (Fin.ext ?_) (Fin.ext ?_))) (eye _ _ g' g ?_ ?_)
  · show (256 * r.val + (128 * g.val + h.val)) / 256 * 1024 + (128 * s.val + (64 * g'.val + d.val)) / 128 * 64 + (128 * s.val + (64 * g'.val + d.val)) % 64 = 1024 * r.val + 64 * s.val + d.val
    omega
  · show (256 * r.val + (128 * g.val + h.val)) % 128 = h.val
    omega
  · omega
  · omega

theorem blk3 (c : Dev nD) (t : Fin cfg0.N) (k g : Fin 2) (h : Fin 128) : iblk m c 3 t (ix3 k 0 ⟨128 * g.val + h.val, by omega⟩) = m ((c : Thread nD τ).loc main_arg3) (ix3 0 k h) := by
  have e : ((cfg0.win 3).blk t).view.emb (ix3 k 0 ⟨128 * g.val + h.val, by omega⟩) = ix3 k 0 ⟨128 * g.val + h.val, by omega⟩ := by blk_ext [idx t]
  show V m c main_v24 (((cfg0.win 3).blk t).view.emb (ix3 k 0 ⟨128 * g.val + h.val, by omega⟩)) = _
  rw [e]
  unfold V
  entry_read
  pointwise

theorem blk4 (c : Dev nD) (t : Fin cfg0.N) (k g' : Fin 2) (h : Fin 128) (g : Fin 2) (d : Fin 64) :
    iblk m c 4 t (ix3 k ⟨128 * g'.val + h.val, by omega⟩ ⟨64 * g.val + d.val, by omega⟩) = HMul.hMul (α := EReal) (β := EReal) (γ := EReal) (m ((c : Thread nD τ).loc main_arg4) (ix4 0 k h d)) (if g' = g then 1 else 0) := by
  have e : ((cfg0.win 4).blk t).view.emb (ix3 k ⟨128 * g'.val + h.val, by omega⟩ ⟨64 * g.val + d.val, by omega⟩) = ix3 k ⟨128 * g'.val + h.val, by omega⟩ ⟨64 * g.val + d.val, by omega⟩ := by blk_ext [idx t]
  show V m c main_v32 (((cfg0.win 4).blk t).view.emb (ix3 k ⟨128 * g'.val + h.val, by omega⟩ ⟨64 * g.val + d.val, by omega⟩)) = _
  rw [e]
  unfold V
  entry_read
  pointwise
  refine congrArg₂ (fun a b : EReal => a * b) (congrArg (m ((c : Thread nD τ).loc main_arg4)) (congrArg₂ (ix4 0 k) (Fin.ext ?_) (Fin.ext ?_))) (eye _ _ g' g ?_ ?_)
  · show (128 * g'.val + h.val) % 128 = h.val
    omega
  · show (64 * g.val + d.val) % 64 = d.val
    omega
  · omega
  · omega

theorem emb5 (t : Fin cfg0.N) (n q : Fin 256) : ((cfg0.win 5).blk t).view.emb (ix3 0 n q) = ix3 (grid0.coords t 0) n q := by
  blk_ext [idx t]

theorem out5 (c : Dev nD) : (dats m 0 c).arrAt 5 cfg0.N
    = cmpOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  obtain rfl : y0 = 0 := Subsingleton.elim _ _
  refine (out_point c _ _ _ _ _ _ _ _ _ _ _ _ _ _ _ _ _ _ _ _ _ _ _ y1 y2).trans ?_
  have hy : y2.val < 256 := y2.isLt
  refine (outK_congr _ _ _ _ _ rfl rfl (show y2.val % 128 = (⟨64 * (⟨y2.val / 64 % 2, by omega⟩ : Fin 2).val + (⟨y2.val % 64, by omega⟩ : Fin 64).val, by omega⟩ : Fin 128).val by show y2.val % 128 = 64 * (y2.val / 64 % 2) + y2.val % 64; omega)).trans ?_
  refine (outK_row _ _ _ _ _ _ _ _ _ _ (grid0.coords t 0) (blk0 m c t) (blk1 m c t) (blk2 m c t) (blk3 m c t) (blk4 m c t) _ _ _ _).trans ?_
  exact (congrArg (cmpOut (m ((c : Thread nD τ).loc main_arg0)) (m ((c : Thread nD τ).loc main_arg1)) (m ((c : Thread nD τ).loc main_arg2)) (m ((c : Thread nD τ).loc main_arg3)) (m ((c : Thread nD τ).loc main_arg4))) (emb5 t y1 y2)).symm

end Cert.CmpIdeal.Val

end
-- ==== Proof.CmpRef.lean ====
/- The reference of the compressed rows, read at an index. -/
module

public import proofs.«01_k».proof.Proof.Gen.CmpRefIdeal.Read
public import proofs.«01_k».proof.Proof.CmpMath

@[expose] public section

set_option maxRecDepth 16384

noncomputable section

namespace Cert.CmpRefIdeal.Val

open Cert.CmpRefIdeal Idealize.ShloMosaic Idealize.ShloMosaic.TcCoe Idealize.SL.Sem Cert.CmpRefIdeal.Read Cert.Layer

variable (x0 : (⟨S4x256x4096, .f32⟩ : BufTy).Contents (Elt Ideal)) (x1 : (⟨S1x2x32x64, .f32⟩ : BufTy).Contents (Elt Ideal)) (x2 : (⟨S1x2x2048x128, .f32⟩ : BufTy).Contents (Elt Ideal))
  (x3 : (⟨S1x2x128, .f32⟩ : BufTy).Contents (Elt Ideal)) (x4 : (⟨S1x2x128x64, .f32⟩ : BufTy).Contents (Elt Ideal))

theorem v15_ix (b : Fin 4) (n : Fin 256) (s : Fin 16) (g : Fin 2) (d : Fin 64) :
    val_main_v15 x0 x1 (ix5 b n s g d) = x0 (ix3 b ⟨0 + 64 * g.val + d.val, by omega⟩ ⟨16 * n.val + s.val, by omega⟩) + x1 (ix4 0 0 ⟨0 + s.val, by omega⟩ d) := by
  pointwise [val_main_v15, val_main_v14, val_main_v13, val_main_v12, val_main_v11, val_main_v10, val_main_v3, val_main_v2, val_main_v1]
  pointwise [val_main_v9, val_main_v8, val_main_v7, val_main_v0]
  exact congrArg₂ (· + ·) (congrArg x0 (congrArg₂ (ix3 b) (Fin.ext (by have e0 : ((0 : Fin 2)).val = 0 := rfl; have e1 : ((1 : Fin 2)).val = 1 := rfl; dsimp only <;> omega)) (Fin.ext (by have e0 : ((0 : Fin 2)).val = 0 := rfl; have e1 : ((1 : Fin 2)).val = 1 := rfl; dsimp only <;> omega)))) (congrArg x1 (congrArg (fun a => ix4 0 0 a d) (Fin.ext (by have e0 : ((0 : Fin 2)).val = 0 := rfl; have e1 : ((1 : Fin 2)).val = 1 := rfl; dsimp only <;> omega))))

theorem v18_ix (b : Fin 4) (n : Fin 256) (g : Fin 2) (h : Fin 128) : val_main_v18 x0 x1 x2 (ix4 b n g h) = half x0 x1 x2 0 0 b g n h := by
  pointwise [val_main_v18, val_main_v17, val_main_v16, val_main_v6, val_main_v5, val_main_v4]
  unfold half
  simp only [v15_ix]
  refine Finset.sum_congr rfl fun d _ => Finset.sum_congr rfl fun s _ => congrArg₂ (· * ·) (congrArg₂ (· + ·) (congrArg x0 (congrArg₂ (ix3 b) (Fin.ext (by have e0 : ((0 : Fin 2)).val = 0 := rfl; have e1 : ((1 : Fin 2)).val = 1 := rfl; dsimp only <;> omega)) (Fin.ext (by have e0 : ((0 : Fin 2)).val = 0 := rfl; have e1 : ((1 : Fin 2)).val = 1 := rfl; dsimp only <;> omega)))) (congrArg x1 (congrArg (fun a => ix4 0 0 a d) (Fin.ext (by have e0 : ((0 : Fin 2)).val = 0 := rfl; have e1 : ((1 : Fin 2)).val = 1 := rfl; dsimp only <;> omega))))) (congrArg x2 (congrArg (fun a => ix4 0 0 a h) (Fin.ext (by have e0 : ((0 : Fin 2)).val = 0 := rfl; have e1 : ((1 : Fin 2)).val = 1 := rfl; dsimp only <;> omega))))

theorem v24_ix (b : Fin 4) (n : Fin 256) (s : Fin 16) (g : Fin 2) (d : Fin 64) :
    val_main_v24 x0 x1 (ix5 b n s g d) = x0 (ix3 b ⟨0 + 64 * g.val + d.val, by omega⟩ ⟨16 * n.val + s.val, by omega⟩) + x1 (ix4 0 0 ⟨16 + s.val, by omega⟩ d) := by
  pointwise [val_main_v24, val_main_v23, val_main_v22, val_main_v21, val_main_v20, val_main_v19, val_main_v3, val_main_v2, val_main_v1]
  pointwise [val_main_v9, val_main_v8, val_main_v7, val_main_v0]
  exact congrArg₂ (· + ·) (congrArg x0 (congrArg₂ (ix3 b) (Fin.ext (by have e0 : ((0 : Fin 2)).val = 0 := rfl; have e1 : ((1 : Fin 2)).val = 1 := rfl; dsimp only <;> omega)) (Fin.ext (by have e0 : ((0 : Fin 2)).val = 0 := rfl; have e1 : ((1 : Fin 2)).val = 1 := rfl; dsimp only <;> omega)))) (congrArg x1 (congrArg (fun a => ix4 0 0 a d) (Fin.ext (by have e0 : ((0 : Fin 2)).val = 0 := rfl; have e1 : ((1 : Fin 2)).val = 1 := rfl; dsimp only <;> omega))))

theorem v27_ix (b : Fin 4) (n : Fin 256) (g : Fin 2) (h : Fin 128) : val_main_v27 x0 x1 x2 (ix4 b n g h) = half x0 x1 x2 0 1 b g n h := by
  pointwise [val_main_v27, val_main_v26, val_main_v25, val_main_v6, val_main_v5, val_main_v4]
  unfold half
  simp only [v24_ix]
  refine Finset.sum_congr rfl fun d _ => Finset.sum_congr rfl fun s _ => congrArg₂ (· * ·) (congrArg₂ (· + ·) (congrArg x0 (congrArg₂ (ix3 b) (Fin.ext (by have e0 : ((0 : Fin 2)).val = 0 := rfl; have e1 : ((1 : Fin 2)).val = 1 := rfl; dsimp only <;> omega)) (Fin.ext (by have e0 : ((0 : Fin 2)).val = 0 := rfl; have e1 : ((1 : Fin 2)).val = 1 := rfl; dsimp only <;> omega)))) (congrArg x1 (congrArg (fun a => ix4 0 0 a d) (Fin.ext (by have e0 : ((0 : Fin 2)).val = 0 := rfl; have e1 : ((1 : Fin 2)).val = 1 := rfl; dsimp only <;> omega))))) (congrArg x2 (congrArg (fun a => ix4 0 0 a h) (Fin.ext (by have e0 : ((0 : Fin 2)).val = 0 := rfl; have e1 : ((1 : Fin 2)).val = 1 := rfl; dsimp only <;> omega))))

theorem v35_ix (b : Fin 4) (n : Fin 256) (g : Fin 2) (h : Fin 128) : val_main_v35 x0 x1 x2 x3 (ix4 b n g h) = unit x0 x1 x2 x3 0 b g n h := by
  pointwise [val_main_v35, val_main_v34, val_main_v33, val_main_v32, val_main_v31, val_main_v30, val_main_v29, val_main_v28, val_main_call0_v0, val_main_c]
  unfold unit
  simp only [v18_ix, v27_ix]
  have hz : FloatOps.sitofp (F := Ideal) .f32 0#32 = (0 : EReal) := by
    show (((0#32 : BitVec 32).toInt : ℝ) : EReal) = 0
    simp
  by_cases h0 : n.val = 0
  · rw [dif_neg (by omega), if_pos h0, hz]
  · rw [dif_pos (by omega), if_neg h0]

theorem v48_ix (b : Fin 4) (n : Fin 256) (g : Fin 2) (h : Fin 128) : val_main_v48 x0 x1 x2 x3 (ix4 b n g h) = gelu (unit x0 x1 x2 x3 0 b g n h) := by
  unfold gelu
  pointwise [val_main_v48, val_main_v47, val_main_v46, val_main_v45, val_main_v44, val_main_v43, val_main_v42, val_main_v41, val_main_v40, val_main_v39, val_main_v38, val_main_v37, val_main_v36, val_main_cst, val_main_cst_0, val_main_cst_1, val_main_cst_2]
  simp only [v35_ix]
  generalize unit _ _ _ _ _ _ _ _ _ = a
  rw [mul_assoc a a a]

theorem v51_ix (b : Fin 4) (n : Fin 256) (g : Fin 2) (d : Fin 64) : val_main_v51 x0 x1 x2 x3 x4 (ix4 b n g d) = cmpRow x0 x1 x2 x3 x4 0 b g n d := by
  unfold cmpRow
  pointwise [val_main_v51, val_main_v50, val_main_v49]
  simp only [v48_ix]

theorem v66_ix (b : Fin 4) (n : Fin 256) (s : Fin 16) (g : Fin 2) (d : Fin 64) :
    val_main_v66 x0 x1 (ix5 b n s g d) = x0 (ix3 b ⟨128 + 64 * g.val + d.val, by omega⟩ ⟨16 * n.val + s.val, by omega⟩) + x1 (ix4 0 1 ⟨0 + s.val, by omega⟩ d) := by
  pointwise [val_main_v66, val_main_v65, val_main_v64, val_main_v63, val_main_v62, val_main_v61, val_main_v54, val_main_v53, val_main_v52]
  pointwise [val_main_v60, val_main_v59, val_main_v58, val_main_v0]
  exact congrArg₂ (· + ·) (congrArg x0 (congrArg₂ (ix3 b) (Fin.ext (by have e0 : ((0 : Fin 2)).val = 0 := rfl; have e1 : ((1 : Fin 2)).val = 1 := rfl; dsimp only <;> omega)) (Fin.ext (by have e0 : ((0 : Fin 2)).val = 0 := rfl; have e1 : ((1 : Fin 2)).val = 1 := rfl; dsimp only <;> omega)))) (congrArg x1 (congrArg (fun a => ix4 0 1 a d) (Fin.ext (by have e0 : ((0 : Fin 2)).val = 0 := rfl; have e1 : ((1 : Fin 2)).val = 1 := rfl; dsimp only <;> omega))))

theorem v69_ix (b : Fin 4) (n : Fin 256) (g : Fin 2) (h : Fin 128) : val_main_v69 x0 x1 x2 (ix4 b n g h) = half x0 x1 x2 1 0 b g n h := by
  pointwise [val_main_v69, val_main_v68, val_main_v67, val_main_v57, val_main_v56, val_main_v55]
  unfold half
  simp only [v66_ix]
  refine Finset.sum_congr rfl fun d _ => Finset.sum_congr rfl fun s _ => congrArg₂ (· * ·) (congrArg₂ (· + ·) (congrArg x0 (congrArg₂ (ix3 b) (Fin.ext (by have e0 : ((0 : Fin 2)).val = 0 := rfl; have e1 : ((1 : Fin 2)).val = 1 := rfl; dsimp only <;> omega)) (Fin.ext (by have e0 : ((0 : Fin 2)).val = 0 := rfl; have e1 : ((1 : Fin 2)).val = 1 := rfl; dsimp only <;> omega)))) (congrArg x1 (congrArg (fun a => ix4 0 1 a d) (Fin.ext (by have e0 : ((0 : Fin 2)).val = 0 := rfl; have e1 : ((1 : Fin 2)).val = 1 := rfl; dsimp only <;> omega))))) (congrArg x2 (congrArg (fun a => ix4 0 1 a h) (Fin.ext (by have e0 : ((0 : Fin 2)).val = 0 := rfl; have e1 : ((1 : Fin 2)).val = 1 := rfl; dsimp only <;> omega))))

theorem v75_ix (b : Fin 4) (n : Fin 256) (s : Fin 16) (g : Fin 2) (d : Fin 64) :
    val_main_v75 x0 x1 (ix5 b n s g d) = x0 (ix3 b ⟨128 + 64 * g.val + d.val, by omega⟩ ⟨16 * n.val + s.val, by omega⟩) + x1 (ix4 0 1 ⟨16 + s.val, by omega⟩ d) := by
  pointwise [val_main_v75, val_main_v74, val_main_v73, val_main_v72, val_main_v71, val_main_v70, val_main_v54, val_main_v53, val_main_v52]
  pointwise [val_main_v60, val_main_v59, val_main_v58, val_main_v0]
  exact congrArg₂ (· + ·) (congrArg x0 (congrArg₂ (ix3 b) (Fin.ext (by have e0 : ((0 : Fin 2)).val = 0 := rfl; have e1 : ((1 : Fin 2)).val = 1 := rfl; dsimp only <;> omega)) (Fin.ext (by have e0 : ((0 : Fin 2)).val = 0 := rfl; have e1 : ((1 : Fin 2)).val = 1 := rfl; dsimp only <;> omega)))) (congrArg x1 (congrArg (fun a => ix4 0 1 a d) (Fin.ext (by have e0 : ((0 : Fin 2)).val = 0 := rfl; have e1 : ((1 : Fin 2)).val = 1 := rfl; dsimp only <;> omega))))

theorem v78_ix (b : Fin 4) (n : Fin 256) (g : Fin 2) (h : Fin 128) : val_main_v78 x0 x1 x2 (ix4 b n g h) = half x0 x1 x2 1 1 b g n h := by
  pointwise [val_main_v78, val_main_v77, val_main_v76, val_main_v57, val_main_v56, val_main_v55]
  unfold half
  simp only [v75_ix]
  refine Finset.sum_congr rfl fun d _ => Finset.sum_congr rfl fun s _ => congrArg₂ (· * ·) (congrArg₂ (· + ·) (congrArg x0 (congrArg₂ (ix3 b) (Fin.ext (by have e0 : ((0 : Fin 2)).val = 0 := rfl; have e1 : ((1 : Fin 2)).val = 1 := rfl; dsimp only <;> omega)) (Fin.ext (by have e0 : ((0 : Fin 2)).val = 0 := rfl; have e1 : ((1 : Fin 2)).val = 1 := rfl; dsimp only <;> omega)))) (congrArg x1 (congrArg (fun a => ix4 0 1 a d) (Fin.ext (by have e0 : ((0 : Fin 2)).val = 0 := rfl; have e1 : ((1 : Fin 2)).val = 1 := rfl; dsimp only <;> omega))))) (congrArg x2 (congrArg (fun a => ix4 0 1 a h) (Fin.ext (by have e0 : ((0 : Fin 2)).val = 0 := rfl; have e1 : ((1 : Fin 2)).val = 1 := rfl; dsimp only <;> omega))))

theorem v86_ix (b : Fin 4) (n : Fin 256) (g : Fin 2) (h : Fin 128) : val_main_v86 x0 x1 x2 x3 (ix4 b n g h) = unit x0 x1 x2 x3 1 b g n h := by
  pointwise [val_main_v86, val_main_v85, val_main_v84, val_main_v83, val_main_v82, val_main_v81, val_main_v80, val_main_v79, val_main_call1_v0, val_main_c_3]
  unfold unit
  simp only [v69_ix, v78_ix]
  have hz : FloatOps.sitofp (F := Ideal) .f32 0#32 = (0 : EReal) := by
    show (((0#32 : BitVec 32).toInt : ℝ) : EReal) = 0
    simp
  by_cases h0 : n.val = 0
  · rw [dif_neg (by omega), if_pos h0, hz]
  · rw [dif_pos (by omega), if_neg h0]

theorem v99_ix (b : Fin 4) (n : Fin 256) (g : Fin 2) (h : Fin 128) : val_main_v99 x0 x1 x2 x3 (ix4 b n g h) = gelu (unit x0 x1 x2 x3 1 b g n h) := by
  unfold gelu
  pointwise [val_main_v99, val_main_v98, val_main_v97, val_main_v96, val_main_v95, val_main_v94, val_main_v93, val_main_v92, val_main_v91, val_main_v90, val_main_v89, val_main_v88, val_main_v87, val_main_cst_4, val_main_cst_5, val_main_cst_6, val_main_cst_7]
  simp only [v86_ix]
  generalize unit _ _ _ _ _ _ _ _ _ = a
  rw [mul_assoc a a a]

theorem v102_ix (b : Fin 4) (n : Fin 256) (g : Fin 2) (d : Fin 64) : val_main_v102 x0 x1 x2 x3 x4 (ix4 b n g d) = cmpRow x0 x1 x2 x3 x4 1 b g n d := by
  unfold cmpRow
  pointwise [val_main_v102, val_main_v101, val_main_v100]
  simp only [v99_ix]

theorem v106_ix (b : Fin 4) (n : Fin 256) (q : Fin 256) : val_main_v106 x0 x1 x2 x3 x4 (ix3 b n q) = cmpOut x0 x1 x2 x3 x4 (ix3 b n q) := by
  pointwise [val_main_v106, val_main_v105, val_main_v104, val_main_v103]
  simp only [v51_ix, v102_ix]
  unfold cmpOut
  by_cases h : q.val / 128 < 1
  · rw [dif_pos h]
    have e : q.val / 128 = 0 := by omega
    refine congrArg (fun k => cmpRow x0 x1 x2 x3 x4 k b _ n _) (Fin.ext ?_)
    exact e.symm
  · rw [dif_neg h]
    have e : q.val / 128 = 1 := by omega
    refine congrArg (fun k => cmpRow x0 x1 x2 x3 x4 k b _ n _) (Fin.ext ?_)
    exact e.symm

end Cert.CmpRefIdeal.Val

end
-- ==== Proof.CmpClaim.lean ====
/- The claims about the kernel of the compression of the prompt and its reference. -/
module

public import proofs.«01_k».proof.Defs
public import proofs.«01_k».proof.Proof.Gen.Cmp.Frame
public import proofs.«01_k».proof.Proof.Gen.CmpIdeal.Value
public import proofs.«01_k».proof.Proof.CmpVal
public import proofs.«01_k».proof.Proof.CmpRef
public import Idealize.ShloMosaic.Adequacy
public import Idealize.ShloMosaic.Init

@[expose] public section

set_option maxRecDepth 16384

noncomputable section

namespace Cert.CmpClaim

open Idealize.ShloMosaic Idealize.SL.Sem Cert.Layer

theorem frame : Cert.quiescent_Cmp (hCmp := Cert.Cmp.Gen.facts) := fun m g _ => Cert.Cmp.Gen.frame m g

theorem frameIdeal : Cert.quiescent_CmpIdeal (hCmpIdeal := Cert.CmpIdeal.Gen.facts) := fun m g _ => Cert.CmpIdeal.Gen.frame m g

theorem frameRef : Cert.quiescent_CmpRefIdeal (hCmpRefIdeal := Cert.CmpRefIdeal.Gen.facts) := fun m g _ =>
  (θ_run _ _ _).mono (fun r h => ⟨fun c => (h c).2, sem_eq_zero_of_no_sems (by decide) r.2⟩) (Cert.CmpRefIdeal.Value.run m g)

/-- Both programs end with the same result, as a function of the arguments. -/
theorem algebraic : Cert.algebraic_CmpIdeal_CmpRefIdeal (hCmpIdeal := Cert.CmpIdeal.Gen.facts) (hCmpRefIdeal := Cert.CmpRefIdeal.Gen.facts) :=
  fun m g m' g' _ ha => ⟨fun c => (Cert.CmpIdeal.Gen.dats m 0 c).arrAt 5 Cert.CmpIdeal.cfg0.N,
    Cert.CmpIdeal.Value.run_blocks m g,
    (θ_run _ _ _).mono (fun r h c => by
      obtain ⟨h0, hk⟩ := h c
      obtain ⟨a0, a1, a2, a3, a4⟩ := ha c
      refine ⟨?_, hk⟩
      refine h0.trans ((Cert.CmpRefIdeal.Read.val_main_v106_eq _ _).trans (.trans ?_ (Cert.CmpIdeal.Val.out5 m c).symm))
      rw [a0, a1, a2, a3, a4]
      funext i
      idx_vars i
      exact Cert.CmpRefIdeal.Val.v106_ix _ _ _ _ _ i0 i1 i2) (Cert.CmpRefIdeal.Value.run m' g')⟩

end Cert.CmpClaim

end
-- ==== Proof.FfnKer.lean ====
/- What one grid point of the feed-forward kernel computes, read at an index as extended reals. -/
module

public import proofs.«01_k».proof.Proof.Gen.FfnIdeal.Value
public import proofs.«01_k».proof.Proof.Nrm
public import Idealize.ShloMosaic.Lib.Pipeline.ValueKit

@[expose] public section

set_option maxRecDepth 16384

noncomputable section

namespace Cert.FfnIdeal.Val

open Cert.FfnIdeal Cert.FfnIdeal.Gen Idealize.ShloMosaic Idealize.ShloMosaic.TcCoe Idealize.SL.Sem Cert.Layer

/-- The loaded blocks hold rows of the sequence `xs`: the point `j`'s own 1024 rows, and the 8 rows before them. -/
def Rows (j : ℕ) (v0 : Vec Ideal S1x1024x1024 .f32) (v2 : Vec Ideal S1x8x1024 .f32) (xs : ℕ → Fin 1024 → EReal) : Prop :=
  (∀ (r : Fin 1024) k, v0 (ix3 0 r k) = xs (1024 * j + r.val) k) ∧ (j ≠ 0 → ∀ (r : Fin 8) k, v2 (ix3 0 r k) = xs (1024 * j - 8 + r.val) k)

theorem pay2_apply (v0 : Vec Ideal S1x1024x1024 .f32) (v2 : Vec Ideal S1x8x1024 .f32) (v5 : Vec Ideal S1x1024 .f32) (r : Fin 1032) (k : Fin 1024) :
    k0_pay2 v0 v2 v5 (ix2 r k) = nrm c1024 (fun k => if h : r.val < 8 then v2 (ix3 0 ⟨r.val, h⟩ k) else v0 (ix3 0 ⟨r.val - 8, by omega⟩ k)) (fun k => v5 (ix2 0 k)) k := by
  unfold k0_pay2 k0_pay1 nrm c1024
  pointwise

/-- The normed rows, where they are rows of the sequence. -/
theorem pay2_rows {j : ℕ} {v0 : Vec Ideal S1x1024x1024 .f32} {v2 : Vec Ideal S1x8x1024 .f32} {xs : ℕ → Fin 1024 → EReal} (hr : Rows j v0 v2 xs)
    (v5 : Vec Ideal S1x1024 .f32) (r : Fin 1032) (k : Fin 1024) (h : ¬ 1024 * j + r.val < 8) :
    k0_pay2 v0 v2 v5 (ix2 r k) = nrm c1024 (xs (1024 * j + r.val - 8)) (fun k => v5 (ix2 0 k)) k := by
  rw [pay2_apply]
  congr 1
  funext k
  by_cases h8 : r.val < 8
  · rw [dif_pos h8, hr.2 (by omega)]
    congr 1; show 1024 * j - 8 + r.val = _; omega
  · rw [dif_neg h8, hr.1]
    congr 1; show 1024 * j + (r.val - 8) = _; omega

/-- The up-projection of the rows, the rows before the sequence's start set to zero. -/
theorem pay11_rows {j : ℕ} {v0 : Vec Ideal S1x1024x1024 .f32} {v2 : Vec Ideal S1x8x1024 .f32} {xs : ℕ → Fin 1024 → EReal} (hr : Rows j v0 v2 xs) (hj : j < 4)
    (v5 : Vec Ideal S1x1024 .f32) (v82 : Vec Ideal S1024x1408 .bf16) (r : Fin 1032) (n : Fin 1408) :
    k0_pay11 (k0_pay2 v0 v2 v5) (iota .tc S1032x1408 32 [0] iota_S1032x1408_d0_w32) (Scalar.cmpi .eq (BitVec.ofNat 32 j) 0#32) v82 (ix2 r n)
      = lag 8 (fun s => proj (xs s) (fun k => v5 (ix2 0 k)) (fun k => v82 (ix2 k n))) (1024 * j + r.val) := by
  have h1 : Scalar.cmpi .slt (BitVec.ofNat 32 r.val) 8#32 = if r.val < 8 then 1#1 else 0#1 := by
    revert r; decide +kernel
  have h2 : Scalar.cmpi .eq (BitVec.ofNat 32 j) 0#32 = if j = 0 then 1#1 else 0#1 := by
    interval_cases j <;> rfl
  unfold k0_pay11 lag proj
  pointwise
  rw [h2, show IntOp.cmpi CmpIPredicate.slt (BitVec.ofNat 32 r.val) 8#32 = _ from h1]
  by_cases h : 1024 * j + r.val < 8
  · rw [if_pos h, if_pos (by omega), if_pos (by omega)]; rfl
  · rw [if_neg h]
    simp only [fun k => pay2_rows hr v5 r k h]
    by_cases h8 : r.val < 8
    · rw [if_pos h8, if_neg (by omega)]; rfl
    · rw [if_neg h8]
      by_cases h0 : j = 0
      · rw [if_pos h0]; rfl
      · rw [if_neg h0]; rfl

/-- The projection to the gate values, at the point's own rows. -/
theorem pay10_rows {j : ℕ} {v0 : Vec Ideal S1x1024x1024 .f32} {v2 : Vec Ideal S1x8x1024 .f32} {xs : ℕ → Fin 1024 → EReal} (hr : Rows j v0 v2 xs)
    (v5 : Vec Ideal S1x1024 .f32) (v85 : Vec Ideal S1024x1408 .bf16) (r : Fin 1024) (n : Fin 1408) :
    k0_pay10 (k0_pay2 v0 v2 v5) v85 (ix2 ⟨8 + r.val, by omega⟩ n) = proj (xs (1024 * j + r.val)) (fun k => v5 (ix2 0 k)) (fun k => v85 (ix2 k n)) := by
  unfold k0_pay10 proj
  pointwise
  refine Finset.sum_congr rfl fun k _ => ?_
  rw [pay2_rows hr v5 _ k (by show ¬ 1024 * j + (8 + r.val) < 8; omega)]
  congr 3; show 1024 * j + (8 + r.val) - 8 = _; omega

/-- The hidden units of the first half, from the projected rows `a` and the gate rows `v28`. -/
theorem pay8_apply (v28 a : FVec Ideal S1032x1408 .f32) (v40 v43 v51 v57 : Vec Ideal S1x1408 .f32) (r : Fin 1024) (n : Fin 1408) :
    k0_pay8 v28 a (dynamicRotate 0 2#32 none a rotates_S1032x1408_d0) v40 v43 v51 v57 (ix2 r n)
      = gelu (v40 (ix2 0 n) + a (ix2 ⟨r.val + 6, by omega⟩ n) * v43 (ix2 0 n) + a (ix2 ⟨r.val + 7, by omega⟩ n) * v51 (ix2 0 n)
          + a (ix2 ⟨r.val + 8, by omega⟩ n) * v57 (ix2 0 n)) * v28 (ix2 ⟨8 + r.val, by omega⟩ n) := by
  unfold k0_pay8 gelu
  pointwise
  have e1 : (r.val + 8 + 1032 - 2) % 1032 = r.val + 6 := by omega
  have e2 : (r.val + 8 + 1032 - 1) % 1032 = r.val + 7 := by omega
  simp only [Nat.add_comm 8 r.val, e1, e2]

theorem pay9_apply (v77 : FVec Ideal S1024x1408 .bf16) (v78 : Vec Ideal S1408x1024 .bf16) (r : Fin 1024) (n : Fin 1024) :
    k0_pay9 (k0_pay3 (F := Ideal)) v77 v78 (ix2 r n) = ∑ c : Fin 1408, v77 (ix2 r c) * v78 (ix2 c n) := by
  unfold k0_pay9 k0_pay3
  pointwise

theorem pay14_apply (v19 : FVec Ideal S1032x1024 .bf16) (v20 : IVec S1032x1408 32) (v21 : BitVec 1) (v82 : Vec Ideal S1024x1408 .bf16) (v99 v102 v110 : Vec Ideal S1x1408 .f32)
    (r : Fin 1024) (n : Fin 1408) :
    k0_pay14 v19 v20 v21 v82 v99 v102 v110 (ix2 r n)
      = v99 (ix2 0 n) + k0_pay11 v19 v20 v21 v82 (ix2 ⟨r.val + 6, by omega⟩ n) * v102 (ix2 0 n)
          + k0_pay11 v19 v20 v21 v82 (ix2 ⟨r.val + 7, by omega⟩ n) * v110 (ix2 0 n) := by
  unfold k0_pay14 k0_pay12
  pointwise
  have e1 : (r.val + 8 + 1032 - 2) % 1032 = r.val + 6 := by omega
  have e2 : (r.val + 8 + 1032 - 1) % 1032 = r.val + 7 := by omega
  simp only [Nat.add_comm 8 r.val, e1, e2]

theorem pay15_apply (v19 : FVec Ideal S1032x1024 .bf16) (v20 : IVec S1032x1408 32) (v21 : BitVec 1) (v82 : Vec Ideal S1024x1408 .bf16)
    (r : Fin 1024) (n : Fin 1408) :
    k0_pay15 v19 v20 v21 v82 (ix2 r n) = k0_pay11 v19 v20 v21 v82 (ix2 ⟨8 + r.val, by omega⟩ n) := by
  unfold k0_pay15
  pointwise

theorem pay16_apply (v1 : FVec Ideal S1024x1024 .f32) (v81 : FVec Ideal S1024x1024 .f32) (v87 : FVec Ideal S1032x1408 .f32) (v114 : FVec Ideal S1024x1408 .f32) (v115 : FVec Ideal S1024x1408 .f32) (v116 : Vec Ideal S1x1408 .f32) (v137 : Vec Ideal S1408x1024 .bf16) (v142 : Vec Ideal S1x1024 .f32) (r : Fin 1024) (n : Fin 1024) :
    k0_pay16 v1 v81 v87 v114 v115 v116 v137 v142 (ix3 0 r n)
      = nrm c1024 (fun n => v1 (ix2 r n) + (v81 (ix2 r n) + ∑ c : Fin 1408, (gelu (v114 (ix2 r c) + v115 (ix2 r c) * v116 (ix2 0 c)) * v87 (ix2 ⟨8 + r.val, by omega⟩ c)) * v137 (ix2 c n)))
          (fun n => v142 (ix2 0 n)) n := by
  unfold k0_pay16 gelu nrm c1024
  pointwise

theorem pay4_rows {j : ℕ} {v0 : Vec Ideal S1x1024x1024 .f32} {v2 : Vec Ideal S1x8x1024 .f32} {xs : ℕ → Fin 1024 → EReal} (hr : Rows j v0 v2 xs)
    (v5 : Vec Ideal S1x1024 .f32) (v26 : Vec Ideal S1024x1408 .bf16) (r : Fin 1024) (n : Fin 1408) :
    k0_pay4 v0 v2 v5 v26 (ix2 ⟨8 + r.val, by omega⟩ n) = proj (xs (1024 * j + r.val)) (fun k => v5 (ix2 0 k)) (fun k => v26 (ix2 k n)) :=
  pay10_rows hr v5 v26 r n

theorem pay5_rows {i : grid0.Coords} {v0 : Vec Ideal S1x1024x1024 .f32} {v2 : Vec Ideal S1x8x1024 .f32} {xs : ℕ → Fin 1024 → EReal} (hr : Rows (i 1).val v0 v2 xs)
    (v5 : Vec Ideal S1x1024 .f32) (v23 : Vec Ideal S1024x1408 .bf16) (r : Fin 1032) (n : Fin 1408) :
    k0_pay5 i v0 v2 v5 v23 (ix2 r n) = lag 8 (fun s => proj (xs s) (fun k => v5 (ix2 0 k)) (fun k => v23 (ix2 k n))) (1024 * (i 1).val + r.val) :=
  pay11_rows hr (i 1).isLt v5 v23 r n

theorem lag8_conv (a : ℕ → EReal) (b w0 w1 w2 : EReal) (j r : ℕ) :
    b + lag 8 a (1024 * j + (r + 6)) * w0 + lag 8 a (1024 * j + (r + 7)) * w1 + lag 8 a (1024 * j + (r + 8)) * w2 = conv a b w0 w1 w2 (1024 * j + r) := by
  unfold conv
  rw [← lag_eight a (1024 * j + r), ← lag_eight a (1024 * j + r + 1), ← lag_eight a (1024 * j + r + 2)]
  rfl

theorem pay8_rows (v28 : FVec Ideal S1032x1408 .f32) (i : grid0.Coords) (v0 : Vec Ideal S1x1024x1024 .f32) (v2 : Vec Ideal S1x8x1024 .f32) (v5 : Vec Ideal S1x1024 .f32)
    (v23 : Vec Ideal S1024x1408 .bf16) (v40 v43 v51 v57 : Vec Ideal S1x1408 .f32) (r : Fin 1024) (n : Fin 1408) :
    k0_pay8 v28 (k0_pay5 i v0 v2 v5 v23) (k0_pay6 i v0 v2 v5 v23) v40 v43 v51 v57 (ix2 r n)
      = gelu (v40 (ix2 0 n) + k0_pay5 i v0 v2 v5 v23 (ix2 ⟨r.val + 6, by omega⟩ n) * v43 (ix2 0 n) + k0_pay5 i v0 v2 v5 v23 (ix2 ⟨r.val + 7, by omega⟩ n) * v51 (ix2 0 n)
          + k0_pay5 i v0 v2 v5 v23 (ix2 ⟨r.val + 8, by omega⟩ n) * v57 (ix2 0 n)) * v28 (ix2 ⟨8 + r.val, by omega⟩ n) :=
  pay8_apply v28 (k0_pay5 i v0 v2 v5 v23) v40 v43 v51 v57 r n

theorem lag8_conv' (a : ℕ → EReal) (b w0 w1 w2 : EReal) (j r : ℕ) :
    b + lag 8 a (1024 * j + (r + 6)) * w0 + lag 8 a (1024 * j + (r + 7)) * w1 + lag 8 a (1024 * j + (8 + r)) * w2 = conv a b w0 w1 w2 (1024 * j + r) := by
  rw [Nat.add_comm 8 r, lag8_conv]

theorem pay1_apply (v0 : Vec Ideal S1x1024x1024 .f32) (r k : Fin 1024) : k0_pay1 v0 (ix2 r k) = v0 (ix3 0 r k) := by
  unfold k0_pay1
  pointwise

theorem pay13_rows {j : ℕ} {v0 : Vec Ideal S1x1024x1024 .f32} {v2 : Vec Ideal S1x8x1024 .f32} {xs : ℕ → Fin 1024 → EReal} (hr : Rows j v0 v2 xs) (hj : j < 4)
    (v5 : Vec Ideal S1x1024 .f32) (v82 : Vec Ideal S1024x1408 .bf16) (r : Fin 2) (n : Fin 1408) :
    k0_pay13 (k0_pay2 v0 v2 v5) (iota .tc S1032x1408 32 [0] iota_S1032x1408_d0_w32) (Scalar.cmpi .eq (BitVec.ofNat 32 j) 0#32) v82 (ix3 0 r n)
      = lag 8 (fun s => proj (xs s) (fun k => v5 (ix2 0 k)) (fun k => v82 (ix2 k n))) (1024 * j + (r.val + 1030)) := by
  have e1 : (r.val + 1032 - 2) % 1032 = r.val + 1030 := by omega
  rw [show r.val + 1030 = (⟨r.val + 1030, by omega⟩ : Fin 1032).val from rfl, ← pay11_rows hr hj]
  unfold k0_pay13 k0_pay12
  pointwise
  simp only [e1]

theorem pay7_rows {i : grid0.Coords} {v0 : Vec Ideal S1x1024x1024 .f32} {v2 : Vec Ideal S1x8x1024 .f32} {xs : ℕ → Fin 1024 → EReal} (hr : Rows (i 1).val v0 v2 xs)
    (v5 : Vec Ideal S1x1024 .f32) (v23 : Vec Ideal S1024x1408 .bf16) (r : Fin 2) (n : Fin 1408) :
    k0_pay7 (k0_pay6 i v0 v2 v5 v23) (ix3 0 r n) = lag 8 (fun s => proj (xs s) (fun k => v5 (ix2 0 k)) (fun k => v23 (ix2 k n))) (1024 * (i 1).val + (r.val + 1030)) := by
  have e1 : (r.val + 1032 - 2) % 1032 = r.val + 1030 := by omega
  rw [show r.val + 1030 = (⟨r.val + 1030, by omega⟩ : Fin 1032).val from rfl, ← pay5_rows hr]
  unfold k0_pay7 k0_pay6
  pointwise
  simp only [e1]

theorem out8_point {i : grid0.Coords} {x0 : Vec Ideal S1x1024x1024 .f32} {x1 : Vec Ideal S1x8x1024 .f32} {x2 : Vec Ideal S1x1024 .f32} {x3 : Vec Ideal S1024x5632 .bf16}
    {x4 : Vec Ideal S3x2816 .f32} {x5 : Vec Ideal S1x2816 .f32} {x6 : Vec Ideal S2816x1024 .bf16} {x7 : Vec Ideal S1x1024 .f32}
    {xs : ℕ → Fin 1024 → EReal} (hr : Rows (i 1).val x0 x1 xs) (r n : Fin 1024) :
    out0_8 i x0 x1 x2 x3 x4 x5 x6 x7 (ix3 0 r n)
      = ffnRow xs (fun k => x2 (ix2 0 k)) (fun k c => x3 (ix2 k c)) (fun j c => x4 (ix2 j c)) (fun c => x5 (ix2 0 c))
    (fun c n => x6 (ix2 c n)) (fun n => x7 (ix2 0 n)) (1024 * (i 1).val + r.val) n := by
  unfold out0_8 k0_pay17 k0_pay18 k0_pay19
  frame_out
  rw [pay16_apply]
  unfold ffnRow
  congr 1
  funext n
  rw [Fin.sum_univ_two_halves 1408 1408 rfl, pay9_apply, pay1_apply, hr.1]
  simp only [pay8_rows, pay14_apply, pay15_apply, pay4_rows hr, pay5_rows hr, pay10_rows hr, pay11_rows hr (i 1).isLt, lag8_conv, lag8_conv']
  unfold hid
  pointwise
  simp only [← Nat.add_assoc, Nat.reduceAdd]

theorem half_lt {a : ℕ} (h : a < 1408) : 1408 + a < 2816 := by omega
theorem half_lt' {a : ℕ} (h : a < 1408) : a < 2816 := by omega

theorem out9_point {i : grid0.Coords} {x0 : Vec Ideal S1x1024x1024 .f32} {x1 : Vec Ideal S1x8x1024 .f32} {x2 : Vec Ideal S1x1024 .f32} {x3 : Vec Ideal S1024x5632 .bf16}
    {x4 : Vec Ideal S3x2816 .f32} {x5 : Vec Ideal S1x2816 .f32} {x6 : Vec Ideal S2816x1024 .bf16} {x7 : Vec Ideal S1x1024 .f32}
    {xs : ℕ → Fin 1024 → EReal} (hr : Rows (i 1).val x0 x1 xs) (hi : (i 1).val = 3) (r : Fin 2) (n : Fin 2816) :
    out0_9 i x0 x1 x2 x3 x4 x5 x6 x7 (ix3 0 r n) = lag 2 (fun s => proj (xs s) (fun k => x2 (ix2 0 k)) (fun k => x3 (ix2 k ⟨n.val, by omega⟩))) (4096 + r.val) := by
  have e : lag 2 (fun s => proj (xs s) (fun k => x2 (ix2 0 k)) (fun k => x3 (ix2 k ⟨n.val, by omega⟩))) (4096 + r.val)
    = lag 8 (fun s => proj (xs s) (fun k => x2 (ix2 0 k)) (fun k => x3 (ix2 k ⟨n.val, by omega⟩))) (1024 * (i 1).val + (r.val + 1030)) := by
      rw [← lag_eight, hi]; congr 1; omega
  rw [e]
  have e1 : (r.val + 1032 - 2) % 1032 = r.val + 1030 := by omega
  unfold out0_9 k0_pay17 k0_pay18 k0_pay19
  canon_tiles x h
  · obtain rfl : r = x 1 := Fin.ext h1
    have hn : (⟨1408 + (x 2).val, half_lt x2_lt⟩ : Fin 2816) = n := Fin.ext h2.symm
    subst hn
    clear h0 h1 h2 e
    idx_vars x
    obtain rfl : x0 = 0 := Subsingleton.elim _ _
    frame_out
    rw [pay13_rows hr (i 1).isLt]
    pointwise
  · obtain rfl : r = x 1 := Fin.ext h1
    have hn : (⟨(x 2).val, half_lt' x2_lt⟩ : Fin 2816) = n := Fin.ext h2.symm
    subst hn
    clear h0 h1 h2 e
    idx_vars x
    obtain rfl : x0 = 0 := Subsingleton.elim _ _
    frame_out
    rw [pay7_rows hr]
    pointwise

end Cert.FfnIdeal.Val

end
-- ==== Proof.FfnVal.lean ====
/- The feed-forward kernel's results after the run, as functions of its arguments. -/
module

public import proofs.«01_k».proof.Proof.FfnKer

@[expose] public section

set_option maxRecDepth 16384

noncomputable section

namespace Cert.FfnIdeal.Val

open Cert.FfnIdeal Cert.FfnIdeal.Gen Idealize.ShloMosaic Idealize.ShloMosaic.TcCoe Idealize.SL.Sem Cert.Layer
open Idealize.ShloMosaic.Pipeline (Dat)

variable (m : (ℓ : Loc nD τ sig) → Buf (Elt Ideal) ℓ)

theorem idx : ∀ t : Fin cfg0.N,
    win0_0.index t = ![(grid0.coords t 0).val, (grid0.coords t 1).val, 0] ∧ win0_1.index t = ![(grid0.coords t 0).val, (grid0.coords t 1).val * 128 - 1, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![(grid0.coords t 0).val, (grid0.coords t 1).val, 0] ∧ win0_9.index t = ![(grid0.coords t 0).val, 0, 0] :=
  (by decide +kernel : ∀ t : Fin grid0.N, _)

theorem blk0 (c : Dev nD) (t : Fin cfg0.N) (r : Fin 1024) (k : Fin 1024) :
    iblk m c 0 t (ix3 0 r k) = seqOf (m ((c : Thread nD τ).loc main_arg0)) (grid0.coords t 0) (1024 * (grid0.coords t 1).val + r.val) k := by
  have hj : (grid0.coords t 1).val < 4 := (grid0.coords t 1).isLt
  unfold seqOf
  rw [dif_pos (by omega)]
  blk_ext [iblk, V, idx t]

theorem blk1 (c : Dev nD) (t : Fin cfg0.N) (h : (grid0.coords t 1).val ≠ 0) (r : Fin 8) (k : Fin 1024) :
    iblk m c 1 t (ix3 0 r k) = seqOf (m ((c : Thread nD τ).loc main_arg0)) (grid0.coords t 0) (1024 * (grid0.coords t 1).val - 8 + r.val) k := by
  have hj : (grid0.coords t 1).val < 4 := (grid0.coords t 1).isLt
  unfold seqOf
  rw [dif_pos (by omega)]
  blk_ext [iblk, V, idx t]

theorem blk2 (c : Dev nD) (t : Fin cfg0.N) (k : Fin 1024) : iblk m c 2 t (ix2 0 k) = m ((c : Thread nD τ).loc main_arg1) (ix2 0 k) := by
  blk_ext! [iblk, V, idx t]
theorem blk3 (c : Dev nD) (t : Fin cfg0.N) (k : Fin 1024) (n : Fin 5632) : iblk m c 3 t (ix2 k n) = m ((c : Thread nD τ).loc main_arg2) (ix3 0 k n) := by
  blk_ext! [iblk, V, idx t]
theorem blk4 (c : Dev nD) (t : Fin cfg0.N) (k : Fin 3) (n : Fin 2816) : iblk m c 4 t (ix2 k n) = m ((c : Thread nD τ).loc main_arg3) (ix3 0 k n) := by
  blk_ext! [iblk, V, idx t]
theorem blk5 (c : Dev nD) (t : Fin cfg0.N) (n : Fin 2816) : iblk m c 5 t (ix2 0 n) = m ((c : Thread nD τ).loc main_arg4) (ix2 0 n) := by
  blk_ext! [iblk, V, idx t]
theorem blk6 (c : Dev nD) (t : Fin cfg0.N) (k : Fin 2816) (n : Fin 1024) : iblk m c 6 t (ix2 k n) = m ((c : Thread nD τ).loc main_arg5) (ix3 0 k n) := by
  blk_ext! [iblk, V, idx t]
theorem blk7 (c : Dev nD) (t : Fin cfg0.N) (n : Fin 1024) : iblk m c 7 t (ix2 0 n) = m ((c : Thread nD τ).loc main_arg6) (ix1 n) := by
  blk_ext! [iblk, V, idx t]

theorem emb8 (t : Fin cfg0.N) (y1 y2 : Fin 1024) : ((cfg0.win 8).blk t).view.emb (ix3 0 y1 y2)
    = ix3 (grid0.coords t 0) (⟨1024 * (grid0.coords t 1).val + y1.val, by have : (grid0.coords t 1).val < 4 := (grid0.coords t 1).isLt; omega⟩ : Fin 4096) y2 := by
  blk_ext [idx t]

theorem emb9 (t : Fin cfg0.N) (y1 : Fin 2) (y2 : Fin 2816) : ((cfg0.win 9).blk t).view.emb (ix3 0 y1 y2) = ix3 (grid0.coords t 0) y1 y2 := by
  blk_ext [idx t]

theorem last : ∀ t : Fin cfg0.N, (cfg0.win 9).flush t = true → (grid0.coords t 1).val = 3 := by decide +kernel

theorem out8 (c : Dev nD) : (dats m 0 c).arrAt 8 cfg0.N
    = fun i => ffnOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) i := by
  refine (dats m 0 c).arrAt_eq_of_covers 8 _ (by decide +kernel) fun t hf y => ?_
  blk_simp
  rw [after0_8]
  idx_vars y
  obtain rfl : y0 = 0 := Subsingleton.elim _ _
  refine (out8_point ⟨blk0 m c t, blk1 m c t⟩ y1 y2).trans ?_
  simp only [blk2, blk3, blk4, blk5, blk6, blk7]
  refine (congrArg (ffnOut _ _ _ _ _ _ _) (emb8 t y1 y2)).symm

theorem out9 (c : Dev nD) : (dats m 0 c).arrAt 9 cfg0.N
    = fun i => ffnTail (m ((c : Thread nD τ).loc main_arg0)) (m ((c : Thread nD τ).loc main_arg1)) (m ((c : Thread nD τ).loc main_arg2)) (i 0) (i 1) (i 2) := by
  refine (dats m 0 c).arrAt_eq_of_covers 9 _ (by decide +kernel) fun t hf y => ?_
  blk_simp
  rw [after0_9]
  idx_vars y
  obtain rfl : y0 = 0 := Subsingleton.elim _ _
  refine (out9_point ⟨blk0 m c t, blk1 m c t⟩ (last t hf) y1 y2).trans ?_
  simp only [blk2, blk3]
  refine (congrArg (fun i : S4x2x2816.Idx => ffnTail (m ((c : Thread nD τ).loc main_arg0)) (m ((c : Thread nD τ).loc main_arg1)) (m ((c : Thread nD τ).loc main_arg2)) (i 0) (i 1) (i 2)) (emb9 t y1 y2)).symm

end Cert.FfnIdeal.Val

end
-- ==== Proof.FfnRef.lean ====
/- The feed-forward reference's results read at an index. -/
module

public import proofs.«01_k».proof.Proof.Gen.FfnRefIdeal.Read
public import proofs.«01_k».proof.Proof.Nrm

@[expose] public section

set_option maxRecDepth 16384

noncomputable section

namespace Cert.FfnRefIdeal.Val

open Cert.FfnRefIdeal Idealize.ShloMosaic Idealize.ShloMosaic.TcCoe Idealize.SL.Sem Cert.Layer Cert.FfnRefIdeal.Read Cert.FfnRefIdeal.Read Cert.FfnRefIdeal.Read Cert.FfnRefIdeal.Read

variable (x0 : (⟨S4x4096x1024, .f32⟩ : BufTy).Contents (Elt Ideal)) (x1 : (⟨S1x1024, .f32⟩ : BufTy).Contents (Elt Ideal)) (x2 : (⟨S1x1024x5632, .f32⟩ : BufTy).Contents (Elt Ideal))
  (x3 : (⟨S1x3x2816, .f32⟩ : BufTy).Contents (Elt Ideal)) (x4 : (⟨S1x2816, .f32⟩ : BufTy).Contents (Elt Ideal)) (x5 : (⟨S1x2816x1024, .f32⟩ : BufTy).Contents (Elt Ideal))
  (x6 : (⟨S1024, .f32⟩ : BufTy).Contents (Elt Ideal))

theorem v13_ix (b : Fin 4) (t : Fin 4096) (k : Fin 1024) :
    val_main_v13 x0 x1 (ix3 b t k) = nrm c1024 (fun k => x0 (ix3 b t k)) (fun k => x1 (ix2 0 k)) k := by
  unfold nrm c1024
  pointwise [val_main_v13, val_main_v10, val_main_v12, val_main_v9, val_main_v11, val_main_v8, val_main_v0, val_main_v7, val_main_v5, val_main_v6, val_main_v3, val_main_v4, val_main_cst_1, val_main_v2, val_main_cst_0, val_main_v1, val_main_cst]

theorem v15_ix (b : Fin 4) (t : Fin 4096) (c : Fin 5632) :
    val_main_v15 x0 x1 x2 (ix3 b t c) = proj (seqOf x0 b t) (fun k => x1 (ix2 0 k)) (fun k => x2 (ix3 0 k c)) := by
  have hs : seqOf x0 b t.val = fun k => x0 (ix3 b t k) := by
    funext k
    unfold seqOf
    rw [dif_pos t.isLt]
  rw [hs]
  unfold proj
  pointwise [val_main_v15, val_main_v14]
  simp only [v13_ix]

theorem v19_ix (b : Fin 4) (t : Fin 4098) (c : Fin 2816) :
    val_main_v19 x0 x1 x2 (ix3 b t c) = lag 2 (fun s => proj (seqOf x0 b s) (fun k => x1 (ix2 0 k)) (fun k => x2 (ix3 0 k ⟨c.val, by omega⟩))) t.val := by
  unfold lag
  pointwise [val_main_v19, val_main_v18, val_main_v16, val_main_cst_2]
  simp only [v15_ix]
  by_cases h : t.val < 2
  · rw [dif_pos h, if_pos h]
  · rw [dif_neg h, if_neg h]

theorem v46_ix (b : Fin 4) (t : Fin 4096) (c : Fin 2816) :
    val_main_v46 x0 x1 x2 x3 x4 (ix3 b t c) = conv (fun s => proj (seqOf x0 b s) (fun k => x1 (ix2 0 k)) (fun k => x2 (ix3 0 k ⟨c.val, by omega⟩)))
      (x4 (ix2 0 c)) (x3 (ix3 0 0 c)) (x3 (ix3 0 1 c)) (x3 (ix3 0 2 c)) t.val := by
  unfold conv
  pointwise [val_main_v46, val_main_v38, val_main_v45, val_main_v30, val_main_v37, val_main_v39, val_main_v44, val_main_v29, val_main_v27, val_main_v31, val_main_v36, val_main_v43, val_main_v28, val_main_v21, val_main_v26, val_main_v35, val_main_v42, val_main_v20, val_main_v25, val_main_v34, val_main_v41, val_main_v24, val_main_v33, val_main_v40, val_main_v23, val_main_v32, val_main_v22]
  simp only [v19_ix, Nat.add_comm 1 t.val, Nat.add_comm 2 t.val]

theorem v60_ix (b : Fin 4) (t : Fin 4096) (c : Fin 2816) :
    val_main_v60 x0 x1 x2 x3 x4 (ix3 b t c) = hid (seqOf x0 b) (fun k => x1 (ix2 0 k)) (fun k => x2 (ix3 0 k ⟨c.val, by omega⟩)) (fun k => x2 (ix3 0 k ⟨2816 + c.val, by omega⟩))
      (x4 (ix2 0 c)) (x3 (ix3 0 0 c)) (x3 (ix3 0 1 c)) (x3 (ix3 0 2 c)) t.val := by
  unfold hid gelu
  pointwise [val_main_v60, val_main_v59, val_main_v17, val_main_v58, val_main_v57, val_main_v56, val_main_cst_6, val_main_v55, val_main_v54, val_main_cst_5, val_main_v53, val_main_v52, val_main_v51, val_main_cst_4, val_main_v50, val_main_v49, val_main_v48, val_main_cst_3, val_main_v47]
  simp only [v15_ix, v46_ix]
  generalize conv _ _ _ _ _ _ = a
  generalize proj _ _ _ = p
  rw [mul_assoc a a a]

theorem v76_ix (b : Fin 4) (t : Fin 4096) (n : Fin 1024) :
    val_main_v76 x0 x1 x2 x3 x4 x5 x6 (ix3 b t n) = ffnOut x0 x1 x2 x3 x4 x5 x6 (ix3 b t n) := by
  have hs (k : Fin 1024) : seqOf x0 b t.val k = x0 (ix3 b t k) := by
    unfold seqOf
    rw [dif_pos t.isLt]
  unfold ffnOut ffnRow nrm c1024
  pointwise [val_main_v76, val_main_v73, val_main_v75, val_main_v63, val_main_v72, val_main_v74, val_main_v62, val_main_v71, val_main_v61, val_main_v70, val_main_v68, val_main_v69, val_main_v66, val_main_v67, val_main_cst_9, val_main_v65, val_main_cst_8, val_main_v64, val_main_cst_7]
  simp only [v60_ix, hs]

theorem v77_ix (b : Fin 4) (r : Fin 2) (c : Fin 2816) :
    val_main_v77 x0 x1 x2 (ix3 b r c) = ffnTail x0 x1 x2 b r c := by
  unfold ffnTail
  pointwise [val_main_v77]
  simp only [v19_ix]

end Cert.FfnRefIdeal.Val

end
-- ==== Proof.FfnClaim.lean ====
/- The claims about the feed-forward kernel and its reference. -/
module

public import proofs.«01_k».proof.Defs
public import proofs.«01_k».proof.Proof.Gen.Ffn.Frame
public import proofs.«01_k».proof.Proof.FfnVal
public import proofs.«01_k».proof.Proof.FfnRef
public import Idealize.ShloMosaic.Adequacy
public import Idealize.ShloMosaic.Init

@[expose] public section

set_option maxRecDepth 16384

noncomputable section

namespace Cert.FfnClaim

open Idealize.ShloMosaic Idealize.SL.Sem Cert.Layer

theorem frame : Cert.quiescent_Ffn (hFfn := Cert.Ffn.Gen.facts) := fun m g _ => Cert.Ffn.Gen.frame m g

theorem frameIdeal : Cert.quiescent_FfnIdeal (hFfnIdeal := Cert.FfnIdeal.Gen.facts) := fun m g _ => Cert.FfnIdeal.Gen.frame m g

theorem frameRef : Cert.quiescent_FfnRefIdeal (hFfnRefIdeal := Cert.FfnRefIdeal.Gen.facts) := fun m g _ =>
  (θ_run _ _ _).mono (fun r h => ⟨fun c => (h c).2.2, sem_eq_zero_of_no_sems (by decide) r.2⟩) (Cert.FfnRefIdeal.Value.run m g)

/-- Both programs end with the feed-forward row and the convolution's last rows, as functions of the arguments. -/
theorem algebraic : Cert.algebraic_FfnIdeal_FfnRefIdeal (hFfnIdeal := Cert.FfnIdeal.Gen.facts) (hFfnRefIdeal := Cert.FfnRefIdeal.Gen.facts) :=
  fun m g m' g' _ ha => ⟨fun c => (Cert.FfnIdeal.Gen.dats m 0 c).arrAt 8 Cert.FfnIdeal.cfg0.N, fun c => (Cert.FfnIdeal.Gen.dats m 0 c).arrAt 9 Cert.FfnIdeal.cfg0.N,
    Cert.FfnIdeal.Value.run_blocks m g,
    (θ_run _ _ _).mono (fun r h c => by
      obtain ⟨h0, h1, hk⟩ := h c
      obtain ⟨a0, a1, a2, a3, a4, a5, a6⟩ := ha c
      refine ⟨?_, ?_, hk⟩
      · refine h0.trans ((Cert.FfnRefIdeal.Read.val_main_v76_eq m' c).trans (.trans ?_ (Cert.FfnIdeal.Val.out8 m c).symm))
        rw [a0, a1, a2, a3, a4, a5, a6]
        funext i
        idx_vars i
        exact Cert.FfnRefIdeal.Val.v76_ix _ _ _ _ _ _ _ i0 i1 i2
      · refine h1.trans ((Cert.FfnRefIdeal.Read.val_main_v77_eq _ _ _).trans (.trans ?_ (Cert.FfnIdeal.Val.out9 m c).symm))
        rw [a0, a1, a2]
        funext i
        idx_vars i
        exact Cert.FfnRefIdeal.Val.v77_ix _ _ _ i0 i1 i2) (Cert.FfnRefIdeal.Value.run m' g')⟩

end Cert.FfnClaim

end
-- ==== Proof.MixMath.lean ====
/- Scalar mathematics of the mixers: the chunked causal mixing of the normed gate half, and the merged row. -/
module

public import proofs.«01_k».proof.Proof.Nrm

@[expose] public section

noncomputable section

namespace Cert.Layer

open Idealize.ShloMosaic

/-- The row length 512, as the programs write it. -/
def c512 : EReal := Ideal.ofBits .f32 0x44000000#32

/-- One row of the causal mixing inside a chunk: the lower triangle of `w` times the column `v`, and the bias. -/
def spatial (w : Fin 128 → Fin 128 → EReal) (b v : Fin 128 → EReal) (i : Fin 128) : EReal :=
  (∑ j : Fin 128, if j.val ≤ i.val then w i j * v j else 0) + b i

/-- The chunked mixing of the sequence `vs` at the row `t`: the chunk of `t`, the channel group of `c`. -/
def gmlp (ws : Fin 4 → Fin 128 → Fin 128 → EReal) (bs : Fin 4 → Fin 128 → EReal) (vs : ℕ → Fin 512 → EReal) (t : ℕ) (c : Fin 512) : EReal :=
  spatial (ws ⟨c.val / 128, by omega⟩) (bs ⟨c.val / 128, by omega⟩) (fun j => vs (128 * (t / 128) + j.val) c) ⟨t % 128, by omega⟩

/-- The normed half `v` of a row: the norm of gelu of the projections. -/
def vrow (x g : Fin 1024 → EReal) (w : Fin 3072 → Fin 1024 → EReal) (gn : Fin 512 → EReal) (c : Fin 512) : EReal :=
  nrm c512 (fun c => gelu (proj x g (w ⟨512 + c.val, by omega⟩))) gn c

/-- The mixers' row: the attention's output and the mixed half, each projected and gated, their sum projected, the residual.
    `w` holds the columns of the input projection: the two halves of 512, then the two gates of 1024. -/
def mixRow (xs : ℕ → Fin 1024 → EReal) (o : Fin 512 → EReal) (g : Fin 1024 → EReal) (w : Fin 3072 → Fin 1024 → EReal) (gn : Fin 512 → EReal)
    (ws : Fin 4 → Fin 128 → Fin 128 → EReal) (bs : Fin 4 → Fin 128 → EReal) (wpa wpb : Fin 512 → Fin 1024 → EReal)
    (wout : Fin 1024 → Fin 1024 → EReal) (t : ℕ) (n : Fin 1024) : EReal :=
  xs t n + ∑ k : Fin 1024, (Ideal.logistic (proj (xs t) g (w ⟨1024 + k.val, by omega⟩)) * (∑ c : Fin 512, o c * wpa c k)
    + Ideal.logistic (proj (xs t) g (w ⟨2048 + k.val, by omega⟩))
      * (∑ c : Fin 512, (gelu (proj (xs t) g (w ⟨c.val, by omega⟩)) * gmlp ws bs (fun s => vrow (xs s) g w gn) t c) * wpb c k)) * wout k n

/-- The columns of the input projection that the mixers read. -/
def cols (x3 : (⟨3, ![1, 1024, 4376]⟩ : Shape).Idx → EReal) (c : Fin 3072) (k : Fin 1024) : EReal := x3 (ix3 0 k ⟨1304 + c.val, by omega⟩)

/-- The mixers' result as one function of the arguments. -/
def mixOut (x0 : (⟨3, ![4, 4096, 1024]⟩ : Shape).Idx → EReal) (x1 : (⟨3, ![4, 4096, 512]⟩ : Shape).Idx → EReal) (x2 : (⟨2, ![1, 1024]⟩ : Shape).Idx → EReal)
    (x3 : (⟨3, ![1, 1024, 4376]⟩ : Shape).Idx → EReal) (x4 : (⟨2, ![1, 512]⟩ : Shape).Idx → EReal) (x5 : (⟨4, ![1, 4, 128, 128]⟩ : Shape).Idx → EReal)
    (x6 : (⟨3, ![1, 4, 128]⟩ : Shape).Idx → EReal) (x7 x8 : (⟨3, ![1, 512, 1024]⟩ : Shape).Idx → EReal) (x9 : (⟨3, ![1, 1024, 1024]⟩ : Shape).Idx → EReal)
    (i : (⟨3, ![4, 4096, 1024]⟩ : Shape).Idx) : EReal :=
  mixRow (seqOf x0 (i 0)) (fun c => x1 (ix3 (i 0) (i 1) c)) (fun k => x2 (ix2 0 k)) (cols x3) (fun c => x4 (ix2 0 c))
    (fun g a b => x5 (ix4 0 g a b)) (fun g a => x6 (ix3 0 g a)) (fun c n => x7 (ix3 0 c n)) (fun c n => x8 (ix3 0 c n)) (fun k n => x9 (ix3 0 k n)) (i 1).val (i 2)

/-- The last chunk's rows of the normed half. -/
def mixTail (x0 : (⟨3, ![4, 4096, 1024]⟩ : Shape).Idx → EReal) (x2 : (⟨2, ![1, 1024]⟩ : Shape).Idx → EReal) (x3 : (⟨3, ![1, 1024, 4376]⟩ : Shape).Idx → EReal)
    (x4 : (⟨2, ![1, 512]⟩ : Shape).Idx → EReal) (b : Fin 4) (r : Fin 128) (c : Fin 512) : EReal :=
  vrow (seqOf x0 b (3968 + r.val)) (fun k => x2 (ix2 0 k)) (cols x3) (fun c => x4 (ix2 0 c)) c

/-- Four groups of 128 columns, one after the other, as one function of the column. -/
theorem quad (w : Fin 4 → Fin 128 → Fin 128 → EReal) (b : Fin 4 → Fin 128 → EReal) (v : Fin 128 → Fin 512 → EReal) (i : Fin 128) (c : Fin 512) :
    (if _h : c.val < 128 then (∑ x : Fin 128, Scalar.select (if x.val ≤ i.val then 1#1 else 0#1) (w 0 i x * v x c) 0) + b 0 i
      else if _h : c.val - 128 < 128 then (∑ x : Fin 128, Scalar.select (if x.val ≤ i.val then 1#1 else 0#1) (w 1 i x * v x ⟨128 + (c.val - 128), by omega⟩) 0) + b 1 i
      else if _h : c.val - 128 - 128 < 128 then (∑ x : Fin 128, Scalar.select (if x.val ≤ i.val then 1#1 else 0#1) (w 2 i x * v x ⟨256 + (c.val - 128 - 128), by omega⟩) 0) + b 2 i
      else (∑ x : Fin 128, Scalar.select (if x.val ≤ i.val then 1#1 else 0#1) (w 3 i x * v x ⟨384 + (c.val - 128 - 128 - 128), by omega⟩) 0) + b 3 i)
      = spatial (w ⟨c.val / 128, by omega⟩) (b ⟨c.val / 128, by omega⟩) (fun j => v j c) i := by
  have hs (p : Prop) [Decidable p] (a : EReal) : Scalar.select (if p then 1#1 else 0#1) a 0 = if p then a else 0 := by
    by_cases h : p
    · rw [if_pos h, if_pos h]; rfl
    · rw [if_neg h, if_neg h]; rfl
  simp only [hs]
  unfold spatial
  split_ifs with h0 h1 h2
  · have e : (⟨c.val / 128, by omega⟩ : Fin 4) = 0 := Fin.ext (by show c.val / 128 = 0; omega)
    rw [e]
  · have e : (⟨c.val / 128, by omega⟩ : Fin 4) = 1 := Fin.ext (by show c.val / 128 = 1; omega)
    have e' : (⟨128 + (c.val - 128), by omega⟩ : Fin 512) = c := Fin.ext (by show 128 + (c.val - 128) = c.val; omega)
    rw [e, e']
  · have e : (⟨c.val / 128, by omega⟩ : Fin 4) = 2 := Fin.ext (by show c.val / 128 = 2; omega)
    have e' : (⟨256 + (c.val - 128 - 128), by omega⟩ : Fin 512) = c := Fin.ext (by show 256 + (c.val - 128 - 128) = c.val; omega)
    rw [e, e']
  · have e : (⟨c.val / 128, by omega⟩ : Fin 4) = 3 := Fin.ext (by show c.val / 128 = 3; omega)
    have e' : (⟨384 + (c.val - 128 - 128 - 128), by omega⟩ : Fin 512) = c := Fin.ext (by show 384 + (c.val - 128 - 128 - 128) = c.val; omega)
    rw [e, e']

/-- Eight chunks of 128 rows, one after the other, as one function of the row. -/
theorem oct (f : Fin 1024 → EReal) (r : Fin 1024) :
    (if h : r.val < 128 then f ⟨r.val, by omega⟩
      else if h : r.val - 128 < 128 then f ⟨128 + (r.val - 128), by omega⟩
      else if h : r.val - 128 - 128 < 128 then f ⟨256 + (r.val - 128 - 128), by omega⟩
      else if h : r.val - 128 - 128 - 128 < 128 then f ⟨384 + (r.val - 128 - 128 - 128), by omega⟩
      else if h : r.val - 128 - 128 - 128 - 128 < 128 then f ⟨512 + (r.val - 128 - 128 - 128 - 128), by omega⟩
      else if h : r.val - 128 - 128 - 128 - 128 - 128 < 128 then f ⟨640 + (r.val - 128 - 128 - 128 - 128 - 128), by omega⟩
      else if h : r.val - 128 - 128 - 128 - 128 - 128 - 128 < 128 then f ⟨768 + (r.val - 128 - 128 - 128 - 128 - 128 - 128), by omega⟩
      else f ⟨896 + (r.val - 128 - 128 - 128 - 128 - 128 - 128 - 128), by omega⟩) = f r := by
  split_ifs <;> first | rfl | exact congrArg f (Fin.ext (by dsimp only; omega))

end Cert.Layer

end
-- ==== Proof.DecMath.lean ====
/- The sample's step as functions of the arguments: one position for each of 32 sequences. -/
module

public import proofs.«01_k».proof.Proof.MixMath

@[expose] public section

noncomputable section

namespace Cert.Layer

open Idealize.ShloMosaic

/-- The normed row of the sequence `b` times the column `c` of the input projection. -/
def colDec (x0 : (⟨3, ![32, 1, 1024]⟩ : Shape).Idx → EReal) (x1 : (⟨2, ![1, 1024]⟩ : Shape).Idx → EReal) (x2 : (⟨3, ![1, 1024, 4376]⟩ : Shape).Idx → EReal)
    (b : Fin 32) (c : Fin 4376) : EReal :=
  proj (fun k => x0 (ix3 b 0 k)) (fun k => x1 (ix2 0 k)) (fun k => x2 (ix3 0 k c))

/-- The scaled queries. -/
def qDec (x0 : (⟨3, ![32, 1, 1024]⟩ : Shape).Idx → EReal) (x1 : (⟨2, ![1, 1024]⟩ : Shape).Idx → EReal) (x2 : (⟨3, ![1, 1024, 4376]⟩ : Shape).Idx → EReal)
    (i : (⟨2, ![32, 512]⟩ : Shape).Idx) : EReal :=
  colDec x0 x1 x2 (i 0) (⟨(i 1).val, by have : (i 1).val < 512 := (i 1).isLt; omega⟩) * Ideal.ofBits .f32 0x3E000000#32

/-- The keys and values of the three branches. -/
def kvDec (x0 : (⟨3, ![32, 1, 1024]⟩ : Shape).Idx → EReal) (x1 : (⟨2, ![1, 1024]⟩ : Shape).Idx → EReal) (x2 : (⟨3, ![1, 1024, 4376]⟩ : Shape).Idx → EReal)
    (i : (⟨2, ![32, 768]⟩ : Shape).Idx) : EReal :=
  colDec x0 x1 x2 (i 0) (⟨512 + (i 1).val, by have : (i 1).val < 768 := (i 1).isLt; omega⟩)

/-- The branch gates, 24 columns; the other columns are the logistic function at zero. -/
def gateDec (x0 : (⟨3, ![32, 1, 1024]⟩ : Shape).Idx → EReal) (x1 : (⟨2, ![1, 1024]⟩ : Shape).Idx → EReal) (x2 : (⟨3, ![1, 1024, 4376]⟩ : Shape).Idx → EReal)
    (i : (⟨2, ![32, 128]⟩ : Shape).Idx) : EReal :=
  Ideal.logistic (if (i 1).val < 24 then colDec x0 x1 x2 (i 0) (⟨1280 + (i 1).val, by have : (i 1).val < 128 := (i 1).isLt; omega⟩) else 0)

/-- The mixers' row of one position that begins a chunk: the mixing has the one weight `w0` and the one bias `b0` of each group. -/
def mixDecRow (x : Fin 1024 → EReal) (o : Fin 512 → EReal) (g : Fin 1024 → EReal) (w : Fin 3072 → Fin 1024 → EReal) (gn : Fin 512 → EReal)
    (w0 b0 : Fin 4 → EReal) (wpa wpb : Fin 512 → Fin 1024 → EReal) (wout : Fin 1024 → Fin 1024 → EReal) (n : Fin 1024) : EReal :=
  x n + ∑ k : Fin 1024, (Ideal.logistic (proj x g (w ⟨1024 + k.val, by omega⟩)) * (∑ c : Fin 512, o c * wpa c k)
    + Ideal.logistic (proj x g (w ⟨2048 + k.val, by omega⟩))
      * (∑ c : Fin 512, (gelu (proj x g (w ⟨c.val, by omega⟩)) * (w0 ⟨c.val / 128, by omega⟩ * vrow x g w gn c + b0 ⟨c.val / 128, by omega⟩)) * wpb c k)) * wout k n

/-- The mixers' result of the sample as one function of the arguments. -/
def mixDec (x0 : (⟨3, ![32, 1, 1024]⟩ : Shape).Idx → EReal) (x1 : (⟨3, ![32, 1, 512]⟩ : Shape).Idx → EReal) (x2 : (⟨2, ![1, 1024]⟩ : Shape).Idx → EReal)
    (x3 : (⟨3, ![1, 1024, 4376]⟩ : Shape).Idx → EReal) (x4 : (⟨2, ![1, 512]⟩ : Shape).Idx → EReal) (x5 : (⟨4, ![1, 4, 128, 128]⟩ : Shape).Idx → EReal)
    (x6 : (⟨3, ![1, 4, 128]⟩ : Shape).Idx → EReal) (x7 x8 : (⟨3, ![1, 512, 1024]⟩ : Shape).Idx → EReal) (x9 : (⟨3, ![1, 1024, 1024]⟩ : Shape).Idx → EReal)
    (i : (⟨3, ![1, 32, 1024]⟩ : Shape).Idx) : EReal :=
  mixDecRow (fun k => x0 (ix3 (i 1) 0 k)) (fun c => x1 (ix3 (i 1) 0 c)) (fun k => x2 (ix2 0 k)) (cols x3) (fun c => x4 (ix2 0 c))
    (fun g => x5 (ix4 0 g 0 0)) (fun g => x6 (ix3 0 g 0)) (fun c n => x7 (ix3 0 c n)) (fun c n => x8 (ix3 0 c n)) (fun k n => x9 (ix3 0 k n)) (i 2)

/-- The normed half of the sample. -/
def vDec (x0 : (⟨3, ![32, 1, 1024]⟩ : Shape).Idx → EReal) (x2 : (⟨2, ![1, 1024]⟩ : Shape).Idx → EReal) (x3 : (⟨3, ![1, 1024, 4376]⟩ : Shape).Idx → EReal)
    (x4 : (⟨2, ![1, 512]⟩ : Shape).Idx → EReal) (i : (⟨3, ![1, 32, 512]⟩ : Shape).Idx) : EReal :=
  vrow (fun k => x0 (ix3 (i 1) 0 k)) (fun k => x2 (ix2 0 k)) (cols x3) (fun c => x4 (ix2 0 c)) (i 2)

/-- The feed-forward row of one position, the convolution's two earlier inputs being `p0` and `p1`. -/
def ffnDecRow (x g : Fin 1024 → EReal) (p0 p1 : Fin 2816 → EReal) (wup : Fin 1024 → Fin 5632 → EReal) (cw : Fin 3 → Fin 2816 → EReal)
    (cb : Fin 2816 → EReal) (wd : Fin 2816 → Fin 1024 → EReal) (gf : Fin 1024 → EReal) (n : Fin 1024) : EReal :=
  nrm c1024 (fun n => x n + ∑ c : Fin 2816,
    (gelu (cb c + p0 c * cw 0 c + p1 c * cw 1 c + proj x g (fun k => wup k ⟨c.val, by omega⟩) * cw 2 c) * proj x g (fun k => wup k ⟨2816 + c.val, by omega⟩)) * wd c n) gf n

/-- The feed-forward result of the sample as one function of the arguments. -/
def ffnDec (x0 : (⟨3, ![32, 1, 1024]⟩ : Shape).Idx → EReal) (x1 : (⟨4, ![1, 32, 2, 2816]⟩ : Shape).Idx → EReal) (x2 : (⟨2, ![1, 1024]⟩ : Shape).Idx → EReal)
    (x3 : (⟨3, ![1, 1024, 5632]⟩ : Shape).Idx → EReal) (x4 : (⟨3, ![1, 3, 2816]⟩ : Shape).Idx → EReal) (x5 : (⟨2, ![1, 2816]⟩ : Shape).Idx → EReal)
    (x6 : (⟨3, ![1, 2816, 1024]⟩ : Shape).Idx → EReal) (x7 : (⟨1, ![1024]⟩ : Shape).Idx → EReal) (i : (⟨3, ![1, 32, 1024]⟩ : Shape).Idx) : EReal :=
  ffnDecRow (fun k => x0 (ix3 (i 1) 0 k)) (fun k => x2 (ix2 0 k)) (fun c => x1 (ix4 0 (i 1) 0 c)) (fun c => x1 (ix4 0 (i 1) 1 c)) (fun k c => x3 (ix3 0 k c))
    (fun j c => x4 (ix3 0 j c)) (fun c => x5 (ix2 0 c)) (fun c n => x6 (ix3 0 c n)) (fun n => x7 (ix1 n)) (i 2)

/-- The convolution's new input of the sample. -/
def aDec (x0 : (⟨3, ![32, 1, 1024]⟩ : Shape).Idx → EReal) (x2 : (⟨2, ![1, 1024]⟩ : Shape).Idx → EReal) (x3 : (⟨3, ![1, 1024, 5632]⟩ : Shape).Idx → EReal)
    (i : (⟨3, ![1, 32, 2816]⟩ : Shape).Idx) : EReal :=
  proj (fun k => x0 (ix3 (i 1) 0 k)) (fun k => x2 (ix2 0 k)) (fun k => x3 (ix3 0 k ⟨(i 2).val, by have : (i 2).val < 2816 := (i 2).isLt; omega⟩))

end Cert.Layer

end
-- ==== Proof.FfnDecKer.lean ====
/- What the feed-forward kernel of the sample computes at the grid's point, read at an index as extended reals. -/
module

public import proofs.«01_k».proof.Proof.Gen.FfnDecIdeal.Value
public import proofs.«01_k».proof.Proof.DecMath
public import Idealize.ShloMosaic.Lib.Pipeline.ValueKit

@[expose] public section

set_option maxRecDepth 16384

noncomputable section

namespace Cert.FfnDecIdeal.Val

open Cert.FfnDecIdeal Cert.FfnDecIdeal.Gen Idealize.ShloMosaic Idealize.ShloMosaic.TcCoe Idealize.SL.Sem Cert.Layer

theorem pay2_apply (v0 : Vec Ideal S1x32x1024 .f32) (r : Fin 32) (k : Fin 1024) : k0_pay2 v0 (ix2 r k) = v0 (ix3 0 r k) := by
  unfold k0_pay2
  pointwise

/-- The projection to the first half's inputs of the convolution. -/
theorem pay5_apply (v0 : Vec Ideal S1x32x1024 .f32) (v2 : Vec Ideal S1x1024 .f32) (v18 : Vec Ideal S1024x1408 .bf16) (r : Fin 32) (n : Fin 1408) :
    k0_pay5 v0 v2 v18 (ix2 r n) = proj (fun k => v0 (ix3 0 r k)) (fun k => v2 (ix2 0 k)) (fun k => v18 (ix2 k n)) := by
  unfold k0_pay5 k0_pay3 k0_pay2 proj nrm c1024
  pointwise

/-- The projection to the first half's gate values. -/
theorem pay6_apply (v0 : Vec Ideal S1x32x1024 .f32) (v2 : Vec Ideal S1x1024 .f32) (v21 : Vec Ideal S1024x1408 .bf16) (r : Fin 32) (n : Fin 1408) :
    k0_pay6 v0 v2 v21 (ix2 r n) = proj (fun k => v0 (ix3 0 r k)) (fun k => v2 (ix2 0 k)) (fun k => v21 (ix2 k n)) := by
  unfold k0_pay6 k0_pay3 k0_pay2 proj nrm c1024
  pointwise

theorem pay7_apply (v0 : Vec Ideal S1x32x1024 .f32) (v2 : Vec Ideal S1x1024 .f32) (v18 : Vec Ideal S1024x1408 .bf16) (r : Fin 32) (n : Fin 1408) :
    k0_pay7 v0 v2 v18 (ix3 0 r n) = proj (fun k => v0 (ix3 0 r k)) (fun k => v2 (ix2 0 k)) (fun k => v18 (ix2 k n)) := by
  rw [← pay5_apply]
  unfold k0_pay7
  pointwise

/-- The projection to the second half's inputs of the convolution. -/
theorem pay11_apply (v0 : Vec Ideal S1x32x1024 .f32) (v2 : Vec Ideal S1x1024 .f32) (v68 : Vec Ideal S1024x1408 .bf16) (r : Fin 32) (n : Fin 1408) :
    k0_pay11 (k0_pay3 v0 v2) v68 (ix2 r n) = proj (fun k => v0 (ix3 0 r k)) (fun k => v2 (ix2 0 k)) (fun k => v68 (ix2 k n)) := by
  unfold k0_pay11 k0_pay3 k0_pay2 proj nrm c1024
  pointwise

/-- The projection to the second half's gate values. -/
theorem pay13_apply (v0 : Vec Ideal S1x32x1024 .f32) (v2 : Vec Ideal S1x1024 .f32) (v71 : Vec Ideal S1024x1408 .bf16) (r : Fin 32) (n : Fin 1408) :
    k0_pay13 (k0_pay3 v0 v2) (k0_pay12 v71) (ix2 r n) = proj (fun k => v0 (ix3 0 r k)) (fun k => v2 (ix2 0 k)) (fun k => v71 (ix2 k n)) := by
  unfold k0_pay13 k0_pay12 k0_pay3 k0_pay2 proj nrm c1024
  pointwise

theorem pay14_apply (v70 : FVec Ideal S32x1408 .f32) (r : Fin 32) (n : Fin 1408) : k0_pay14 v70 (ix3 0 r n) = v70 (ix2 r n) := by
  unfold k0_pay14
  pointwise

/-- The first half's hidden units through their output weights. -/
theorem pay10_apply (v20 v23 : FVec Ideal S32x1408 .f32) (v27 : Vec Ideal S1x1408 .f32) (v29 : Vec Ideal S1x32x1408 .f32) (v31 : Vec Ideal S1x1408 .f32)
    (v37 : Vec Ideal S1x32x1408 .f32) (v39 v44 : Vec Ideal S1x1408 .f32) (v64 : Vec Ideal S1408x1024 .bf16) (r : Fin 32) (n : Fin 1024) :
    k0_pay10 (k0_pay4 (F := Ideal)) v20 v23 (k0_pay8 v27) (k0_pay9 v29) v31 v37 v39 v44 v64 (ix2 r n)
      = ∑ c : Fin 1408, (gelu (v27 (ix2 0 c) + v29 (ix3 0 r c) * v31 (ix2 0 c) + v37 (ix3 0 r c) * v39 (ix2 0 c) + v20 (ix2 r c) * v44 (ix2 0 c)) * v23 (ix2 r c)) * v64 (ix2 c n) := by
  unfold k0_pay10 k0_pay4 k0_pay8 k0_pay9 gelu
  pointwise

/-- The second half's convolution. -/
theorem pay15_apply (v70 : FVec Ideal S32x1408 .f32) (v77 : Vec Ideal S1x1408 .f32) (v79 : Vec Ideal S1x32x1408 .f32) (v81 : Vec Ideal S1x1408 .f32)
    (v87 : Vec Ideal S1x32x1408 .f32) (v89 v94 : Vec Ideal S1x1408 .f32) (r : Fin 32) (c : Fin 1408) :
    k0_pay15 v70 v77 v79 v81 v87 v89 v94 (ix2 r c)
      = v77 (ix2 0 c) + v79 (ix3 0 r c) * v81 (ix2 0 c) + v87 (ix3 0 r c) * v89 (ix2 0 c) + v70 (ix2 r c) * v94 (ix2 0 c) := by
  unfold k0_pay15
  pointwise

/-- The normed sum of the row and the two halves. -/
theorem pay1_apply (v1 v67 : FVec Ideal S32x1024 .f32) (v73 v70 : FVec Ideal S32x1408 .f32) (v77 : Vec Ideal S1x1408 .f32) (v79 : Vec Ideal S1x32x1408 .f32)
    (v81 : Vec Ideal S1x1408 .f32) (v87 : Vec Ideal S1x32x1408 .f32) (v89 v94 : Vec Ideal S1x1408 .f32) (v114 : Vec Ideal S1408x1024 .bf16) (v119 : Vec Ideal S1x1024 .f32)
    (r : Fin 32) (n : Fin 1024) :
    k0_pay1 v1 v67 v73 (k0_pay15 v70 v77 v79 v81 v87 v89 v94) (k0_pay16 v70 v77 v79 v81 v87 v89 v94) (k0_pay17 (F := Ideal)) v114 v119 (ix3 0 r n)
      = nrm c1024 (fun n => v1 (ix2 r n) + (v67 (ix2 r n) + ∑ c : Fin 1408, (gelu (k0_pay15 v70 v77 v79 v81 v87 v89 v94 (ix2 r c)) * v73 (ix2 r c)) * v114 (ix2 c n)))
          (fun n => v119 (ix2 0 n)) n := by
  unfold k0_pay1 k0_pay16 k0_pay17 gelu nrm c1024
  pointwise

theorem out8_point {x0 : Vec Ideal S1x32x1024 .f32} {x1 : Vec Ideal S2x32x2816 .f32} {x2 : Vec Ideal S1x1024 .f32} {x3 : Vec Ideal S1024x5632 .bf16}
    {x4 : Vec Ideal S3x2816 .f32} {x5 : Vec Ideal S1x2816 .f32} {x6 : Vec Ideal S2816x1024 .bf16} {x7 : Vec Ideal S1x1024 .f32} (r : Fin 32) (n : Fin 1024) :
    out0_8 x0 x1 x2 x3 x4 x5 x6 x7 (ix3 0 r n)
      = ffnDecRow (fun k => x0 (ix3 0 r k)) (fun k => x2 (ix2 0 k)) (fun c => x1 (ix3 0 r c)) (fun c => x1 (ix3 1 r c)) (fun k c => x3 (ix2 k c)) (fun j c => x4 (ix2 j c))
          (fun c => x5 (ix2 0 c)) (fun c n => x6 (ix2 c n)) (fun n => x7 (ix2 0 n)) n := by
  unfold_out out0_8
  frame_out
  rw [pay1_apply]
  unfold ffnDecRow
  congr 1
  funext n
  rw [Fin.sum_univ_two_halves 1408 1408 rfl, pay10_apply, pay2_apply]
  simp only [pay5_apply, pay6_apply, pay11_apply, pay13_apply, pay15_apply]
  pointwise
  simp only [← Nat.add_assoc, Nat.reduceAdd]

theorem half_lt {a : ℕ} (h : a < 1408) : 1408 + a < 2816 := by omega
theorem half_lt' {a : ℕ} (h : a < 1408) : a < 2816 := by omega

theorem out9_point {x0 : Vec Ideal S1x32x1024 .f32} {x1 : Vec Ideal S2x32x2816 .f32} {x2 : Vec Ideal S1x1024 .f32} {x3 : Vec Ideal S1024x5632 .bf16}
    {x4 : Vec Ideal S3x2816 .f32} {x5 : Vec Ideal S1x2816 .f32} {x6 : Vec Ideal S2816x1024 .bf16} {x7 : Vec Ideal S1x1024 .f32} (r : Fin 32) (n : Fin 2816) :
    out0_9 x0 x1 x2 x3 x4 x5 x6 x7 (ix3 0 r n) = proj (fun k => x0 (ix3 0 r k)) (fun k => x2 (ix2 0 k)) (fun k => x3 (ix2 k ⟨n.val, by omega⟩)) := by
  unfold_out out0_9
  canon_tiles x h
  · obtain rfl : r = x 1 := Fin.ext h1
    have hn : (⟨1408 + (x 2).val, half_lt x2_lt⟩ : Fin 2816) = n := Fin.ext h2.symm
    subst hn
    clear h0 h1 h2
    idx_vars x
    obtain rfl : x0 = 0 := Subsingleton.elim _ _
    frame_out
    rw [pay14_apply, pay11_apply]
    pointwise
  · obtain rfl : r = x 1 := Fin.ext h1
    have hn : (⟨(x 2).val, half_lt' x2_lt⟩ : Fin 2816) = n := Fin.ext h2.symm
    subst hn
    clear h0 h1 h2
    idx_vars x
    obtain rfl : x0 = 0 := Subsingleton.elim _ _
    frame_out
    rw [pay7_apply]
    pointwise

end Cert.FfnDecIdeal.Val

end
-- ==== Proof.FfnDecVal.lean ====
/- The feed-forward results of the sample after the run, as functions of the kernel's arguments. -/
module

public import proofs.«01_k».proof.Proof.FfnDecKer

@[expose] public section

set_option maxRecDepth 16384

noncomputable section

namespace Cert.FfnDecIdeal.Val

open Cert.FfnDecIdeal Cert.FfnDecIdeal.Gen Idealize.ShloMosaic Idealize.ShloMosaic.TcCoe Idealize.SL.Sem Cert.Layer
open Idealize.ShloMosaic.Pipeline (Dat)

variable (m : (ℓ : Loc nD τ sig) → Buf (Elt Ideal) ℓ)

theorem idx : ∀ t : Fin cfg0.N,
    win0_0.index t = ![0, 0, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0, 0] ∧ win0_9.index t = ![0, 0, 0] :=
  (by decide +kernel : ∀ t : Fin grid0.N, _)

theorem blk0 (c : Dev nD) (t : Fin cfg0.N) (r : Fin 32) (k : Fin 1024) : iblk m c 0 t (ix3 0 r k) = m ((c : Thread nD τ).loc main_arg0) (ix3 r 0 k) := by
  blk_ext! [iblk, V, idx t]
theorem blk1 (c : Dev nD) (t : Fin cfg0.N) (j : Fin 2) (r : Fin 32) (k : Fin 2816) : iblk m c 1 t (ix3 j r k) = m ((c : Thread nD τ).loc main_arg1) (ix4 0 r j k) := by
  blk_ext! [iblk, V, idx t]
theorem blk2 (c : Dev nD) (t : Fin cfg0.N) (k : Fin 1024) : iblk m c 2 t (ix2 0 k) = m ((c : Thread nD τ).loc main_arg2) (ix2 0 k) := by
  blk_ext! [iblk, V, idx t]
theorem blk3 (c : Dev nD) (t : Fin cfg0.N) (k : Fin 1024) (n : Fin 5632) : iblk m c 3 t (ix2 k n) = m ((c : Thread nD τ).loc main_arg3) (ix3 0 k n) := by
  blk_ext! [iblk, V, idx t]
theorem blk4 (c : Dev nD) (t : Fin cfg0.N) (k : Fin 3) (n : Fin 2816) : iblk m c 4 t (ix2 k n) = m ((c : Thread nD τ).loc main_arg4) (ix3 0 k n) := by
  blk_ext! [iblk, V, idx t]
theorem blk5 (c : Dev nD) (t : Fin cfg0.N) (n : Fin 2816) : iblk m c 5 t (ix2 0 n) = m ((c : Thread nD τ).loc main_arg5) (ix2 0 n) := by
  blk_ext! [iblk, V, idx t]
theorem blk6 (c : Dev nD) (t : Fin cfg0.N) (k : Fin 2816) (n : Fin 1024) : iblk m c 6 t (ix2 k n) = m ((c : Thread nD τ).loc main_arg6) (ix3 0 k n) := by
  blk_ext! [iblk, V, idx t]
theorem blk7 (c : Dev nD) (t : Fin cfg0.N) (n : Fin 1024) : iblk m c 7 t (ix2 0 n) = m ((c : Thread nD τ).loc main_arg7) (ix1 n) := by
  blk_ext! [iblk, V, idx t]

theorem emb8 (t : Fin cfg0.N) (y1 : Fin 32) (y2 : Fin 1024) : ((cfg0.win 8).blk t).view.emb (ix3 0 y1 y2) = ix3 0 y1 y2 := by
  blk_ext [idx t]

theorem emb9 (t : Fin cfg0.N) (y1 : Fin 32) (y2 : Fin 2816) : ((cfg0.win 9).blk t).view.emb (ix3 0 y1 y2) = ix3 0 y1 y2 := by
  blk_ext [idx t]

theorem out8 (c : Dev nD) : (dats m 0 c).arrAt 8 cfg0.N = fun i => ffnDec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  refine (dats m 0 c).arrAt_eq_of_covers 8 _ (by decide +kernel) fun t hf y => ?_
  blk_simp
  rw [after0_8]
  idx_vars y
  obtain rfl : y0 = 0 := Subsingleton.elim _ _
  refine (out8_point y1 y2).trans ?_
  simp only [blk0, blk1, blk2, blk3, blk4, blk5, blk6, blk7]
  exact (congrArg (ffnDec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (emb8 t y1 y2)).symm

theorem out9 (c : Dev nD) : (dats m 0 c).arrAt 9 cfg0.N = fun i => aDec (m ((c : Thread nD τ).loc main_arg0)) (m ((c : Thread nD τ).loc main_arg2)) (m ((c : Thread nD τ).loc main_arg3)) i := by
  refine (dats m 0 c).arrAt_eq_of_covers 9 _ (by decide +kernel) fun t hf y => ?_
  blk_simp
  rw [after0_9]
  idx_vars y
  obtain rfl : y0 = 0 := Subsingleton.elim _ _
  refine (out9_point y1 y2).trans ?_
  simp only [blk0, blk2, blk3]
  exact (congrArg (aDec (m ((c : Thread nD τ).loc main_arg0)) (m ((c : Thread nD τ).loc main_arg2)) (m ((c : Thread nD τ).loc main_arg3))) (emb9 t y1 y2)).symm

end Cert.FfnDecIdeal.Val

end
-- ==== Proof.FfnDecRef.lean ====
/- The feed-forward reference's results of the sample read at an index. -/
module

public import proofs.«01_k».proof.Proof.Gen.FfnDecRefIdeal.Read
public import proofs.«01_k».proof.Proof.DecMath

@[expose] public section

set_option maxRecDepth 16384

noncomputable section

namespace Cert.FfnDecRefIdeal.Val

open Cert.FfnDecRefIdeal Idealize.ShloMosaic Idealize.ShloMosaic.TcCoe Idealize.SL.Sem Cert.Layer Cert.FfnDecRefIdeal.Read

variable (x0 : (⟨S32x1x1024, .f32⟩ : BufTy).Contents (Elt Ideal)) (x1 : (⟨S1x32x2x2816, .f32⟩ : BufTy).Contents (Elt Ideal)) (x2 : (⟨S1x1024, .f32⟩ : BufTy).Contents (Elt Ideal))
  (x3 : (⟨S1x1024x5632, .f32⟩ : BufTy).Contents (Elt Ideal)) (x4 : (⟨S1x3x2816, .f32⟩ : BufTy).Contents (Elt Ideal)) (x5 : (⟨S1x2816, .f32⟩ : BufTy).Contents (Elt Ideal))
  (x6 : (⟨S1x2816x1024, .f32⟩ : BufTy).Contents (Elt Ideal)) (x7 : (⟨S1024, .f32⟩ : BufTy).Contents (Elt Ideal))

theorem v13_ix (b : Fin 32) (k : Fin 1024) :
    val_main_v13 x0 x2 (ix3 b 0 k) = nrm c1024 (fun k => x0 (ix3 b 0 k)) (fun k => x2 (ix2 0 k)) k := by
  unfold nrm c1024
  pointwise [val_main_v13, val_main_v10, val_main_v12, val_main_v9, val_main_v11, val_main_v8, val_main_v0, val_main_v7, val_main_v5, val_main_v6, val_main_v3, val_main_v4, val_main_cst_1, val_main_v2, val_main_cst_0, val_main_v1, val_main_cst]

theorem v15_ix (b : Fin 32) (c : Fin 5632) :
    val_main_v15 x0 x2 x3 (ix3 b 0 c) = proj (fun k => x0 (ix3 b 0 k)) (fun k => x2 (ix2 0 k)) (fun k => x3 (ix3 0 k c)) := by
  unfold proj
  pointwise [val_main_v15, val_main_v14]
  simp only [v13_ix]

/-- The two earlier inputs of the convolution, then the new one. -/
theorem v19_ix (b : Fin 32) (t : Fin 3) (c : Fin 2816) :
    val_main_v19 x0 x1 x2 x3 (ix3 b t c) = if h : t.val < 2 then x1 (ix4 0 b ⟨t.val, h⟩ c) else proj (fun k => x0 (ix3 b 0 k)) (fun k => x2 (ix2 0 k)) (fun k => x3 (ix3 0 k ⟨c.val, by omega⟩)) := by
  pointwise [val_main_v19, val_main_v18, val_main_v16]
  by_cases h : t.val < 2
  · rw [dif_pos h, dif_pos h]
  · have e : (⟨t.val - 2, by omega⟩ : Fin 1) = 0 := Subsingleton.elim _ _
    rw [dif_neg h, dif_neg h, ← v15_ix, e]

theorem v46_ix (b : Fin 32) (c : Fin 2816) :
    val_main_v46 x0 x1 x2 x3 x4 x5 (ix3 b 0 c) = x5 (ix2 0 c) + x1 (ix4 0 b 0 c) * x4 (ix3 0 0 c) + x1 (ix4 0 b 1 c) * x4 (ix3 0 1 c)
      + proj (fun k => x0 (ix3 b 0 k)) (fun k => x2 (ix2 0 k)) (fun k => x3 (ix3 0 k ⟨c.val, by omega⟩)) * x4 (ix3 0 2 c) := by
  pointwise [val_main_v46, val_main_v38, val_main_v45, val_main_v30, val_main_v37, val_main_v39, val_main_v44, val_main_v29, val_main_v27, val_main_v31, val_main_v36, val_main_v43, val_main_v28, val_main_v21, val_main_v26, val_main_v35, val_main_v42, val_main_v20, val_main_v25, val_main_v34, val_main_v41, val_main_v24, val_main_v33, val_main_v40, val_main_v23, val_main_v32, val_main_v22]
  simp only [v19_ix]
  rfl

theorem v60_ix (b : Fin 32) (c : Fin 2816) :
    val_main_v60 x0 x1 x2 x3 x4 x5 (ix3 b 0 c) = gelu (x5 (ix2 0 c) + x1 (ix4 0 b 0 c) * x4 (ix3 0 0 c) + x1 (ix4 0 b 1 c) * x4 (ix3 0 1 c)
      + proj (fun k => x0 (ix3 b 0 k)) (fun k => x2 (ix2 0 k)) (fun k => x3 (ix3 0 k ⟨c.val, by omega⟩)) * x4 (ix3 0 2 c)) * proj (fun k => x0 (ix3 b 0 k)) (fun k => x2 (ix2 0 k)) (fun k => x3 (ix3 0 k ⟨2816 + c.val, by omega⟩)) := by
  rw [← v46_ix]
  unfold gelu
  pointwise [val_main_v60, val_main_v59, val_main_v17, val_main_v58, val_main_v57, val_main_v56, val_main_cst_5, val_main_v55, val_main_v54, val_main_cst_4, val_main_v53, val_main_v52, val_main_v51, val_main_cst_3, val_main_v50, val_main_v49, val_main_v48, val_main_cst_2, val_main_v47]
  simp only [v15_ix]
  generalize val_main_v46 x0 x1 x2 x3 x4 x5 (ix3 b 0 c) = a
  generalize proj _ _ _ = p
  rw [mul_assoc a a a]

theorem v77_ix (i0 : Fin 1) (b : Fin 32) (n : Fin 1024) :
    val_main_v77 x0 x1 x2 x3 x4 x5 x6 x7 (ix3 i0 b n) = ffnDec x0 x1 x2 x3 x4 x5 x6 x7 (ix3 i0 b n) := by
  obtain rfl : i0 = 0 := Subsingleton.elim _ _
  unfold ffnDec ffnDecRow nrm c1024
  pointwise [val_main_v77, val_main_v76, val_main_v73, val_main_v75, val_main_v63, val_main_v72, val_main_v74, val_main_v62, val_main_v71, val_main_v61, val_main_v70, val_main_v68, val_main_v69, val_main_v66, val_main_v67, val_main_cst_8, val_main_v65, val_main_cst_7, val_main_v64, val_main_cst_6]
  simp only [v60_ix]

theorem v79_ix (i0 : Fin 1) (b : Fin 32) (c : Fin 2816) :
    val_main_v79 x0 x1 x2 x3 (ix3 i0 b c) = aDec x0 x2 x3 (ix3 i0 b c) := by
  obtain rfl : i0 = 0 := Subsingleton.elim _ _
  unfold aDec
  pointwise [val_main_v79, val_main_v78]
  simp only [v19_ix]
  rfl

end Cert.FfnDecRefIdeal.Val

end
-- ==== Proof.FfnDecClaim.lean ====
/- The claims about the feed-forward part of the sample and its reference. -/
module

public import proofs.«01_k».proof.Defs
public import proofs.«01_k».proof.Proof.Gen.FfnDec.Frame
public import proofs.«01_k».proof.Proof.FfnDecVal
public import proofs.«01_k».proof.Proof.FfnDecRef
public import Idealize.ShloMosaic.Adequacy
public import Idealize.ShloMosaic.Init

@[expose] public section

set_option maxRecDepth 16384

noncomputable section

namespace Cert.FfnDecClaim

open Idealize.ShloMosaic Idealize.SL.Sem Cert.Layer

theorem frame : Cert.quiescent_FfnDec (hFfnDec := Cert.FfnDec.Gen.facts) := fun m g _ => Cert.FfnDec.Gen.frame m g

theorem frameIdeal : Cert.quiescent_FfnDecIdeal (hFfnDecIdeal := Cert.FfnDecIdeal.Gen.facts) := fun m g _ => Cert.FfnDecIdeal.Gen.frame m g

theorem frameRef : Cert.quiescent_FfnDecRefIdeal (hFfnDecRefIdeal := Cert.FfnDecRefIdeal.Gen.facts) := fun m g _ =>
  (θ_run _ _ _).mono (fun r h => ⟨fun c => (h c).2.2, sem_eq_zero_of_no_sems (by decide) r.2⟩) (Cert.FfnDecRefIdeal.Value.run m g)

/-- Both programs end with the same results, as functions of the arguments. -/
theorem algebraic : Cert.algebraic_FfnDecIdeal_FfnDecRefIdeal (hFfnDecIdeal := Cert.FfnDecIdeal.Gen.facts) (hFfnDecRefIdeal := Cert.FfnDecRefIdeal.Gen.facts) :=
  fun m g m' g' _ ha => ⟨fun c => (Cert.FfnDecIdeal.Gen.dats m 0 c).arrAt 8 Cert.FfnDecIdeal.cfg0.N, fun c => (Cert.FfnDecIdeal.Gen.dats m 0 c).arrAt 9 Cert.FfnDecIdeal.cfg0.N,
    Cert.FfnDecIdeal.Value.run_blocks m g,
    (θ_run _ _ _).mono (fun r h c => by
      obtain ⟨h0, h1, hk⟩ := h c
      obtain ⟨a0, a1, a2, a3, a4, a5, a6, a7⟩ := ha c
      refine ⟨?_, ?_, hk⟩
      · refine h0.trans ((Cert.FfnDecRefIdeal.Read.val_main_v77_eq m' c).trans (.trans ?_ (Cert.FfnDecIdeal.Val.out8 m c).symm))
        rw [a0, a1, a2, a3, a4, a5, a6, a7]
        funext i
        idx_vars i
        exact Cert.FfnDecRefIdeal.Val.v77_ix _ _ _ _ _ _ _ _ i0 i1 i2
      · refine h1.trans ((Cert.FfnDecRefIdeal.Read.val_main_v79_eq _ _ _ _).trans (.trans ?_ (Cert.FfnDecIdeal.Val.out9 m c).symm))
        rw [a0, a1, a2, a3]
        funext i
        idx_vars i
        exact Cert.FfnDecRefIdeal.Val.v79_ix _ _ _ _ i0 i1 i2) (Cert.FfnDecRefIdeal.Value.run m' g')⟩

end Cert.FfnDecClaim

end
-- ==== Proof.FrontMath.lean ====
/- The attention's projections as functions of the arguments. -/
module

public import proofs.«01_k».proof.Proof.Nrm

@[expose] public section

noncomputable section

namespace Cert.Layer

open Idealize.ShloMosaic

/-- The normed row `t` of batch member `b` times the column `c` of the input projection. -/
def colAt (x0 : (⟨3, ![4, 4096, 1024]⟩ : Shape).Idx → EReal) (x1 : (⟨2, ![1, 1024]⟩ : Shape).Idx → EReal) (x2 : (⟨3, ![1, 1024, 4376]⟩ : Shape).Idx → EReal)
    (b : Fin 4) (c : Fin 4376) (t : Fin 4096) : EReal :=
  proj (fun k => x0 (ix3 b t k)) (fun k => x1 (ix2 0 k)) (fun k => x2 (ix3 0 k c))

/-- The keys and values of one branch: its 256 columns, which begin at `o`, positions last. -/
def kvAt (o : ℕ) (ho : o + 256 ≤ 4376) (x0 : (⟨3, ![4, 4096, 1024]⟩ : Shape).Idx → EReal) (x1 : (⟨2, ![1, 1024]⟩ : Shape).Idx → EReal)
    (x2 : (⟨3, ![1, 1024, 4376]⟩ : Shape).Idx → EReal) (i : (⟨3, ![4, 256, 4096]⟩ : Shape).Idx) : EReal :=
  colAt x0 x1 x2 (i 0) (⟨o + (i 1).val, by have : (i 1).val < 256 := (i 1).isLt; omega⟩) (i 2)

/-- The scaled queries, positions last. -/
def qAt (x0 : (⟨3, ![4, 4096, 1024]⟩ : Shape).Idx → EReal) (x1 : (⟨2, ![1, 1024]⟩ : Shape).Idx → EReal)
    (x2 : (⟨3, ![1, 1024, 4376]⟩ : Shape).Idx → EReal) (i : (⟨3, ![4, 512, 4096]⟩ : Shape).Idx) : EReal :=
  colAt x0 x1 x2 (i 0) (⟨(i 1).val, by have : (i 1).val < 512 := (i 1).isLt; omega⟩) (i 2) * Ideal.ofBits .f32 0x3E38AA3B#32

/-- The branch gates, twelve rows of each sixteen; the other four rows are the logistic function at zero. -/
def gateAt (x0 : (⟨3, ![4, 4096, 1024]⟩ : Shape).Idx → EReal) (x1 : (⟨2, ![1, 1024]⟩ : Shape).Idx → EReal)
    (x2 : (⟨3, ![1, 1024, 4376]⟩ : Shape).Idx → EReal) (i : (⟨3, ![4, 32, 4096]⟩ : Shape).Idx) : EReal :=
  Ideal.logistic (if (i 1).val % 16 < 12 then
    colAt x0 x1 x2 (i 0) (⟨1280 + (12 * ((i 1).val / 16) + (i 1).val % 16), by have : (i 1).val < 32 := (i 1).isLt; omega⟩) (i 2) else 0)

end Cert.Layer

end
-- ==== Proof.FrontKer.lean ====
/- What one grid point of the projections' kernel computes, read at an index. -/
module

public import proofs.«01_k».proof.Proof.Gen.FrontIdeal.Value
public import proofs.«01_k».proof.Proof.FrontMath
public import Idealize.ShloMosaic.Lib.Pipeline.ValueKit

@[expose] public section

set_option maxRecDepth 16384

noncomputable section

namespace Cert.FrontIdeal.Val

open Cert.FrontIdeal Cert.FrontIdeal.Gen Idealize.ShloMosaic Idealize.ShloMosaic.TcCoe Idealize.SL.Sem Cert.Layer

/-- A row of weights times the normed row, in the order of the kernel's product. -/
theorem proj_left (v0 : Vec Ideal S1x1024x1024 .f32) (v2 : Vec Ideal S1x1024 .f32) (w : Fin 1024 → EReal) (r : Fin 1024) :
    (∑ k : Fin 1024, w k * k0_pay3 v0 v2 (ix2 r k)) = proj (fun k => v0 (ix3 0 r k)) (fun k => v2 (ix2 0 k)) w := by
  unfold proj
  refine Finset.sum_congr rfl fun k _ => ?_
  rw [mul_comm]
  congr 1
  unfold k0_pay3
  pointwise
  rfl

theorem pay4_apply (v0 : Vec Ideal S1x1024x1024 .f32) (v2 : Vec Ideal S1x1024 .f32) (v : Vec Ideal S768x1024 .bf16) (c : Fin 768) (r : Fin 1024) :
    k0_pay4 v0 v2 v (ix2 c r) = proj (fun k => v0 (ix3 0 r k)) (fun k => v2 (ix2 0 k)) (fun k => v (ix2 c k)) := by
  rw [← proj_left]
  unfold k0_pay4
  pointwise

theorem out5_point {x0 : Vec Ideal S1x1024x1024 .f32} {x1 : Vec Ideal S1x1024 .f32} {x2 : Vec Ideal S768x1024 .bf16} {x3 : Vec Ideal S512x1024 .bf16} {x4 : Vec Ideal S32x1024 .bf16} (c : Fin 256) (r : Fin 1024) :
    out0_5 x0 x1 x2 x3 x4 (ix3 0 c r) = proj (fun k => x0 (ix3 0 r k)) (fun k => x1 (ix2 0 k)) (fun k => x2 (ix2 ⟨c.val, by omega⟩ k)) := by
  unfold out0_5
  frame_out
  rw [← pay4_apply]
  unfold k0_pay5
  pointwise

theorem out6_point {x0 : Vec Ideal S1x1024x1024 .f32} {x1 : Vec Ideal S1x1024 .f32} {x2 : Vec Ideal S768x1024 .bf16} {x3 : Vec Ideal S512x1024 .bf16} {x4 : Vec Ideal S32x1024 .bf16} (c : Fin 256) (r : Fin 1024) :
    out0_6 x0 x1 x2 x3 x4 (ix3 0 c r) = proj (fun k => x0 (ix3 0 r k)) (fun k => x1 (ix2 0 k)) (fun k => x2 (ix2 ⟨256 + c.val, by omega⟩ k)) := by
  unfold out0_6
  frame_out
  rw [← pay4_apply]
  unfold k0_pay6
  pointwise

theorem out7_point {x0 : Vec Ideal S1x1024x1024 .f32} {x1 : Vec Ideal S1x1024 .f32} {x2 : Vec Ideal S768x1024 .bf16} {x3 : Vec Ideal S512x1024 .bf16} {x4 : Vec Ideal S32x1024 .bf16} (c : Fin 256) (r : Fin 1024) :
    out0_7 x0 x1 x2 x3 x4 (ix3 0 c r) = proj (fun k => x0 (ix3 0 r k)) (fun k => x1 (ix2 0 k)) (fun k => x2 (ix2 ⟨512 + c.val, by omega⟩ k)) := by
  unfold out0_7
  frame_out
  rw [← pay4_apply]
  unfold k0_pay7
  pointwise

theorem out8_point {x0 : Vec Ideal S1x1024x1024 .f32} {x1 : Vec Ideal S1x1024 .f32} {x2 : Vec Ideal S768x1024 .bf16} {x3 : Vec Ideal S512x1024 .bf16} {x4 : Vec Ideal S32x1024 .bf16} (c : Fin 512) (r : Fin 1024) :
    out0_8 x0 x1 x2 x3 x4 (ix3 0 c r) = proj (fun k => x0 (ix3 0 r k)) (fun k => x1 (ix2 0 k)) (fun k => x3 (ix2 c k)) * Ideal.ofBits .f32 0x3E38AA3B#32 := by
  rw [← proj_left]
  unfold out0_8 k0_pay8
  frame_out
  unfold k0_pay1
  pointwise

theorem out9_point {x0 : Vec Ideal S1x1024x1024 .f32} {x1 : Vec Ideal S1x1024 .f32} {x2 : Vec Ideal S768x1024 .bf16} {x3 : Vec Ideal S512x1024 .bf16} {x4 : Vec Ideal S32x1024 .bf16} (c : Fin 32) (r : Fin 1024) :
    out0_9 x0 x1 x2 x3 x4 (ix3 0 c r) = Ideal.logistic (proj (fun k => x0 (ix3 0 r k)) (fun k => x1 (ix2 0 k)) (fun k => x4 (ix2 c k))) := by
  rw [← proj_left]
  unfold out0_9 k0_pay8
  frame_out
  unfold k0_pay2
  pointwise

end Cert.FrontIdeal.Val

end
-- ==== Proof.FrontVal.lean ====
/- The projections' results after the run, as functions of the kernel's arguments. -/
module

public import proofs.«01_k».proof.Proof.FrontKer
public import proofs.«01_k».proof.Proof.FrontMath

@[expose] public section

set_option maxRecDepth 16384

noncomputable section

namespace Cert.FrontIdeal.Val

open Cert.FrontIdeal Cert.FrontIdeal.Gen Idealize.ShloMosaic Idealize.ShloMosaic.TcCoe Idealize.SL.Sem Cert.Layer
open Idealize.ShloMosaic.Pipeline (Dat)

variable (m : (ℓ : Loc nD τ sig) → Buf (Elt Ideal) ℓ)

theorem idx : ∀ t : Fin cfg0.N,
    win0_0.index t = ![(grid0.coords t 0).val, (grid0.coords t 1).val, 0]
    ∧ win0_1.index t = ![0, 0] ∧ win0_2.index t = ![0, 0] ∧ win0_3.index t = ![0, 0] ∧ win0_4.index t = ![0, 0]
    ∧ win0_5.index t = ![(grid0.coords t 0).val, 0, (grid0.coords t 1).val] ∧ win0_6.index t = ![(grid0.coords t 0).val, 0, (grid0.coords t 1).val]
    ∧ win0_7.index t = ![(grid0.coords t 0).val, 0, (grid0.coords t 1).val] ∧ win0_8.index t = ![(grid0.coords t 0).val, 0, (grid0.coords t 1).val]
    ∧ win0_9.index t = ![(grid0.coords t 0).val, 0, (grid0.coords t 1).val] :=
  (by decide +kernel : ∀ t : Fin grid0.N, _)

/-- The position of the row `r` of the grid point's block. -/
def pos (t : Fin cfg0.N) (r : Fin 1024) : Fin 4096 := ⟨1024 * (grid0.coords t 1).val + r.val, by have : (grid0.coords t 1).val < 4 := (grid0.coords t 1).isLt; omega⟩

theorem blk0 (c : Dev nD) (t : Fin cfg0.N) (r k : Fin 1024) : iblk m c 0 t (ix3 0 r k) = m ((c : Thread nD τ).loc main_arg0) (ix3 (grid0.coords t 0) (pos t r) k) := by
  unfold pos
  blk_ext [iblk, V, idx t]
theorem blk1 (c : Dev nD) (t : Fin cfg0.N) (k : Fin 1024) : iblk m c 1 t (ix2 0 k) = m ((c : Thread nD τ).loc main_arg1) (ix2 0 k) := by
  blk_simp [iblk, V]
  simp only [List.flatten_cons, List.flatten_nil, List.append_nil, List.cons_append, List.nil_append]
  entry_read
  pointwise
  blk_ext [idx t]
theorem blk2 (c : Dev nD) (t : Fin cfg0.N) (n : Fin 768) (k : Fin 1024) : iblk m c 2 t (ix2 n k) = m ((c : Thread nD τ).loc main_arg2) (ix3 0 k ⟨512 + n.val, by omega⟩) := by
  blk_simp [iblk, V]
  simp only [List.flatten_cons, List.flatten_nil, List.append_nil, List.cons_append, List.nil_append]
  entry_read
  pointwise
  blk_ext [idx t]
theorem blk3 (c : Dev nD) (t : Fin cfg0.N) (n : Fin 512) (k : Fin 1024) : iblk m c 3 t (ix2 n k) = m ((c : Thread nD τ).loc main_arg2) (ix3 0 k ⟨n.val, by omega⟩) := by
  blk_simp [iblk, V]
  simp only [List.flatten_cons, List.flatten_nil, List.append_nil, List.cons_append, List.nil_append]
  entry_read
  pointwise
  blk_ext [idx t]

/-- The gates' weights: twelve rows of each sixteen, the rest zero. -/
theorem blk4 (c : Dev nD) (t : Fin cfg0.N) (h : Fin 32) (k : Fin 1024) :
    iblk m c 4 t (ix2 h k) = if h' : h.val % 16 < 12 then (m ((c : Thread nD τ).loc main_arg2) (ix3 0 k ⟨1280 + (12 * (h.val / 16) + h.val % 16), by omega⟩) : EReal) else (0 : EReal) := by
  have e : ((cfg0.win 4).blk t).view.emb (ix2 h k) = ix2 h k := by blk_ext [idx t]
  have hz : FloatOps.sitofp (F := Ideal) .bf16 0#32 = (0 : EReal) := by
    show (((0#32 : BitVec 32).toInt : ℝ) : EReal) = 0
    simp
  show V m c main_v10 (((cfg0.win 4).blk t).view.emb (ix2 h k)) = _
  rw [e]
  unfold V
  simp only [List.flatten_cons, List.flatten_nil, List.append_nil, List.cons_append, List.nil_append]
  entry_read
  simp only [StableHlo.TRef.toBuf, StableHlo.TRef.ofBuf, cast_eq]
  pointwise
  have hm : h.val / 16 * 12 = 12 * (h.val / 16) := Nat.mul_comm _ _
  have hc : h.val / 16 < 2 := by omega
  by_cases h' : h.val % 16 < 12
  · have hh : h.val / 16 < 2 ∧ h.val % 16 < 12 := ⟨hc, h'⟩
    simp only [dif_pos hh, dif_pos h', hm]
  · have hh : ¬ (h.val / 16 < 2 ∧ h.val % 16 < 12) := fun a => h' a.2
    simp only [dif_neg hh, dif_neg h']
    exact hz

theorem proj_zero (x g : Fin 1024 → EReal) : proj x g (fun _ => 0) = 0 := by
  unfold proj
  simp only [mul_zero, Finset.sum_const_zero]

theorem emb5 (t : Fin cfg0.N) (y1 : Fin 256) (y2 : Fin 1024) : ((cfg0.win 5).blk t).view.emb (ix3 0 y1 y2) = ix3 (grid0.coords t 0) y1 (pos t y2) := by
  unfold pos
  blk_ext [idx t]

theorem emb6 (t : Fin cfg0.N) (y1 : Fin 256) (y2 : Fin 1024) : ((cfg0.win 6).blk t).view.emb (ix3 0 y1 y2) = ix3 (grid0.coords t 0) y1 (pos t y2) := by
  unfold pos
  blk_ext [idx t]

theorem emb7 (t : Fin cfg0.N) (y1 : Fin 256) (y2 : Fin 1024) : ((cfg0.win 7).blk t).view.emb (ix3 0 y1 y2) = ix3 (grid0.coords t 0) y1 (pos t y2) := by
  unfold pos
  blk_ext [idx t]

theorem emb8 (t : Fin cfg0.N) (y1 : Fin 512) (y2 : Fin 1024) : ((cfg0.win 8).blk t).view.emb (ix3 0 y1 y2) = ix3 (grid0.coords t 0) y1 (pos t y2) := by
  unfold pos
  blk_ext [idx t]

theorem emb9 (t : Fin cfg0.N) (y1 : Fin 32) (y2 : Fin 1024) : ((cfg0.win 9).blk t).view.emb (ix3 0 y1 y2) = ix3 (grid0.coords t 0) y1 (pos t y2) := by
  unfold pos
  blk_ext [idx t]

theorem out5 (c : Dev nD) : (dats m 0 c).arrAt 5 cfg0.N = fun i => kvAt 512 (by decide) (m ((c : Thread nD τ).loc main_arg0)) (m ((c : Thread nD τ).loc main_arg1)) (m ((c : Thread nD τ).loc main_arg2)) i := by
  refine (dats m 0 c).arrAt_eq_of_covers 5 _ (by decide +kernel) fun t hf y => ?_
  blk_simp
  rw [after0_5]
  idx_vars y
  obtain rfl : y0 = 0 := Subsingleton.elim _ _
  refine (out5_point y1 y2).trans ?_
  simp only [blk0, blk1, blk2, ← Nat.add_assoc, Nat.reduceAdd]
  refine (congrArg (kvAt 512 (by decide) (m ((c : Thread nD τ).loc main_arg0)) (m ((c : Thread nD τ).loc main_arg1)) (m ((c : Thread nD τ).loc main_arg2))) (emb5 t y1 y2)).symm

theorem out6 (c : Dev nD) : (dats m 0 c).arrAt 6 cfg0.N = fun i => kvAt 768 (by decide) (m ((c : Thread nD τ).loc main_arg0)) (m ((c : Thread nD τ).loc main_arg1)) (m ((c : Thread nD τ).loc main_arg2)) i := by
  refine (dats m 0 c).arrAt_eq_of_covers 6 _ (by decide +kernel) fun t hf y => ?_
  blk_simp
  rw [after0_6]
  idx_vars y
  obtain rfl : y0 = 0 := Subsingleton.elim _ _
  refine (out6_point y1 y2).trans ?_
  simp only [blk0, blk1, blk2, ← Nat.add_assoc, Nat.reduceAdd]
  refine (congrArg (kvAt 768 (by decide) (m ((c : Thread nD τ).loc main_arg0)) (m ((c : Thread nD τ).loc main_arg1)) (m ((c : Thread nD τ).loc main_arg2))) (emb6 t y1 y2)).symm

theorem out7 (c : Dev nD) : (dats m 0 c).arrAt 7 cfg0.N = fun i => kvAt 1024 (by decide) (m ((c : Thread nD τ).loc main_arg0)) (m ((c : Thread nD τ).loc main_arg1)) (m ((c : Thread nD τ).loc main_arg2)) i := by
  refine (dats m 0 c).arrAt_eq_of_covers 7 _ (by decide +kernel) fun t hf y => ?_
  blk_simp
  rw [after0_7]
  idx_vars y
  obtain rfl : y0 = 0 := Subsingleton.elim _ _
  refine (out7_point y1 y2).trans ?_
  simp only [blk0, blk1, blk2, ← Nat.add_assoc, Nat.reduceAdd]
  refine (congrArg (kvAt 1024 (by decide) (m ((c : Thread nD τ).loc main_arg0)) (m ((c : Thread nD τ).loc main_arg1)) (m ((c : Thread nD τ).loc main_arg2))) (emb7 t y1 y2)).symm

theorem out8 (c : Dev nD) : (dats m 0 c).arrAt 8 cfg0.N = fun i => qAt (m ((c : Thread nD τ).loc main_arg0)) (m ((c : Thread nD τ).loc main_arg1)) (m ((c : Thread nD τ).loc main_arg2)) i := by
  refine (dats m 0 c).arrAt_eq_of_covers 8 _ (by decide +kernel) fun t hf y => ?_
  blk_simp
  rw [after0_8]
  idx_vars y
  obtain rfl : y0 = 0 := Subsingleton.elim _ _
  refine (out8_point y1 y2).trans ?_
  simp only [blk0, blk1, blk3]
  refine (congrArg (qAt (m ((c : Thread nD τ).loc main_arg0)) (m ((c : Thread nD τ).loc main_arg1)) (m ((c : Thread nD τ).loc main_arg2))) (emb8 t y1 y2)).symm

theorem out9 (c : Dev nD) : (dats m 0 c).arrAt 9 cfg0.N = fun i => gateAt (m ((c : Thread nD τ).loc main_arg0)) (m ((c : Thread nD τ).loc main_arg1)) (m ((c : Thread nD τ).loc main_arg2)) i := by
  refine (dats m 0 c).arrAt_eq_of_covers 9 _ (by decide +kernel) fun t hf y => ?_
  blk_simp
  rw [after0_9]
  idx_vars y
  obtain rfl : y0 = 0 := Subsingleton.elim _ _
  refine (out9_point y1 y2).trans ?_
  simp only [blk0, blk1, blk4]
  refine Eq.trans ?_ (congrArg (gateAt (m ((c : Thread nD τ).loc main_arg0)) (m ((c : Thread nD τ).loc main_arg1)) (m ((c : Thread nD τ).loc main_arg2))) (emb9 t y1 y2)).symm
  unfold gateAt colAt
  refine congrArg Ideal.logistic ?_
  show _ = if y1.val % 16 < 12 then _ else _
  by_cases h : y1.val % 16 < 12
  · simp only [dif_pos h]
    rw [if_pos h]
    rfl
  · simp only [dif_neg h]
    rw [if_neg h, proj_zero]

end Cert.FrontIdeal.Val

end
-- ==== Proof.FrontRef.lean ====
/- The projections' reference read at an index. -/
module

public import proofs.«01_k».proof.Proof.Gen.FrontRefIdeal.Read
public import proofs.«01_k».proof.Proof.FrontMath

@[expose] public section

set_option maxRecDepth 16384

noncomputable section

namespace Cert.FrontRefIdeal.Val

open Cert.FrontRefIdeal Idealize.ShloMosaic Idealize.ShloMosaic.TcCoe Idealize.SL.Sem Cert.Layer Cert.FrontRefIdeal.Read

variable (x0 : (⟨S4x4096x1024, .f32⟩ : BufTy).Contents (Elt Ideal)) (x1 : (⟨S1x1024, .f32⟩ : BufTy).Contents (Elt Ideal)) (x2 : (⟨S1x1024x4376, .f32⟩ : BufTy).Contents (Elt Ideal))

theorem v13_ix (b : Fin 4) (t : Fin 4096) (k : Fin 1024) :
    val_main_v13 x0 x1 (ix3 b t k) = nrm c1024 (fun k => x0 (ix3 b t k)) (fun k => x1 (ix2 0 k)) k := by
  unfold nrm c1024
  pointwise [val_main_v13, val_main_v10, val_main_v12, val_main_v9, val_main_v11, val_main_v8, val_main_v0, val_main_v7, val_main_v5, val_main_v6, val_main_v3, val_main_v4, val_main_cst_1, val_main_v2, val_main_cst_0, val_main_v1, val_main_cst]

theorem v16_ix (b : Fin 4) (t : Fin 4096) (c : Fin 1304) : val_main_v16 x0 x1 x2 (ix3 b t c) = colAt x0 x1 x2 b ⟨c.val, by omega⟩ t := by
  unfold colAt proj
  pointwise [val_main_v16, val_main_v15, val_main_v14]
  simp only [v13_ix]

theorem v37_ix (b : Fin 4) (c : Fin 256) (t : Fin 4096) : val_main_v37 x0 x1 x2 (ix3 b c t) = kvAt 512 (by decide) x0 x1 x2 (ix3 b c t) := by
  unfold kvAt
  pointwise [val_main_v37, val_main_v36, val_main_v19, val_main_v18, val_main_v17]
  simp only [v16_ix, ← Nat.add_assoc, Nat.reduceAdd]

theorem v39_ix (b : Fin 4) (c : Fin 256) (t : Fin 4096) : val_main_v39 x0 x1 x2 (ix3 b c t) = kvAt 768 (by decide) x0 x1 x2 (ix3 b c t) := by
  unfold kvAt
  pointwise [val_main_v39, val_main_v38, val_main_v19, val_main_v18, val_main_v17]
  simp only [v16_ix, ← Nat.add_assoc, Nat.reduceAdd]

theorem v41_ix (b : Fin 4) (c : Fin 256) (t : Fin 4096) : val_main_v41 x0 x1 x2 (ix3 b c t) = kvAt 1024 (by decide) x0 x1 x2 (ix3 b c t) := by
  unfold kvAt
  pointwise [val_main_v41, val_main_v40, val_main_v19, val_main_v18, val_main_v17]
  simp only [v16_ix, ← Nat.add_assoc, Nat.reduceAdd]

theorem v24_ix (b : Fin 4) (c : Fin 512) (t : Fin 4096) : val_main_v24 x0 x1 x2 (ix3 b c t) = qAt x0 x1 x2 (ix3 b c t) := by
  unfold qAt
  pointwise [val_main_v24, val_main_v23, val_main_v22, val_main_v20, val_main_v21, val_main_cst_2]
  simp only [v16_ix]

theorem v35_ix (b : Fin 4) (c : Fin 32) (t : Fin 4096) : val_main_v35 x0 x1 x2 (ix3 b c t) = gateAt x0 x1 x2 (ix3 b c t) := by
  unfold gateAt
  pointwise [val_main_v35, val_main_v34, val_main_v33, val_main_cst_4, val_main_v32, val_main_v31, val_main_cst_3, val_main_v30, val_main_v29, val_main_v28, val_main_v27, val_main_call0_v0, val_main_v26, val_main_c, val_main_v25]
  simp only [v16_ix]
  have hz : FloatOps.sitofp (F := Ideal) .f32 0#32 = (0 : EReal) := by
    show (((0#32 : BitVec 32).toInt : ℝ) : EReal) = 0
    simp
  have hc : c.val / 16 < 2 := by omega
  have hm : c.val / 16 * 12 = 12 * (c.val / 16) := Nat.mul_comm _ _
  unfold Ideal.logistic
  by_cases h : c.val % 16 < 12
  · have hh : c.val / 16 < 2 ∧ c.val % 16 < 12 := ⟨hc, h⟩
    simp only [dif_pos hh, if_pos h, hm]
  · have hh : ¬ (c.val / 16 < 2 ∧ c.val % 16 < 12) := fun a => h a.2
    simp only [dif_neg hh, if_neg h, hz]

end Cert.FrontRefIdeal.Val

end
-- ==== Proof.FrontClaim.lean ====
/- The claims about the projections' kernel and its reference. -/
module

public import proofs.«01_k».proof.Defs
public import proofs.«01_k».proof.Proof.Gen.Front.Frame
public import proofs.«01_k».proof.Proof.FrontVal
public import proofs.«01_k».proof.Proof.FrontRef
public import Idealize.ShloMosaic.Adequacy
public import Idealize.ShloMosaic.Init

@[expose] public section

set_option maxRecDepth 16384

noncomputable section

namespace Cert.FrontClaim

open Idealize.ShloMosaic Idealize.SL.Sem Cert.Layer

theorem frame : Cert.quiescent_Front (hFront := Cert.Front.Gen.facts) := fun m g _ => Cert.Front.Gen.frame m g

theorem frameIdeal : Cert.quiescent_FrontIdeal (hFrontIdeal := Cert.FrontIdeal.Gen.facts) := fun m g _ => Cert.FrontIdeal.Gen.frame m g

theorem frameRef : Cert.quiescent_FrontRefIdeal (hFrontRefIdeal := Cert.FrontRefIdeal.Gen.facts) := fun m g _ =>
  (θ_run _ _ _).mono (fun r h => ⟨fun c => (h c).2.2.2.2.2, sem_eq_zero_of_no_sems (by decide) r.2⟩) (Cert.FrontRefIdeal.Value.run m g)

/-- Both programs end with the keys and values of the three branches, the scaled queries and the gates, as functions of the arguments. -/
theorem algebraic : Cert.algebraic_FrontIdeal_FrontRefIdeal (hFrontIdeal := Cert.FrontIdeal.Gen.facts) (hFrontRefIdeal := Cert.FrontRefIdeal.Gen.facts) :=
  fun m g m' g' _ ha => ⟨fun c => (Cert.FrontIdeal.Gen.dats m 0 c).arrAt 5 Cert.FrontIdeal.cfg0.N, fun c => (Cert.FrontIdeal.Gen.dats m 0 c).arrAt 6 Cert.FrontIdeal.cfg0.N, fun c => (Cert.FrontIdeal.Gen.dats m 0 c).arrAt 7 Cert.FrontIdeal.cfg0.N, fun c => (Cert.FrontIdeal.Gen.dats m 0 c).arrAt 8 Cert.FrontIdeal.cfg0.N, fun c => (Cert.FrontIdeal.Gen.dats m 0 c).arrAt 9 Cert.FrontIdeal.cfg0.N,
    Cert.FrontIdeal.Value.run_blocks m g,
    (θ_run _ _ _).mono (fun r h c => by
      obtain ⟨h0, h1, h2, h3, h4, hk⟩ := h c
      obtain ⟨a0, a1, a2⟩ := ha c
      refine ⟨?_, ?_, ?_, ?_, ?_, hk⟩
      · refine h0.trans ((Cert.FrontRefIdeal.Read.val_main_v37_eq _ _ _).trans (.trans ?_ (Cert.FrontIdeal.Val.out5 m c).symm))
        rw [a0, a1, a2]
        funext i
        idx_vars i
        exact Cert.FrontRefIdeal.Val.v37_ix _ _ _ i0 i1 i2
      · refine h1.trans ((Cert.FrontRefIdeal.Read.val_main_v39_eq _ _ _).trans (.trans ?_ (Cert.FrontIdeal.Val.out6 m c).symm))
        rw [a0, a1, a2]
        funext i
        idx_vars i
        exact Cert.FrontRefIdeal.Val.v39_ix _ _ _ i0 i1 i2
      · refine h2.trans ((Cert.FrontRefIdeal.Read.val_main_v41_eq _ _ _).trans (.trans ?_ (Cert.FrontIdeal.Val.out7 m c).symm))
        rw [a0, a1, a2]
        funext i
        idx_vars i
        exact Cert.FrontRefIdeal.Val.v41_ix _ _ _ i0 i1 i2
      · refine h3.trans ((Cert.FrontRefIdeal.Read.val_main_v24_eq _ _ _).trans (.trans ?_ (Cert.FrontIdeal.Val.out8 m c).symm))
        rw [a0, a1, a2]
        funext i
        idx_vars i
        exact Cert.FrontRefIdeal.Val.v24_ix _ _ _ i0 i1 i2
      · refine h4.trans ((Cert.FrontRefIdeal.Read.val_main_v35_eq _ _ _).trans (.trans ?_ (Cert.FrontIdeal.Val.out9 m c).symm))
        rw [a0, a1, a2]
        funext i
        idx_vars i
        exact Cert.FrontRefIdeal.Val.v35_ix _ _ _ i0 i1 i2) (Cert.FrontRefIdeal.Value.run m' g')⟩

end Cert.FrontClaim

end
-- ==== Proof.FrontDecKer.lean ====
/- What the kernel of the sample's projections computes, read at an index. -/
module

public import proofs.«01_k».proof.Proof.Gen.FrontDecIdeal.Value
public import proofs.«01_k».proof.Proof.DecMath
public import Idealize.ShloMosaic.Lib.Pipeline.ValueKit

@[expose] public section

set_option maxRecDepth 16384

noncomputable section

namespace Cert.FrontDecIdeal.Val

open Cert.FrontDecIdeal Cert.FrontDecIdeal.Gen Idealize.ShloMosaic Idealize.ShloMosaic.TcCoe Idealize.SL.Sem Cert.Layer

theorem pay1_apply (v0 : Vec Ideal S32x1024 .f32) (v2 : Vec Ideal S1x1024 .f32) (v : Vec Ideal S1408x1024 .bf16) (r : Fin 32) (c : Fin 1408) :
    k0_pay1 v0 v2 v (ix2 r c) = proj (fun k => v0 (ix2 r k)) (fun k => v2 (ix2 0 k)) (fun k => v (ix2 c k)) := by
  unfold k0_pay1 proj nrm c1024
  pointwise

theorem out3_point {x0 : Vec Ideal S32x1024 .f32} {x1 : Vec Ideal S1x1024 .f32} {x2 : Vec Ideal S1408x1024 .bf16} (r : Fin 32) (c : Fin 512) :
    out0_3 x0 x1 x2 (ix2 r c) = proj (fun k => x0 (ix2 r k)) (fun k => x1 (ix2 0 k)) (fun k => x2 (ix2 ⟨c.val, by omega⟩ k)) * Ideal.ofBits .f32 0x3E000000#32 := by
  unfold out0_3
  frame_out
  unfold k0_pay2
  pointwise
  simp only [pay1_apply]

theorem out4_point {x0 : Vec Ideal S32x1024 .f32} {x1 : Vec Ideal S1x1024 .f32} {x2 : Vec Ideal S1408x1024 .bf16} (r : Fin 32) (c : Fin 768) :
    out0_4 x0 x1 x2 (ix2 r c) = proj (fun k => x0 (ix2 r k)) (fun k => x1 (ix2 0 k)) (fun k => x2 (ix2 ⟨512 + c.val, by omega⟩ k)) := by
  unfold out0_4
  frame_out
  unfold k0_pay3
  pointwise
  simp only [pay1_apply]

theorem out5_point {x0 : Vec Ideal S32x1024 .f32} {x1 : Vec Ideal S1x1024 .f32} {x2 : Vec Ideal S1408x1024 .bf16} (r : Fin 32) (c : Fin 128) :
    out0_5 x0 x1 x2 (ix2 r c) = Ideal.logistic (proj (fun k => x0 (ix2 r k)) (fun k => x1 (ix2 0 k)) (fun k => x2 (ix2 ⟨1280 + c.val, by omega⟩ k))) := by
  unfold out0_5
  frame_out
  unfold k0_pay4
  pointwise
  simp only [pay1_apply]

end Cert.FrontDecIdeal.Val

end
-- ==== Proof.FrontDecVal.lean ====
/- The results of the sample's projections after the run, as functions of the kernel's arguments. -/
module

public import proofs.«01_k».proof.Proof.FrontDecKer

@[expose] public section

set_option maxRecDepth 16384

noncomputable section

namespace Cert.FrontDecIdeal.Val

open Cert.FrontDecIdeal Cert.FrontDecIdeal.Gen Idealize.ShloMosaic Idealize.ShloMosaic.TcCoe Idealize.SL.Sem Cert.Layer
open Idealize.ShloMosaic.Pipeline (Dat)

variable (m : (ℓ : Loc nD τ sig) → Buf (Elt Ideal) ℓ)

theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

theorem blk0 (c : Dev nD) (t : Fin cfg0.N) (r : Fin 32) (k : Fin 1024) : iblk m c 0 t (ix2 r k) = m ((c : Thread nD τ).loc main_arg0) (ix3 r 0 k) := by
  blk_simp [iblk, V]
  simp only [List.flatten_cons, List.flatten_nil, List.append_nil, List.cons_append, List.nil_append]
  entry_read
  pointwise
  blk_ext [idx t]
theorem blk1 (c : Dev nD) (t : Fin cfg0.N) (k : Fin 1024) : iblk m c 1 t (ix2 0 k) = m ((c : Thread nD τ).loc main_arg1) (ix2 0 k) := by
  blk_simp [iblk, V]
  simp only [List.flatten_cons, List.flatten_nil, List.append_nil, List.cons_append, List.nil_append]
  entry_read
  pointwise
  blk_ext [idx t]

/-- The three pieces of the weights, one below the other. -/
theorem weights (c : Dev nD) : V m c main_v10 = concatenate S1408x1024 0 [⟨S512x1024, V m c main_v4⟩, ⟨S768x1024, V m c main_v6⟩, ⟨S128x1024, V m c main_v9⟩]
    concatenates_S512x1024_S768x1024_S128x1024_S1408x1024_d0 := rfl

theorem weights_q (c : Dev nD) (h : Fin 512) (k : Fin 1024) :
    V m c main_v4 (ix2 h k) = (m ((c : Thread nD τ).loc main_arg2) (ix3 0 k ⟨h.val, by omega⟩) : EReal) := by
  unfold V
  simp only [List.flatten_cons, List.flatten_nil, List.append_nil, List.cons_append, List.nil_append]
  entry_read
  pointwise

theorem weights_kv (c : Dev nD) (h : Fin 768) (k : Fin 1024) :
    V m c main_v6 (ix2 h k) = (m ((c : Thread nD τ).loc main_arg2) (ix3 0 k ⟨512 + h.val, by omega⟩) : EReal) := by
  unfold V
  simp only [List.flatten_cons, List.flatten_nil, List.append_nil, List.cons_append, List.nil_append]
  entry_read
  pointwise

theorem weights_g (c : Dev nD) (h : Fin 128) (k : Fin 1024) :
    V m c main_v9 (ix2 h k) = if h' : h.val < 24 then (m ((c : Thread nD τ).loc main_arg2) (ix3 0 k ⟨1280 + h.val, by omega⟩) : EReal) else (0 : EReal) := by
  have hz : FloatOps.sitofp (F := Ideal) .bf16 0#32 = (0 : EReal) := by
    show (((0#32 : BitVec 32).toInt : ℝ) : EReal) = 0
    simp
  unfold V
  simp only [List.flatten_cons, List.flatten_nil, List.append_nil, List.cons_append, List.nil_append]
  entry_read
  simp only [StableHlo.TRef.toBuf, StableHlo.TRef.ofBuf, cast_eq]
  pointwise
  by_cases h' : h.val < 24
  · simp only [dif_pos h']
  · simp only [dif_neg h']
    exact hz

/-- Pieces that hold the columns of `f` as rows, and zeros after the last column. -/
theorem pieces {a : Vec Ideal S512x1024 .bf16} {b : Vec Ideal S768x1024 .bf16} {g : Vec Ideal S128x1024 .bf16} {f : Fin 4376 → Fin 1024 → EReal}
    (ha : ∀ (h : Fin 512) (k : Fin 1024), a (ix2 h k) = f ⟨h.val, by omega⟩ k) (hb : ∀ (h : Fin 768) (k : Fin 1024), b (ix2 h k) = f ⟨512 + h.val, by omega⟩ k)
    (hg : ∀ (h : Fin 128) (k : Fin 1024), g (ix2 h k) = if h' : h.val < 24 then f ⟨1280 + h.val, by omega⟩ k else (0 : EReal)) (h : Fin 1408) (k : Fin 1024) :
    (concatenate S1408x1024 0 [⟨S512x1024, a⟩, ⟨S768x1024, b⟩, ⟨S128x1024, g⟩] concatenates_S512x1024_S768x1024_S128x1024_S1408x1024_d0 : Vec Ideal S1408x1024 .bf16) (ix2 h k)
      = if h' : h.val < 1304 then f ⟨h.val, by omega⟩ k else (0 : EReal) := by
  pointwise
  simp only [ha, hb, hg]
  by_cases h1 : h.val < 512
  · have hh : h.val < 1304 := by omega
    simp only [dif_pos h1, dif_pos hh]
  · by_cases h2 : h.val - 512 < 768
    · have hh : h.val < 1304 := by omega
      have e1 : 512 + (h.val - 512) = h.val := by omega
      simp only [dif_neg h1, dif_pos h2, dif_pos hh, e1]
    · have e1 : 1280 + (h.val - 512 - 768) = h.val := by omega
      by_cases h3 : h.val < 1304
      · have hh : h.val - 512 - 768 < 24 := by omega
        simp only [dif_neg h1, dif_neg h2, dif_pos h3, dif_pos hh, e1]
      · have hh : ¬ h.val - 512 - 768 < 24 := by omega
        simp only [dif_neg h1, dif_neg h2, dif_neg h3, dif_neg hh]

/-- The weights: the columns of the input projection as rows, then rows of zeros. -/
theorem blk2 (c : Dev nD) (t : Fin cfg0.N) (h : Fin 1408) (k : Fin 1024) :
    iblk m c 2 t (ix2 h k) = if h' : h.val < 1304 then (m ((c : Thread nD τ).loc main_arg2) (ix3 0 k ⟨h.val, by omega⟩) : EReal) else (0 : EReal) := by
  have e : ((cfg0.win 2).blk t).view.emb (ix2 h k) = ix2 h k := by blk_ext [idx t]
  show V m c main_v10 (((cfg0.win 2).blk t).view.emb (ix2 h k)) = _
  rw [e, weights]
  exact pieces (f := fun c' k => m ((c : Thread nD τ).loc main_arg2) (ix3 0 k c')) (weights_q m c) (weights_kv m c) (weights_g m c) h k

theorem proj_zero (x g : Fin 1024 → EReal) : proj x g (fun _ => 0) = 0 := by
  unfold proj
  simp only [mul_zero, Finset.sum_const_zero]

theorem emb3 (t : Fin cfg0.N) (y0 : Fin 32) (y1 : Fin 512) : ((cfg0.win 3).blk t).view.emb (ix2 y0 y1) = ix2 y0 y1 := by
  blk_ext [idx t]

theorem out3 (c : Dev nD) : (dats m 0 c).arrAt 3 cfg0.N = fun i => qDec (m ((c : Thread nD τ).loc main_arg0)) (m ((c : Thread nD τ).loc main_arg1)) (m ((c : Thread nD τ).loc main_arg2)) i := by
  refine (dats m 0 c).arrAt_eq_of_covers 3 _ (by decide +kernel) fun t hf y => ?_
  blk_simp
  rw [after0_3]
  idx_vars y
  refine (out3_point y0 y1).trans ?_
  simp only [blk0, blk1, blk2]
  refine Eq.trans ?_ (congrArg (qDec (m ((c : Thread nD τ).loc main_arg0)) (m ((c : Thread nD τ).loc main_arg1)) (m ((c : Thread nD τ).loc main_arg2))) (emb3 t y0 y1)).symm
  unfold qDec colDec
  have h : y1.val < 1304 := by omega
  simp only [dif_pos h]
  rfl

theorem emb4 (t : Fin cfg0.N) (y0 : Fin 32) (y1 : Fin 768) : ((cfg0.win 4).blk t).view.emb (ix2 y0 y1) = ix2 y0 y1 := by
  blk_ext [idx t]

theorem out4 (c : Dev nD) : (dats m 0 c).arrAt 4 cfg0.N = fun i => kvDec (m ((c : Thread nD τ).loc main_arg0)) (m ((c : Thread nD τ).loc main_arg1)) (m ((c : Thread nD τ).loc main_arg2)) i := by
  refine (dats m 0 c).arrAt_eq_of_covers 4 _ (by decide +kernel) fun t hf y => ?_
  blk_simp
  rw [after0_4]
  idx_vars y
  refine (out4_point y0 y1).trans ?_
  simp only [blk0, blk1, blk2]
  refine Eq.trans ?_ (congrArg (kvDec (m ((c : Thread nD τ).loc main_arg0)) (m ((c : Thread nD τ).loc main_arg1)) (m ((c : Thread nD τ).loc main_arg2))) (emb4 t y0 y1)).symm
  unfold kvDec colDec
  have h : 512 + y1.val < 1304 := by omega
  simp only [dif_pos h]
  rfl

theorem emb5 (t : Fin cfg0.N) (y0 : Fin 32) (y1 : Fin 128) : ((cfg0.win 5).blk t).view.emb (ix2 y0 y1) = ix2 y0 y1 := by
  blk_ext [idx t]

theorem out5 (c : Dev nD) : (dats m 0 c).arrAt 5 cfg0.N = fun i => gateDec (m ((c : Thread nD τ).loc main_arg0)) (m ((c : Thread nD τ).loc main_arg1)) (m ((c : Thread nD τ).loc main_arg2)) i := by
  refine (dats m 0 c).arrAt_eq_of_covers 5 _ (by decide +kernel) fun t hf y => ?_
  blk_simp
  rw [after0_5]
  idx_vars y
  refine (out5_point y0 y1).trans ?_
  simp only [blk0, blk1, blk2]
  refine Eq.trans ?_ (congrArg (gateDec (m ((c : Thread nD τ).loc main_arg0)) (m ((c : Thread nD τ).loc main_arg1)) (m ((c : Thread nD τ).loc main_arg2))) (emb5 t y0 y1)).symm
  unfold gateDec colDec
  refine congrArg Ideal.logistic ?_
  show _ = if y1.val < 24 then _ else _
  by_cases h : y1.val < 24
  · have hh : 1280 + y1.val < 1304 := by omega
    simp only [dif_pos hh]
    rw [if_pos h]
    rfl
  · have hh : ¬ 1280 + y1.val < 1304 := by omega
    simp only [dif_neg hh]
    rw [if_neg h, proj_zero]

end Cert.FrontDecIdeal.Val

end
-- ==== Proof.FrontDecRef.lean ====
/- The reference of the sample's projections read at an index. -/
module

public import proofs.«01_k».proof.Proof.Gen.FrontDecRefIdeal.Read
public import proofs.«01_k».proof.Proof.DecMath

@[expose] public section

set_option maxRecDepth 16384

noncomputable section

namespace Cert.FrontDecRefIdeal.Val

open Cert.FrontDecRefIdeal Idealize.ShloMosaic Idealize.ShloMosaic.TcCoe Idealize.SL.Sem Cert.Layer Cert.FrontDecRefIdeal.Read

variable (x0 : (⟨S32x1x1024, .f32⟩ : BufTy).Contents (Elt Ideal)) (x1 : (⟨S1x1024, .f32⟩ : BufTy).Contents (Elt Ideal)) (x2 : (⟨S1x1024x4376, .f32⟩ : BufTy).Contents (Elt Ideal))

theorem v13_ix (b : Fin 32) (k : Fin 1024) :
    val_main_v13 x0 x1 (ix3 b 0 k) = nrm c1024 (fun k => x0 (ix3 b 0 k)) (fun k => x1 (ix2 0 k)) k := by
  unfold nrm c1024
  pointwise [val_main_v13, val_main_v10, val_main_v12, val_main_v9, val_main_v11, val_main_v8, val_main_v0, val_main_v7, val_main_v5, val_main_v6, val_main_v3, val_main_v4, val_main_cst_1, val_main_v2, val_main_cst_0, val_main_v1, val_main_cst]

theorem v16_ix (b : Fin 32) (c : Fin 1304) : val_main_v16 x0 x1 x2 (ix3 b 0 c) = colDec x0 x1 x2 b ⟨c.val, by omega⟩ := by
  unfold colDec proj
  pointwise [val_main_v16, val_main_v15, val_main_v14]
  simp only [v13_ix]

theorem v29_ix (b : Fin 32) (c : Fin 512) : val_main_v29 x0 x1 x2 (ix2 b c) = qDec x0 x1 x2 (ix2 b c) := by
  unfold qDec
  pointwise [val_main_v29, val_main_v19, val_main_v17, val_main_v18, val_main_cst_2]
  simp only [v16_ix]

theorem v30_ix (b : Fin 32) (c : Fin 768) : val_main_v30 x0 x1 x2 (ix2 b c) = kvDec x0 x1 x2 (ix2 b c) := by
  unfold kvDec
  pointwise [val_main_v30, val_main_v20]
  simp only [v16_ix]

theorem v31_ix (b : Fin 32) (c : Fin 128) : val_main_v31 x0 x1 x2 (ix2 b c) = gateDec x0 x1 x2 (ix2 b c) := by
  unfold gateDec
  pointwise [val_main_v31, val_main_v28, val_main_v27, val_main_v26, val_main_cst_4, val_main_v25, val_main_v24, val_main_cst_3, val_main_v23, val_main_v22, val_main_v21, val_main_call0_v0, val_main_c]
  simp only [v16_ix]
  have hz : FloatOps.sitofp (F := Ideal) .f32 0#32 = (0 : EReal) := by
    show (((0#32 : BitVec 32).toInt : ℝ) : EReal) = 0
    simp
  unfold Ideal.logistic
  by_cases h : c.val < 24
  · simp only [dif_pos h, if_pos h]
  · simp only [dif_neg h, if_neg h, hz]

end Cert.FrontDecRefIdeal.Val

end
-- ==== Proof.FrontDecClaim.lean ====
/- The claims about the kernel of the sample's projections and its reference. -/
module

public import proofs.«01_k».proof.Defs
public import proofs.«01_k».proof.Proof.Gen.FrontDec.Frame
public import proofs.«01_k».proof.Proof.FrontDecVal
public import proofs.«01_k».proof.Proof.FrontDecRef
public import Idealize.ShloMosaic.Adequacy
public import Idealize.ShloMosaic.Init

@[expose] public section

set_option maxRecDepth 16384

noncomputable section

namespace Cert.FrontDecClaim

open Idealize.ShloMosaic Idealize.SL.Sem Cert.Layer

theorem frame : Cert.quiescent_FrontDec (hFrontDec := Cert.FrontDec.Gen.facts) := fun m g _ => Cert.FrontDec.Gen.frame m g

theorem frameIdeal : Cert.quiescent_FrontDecIdeal (hFrontDecIdeal := Cert.FrontDecIdeal.Gen.facts) := fun m g _ => Cert.FrontDecIdeal.Gen.frame m g

theorem frameRef : Cert.quiescent_FrontDecRefIdeal (hFrontDecRefIdeal := Cert.FrontDecRefIdeal.Gen.facts) := fun m g _ =>
  (θ_run _ _ _).mono (fun r h => ⟨fun c => (h c).2.2.2, sem_eq_zero_of_no_sems (by decide) r.2⟩) (Cert.FrontDecRefIdeal.Value.run m g)

/-- Both programs end with the same results, as functions of the arguments. -/
theorem algebraic : Cert.algebraic_FrontDecIdeal_FrontDecRefIdeal (hFrontDecIdeal := Cert.FrontDecIdeal.Gen.facts) (hFrontDecRefIdeal := Cert.FrontDecRefIdeal.Gen.facts) :=
  fun m g m' g' _ ha => ⟨fun c => (Cert.FrontDecIdeal.Gen.dats m 0 c).arrAt 3 Cert.FrontDecIdeal.cfg0.N, fun c => (Cert.FrontDecIdeal.Gen.dats m 0 c).arrAt 4 Cert.FrontDecIdeal.cfg0.N, fun c => (Cert.FrontDecIdeal.Gen.dats m 0 c).arrAt 5 Cert.FrontDecIdeal.cfg0.N,
    Cert.FrontDecIdeal.Value.run_blocks m g,
    (θ_run _ _ _).mono (fun r h c => by
      obtain ⟨h0, h1, h2, hk⟩ := h c
      obtain ⟨a0, a1, a2⟩ := ha c
      refine ⟨?_, ?_, ?_, hk⟩
      · refine h0.trans ((Cert.FrontDecRefIdeal.Read.val_main_v29_eq _ _ _).trans (.trans ?_ (Cert.FrontDecIdeal.Val.out3 m c).symm))
        rw [a0, a1, a2]
        funext i
        idx_vars i
        exact Cert.FrontDecRefIdeal.Val.v29_ix _ _ _ i0 i1
      · refine h1.trans ((Cert.FrontDecRefIdeal.Read.val_main_v30_eq _ _ _).trans (.trans ?_ (Cert.FrontDecIdeal.Val.out4 m c).symm))
        rw [a0, a1, a2]
        funext i
        idx_vars i
        exact Cert.FrontDecRefIdeal.Val.v30_ix _ _ _ i0 i1
      · refine h2.trans ((Cert.FrontDecRefIdeal.Read.val_main_v31_eq _ _ _).trans (.trans ?_ (Cert.FrontDecIdeal.Val.out5 m c).symm))
        rw [a0, a1, a2]
        funext i
        idx_vars i
        exact Cert.FrontDecRefIdeal.Val.v31_ix _ _ _ i0 i1) (Cert.FrontDecRefIdeal.Value.run m' g')⟩

end Cert.FrontDecClaim

end
-- ==== Proof.MixRun.lean ====
/- The mixers' run: what its two output arrays hold after it, the arguments unchanged. -/
module

public import proofs.«01_k».proof.Proof.Gen.MixIdeal.Frame
public import Idealize.ShloMosaic.Lib.Pipeline.Value

@[expose] public section

noncomputable section

namespace Cert.MixIdeal.Val

open Cert.MixIdeal Cert.MixIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- After the run each output array is the fold of the blocks written back, and every argument is as launched. -/
theorem run_outs : θ_run defs (onTc (τ := τ) (main (F := F))) ⟨m, fun _ => 0, ρ⟩ fun r => ∀ c : Dev nD,
      r.2.mem ((c : Thread nD τ).loc main_v19_0) = (dats m 0 c).arrAt 11 cfg0.N
      ∧ r.2.mem ((c : Thread nD τ).loc main_v19_1) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1 11, (h c).1 12,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.MixIdeal.Val

end
-- ==== Proof.MixChunk.lean ====
/- What one grid point of the mixers' kernel computes, read at an index as extended reals. -/
module

public import proofs.«01_k».proof.Proof.MixRun
public import proofs.«01_k».proof.Proof.MixMath
public import Idealize.ShloMosaic.Lib.Pipeline.ValueKit

@[expose] public section

set_option maxRecDepth 16384

noncomputable section

namespace Cert.MixIdeal.Val

open Cert.MixIdeal Cert.MixIdeal.Gen Idealize.ShloMosaic Idealize.ShloMosaic.TcCoe Idealize.SL.Sem Cert.Layer

/-- The mask of the causal mixing: the lower triangle. -/
theorem tri_ix (i j : Fin 128) : k0_pay12 (ix2 i j) = if j.val ≤ i.val then 1#1 else 0#1 := by
  unfold k0_pay12
  pointwise
  revert i j; decide +kernel

/-- The causal mixing of a block's 1024 rows, in eight chunks and four channel groups. -/
def mixed (vb : FVec Ideal S1024x512 .bf16) (x6 : Vec Ideal S4x128x128 .f32) (x7 : Vec Ideal S128x4 .f32) (r : Fin 1024) (c : Fin 512) : EReal :=
  spatial (fun a b => x6 (ix3 ⟨c.val / 128, by omega⟩ a b)) (fun a => x7 (ix2 a ⟨c.val / 128, by omega⟩))
    (fun j => vb (ix2 ⟨128 * (r.val / 128) + j.val, by omega⟩ c)) ⟨r.val % 128, by omega⟩

theorem mixed_at (vb : FVec Ideal S1024x512 .bf16) (x6 : Vec Ideal S4x128x128 .f32) (x7 : Vec Ideal S128x4 .f32) (K : Fin 8) (i : Fin 128) (c : Fin 512)
    (r : Fin 1024) (h : r.val = 128 * K.val + i.val) :
    mixed vb x6 x7 r c = spatial (fun a b => x6 (ix3 ⟨c.val / 128, by omega⟩ a b)) (fun a => x7 (ix2 a ⟨c.val / 128, by omega⟩))
      (fun j => vb (ix2 ⟨128 * K.val + j.val, by omega⟩ c)) i := by
  have e1 : r.val / 128 = K.val := by omega
  have e2 : (⟨r.val % 128, by omega⟩ : Fin 128) = i := Fin.ext (by show r.val % 128 = i.val; omega)
  unfold mixed
  simp only [e1, e2]

/-- The chunk 0 of a block: its 128 rows of the causal mixing. -/
theorem chunk0 (v34 : FVec Ideal S1024x512 .f32) (v36 : FVec Ideal S1x512 .f32) (v39 : FVec Ideal S1024x1 .f32) (x6 : Vec Ideal S4x128x128 .f32) (x7 : Vec Ideal S128x4 .f32) (i : Fin 128) (c : Fin 512) :
    k0_pay16 k0_pay12 (k0_pay13 v34 v36 v39) (k0_pay14 v34 v36 v39 (View.ld x6 r0_6) (View.ld x7 r0_7)) (k0_pay15 v34 v36 v39 (View.ld x6 r0_8)) (View.ld x7 r0_9) (View.ld x6 r0_10) (View.ld x7 r0_11) (View.ld x6 r0_12) (View.ld x7 r0_13) (ix2 i c) = mixed (k0_pay13 v34 v36 v39) x6 x7 ⟨i.val, by omega⟩ c := by
  rw [mixed_at (k0_pay13 v34 v36 v39) x6 x7 0 i c _ (by dsimp only; omega)]
  unfold k0_pay16 k0_pay14 k0_pay15
  pointwise
  simp only [tri_ix]
  exact quad (fun g a b => x6 (ix3 g a b)) (fun g a => x7 (ix2 a g)) (fun j c => (k0_pay13 v34 v36 v39) (ix2 ⟨j.val, by omega⟩ c)) i c

/-- The chunk 1 of a block: its 128 rows of the causal mixing. -/
theorem chunk1 (vb : FVec Ideal S1024x512 .bf16) (x6 : Vec Ideal S4x128x128 .f32) (x7 : Vec Ideal S128x4 .f32) (i : Fin 128) (c : Fin 512) :
    k0_pay19 k0_pay12 vb (k0_pay17 k0_pay12 vb (View.ld x6 r0_6)) (k0_pay18 (View.ld x7 r0_7)) (View.ld x6 r0_8) (View.ld x7 r0_9) (View.ld x6 r0_10) (View.ld x7 r0_11) (View.ld x6 r0_12) (View.ld x7 r0_13) (ix2 i c) = mixed vb x6 x7 ⟨128 + i.val, by omega⟩ c := by
  rw [mixed_at vb x6 x7 1 i c _ (by dsimp only; omega)]
  unfold k0_pay19 k0_pay17 k0_pay18
  pointwise
  simp only [tri_ix]
  exact quad (fun g a b => x6 (ix3 g a b)) (fun g a => x7 (ix2 a g)) (fun j c => vb (ix2 ⟨128 + j.val, by omega⟩ c)) i c

/-- The chunk 2 of a block: its 128 rows of the causal mixing. -/
theorem chunk2 (vb : FVec Ideal S1024x512 .bf16) (x6 : Vec Ideal S4x128x128 .f32) (x7 : Vec Ideal S128x4 .f32) (i : Fin 128) (c : Fin 512) :
    k0_pay25 (k0_pay20 k0_pay12 vb (View.ld x6 r0_6) (View.ld x7 r0_7)) (k0_pay21 k0_pay12 vb (View.ld x6 r0_8) (View.ld x7 r0_9)) (k0_pay22 k0_pay12 vb (View.ld x6 r0_10) (View.ld x7 r0_11)) (k0_pay23 k0_pay12 (View.ld x6 r0_12)) (k0_pay24 vb) (View.ld x7 r0_13) (ix2 i c) = mixed vb x6 x7 ⟨256 + i.val, by omega⟩ c := by
  rw [mixed_at vb x6 x7 2 i c _ (by dsimp only; omega)]
  unfold k0_pay25 k0_pay20 k0_pay21 k0_pay22 k0_pay23 k0_pay24
  pointwise
  simp only [tri_ix]
  exact quad (fun g a b => x6 (ix3 g a b)) (fun g a => x7 (ix2 a g)) (fun j c => vb (ix2 ⟨256 + j.val, by omega⟩ c)) i c

/-- The chunk 3 of a block: its 128 rows of the causal mixing. -/
theorem chunk3 (vb : FVec Ideal S1024x512 .bf16) (x6 : Vec Ideal S4x128x128 .f32) (x7 : Vec Ideal S128x4 .f32) (i : Fin 128) (c : Fin 512) :
    k0_pay29 k0_pay12 vb (k0_pay26 k0_pay12 vb (View.ld x6 r0_6) (View.ld x7 r0_7)) (k0_pay27 k0_pay12 vb (View.ld x6 r0_8) (View.ld x7 r0_9)) (k0_pay28 k0_pay12 vb (View.ld x6 r0_10)) (View.ld x7 r0_11) (View.ld x6 r0_12) (View.ld x7 r0_13) (ix2 i c) = mixed vb x6 x7 ⟨384 + i.val, by omega⟩ c := by
  rw [mixed_at vb x6 x7 3 i c _ (by dsimp only; omega)]
  unfold k0_pay29 k0_pay26 k0_pay27 k0_pay28
  pointwise
  simp only [tri_ix]
  exact quad (fun g a b => x6 (ix3 g a b)) (fun g a => x7 (ix2 a g)) (fun j c => vb (ix2 ⟨384 + j.val, by omega⟩ c)) i c

/-- The chunk 4 of a block: its 128 rows of the causal mixing. -/
theorem chunk4 (vb : FVec Ideal S1024x512 .bf16) (x6 : Vec Ideal S4x128x128 .f32) (x7 : Vec Ideal S128x4 .f32) (i : Fin 128) (c : Fin 512) :
    k0_pay32 k0_pay12 vb (k0_pay30 k0_pay12 vb (View.ld x6 r0_6) (View.ld x7 r0_7)) (k0_pay31 k0_pay12 vb (View.ld x6 r0_8) (View.ld x7 r0_9)) (View.ld x6 r0_10) (View.ld x7 r0_11) (View.ld x6 r0_12) (View.ld x7 r0_13) (ix2 i c) = mixed vb x6 x7 ⟨512 + i.val, by omega⟩ c := by
  rw [mixed_at vb x6 x7 4 i c _ (by dsimp only; omega)]
  unfold k0_pay32 k0_pay30 k0_pay31
  pointwise
  simp only [tri_ix]
  exact quad (fun g a b => x6 (ix3 g a b)) (fun g a => x7 (ix2 a g)) (fun j c => vb (ix2 ⟨512 + j.val, by omega⟩ c)) i c

/-- The chunk 5 of a block: its 128 rows of the causal mixing. -/
theorem chunk5 (vb : FVec Ideal S1024x512 .bf16) (x6 : Vec Ideal S4x128x128 .f32) (x7 : Vec Ideal S128x4 .f32) (i : Fin 128) (c : Fin 512) :
    k0_pay36 k0_pay12 vb (k0_pay33 k0_pay12 vb (View.ld x6 r0_6) (View.ld x7 r0_7)) (k0_pay34 (View.ld x6 r0_8)) (k0_pay35 (F := Ideal)) (View.ld x7 r0_9) (View.ld x6 r0_10) (View.ld x7 r0_11) (View.ld x6 r0_12) (View.ld x7 r0_13) (ix2 i c) = mixed vb x6 x7 ⟨640 + i.val, by omega⟩ c := by
  rw [mixed_at vb x6 x7 5 i c _ (by dsimp only; omega)]
  unfold k0_pay36 k0_pay33 k0_pay34 k0_pay35
  pointwise
  simp only [tri_ix]
  exact quad (fun g a b => x6 (ix3 g a b)) (fun g a => x7 (ix2 a g)) (fun j c => vb (ix2 ⟨640 + j.val, by omega⟩ c)) i c

/-- The chunk 6 of a block: its 128 rows of the causal mixing. -/
theorem chunk6 (vb : FVec Ideal S1024x512 .bf16) (x6 : Vec Ideal S4x128x128 .f32) (x7 : Vec Ideal S128x4 .f32) (i : Fin 128) (c : Fin 512) :
    k0_pay42 (k0_pay38 (k0_pay37 k0_pay12 vb (View.ld x6 r0_6)) (View.ld x7 r0_7)) (k0_pay39 k0_pay12 vb (View.ld x6 r0_8) (View.ld x7 r0_9)) (k0_pay40 k0_pay12 vb (View.ld x6 r0_10) (View.ld x7 r0_11)) (k0_pay41 k0_pay12 vb (View.ld x6 r0_12) (View.ld x7 r0_13)) (ix2 i c) = mixed vb x6 x7 ⟨768 + i.val, by omega⟩ c := by
  rw [mixed_at vb x6 x7 6 i c _ (by dsimp only; omega)]
  unfold k0_pay42 k0_pay38 k0_pay37 k0_pay39 k0_pay40 k0_pay41
  pointwise
  simp only [tri_ix]
  exact quad (fun g a b => x6 (ix3 g a b)) (fun g a => x7 (ix2 a g)) (fun j c => vb (ix2 ⟨768 + j.val, by omega⟩ c)) i c

/-- The chunk 7 of a block: its 128 rows of the causal mixing. -/
theorem chunk7 (vb : FVec Ideal S1024x512 .bf16) (x6 : Vec Ideal S4x128x128 .f32) (x7 : Vec Ideal S128x4 .f32) (i : Fin 128) (c : Fin 512) :
    k0_pay47 k0_pay12 vb (k0_pay43 k0_pay12 vb (View.ld x6 r0_6) (View.ld x7 r0_7)) (k0_pay44 k0_pay12 vb (View.ld x6 r0_8) (View.ld x7 r0_9)) (k0_pay45 k0_pay12 vb (View.ld x6 r0_10) (View.ld x7 r0_11)) (k0_pay46 (View.ld x6 r0_12)) (View.ld x7 r0_13) (ix2 i c) = mixed vb x6 x7 ⟨896 + i.val, by omega⟩ c := by
  rw [mixed_at vb x6 x7 7 i c _ (by dsimp only; omega)]
  unfold k0_pay47 k0_pay43 k0_pay44 k0_pay45 k0_pay46
  pointwise
  simp only [tri_ix]
  exact quad (fun g a b => x6 (ix3 g a b)) (fun g a => x7 (ix2 a g)) (fun j c => vb (ix2 ⟨896 + j.val, by omega⟩ c)) i c

end Cert.MixIdeal.Val

end
-- ==== Proof.MixKer.lean ====
/- The mixers' two results at a grid point, as the mathematics of the rows. -/
module

public import proofs.«01_k».proof.Proof.MixChunk

@[expose] public section

set_option maxRecDepth 16384

noncomputable section

namespace Cert.MixIdeal.Val

open Cert.MixIdeal Cert.MixIdeal.Gen Idealize.ShloMosaic Idealize.ShloMosaic.TcCoe Idealize.SL.Sem Cert.Layer

theorem pay6_apply (v0 : Vec Ideal S1x1024x1024 .f32) (v2 : Vec Ideal S1x1024 .f32) (v17 : Vec Ideal S1024x1024 .bf16) (r : Fin 1024) (n : Fin 512) :
    k0_pay6 v0 v2 v17 (ix2 r n) = gelu (proj (fun k => v0 (ix3 0 r k)) (fun k => v2 (ix2 0 k)) (fun k => v17 (ix2 ⟨512 + n.val, by omega⟩ k))) := by
  unfold k0_pay6 k0_pay4 k0_pay3 k0_pay2
  pointwise
  rfl

theorem pay5_apply (v0 : Vec Ideal S1x1024x1024 .f32) (v2 : Vec Ideal S1x1024 .f32) (v17 : Vec Ideal S1024x1024 .bf16) (r : Fin 1024) (n : Fin 512) :
    k0_pay5 v0 v2 v17 (ix2 r n) = gelu (proj (fun k => v0 (ix3 0 r k)) (fun k => v2 (ix2 0 k)) (fun k => v17 (ix2 ⟨n.val, by omega⟩ k))) := by
  unfold k0_pay5 k0_pay4 k0_pay3 k0_pay2
  pointwise
  rfl

/-- The normed half of a block's row. -/
theorem pay9_apply (v0 : Vec Ideal S1x1024x1024 .f32) (v2 : Vec Ideal S1x1024 .f32) (v17 : Vec Ideal S1024x1024 .bf16) (v35 : Vec Ideal S1x512 .f32) (r : Fin 1024) (n : Fin 512) :
    k0_pay9 (k0_pay6 v0 v2 v17) (k0_pay7 v35) (k0_pay8 v0 v2 v17) (ix2 r n)
      = nrm c512 (fun c => gelu (proj (fun k => v0 (ix3 0 r k)) (fun k => v2 (ix2 0 k)) (fun k => v17 (ix2 ⟨512 + c.val, by omega⟩ k)))) (fun c => v35 (ix2 0 c)) n := by
  unfold k0_pay9 k0_pay8 k0_pay7
  pointwise
  simp only [pay6_apply]
  rfl

theorem pay13_apply (v0 : Vec Ideal S1x1024x1024 .f32) (v2 : Vec Ideal S1x1024 .f32) (v17 : Vec Ideal S1024x1024 .bf16) (v35 : Vec Ideal S1x512 .f32) (r : Fin 1024) (n : Fin 512) :
    k0_pay13 (k0_pay6 v0 v2 v17) (k0_pay7 v35) (k0_pay8 v0 v2 v17) (ix2 r n)
      = nrm c512 (fun c => gelu (proj (fun k => v0 (ix3 0 r k)) (fun k => v2 (ix2 0 k)) (fun k => v17 (ix2 ⟨512 + c.val, by omega⟩ k)))) (fun c => v35 (ix2 0 c)) n := by
  rw [← pay9_apply]
  unfold k0_pay13
  pointwise

theorem pay11_apply (v0 : Vec Ideal S1x1024x1024 .f32) (v2 : Vec Ideal S1x1024 .f32) (v17 : Vec Ideal S1024x1024 .bf16) (v35 : Vec Ideal S1x512 .f32) (r : Fin 128) (n : Fin 512) :
    k0_pay11 (k0_pay6 v0 v2 v17) (k0_pay7 v35) (k0_pay8 v0 v2 v17) (ix3 0 r n)
      = nrm c512 (fun c => gelu (proj (fun k => v0 (ix3 0 ⟨896 + r.val, by omega⟩ k)) (fun k => v2 (ix2 0 k)) (fun k => v17 (ix2 ⟨512 + c.val, by omega⟩ k)))) (fun c => v35 (ix2 0 c)) n := by
  rw [← pay9_apply]
  unfold k0_pay11
  pointwise

/-- The gates of a block's row. -/
theorem pay10_apply (v0 : Vec Ideal S1x1024x1024 .f32) (v2 : Vec Ideal S1x1024 .f32) (v49 : Vec Ideal S2048x1024 .bf16) (r : Fin 1024) (n : Fin 2048) :
    k0_pay10 (k0_pay3 v0 v2) v49 (ix2 r n) = Ideal.logistic (proj (fun k => v0 (ix3 0 r k)) (fun k => v2 (ix2 0 k)) (fun k => v49 (ix2 n k))) := by
  unfold k0_pay10 k0_pay3 k0_pay2
  pointwise
  rfl

theorem pay2_apply (v0 : Vec Ideal S1x1024x1024 .f32) (r n : Fin 1024) : k0_pay2 v0 (ix2 r n) = v0 (ix3 0 r n) := by
  unfold k0_pay2
  pointwise

theorem pay1_apply (v : FVec Ideal S1024x1024 .f32) (r n : Fin 1024) : k0_pay1 v (ix3 0 r n) = v (ix2 r n) := by
  unfold k0_pay1
  pointwise

/-- The merged row of a block, from the mixed chunks. -/
theorem pay48_apply (v1 : FVec Ideal S1024x1024 .f32) (v33 : FVec Ideal S1024x512 .f32) (v52 : FVec Ideal S1024x2048 .f32)
    (v105 v150 v195 v240 v285 v330 v375 v420 : FVec Ideal S128x512 .f32) (v423 : Vec Ideal S1x1024x512 .bf16) (v425 v429 : Vec Ideal S512x1024 .bf16) (v438 : Vec Ideal S1024x1024 .bf16)
    (G : Fin 1024 → Fin 512 → EReal)
    (h0 : ∀ (i : Fin 128) (c : Fin 512), v105 (ix2 i c) = G ⟨i.val, by omega⟩ c)
    (h1 : ∀ (i : Fin 128) (c : Fin 512), v150 (ix2 i c) = G ⟨128 + i.val, by omega⟩ c)
    (h2 : ∀ (i : Fin 128) (c : Fin 512), v195 (ix2 i c) = G ⟨256 + i.val, by omega⟩ c)
    (h3 : ∀ (i : Fin 128) (c : Fin 512), v240 (ix2 i c) = G ⟨384 + i.val, by omega⟩ c)
    (h4 : ∀ (i : Fin 128) (c : Fin 512), v285 (ix2 i c) = G ⟨512 + i.val, by omega⟩ c)
    (h5 : ∀ (i : Fin 128) (c : Fin 512), v330 (ix2 i c) = G ⟨640 + i.val, by omega⟩ c)
    (h6 : ∀ (i : Fin 128) (c : Fin 512), v375 (ix2 i c) = G ⟨768 + i.val, by omega⟩ c)
    (h7 : ∀ (i : Fin 128) (c : Fin 512), v420 (ix2 i c) = G ⟨896 + i.val, by omega⟩ c)
    (r n : Fin 1024) :
    k0_pay48 v1 v33 v52 v105 v150 v195 v240 v285 v330 v375 v420 v423 v425 v429 v438 (ix2 r n)
      = v1 (ix2 r n) + ∑ x : Fin 1024, (v52 (ix2 r ⟨x.val, by omega⟩) * (∑ c : Fin 512, v423 (ix3 0 r c) * v425 (ix2 c x))
          + v52 (ix2 r ⟨1024 + x.val, by omega⟩) * (∑ c : Fin 512, (v33 (ix2 r c) * G r c) * v429 (ix2 c x))) * v438 (ix2 x n) := by
  unfold k0_pay48
  pointwise
  simp only [h0, h1, h2, h3, h4, h5, h6, h7]
  simp only [fun c => oct (fun i => G i c) r]

/-- The first result at a grid point: the rows of the mixers. -/
theorem out11_point {J : ℕ} {x0 : Vec Ideal S1x1024x1024 .f32} {x1 : Vec Ideal S1x1024x512 .bf16} {x2 : Vec Ideal S1x1024 .f32} {x3 : Vec Ideal S1024x1024 .bf16}
    {x4 : Vec Ideal S2048x1024 .bf16} {x5 : Vec Ideal S1x512 .f32} {x6 : Vec Ideal S4x128x128 .f32} {x7 : Vec Ideal S128x4 .f32} {x8 x9 : Vec Ideal S512x1024 .bf16}
    {x10 : Vec Ideal S1024x1024 .bf16} {xs : ℕ → Fin 1024 → EReal} {w : Fin 3072 → Fin 1024 → EReal}
    (hx : ∀ r k : Fin 1024, x0 (ix3 0 r k) = xs (1024 * J + r.val) k)
    (h3 : ∀ c k : Fin 1024, x3 (ix2 c k) = w ⟨c.val, by omega⟩ k) (h4 : ∀ (c : Fin 2048) (k : Fin 1024), x4 (ix2 c k) = w ⟨1024 + c.val, by omega⟩ k)
    (r n : Fin 1024) :
    out0_11 x0 x1 x2 x3 x4 x5 x6 x7 x8 x9 x10 (ix3 0 r n)
      = mixRow xs (fun c => x1 (ix3 0 r c)) (fun k => x2 (ix2 0 k)) w (fun c => x5 (ix2 0 c)) (fun g a b => x6 (ix3 g a b)) (fun g a => x7 (ix2 a g))
          (fun c n => x8 (ix2 c n)) (fun c n => x9 (ix2 c n)) (fun k n => x10 (ix2 k n)) (1024 * J + r.val) n := by
  have e1 : (1024 * J + r.val) / 128 = 8 * J + r.val / 128 := by omega
  have e2 : (1024 * J + r.val) % 128 = r.val % 128 := by omega
  have e3 : ∀ j : Fin 128, 1024 * J + (128 * (r.val / 128) + j.val) = 128 * (8 * J + r.val / 128) + j.val := fun j => by omega
  unfold out0_11 k0_pay49 k0_pay50 k0_pay51 k0_pay52 k0_pay53 k0_pay49 k0_pay50 k0_pay51
  frame_out
  rw [pay1_apply, pay48_apply _ _ _ _ _ _ _ _ _ _ _ _ _ _ _ (mixed (k0_pay13 (k0_pay6 x0 x2 x3) (k0_pay7 x5) (k0_pay8 x0 x2 x3)) x6 x7)
    (chunk0 _ _ _ x6 x7) (chunk1 _ x6 x7) (chunk2 _ x6 x7) (chunk3 _ x6 x7) (chunk4 _ x6 x7) (chunk5 _ x6 x7) (chunk6 _ x6 x7) (chunk7 _ x6 x7)]
  unfold mixRow gmlp vrow mixed
  simp only [pay2_apply, pay5_apply, pay10_apply, pay13_apply, hx, h3, h4, e1, e2, e3, ← Nat.add_assoc, Nat.reduceAdd]

/-- The second result at a grid point: the last chunk's rows of the normed half. -/
theorem out12_point {J : ℕ} {x0 : Vec Ideal S1x1024x1024 .f32} {x1 : Vec Ideal S1x1024x512 .bf16} {x2 : Vec Ideal S1x1024 .f32} {x3 : Vec Ideal S1024x1024 .bf16}
    {x4 : Vec Ideal S2048x1024 .bf16} {x5 : Vec Ideal S1x512 .f32} {x6 : Vec Ideal S4x128x128 .f32} {x7 : Vec Ideal S128x4 .f32} {x8 x9 : Vec Ideal S512x1024 .bf16}
    {x10 : Vec Ideal S1024x1024 .bf16} {xs : ℕ → Fin 1024 → EReal} {w : Fin 3072 → Fin 1024 → EReal}
    (hx : ∀ r k : Fin 1024, x0 (ix3 0 r k) = xs (1024 * J + r.val) k)
    (h3 : ∀ c k : Fin 1024, x3 (ix2 c k) = w ⟨c.val, by omega⟩ k)
    (hJ : J = 3) (r : Fin 128) (n : Fin 512) :
    out0_12 x0 x1 x2 x3 x4 x5 x6 x7 x8 x9 x10 (ix3 0 r n) = vrow (xs (3968 + r.val)) (fun k => x2 (ix2 0 k)) w (fun c => x5 (ix2 0 c)) n := by
  subst hJ
  unfold out0_12 k0_pay49 k0_pay50 k0_pay51
  frame_out
  rw [pay11_apply]
  unfold vrow
  simp only [hx, h3, ← Nat.add_assoc, Nat.reduceAdd, Nat.reduceMul]

end Cert.MixIdeal.Val

end
-- ==== Proof.MixVal.lean ====
/- The mixers' results after the run, as functions of the kernel's arguments. -/
module

public import proofs.«01_k».proof.Proof.MixKer

@[expose] public section

set_option maxRecDepth 16384

noncomputable section

namespace Cert.MixIdeal.Val

open Cert.MixIdeal Cert.MixIdeal.Gen Idealize.ShloMosaic Idealize.ShloMosaic.TcCoe Idealize.SL.Sem Cert.Layer
open Idealize.ShloMosaic.Pipeline (Dat)

variable (m : (ℓ : Loc nD τ sig) → Buf (Elt Ideal) ℓ)

theorem idx : ∀ t : Fin cfg0.N,
    win0_0.index t = ![(grid0.coords t 0).val, (grid0.coords t 1).val, 0] ∧ win0_1.index t = ![(grid0.coords t 0).val, (grid0.coords t 1).val, 0]
    ∧ win0_2.index t = ![0, 0] ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![0, 0]
    ∧ win0_11.index t = ![(grid0.coords t 0).val, (grid0.coords t 1).val, 0] ∧ win0_12.index t = ![(grid0.coords t 0).val, 0, 0] :=
  (by decide +kernel : ∀ t : Fin grid0.N, _)

theorem blk0 (c : Dev nD) (t : Fin cfg0.N) (r : Fin 1024) (k : Fin 1024) :
    iblk m c 0 t (ix3 0 r k) = seqOf (m ((c : Thread nD τ).loc main_arg0)) (grid0.coords t 0) (1024 * (grid0.coords t 1).val + r.val) k := by
  have hj : (grid0.coords t 1).val < 4 := (grid0.coords t 1).isLt
  unfold seqOf
  rw [dif_pos (by omega)]
  blk_ext [iblk, V, idx t]

theorem blk1 (c : Dev nD) (t : Fin cfg0.N) (r : Fin 1024) (k : Fin 512) :
    iblk m c 1 t (ix3 0 r k) = m ((c : Thread nD τ).loc main_arg1) (ix3 (grid0.coords t 0)
      (⟨1024 * (grid0.coords t 1).val + r.val, by have : (grid0.coords t 1).val < 4 := (grid0.coords t 1).isLt; omega⟩ : Fin 4096) k) := by
  blk_ext [iblk, V, idx t]

theorem blk2 (c : Dev nD) (t : Fin cfg0.N) (k : Fin 1024) : iblk m c 2 t (ix2 0 k) = m ((c : Thread nD τ).loc main_arg2) (ix2 0 k) := by
  blk_ext! [iblk, V, idx t]
theorem blk3 (c : Dev nD) (t : Fin cfg0.N) (n k : Fin 1024) : iblk m c 3 t (ix2 n k) = cols (m ((c : Thread nD τ).loc main_arg3)) ⟨n.val, by omega⟩ k := by
  unfold cols
  blk_ext! [iblk, V, idx t]
theorem blk4 (c : Dev nD) (t : Fin cfg0.N) (n : Fin 2048) (k : Fin 1024) : iblk m c 4 t (ix2 n k) = cols (m ((c : Thread nD τ).loc main_arg3)) ⟨1024 + n.val, by omega⟩ k := by
  unfold cols
  simp only [← Nat.add_assoc, Nat.reduceAdd]
  blk_ext! [iblk, V, idx t]
theorem blk5 (c : Dev nD) (t : Fin cfg0.N) (n : Fin 512) : iblk m c 5 t (ix2 0 n) = m ((c : Thread nD τ).loc main_arg4) (ix2 0 n) := by
  blk_ext! [iblk, V, idx t]
theorem blk6 (c : Dev nD) (t : Fin cfg0.N) (g : Fin 4) (a b : Fin 128) : iblk m c 6 t (ix3 g a b) = m ((c : Thread nD τ).loc main_arg5) (ix4 0 g a b) := by
  blk_ext! [iblk, V, idx t]
theorem blk7 (c : Dev nD) (t : Fin cfg0.N) (a : Fin 128) (g : Fin 4) : iblk m c 7 t (ix2 a g) = m ((c : Thread nD τ).loc main_arg6) (ix3 0 g a) := by
  blk_ext! [iblk, V, idx t]
theorem blk8 (c : Dev nD) (t : Fin cfg0.N) (k : Fin 512) (n : Fin 1024) : iblk m c 8 t (ix2 k n) = m ((c : Thread nD τ).loc main_arg7) (ix3 0 k n) := by
  blk_ext! [iblk, V, idx t]
theorem blk9 (c : Dev nD) (t : Fin cfg0.N) (k : Fin 512) (n : Fin 1024) : iblk m c 9 t (ix2 k n) = m ((c : Thread nD τ).loc main_arg8) (ix3 0 k n) := by
  blk_ext! [iblk, V, idx t]
theorem blk10 (c : Dev nD) (t : Fin cfg0.N) (k n : Fin 1024) : iblk m c 10 t (ix2 k n) = m ((c : Thread nD τ).loc main_arg9) (ix3 0 k n) := by
  blk_ext! [iblk, V, idx t]

theorem emb11 (t : Fin cfg0.N) (y1 y2 : Fin 1024) : ((cfg0.win 11).blk t).view.emb (ix3 0 y1 y2)
    = ix3 (grid0.coords t 0) (⟨1024 * (grid0.coords t 1).val + y1.val, by have : (grid0.coords t 1).val < 4 := (grid0.coords t 1).isLt; omega⟩ : Fin 4096) y2 := by
  blk_ext [idx t]

theorem emb12 (t : Fin cfg0.N) (y1 : Fin 128) (y2 : Fin 512) : ((cfg0.win 12).blk t).view.emb (ix3 0 y1 y2) = ix3 (grid0.coords t 0) y1 y2 := by
  blk_ext [idx t]

theorem last : ∀ t : Fin cfg0.N, (cfg0.win 12).flush t = true → (grid0.coords t 1).val = 3 := by decide +kernel

theorem out11 (c : Dev nD) : (dats m 0 c).arrAt 11 cfg0.N
    = fun i => mixOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) i := by
  refine (dats m 0 c).arrAt_eq_of_covers 11 _ (by decide +kernel) fun t hf y => ?_
  blk_simp
  rw [after0_11]
  idx_vars y
  obtain rfl : y0 = 0 := Subsingleton.elim _ _
  refine (out11_point (blk0 m c t) (blk3 m c t) (blk4 m c t) y1 y2).trans ?_
  simp only [blk1, blk2, blk5, blk6, blk7, blk8, blk9, blk10]
  refine (congrArg (mixOut _ _ _ _ _ _ _ _ _ _) (emb11 t y1 y2)).symm

theorem out12 (c : Dev nD) : (dats m 0 c).arrAt 12 cfg0.N
    = fun i => mixTail (m ((c : Thread nD τ).loc main_arg0)) (m ((c : Thread nD τ).loc main_arg2)) (m ((c : Thread nD τ).loc main_arg3)) (m ((c : Thread nD τ).loc main_arg4)) (i 0) (i 1) (i 2) := by
  refine (dats m 0 c).arrAt_eq_of_covers 12 _ (by decide +kernel) fun t hf y => ?_
  blk_simp
  rw [after0_12]
  idx_vars y
  obtain rfl : y0 = 0 := Subsingleton.elim _ _
  refine (out12_point (blk0 m c t) (blk3 m c t) (last t hf) y1 y2).trans ?_
  simp only [blk2, blk5]
  refine (congrArg (fun i : S4x128x512.Idx => mixTail (m ((c : Thread nD τ).loc main_arg0)) (m ((c : Thread nD τ).loc main_arg2)) (m ((c : Thread nD τ).loc main_arg3)) (m ((c : Thread nD τ).loc main_arg4)) (i 0) (i 1) (i 2)) (emb12 t y1 y2)).symm

end Cert.MixIdeal.Val

end
-- ==== Proof.MixRef.lean ====
/- The mixers' reference read at an index. -/
module

public import proofs.«01_k».proof.Proof.Gen.MixRefIdeal.Read
public import proofs.«01_k».proof.Proof.MixMath

@[expose] public section

set_option maxRecDepth 16384

noncomputable section

namespace Cert.MixRefIdeal.Val

open Cert.MixRefIdeal Idealize.ShloMosaic Idealize.ShloMosaic.TcCoe Idealize.SL.Sem Cert.Layer Cert.MixRefIdeal.Read

variable (x0 : (⟨S4x4096x1024, .f32⟩ : BufTy).Contents (Elt Ideal)) (x1 : (⟨S4x4096x512, .bf16⟩ : BufTy).Contents (Elt Ideal)) (x2 : (⟨S1x1024, .f32⟩ : BufTy).Contents (Elt Ideal))
  (x3 : (⟨S1x1024x4376, .f32⟩ : BufTy).Contents (Elt Ideal)) (x4 : (⟨S1x512, .f32⟩ : BufTy).Contents (Elt Ideal)) (x5 : (⟨S1x4x128x128, .f32⟩ : BufTy).Contents (Elt Ideal))
  (x6 : (⟨S1x4x128, .f32⟩ : BufTy).Contents (Elt Ideal)) (x7 x8 : (⟨S1x512x1024, .f32⟩ : BufTy).Contents (Elt Ideal)) (x9 : (⟨S1x1024x1024, .f32⟩ : BufTy).Contents (Elt Ideal))

theorem seq_row (b : Fin 4) (t : Fin 4096) : seqOf x0 b t.val = fun k => x0 (ix3 b t k) := by
  funext k
  unfold seqOf
  rw [dif_pos t.isLt]

theorem v13_ix (b : Fin 4) (t : Fin 4096) (k : Fin 1024) :
    val_main_v13 x0 x2 (ix3 b t k) = nrm c1024 (fun k => x0 (ix3 b t k)) (fun k => x2 (ix2 0 k)) k := by
  unfold nrm c1024
  pointwise [val_main_v13, val_main_v10, val_main_v12, val_main_v9, val_main_v11, val_main_v8, val_main_v0, val_main_v7, val_main_v5, val_main_v6, val_main_v3, val_main_v4, val_main_cst_1, val_main_v2, val_main_cst_0, val_main_v1, val_main_cst]

theorem v15_ix (b : Fin 4) (t : Fin 4096) (c : Fin 4376) :
    val_main_v15 x0 x2 x3 (ix3 b t c) = proj (seqOf x0 b t) (fun k => x2 (ix2 0 k)) (fun k => x3 (ix3 0 k c)) := by
  rw [seq_row]
  unfold proj
  pointwise [val_main_v15, val_main_v14]
  simp only [v13_ix]

theorem v29_ix (b : Fin 4) (t : Fin 4096) (c : Fin 1024) :
    val_main_v29 x0 x2 x3 (ix3 b t c) = gelu (proj (seqOf x0 b t) (fun k => x2 (ix2 0 k)) (cols x3 ⟨c.val, by omega⟩)) := by
  unfold gelu cols
  pointwise [val_main_v29, val_main_v16, val_main_v28, val_main_v27, val_main_v26, val_main_cst_5, val_main_v25, val_main_v24, val_main_cst_4, val_main_v23, val_main_v22, val_main_v21, val_main_cst_3, val_main_v20, val_main_v19, val_main_v18, val_main_cst_2, val_main_v17]
  simp only [v15_ix]
  generalize proj _ _ _ = a
  rw [mul_assoc a a a]

theorem v39_ix (b : Fin 4) (t : Fin 4096) (h : Fin 2) (c : Fin 1024) :
    val_main_v39 x0 x2 x3 (ix4 b t h c) = Ideal.logistic (proj (seqOf x0 b t) (fun k => x2 (ix2 0 k)) (cols x3 ⟨1024 + 1024 * h.val + c.val, by omega⟩)) := by
  unfold cols
  pointwise [val_main_v39, val_main_v38, val_main_v37, val_main_cst_7, val_main_v36, val_main_v35, val_main_cst_6, val_main_v34, val_main_v33, val_main_v32]
  simp only [v15_ix]
  have e : 2328 + (h.val * 1024 + c.val) = 1304 + (1024 + 1024 * h.val + c.val) := by omega
  simp only [e]
  rfl

theorem v53_ix (b : Fin 4) (t : Fin 4096) (c : Fin 512) :
    val_main_v53 x0 x2 x3 x4 (ix3 b t c) = vrow (seqOf x0 b t) (fun k => x2 (ix2 0 k)) (cols x3) (fun c => x4 (ix2 0 c)) c := by
  unfold vrow nrm c512
  pointwise [val_main_v53, val_main_v50, val_main_v52, val_main_v31, val_main_v49, val_main_v51, val_main_v48, val_main_v40, val_main_v47, val_main_v45, val_main_v46, val_main_v43, val_main_v44, val_main_cst_10, val_main_v42, val_main_cst_9, val_main_v41, val_main_cst_8]
  simp only [v29_ix]

theorem v61_ix (g : Fin 4) (a b : Fin 128) : val_main_v61 x5 (ix3 g a b) = if b.val ≤ a.val then x5 (ix4 0 g a b) else 0 := by
  pointwise [val_main_v61, val_main_call1_v1, val_main_v60, val_main_call1_v2, val_main_v59, val_main_call1_v0, val_main_call0_v4, val_main_v58, val_main_call0_v5, val_main_cst_11, val_main_call0_v2, val_main_call0_v3, val_main_c, val_main_call0_c_0, val_main_call0_v0, val_main_call0_v1, val_main_call0_c]
  have hz : (id (constant S_ .f32 0#32 : FVec Ideal S_ .f32)) ix0 = 0 := by
    dsimp only [id]
    pointwise
  rw [hz]
  have hm : Scalar.select (IntOp.cmpi .sge (IntOp.addi (BitVec.ofNat 32 a.val) 0#32) (BitVec.ofNat 32 b.val)) 1#1 0#1 = if b.val ≤ a.val then 1#1 else 0#1 := by
    revert a b
    decide +kernel
  rw [hm]
  by_cases h : b.val ≤ a.val
  · rw [if_pos h, if_pos h]; rfl
  · rw [if_neg h, if_neg h]; rfl

theorem v68_ix (b : Fin 4) (q : Fin 32) (a : Fin 128) (g : Fin 4) (e : Fin 128) :
    val_main_v68 x0 x2 x3 x4 x5 x6 (ix5 b q a g e) = gmlp (fun g a b => x5 (ix4 0 g a b)) (fun g a => x6 (ix3 0 g a))
      (fun s => vrow (seqOf x0 b s) (fun k => x2 (ix2 0 k)) (cols x3) (fun c => x4 (ix2 0 c))) (128 * q.val + a.val) ⟨128 * g.val + e.val, by omega⟩ := by
  pointwise [val_main_v68, val_main_v63, val_main_v67, val_main_v62, val_main_v66, val_main_v57, val_main_v65, val_main_v64]
  simp only [v53_ix, v61_ix]
  have e1 : (128 * q.val + a.val) / 128 = q.val := by omega
  have e2 : (128 * q.val + a.val) % 128 = a.val := by omega
  have e3 : (128 * g.val + e.val) / 128 = g.val := by omega
  unfold gmlp spatial
  simp only [e1, e2, e3, Nat.mul_comm q.val 128, Nat.mul_comm g.val 128]
  congr 1
  refine Finset.sum_congr rfl fun x _ => ?_
  by_cases h : x.val ≤ a.val
  · rw [if_pos h, if_pos h, mul_comm]
  · rw [if_neg h, if_neg h, mul_zero]

theorem v82_ix (b : Fin 4) (t : Fin 4096) (n : Fin 1024) :
    val_main_v82 x0 x1 x2 x3 x4 x5 x6 x7 x8 x9 (ix3 b t n) = mixOut x0 x1 x2 x3 x4 x5 x6 x7 x8 x9 (ix3 b t n) := by
  unfold mixOut mixRow
  have hs (k : Fin 1024) : seqOf x0 b t.val k = x0 (ix3 b t k) := by
    unfold seqOf
    rw [dif_pos t.isLt]
  pointwise [val_main_v82, val_main_v81, val_main_v79, val_main_v80, val_main_v75, val_main_v78, val_main_v74, val_main_v56, val_main_v77, val_main_v72, val_main_v73, val_main_v54, val_main_v55, val_main_v76, val_main_v70, val_main_v71, val_main_v30, val_main_v69]
  simp only [v29_ix, v39_ix, v68_ix, hs, Nat.div_add_mod, Fin.val_zero, Fin.val_one, Nat.mul_zero, Nat.mul_one, Nat.add_zero, Nat.reduceAdd]

theorem v83_ix (b : Fin 4) (r : Fin 128) (c : Fin 512) :
    val_main_v83 x0 x2 x3 x4 (ix3 b r c) = mixTail x0 x2 x3 x4 b r c := by
  unfold mixTail
  pointwise [val_main_v83]
  simp only [v53_ix]

end Cert.MixRefIdeal.Val

end
-- ==== Proof.MixClaim.lean ====
/- The claims about the mixers' kernel and its reference. -/
module

public import proofs.«01_k».proof.Defs
public import proofs.«01_k».proof.Proof.Gen.Mix.Frame
public import proofs.«01_k».proof.Proof.MixVal
public import proofs.«01_k».proof.Proof.MixRef
public import Idealize.ShloMosaic.Adequacy
public import Idealize.ShloMosaic.Init

@[expose] public section

set_option maxRecDepth 16384

noncomputable section

namespace Cert.MixClaim

open Idealize.ShloMosaic Idealize.SL.Sem Cert.Layer

theorem frame : Cert.quiescent_Mix (hMix := Cert.Mix.Gen.facts) := fun m g _ => Cert.Mix.Gen.frame m g

theorem frameIdeal : Cert.quiescent_MixIdeal (hMixIdeal := Cert.MixIdeal.Gen.facts) := fun m g _ => Cert.MixIdeal.Gen.frame m g

theorem frameRef : Cert.quiescent_MixRefIdeal (hMixRefIdeal := Cert.MixRefIdeal.Gen.facts) := fun m g _ =>
  (θ_run _ _ _).mono (fun r h => ⟨fun c => (h c).2.2, sem_eq_zero_of_no_sems (by decide) r.2⟩) (Cert.MixRefIdeal.Value.run m g)

/-- Both programs end with the mixers' rows and the last chunk of the normed half, as functions of the arguments. -/
theorem algebraic : Cert.algebraic_MixIdeal_MixRefIdeal (hMixIdeal := Cert.MixIdeal.Gen.facts) (hMixRefIdeal := Cert.MixRefIdeal.Gen.facts) :=
  fun m g m' g' _ ha => ⟨fun c => (Cert.MixIdeal.Gen.dats m 0 c).arrAt 11 Cert.MixIdeal.cfg0.N, fun c => (Cert.MixIdeal.Gen.dats m 0 c).arrAt 12 Cert.MixIdeal.cfg0.N,
    Cert.MixIdeal.Val.run_outs m g,
    (θ_run _ _ _).mono (fun r h c => by
      obtain ⟨h0, h1, hk⟩ := h c
      obtain ⟨a0, a1, a2, a3, a4, a5, a6, a7, a8, a9⟩ := ha c
      refine ⟨?_, ?_, hk⟩
      · refine h0.trans ((Cert.MixRefIdeal.Read.val_main_v82_eq m' c).trans (.trans ?_ (Cert.MixIdeal.Val.out11 m c).symm))
        rw [a0, a1, a2, a3, a4, a5, a6, a7, a8, a9]
        funext i
        idx_vars i
        exact Cert.MixRefIdeal.Val.v82_ix _ _ _ _ _ _ _ _ _ _ i0 i1 i2
      · refine h1.trans ((Cert.MixRefIdeal.Read.val_main_v83_eq m' c).trans (.trans ?_ (Cert.MixIdeal.Val.out12 m c).symm))
        rw [a0, a2, a3, a4]
        funext i
        idx_vars i
        exact Cert.MixRefIdeal.Val.v83_ix _ _ _ _ i0 i1 i2) (Cert.MixRefIdeal.Value.run m' g')⟩

end Cert.MixClaim

end
-- ==== Proof.MixDecKer.lean ====
/- The mixers' two results of the sample at the grid's point, as the mathematics of the rows. -/
module

public import proofs.«01_k».proof.Proof.Gen.MixDecIdeal.Value
public import proofs.«01_k».proof.Proof.DecMath
public import Idealize.ShloMosaic.Lib.Pipeline.ValueKit

@[expose] public section

set_option maxRecDepth 16384

noncomputable section

namespace Cert.MixDecIdeal.Val

open Cert.MixDecIdeal Cert.MixDecIdeal.Gen Idealize.ShloMosaic Idealize.ShloMosaic.TcCoe Idealize.SL.Sem Cert.Layer

theorem pay6_apply (v0 : Vec Ideal S1x32x1024 .f32) (v2 : Vec Ideal S1x1024 .f32) (v17 : Vec Ideal S1024x1024 .bf16) (r : Fin 32) (n : Fin 512) :
    k0_pay6 v0 v2 v17 (ix2 r n) = gelu (proj (fun k => v0 (ix3 0 r k)) (fun k => v2 (ix2 0 k)) (fun k => v17 (ix2 ⟨512 + n.val, by omega⟩ k))) := by
  unfold k0_pay6 k0_pay4 k0_pay3 k0_pay2
  pointwise
  rfl

theorem pay5_apply (v0 : Vec Ideal S1x32x1024 .f32) (v2 : Vec Ideal S1x1024 .f32) (v17 : Vec Ideal S1024x1024 .bf16) (r : Fin 32) (n : Fin 512) :
    k0_pay5 v0 v2 v17 (ix2 r n) = gelu (proj (fun k => v0 (ix3 0 r k)) (fun k => v2 (ix2 0 k)) (fun k => v17 (ix2 ⟨n.val, by omega⟩ k))) := by
  unfold k0_pay5 k0_pay4 k0_pay3 k0_pay2
  pointwise
  rfl

/-- The normed half of a row. -/
theorem pay9_apply (v0 : Vec Ideal S1x32x1024 .f32) (v2 : Vec Ideal S1x1024 .f32) (v17 : Vec Ideal S1024x1024 .bf16) (v35 : Vec Ideal S1x512 .f32) (r : Fin 32) (n : Fin 512) :
    k0_pay9 (k0_pay6 v0 v2 v17) (k0_pay7 v35) (k0_pay8 v0 v2 v17) (ix2 r n)
      = nrm c512 (fun c => gelu (proj (fun k => v0 (ix3 0 r k)) (fun k => v2 (ix2 0 k)) (fun k => v17 (ix2 ⟨512 + c.val, by omega⟩ k)))) (fun c => v35 (ix2 0 c)) n := by
  unfold k0_pay9 k0_pay8 k0_pay7
  pointwise
  simp only [pay6_apply]
  rfl

theorem pay11_apply (v0 : Vec Ideal S1x32x1024 .f32) (v2 : Vec Ideal S1x1024 .f32) (v17 : Vec Ideal S1024x1024 .bf16) (v35 : Vec Ideal S1x512 .f32) (r : Fin 32) (n : Fin 512) :
    k0_pay11 (k0_pay6 v0 v2 v17) (k0_pay7 v35) (k0_pay8 v0 v2 v17) (ix3 0 r n)
      = nrm c512 (fun c => gelu (proj (fun k => v0 (ix3 0 r k)) (fun k => v2 (ix2 0 k)) (fun k => v17 (ix2 ⟨512 + c.val, by omega⟩ k)))) (fun c => v35 (ix2 0 c)) n := by
  rw [← pay9_apply]
  unfold k0_pay11
  pointwise

/-- The gates of a row. -/
theorem pay10_apply (v0 : Vec Ideal S1x32x1024 .f32) (v2 : Vec Ideal S1x1024 .f32) (v49 : Vec Ideal S2048x1024 .bf16) (r : Fin 32) (n : Fin 2048) :
    k0_pay10 (k0_pay3 v0 v2) v49 (ix2 r n) = Ideal.logistic (proj (fun k => v0 (ix3 0 r k)) (fun k => v2 (ix2 0 k)) (fun k => v49 (ix2 n k))) := by
  unfold k0_pay10 k0_pay3 k0_pay2
  pointwise
  rfl

theorem pay2_apply (v0 : Vec Ideal S1x32x1024 .f32) (r : Fin 32) (n : Fin 1024) : k0_pay2 v0 (ix2 r n) = v0 (ix3 0 r n) := by
  unfold k0_pay2
  pointwise

/-- The mixed half through its output weights. -/
theorem pay12_apply (v0 : Vec Ideal S1x32x1024 .f32) (v2 : Vec Ideal S1x1024 .f32) (v17 : Vec Ideal S1024x1024 .bf16) (v35 v56 v60 : Vec Ideal S1x512 .f32) (v72 : Vec Ideal S512x1024 .bf16) (r : Fin 32) (x : Fin 1024) :
    k0_pay12 (k0_pay5 v0 v2 v17) (k0_pay6 v0 v2 v17) (k0_pay7 v35) (k0_pay8 v0 v2 v17) v56 v60 v72 (ix2 r x)
      = ∑ c : Fin 512, (gelu (proj (fun k => v0 (ix3 0 r k)) (fun k => v2 (ix2 0 k)) (fun k => v17 (ix2 ⟨c.val, by omega⟩ k)))
          * (v56 (ix2 0 c) * (nrm c512 (fun e => gelu (proj (fun k => v0 (ix3 0 r k)) (fun k => v2 (ix2 0 k)) (fun k => v17 (ix2 ⟨512 + e.val, by omega⟩ k)))) (fun c => v35 (ix2 0 c)) c) + v60 (ix2 0 c))) * v72 (ix2 c x) := by
  unfold k0_pay12
  pointwise
  simp only [pay5_apply, pay9_apply]

/-- The attention's part of the merged row. -/
theorem pay13_apply (v0 : Vec Ideal S1x32x1024 .f32) (v2 : Vec Ideal S1x1024 .f32) (v49 : Vec Ideal S2048x1024 .bf16) (v65 : Vec Ideal S1x32x512 .f32) (v68 : Vec Ideal S512x1024 .bf16)
    (r : Fin 32) (x : Fin 1024) :
    k0_pay13 (k0_pay3 v0 v2) v49 v65 v68 (ix2 r x)
      = Ideal.logistic (proj (fun k => v0 (ix3 0 r k)) (fun k => v2 (ix2 0 k)) (fun k => v49 (ix2 ⟨x.val, by omega⟩ k))) * ∑ c : Fin 512, v65 (ix3 0 r c) * v68 (ix2 c x) := by
  unfold k0_pay13
  pointwise
  simp only [pay10_apply]

theorem pay14_apply (v0 : Vec Ideal S1x32x1024 .f32) (v2 : Vec Ideal S1x1024 .f32) (v49 : Vec Ideal S2048x1024 .bf16) (r : Fin 32) (x : Fin 1024) :
    k0_pay14 (k0_pay3 v0 v2) v49 (ix2 r x)
      = Ideal.logistic (proj (fun k => v0 (ix3 0 r k)) (fun k => v2 (ix2 0 k)) (fun k => v49 (ix2 ⟨1024 + x.val, by omega⟩ k))) := by
  unfold k0_pay14
  pointwise
  simp only [pay10_apply]

theorem pay1_apply (v1 v74 v76 v77 : FVec Ideal S32x1024 .f32) (v81 : Vec Ideal S1024x1024 .bf16) (r : Fin 32) (n : Fin 1024) :
    k0_pay1 v1 v74 v76 v77 v81 (ix3 0 r n) = v1 (ix2 r n) + ∑ x : Fin 1024, (v76 (ix2 r x) + v77 (ix2 r x) * v74 (ix2 r x)) * v81 (ix2 x n) := by
  unfold k0_pay1
  pointwise

/-- The first result: the rows of the mixers. -/
theorem out11_point {x0 : Vec Ideal S1x32x1024 .f32} {x1 : Vec Ideal S1x32x512 .f32} {x2 : Vec Ideal S1x1024 .f32} {x3 : Vec Ideal S1024x1024 .bf16}
    {x4 : Vec Ideal S2048x1024 .bf16} {x5 x6 x7 : Vec Ideal S1x512 .f32} {x8 x9 : Vec Ideal S512x1024 .bf16}
    {x10 : Vec Ideal S1024x1024 .bf16} {w : Fin 3072 → Fin 1024 → EReal} {w0 b0 : Fin 4 → EReal}
    (h3 : ∀ c k : Fin 1024, x3 (ix2 c k) = w ⟨c.val, by omega⟩ k) (h4 : ∀ (c : Fin 2048) (k : Fin 1024), x4 (ix2 c k) = w ⟨1024 + c.val, by omega⟩ k)
    (h6 : ∀ c : Fin 512, x6 (ix2 0 c) = w0 ⟨c.val / 128, by omega⟩) (h7 : ∀ c : Fin 512, x7 (ix2 0 c) = b0 ⟨c.val / 128, by omega⟩)
    (r : Fin 32) (n : Fin 1024) :
    out0_11 x0 x1 x2 x3 x4 x5 x6 x7 x8 x9 x10 (ix3 0 r n)
      = mixDecRow (fun k => x0 (ix3 0 r k)) (fun c => x1 (ix3 0 r c)) (fun k => x2 (ix2 0 k)) w (fun c => x5 (ix2 0 c)) w0 b0
          (fun c n => x8 (ix2 c n)) (fun c n => x9 (ix2 c n)) (fun k n => x10 (ix2 k n)) n := by
  unfold_out out0_11
  frame_out
  rw [pay1_apply]
  unfold mixDecRow vrow
  simp only [pay2_apply, pay12_apply, pay13_apply, pay14_apply, h3, h4, h6, h7, ← Nat.add_assoc, Nat.reduceAdd]

/-- The second result: the rows of the normed half. -/
theorem out12_point {x0 : Vec Ideal S1x32x1024 .f32} {x1 : Vec Ideal S1x32x512 .f32} {x2 : Vec Ideal S1x1024 .f32} {x3 : Vec Ideal S1024x1024 .bf16}
    {x4 : Vec Ideal S2048x1024 .bf16} {x5 x6 x7 : Vec Ideal S1x512 .f32} {x8 x9 : Vec Ideal S512x1024 .bf16}
    {x10 : Vec Ideal S1024x1024 .bf16} {w : Fin 3072 → Fin 1024 → EReal}
    (h3 : ∀ c k : Fin 1024, x3 (ix2 c k) = w ⟨c.val, by omega⟩ k) (r : Fin 32) (n : Fin 512) :
    out0_12 x0 x1 x2 x3 x4 x5 x6 x7 x8 x9 x10 (ix3 0 r n) = vrow (fun k => x0 (ix3 0 r k)) (fun k => x2 (ix2 0 k)) w (fun c => x5 (ix2 0 c)) n := by
  unfold_out out0_12
  frame_out
  rw [pay11_apply]
  unfold vrow
  simp only [h3]

end Cert.MixDecIdeal.Val

end
-- ==== Proof.MixDecVal.lean ====
/- The mixers' results of the sample after the run, as functions of the kernel's arguments. -/
module

public import proofs.«01_k».proof.Proof.MixDecKer

@[expose] public section

set_option maxRecDepth 16384

noncomputable section

namespace Cert.MixDecIdeal.Val

open Cert.MixDecIdeal Cert.MixDecIdeal.Gen Idealize.ShloMosaic Idealize.ShloMosaic.TcCoe Idealize.SL.Sem Cert.Layer
open Idealize.ShloMosaic.Pipeline (Dat)

variable (m : (ℓ : Loc nD τ sig) → Buf (Elt Ideal) ℓ)

theorem idx : ∀ t : Fin cfg0.N,
    win0_0.index t = ![0, 0, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0, 0] ∧ win0_12.index t = ![0, 0, 0] :=
  (by decide +kernel : ∀ t : Fin grid0.N, _)

theorem blk0 (c : Dev nD) (t : Fin cfg0.N) (r : Fin 32) (k : Fin 1024) : iblk m c 0 t (ix3 0 r k) = m ((c : Thread nD τ).loc main_arg0) (ix3 r 0 k) := by
  blk_ext! [iblk, V, idx t]
theorem blk1 (c : Dev nD) (t : Fin cfg0.N) (r : Fin 32) (k : Fin 512) : iblk m c 1 t (ix3 0 r k) = m ((c : Thread nD τ).loc main_arg1) (ix3 r 0 k) := by
  blk_ext! [iblk, V, idx t]
theorem blk2 (c : Dev nD) (t : Fin cfg0.N) (k : Fin 1024) : iblk m c 2 t (ix2 0 k) = m ((c : Thread nD τ).loc main_arg2) (ix2 0 k) := by
  blk_ext! [iblk, V, idx t]
theorem blk3 (c : Dev nD) (t : Fin cfg0.N) (n k : Fin 1024) : iblk m c 3 t (ix2 n k) = cols (m ((c : Thread nD τ).loc main_arg3)) ⟨n.val, by omega⟩ k := by
  unfold cols
  blk_ext! [iblk, V, idx t]
theorem blk4 (c : Dev nD) (t : Fin cfg0.N) (n : Fin 2048) (k : Fin 1024) : iblk m c 4 t (ix2 n k) = cols (m ((c : Thread nD τ).loc main_arg3)) ⟨1024 + n.val, by omega⟩ k := by
  unfold cols
  simp only [← Nat.add_assoc, Nat.reduceAdd]
  blk_ext! [iblk, V, idx t]
theorem blk5 (c : Dev nD) (t : Fin cfg0.N) (n : Fin 512) : iblk m c 5 t (ix2 0 n) = m ((c : Thread nD τ).loc main_arg4) (ix2 0 n) := by
  blk_ext! [iblk, V, idx t]
theorem blk6 (c : Dev nD) (t : Fin cfg0.N) (n : Fin 512) : iblk m c 6 t (ix2 0 n) = m ((c : Thread nD τ).loc main_arg5) (ix4 0 (⟨n.val / 128, by omega⟩ : Fin 4) 0 0) := by
  blk_ext! [iblk, V, idx t]
theorem blk7 (c : Dev nD) (t : Fin cfg0.N) (n : Fin 512) : iblk m c 7 t (ix2 0 n) = m ((c : Thread nD τ).loc main_arg6) (ix3 0 (⟨n.val / 128, by omega⟩ : Fin 4) 0) := by
  blk_ext! [iblk, V, idx t]
theorem blk8 (c : Dev nD) (t : Fin cfg0.N) (k : Fin 512) (n : Fin 1024) : iblk m c 8 t (ix2 k n) = m ((c : Thread nD τ).loc main_arg7) (ix3 0 k n) := by
  blk_ext! [iblk, V, idx t]
theorem blk9 (c : Dev nD) (t : Fin cfg0.N) (k : Fin 512) (n : Fin 1024) : iblk m c 9 t (ix2 k n) = m ((c : Thread nD τ).loc main_arg8) (ix3 0 k n) := by
  blk_ext! [iblk, V, idx t]
theorem blk10 (c : Dev nD) (t : Fin cfg0.N) (k n : Fin 1024) : iblk m c 10 t (ix2 k n) = m ((c : Thread nD τ).loc main_arg9) (ix3 0 k n) := by
  blk_ext! [iblk, V, idx t]

theorem emb11 (t : Fin cfg0.N) (y1 : Fin 32) (y2 : Fin 1024) : ((cfg0.win 11).blk t).view.emb (ix3 0 y1 y2) = ix3 0 y1 y2 := by
  blk_ext [idx t]

theorem emb12 (t : Fin cfg0.N) (y1 : Fin 32) (y2 : Fin 512) : ((cfg0.win 12).blk t).view.emb (ix3 0 y1 y2) = ix3 0 y1 y2 := by
  blk_ext [idx t]

theorem out11 (c : Dev nD) : (dats m 0 c).arrAt 11 cfg0.N = fun i => mixDec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i := by
  refine (dats m 0 c).arrAt_eq_of_covers 11 _ (by decide +kernel) fun t hf y => ?_
  blk_simp
  rw [after0_11]
  idx_vars y
  obtain rfl : y0 = 0 := Subsingleton.elim _ _
  refine (out11_point (w := cols (m ((c : Thread nD τ).loc main_arg3))) (w0 := fun g => m ((c : Thread nD τ).loc main_arg5) (ix4 0 g 0 0)) (b0 := fun g => m ((c : Thread nD τ).loc main_arg6) (ix3 0 g 0))
    (blk3 m c t) (blk4 m c t) (blk6 m c t) (blk7 m c t) y1 y2).trans ?_
  simp only [blk0, blk1, blk2, blk5, blk8, blk9, blk10]
  exact (congrArg (mixDec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (emb11 t y1 y2)).symm

theorem out12 (c : Dev nD) : (dats m 0 c).arrAt 12 cfg0.N = fun i => vDec (m ((c : Thread nD τ).loc main_arg0)) (m ((c : Thread nD τ).loc main_arg2)) (m ((c : Thread nD τ).loc main_arg3)) (m ((c : Thread nD τ).loc main_arg4)) i := by
  refine (dats m 0 c).arrAt_eq_of_covers 12 _ (by decide +kernel) fun t hf y => ?_
  blk_simp
  rw [after0_12]
  idx_vars y
  obtain rfl : y0 = 0 := Subsingleton.elim _ _
  refine (out12_point (w := cols (m ((c : Thread nD τ).loc main_arg3))) (blk3 m c t) y1 y2).trans ?_
  simp only [blk0, blk2, blk5]
  exact (congrArg (vDec (m ((c : Thread nD τ).loc main_arg0)) (m ((c : Thread nD τ).loc main_arg2)) (m ((c : Thread nD τ).loc main_arg3)) (m ((c : Thread nD τ).loc main_arg4))) (emb12 t y1 y2)).symm

end Cert.MixDecIdeal.Val

end
-- ==== Proof.MixDecRef.lean ====
/- The reference's results of the mixers of the sample as the same mathematics of the rows. -/
module

public import proofs.«01_k».proof.Proof.Gen.MixDecRefIdeal.Read
public import proofs.«01_k».proof.Proof.DecMath

@[expose] public section

set_option maxRecDepth 16384

noncomputable section

namespace Cert.MixDecRefIdeal.Val

open Cert.MixDecRefIdeal Idealize.ShloMosaic Idealize.ShloMosaic.TcCoe Idealize.SL.Sem Cert.Layer Cert.MixDecRefIdeal.Read

variable (x0 : (⟨S32x1x1024, .f32⟩ : BufTy).Contents (Elt Ideal)) (x1 : (⟨S32x1x512, .f32⟩ : BufTy).Contents (Elt Ideal)) (x2 : (⟨S1x1024, .f32⟩ : BufTy).Contents (Elt Ideal))
  (x3 : (⟨S1x1024x4376, .f32⟩ : BufTy).Contents (Elt Ideal)) (x4 : (⟨S1x512, .f32⟩ : BufTy).Contents (Elt Ideal)) (x5 : (⟨S1x4x128x128, .f32⟩ : BufTy).Contents (Elt Ideal))
  (x6 : (⟨S1x4x128, .f32⟩ : BufTy).Contents (Elt Ideal)) (x7 x8 : (⟨S1x512x1024, .f32⟩ : BufTy).Contents (Elt Ideal)) (x9 : (⟨S1x1024x1024, .f32⟩ : BufTy).Contents (Elt Ideal))

theorem v13_ix (b : Fin 32) (k : Fin 1024) :
    val_main_v13 x0 x2 (ix3 b 0 k) = nrm c1024 (fun k => x0 (ix3 b 0 k)) (fun k => x2 (ix2 0 k)) k := by
  unfold nrm c1024
  pointwise [val_main_v13, val_main_v10, val_main_v12, val_main_v9, val_main_v11, val_main_v8, val_main_v0, val_main_v7, val_main_v5, val_main_v6, val_main_v3, val_main_v4, val_main_cst_1, val_main_v2, val_main_cst_0, val_main_v1, val_main_cst]

theorem v15_ix (b : Fin 32) (c : Fin 4376) :
    val_main_v15 x0 x2 x3 (ix3 b 0 c) = proj (fun k => x0 (ix3 b 0 k)) (fun k => x2 (ix2 0 k)) (fun k => x3 (ix3 0 k c)) := by
  unfold proj
  pointwise [val_main_v15, val_main_v14]
  simp only [v13_ix]

theorem v29_ix (b : Fin 32) (c : Fin 1024) :
    val_main_v29 x0 x2 x3 (ix3 b 0 c) = gelu (proj (fun k => x0 (ix3 b 0 k)) (fun k => x2 (ix2 0 k)) (cols x3 ⟨c.val, by omega⟩)) := by
  unfold gelu cols
  pointwise [val_main_v29, val_main_v16, val_main_v28, val_main_v27, val_main_v26, val_main_cst_5, val_main_v25, val_main_v24, val_main_cst_4, val_main_v23, val_main_v22, val_main_v21, val_main_cst_3, val_main_v20, val_main_v19, val_main_v18, val_main_cst_2, val_main_v17]
  simp only [v15_ix]
  generalize proj _ _ _ = a
  rw [mul_assoc a a a]

theorem v39_ix (b : Fin 32) (h : Fin 2) (c : Fin 1024) :
    val_main_v39 x0 x2 x3 (ix4 b 0 h c) = Ideal.logistic (proj (fun k => x0 (ix3 b 0 k)) (fun k => x2 (ix2 0 k)) (cols x3 ⟨1024 + 1024 * h.val + c.val, by omega⟩)) := by
  unfold cols
  pointwise [val_main_v39, val_main_v38, val_main_v37, val_main_cst_7, val_main_v36, val_main_v35, val_main_cst_6, val_main_v34, val_main_v33, val_main_v32]
  simp only [v15_ix]
  have e : 2328 + (h.val * 1024 + c.val) = 1304 + (1024 + 1024 * h.val + c.val) := by omega
  simp only [e]
  rfl

theorem v53_ix (b : Fin 32) (c : Fin 512) :
    val_main_v53 x0 x2 x3 x4 (ix3 b 0 c) = vrow (fun k => x0 (ix3 b 0 k)) (fun k => x2 (ix2 0 k)) (cols x3) (fun c => x4 (ix2 0 c)) c := by
  unfold vrow nrm c512
  pointwise [val_main_v53, val_main_v50, val_main_v52, val_main_v31, val_main_v49, val_main_v51, val_main_v48, val_main_v40, val_main_v47, val_main_v45, val_main_v46, val_main_v43, val_main_v44, val_main_cst_10, val_main_v42, val_main_cst_9, val_main_v41, val_main_cst_8]
  simp only [v29_ix]

/-- The padded half at the chunk's first position. -/
theorem v57_ix (b : Fin 32) (g : Fin 4) (e : Fin 128) :
    val_main_v57 x0 x2 x3 x4 (ix5 b 0 0 g e) = vrow (fun k => x0 (ix3 b 0 k)) (fun k => x2 (ix2 0 k)) (cols x3) (fun c => x4 (ix2 0 c)) ⟨128 * g.val + e.val, by omega⟩ := by
  pointwise [val_main_v57, val_main_v56, val_main_call0_v0, val_main_c]
  simp only [v53_ix, Nat.mul_comm g.val 128]
  have h : 128 * g.val + e.val < 512 := by omega
  simp only [dif_pos h]

theorem v61_ix (g : Fin 4) (a b : Fin 128) : val_main_v61 x5 (ix3 g a b) = if b.val ≤ a.val then x5 (ix4 0 g a b) else 0 := by
  pointwise [val_main_v61, val_main_call2_v1, val_main_v60, val_main_call2_v2, val_main_v59, val_main_call2_v0, val_main_call1_v4, val_main_v58, val_main_call1_v5, val_main_cst_12, val_main_call1_v2, val_main_call1_v3, val_main_c_11, val_main_call1_c_0, val_main_call1_v0, val_main_call1_v1, val_main_call1_c]
  have hz : (id (constant S_ .f32 0#32 : FVec Ideal S_ .f32)) ix0 = 0 := by
    dsimp only [id]
    pointwise
  rw [hz]
  have hm : Scalar.select (IntOp.cmpi .sge (IntOp.addi (BitVec.ofNat 32 a.val) 0#32) (BitVec.ofNat 32 b.val)) 1#1 0#1 = if b.val ≤ a.val then 1#1 else 0#1 := by
    revert a b
    decide +kernel
  rw [hm]
  by_cases h : b.val ≤ a.val
  · rw [if_pos h, if_pos h]; rfl
  · rw [if_neg h, if_neg h]; rfl

/-- The mixing at the chunk's first position reads that position alone. -/
theorem v68_ix (b : Fin 32) (g : Fin 4) (e : Fin 128) :
    val_main_v68 x0 x2 x3 x4 x5 x6 (ix5 b 0 0 g e) = x5 (ix4 0 g 0 0) * vrow (fun k => x0 (ix3 b 0 k)) (fun k => x2 (ix2 0 k)) (cols x3) (fun c => x4 (ix2 0 c)) ⟨128 * g.val + e.val, by omega⟩ + x6 (ix3 0 g 0) := by
  pointwise [val_main_v68, val_main_v63, val_main_v67, val_main_v62, val_main_v66, val_main_v65, val_main_v64]
  simp only [v61_ix]
  congr 1
  rw [Finset.sum_eq_single (0 : Fin 128)]
  · rw [v57_ix, if_pos (le_refl _), mul_comm]
  · intro x _ hx
    have h : ¬ x.val ≤ (0 : Fin 128).val := fun h => hx (Fin.ext (Nat.le_zero.mp h))
    rw [if_neg h, mul_zero]
  · intro h
    exact absurd (Finset.mem_univ _) h

theorem v84_ix (i0 : Fin 1) (b : Fin 32) (n : Fin 1024) :
    val_main_v84 x0 x1 x2 x3 x4 x5 x6 x7 x8 x9 (ix3 i0 b n) = mixDec x0 x1 x2 x3 x4 x5 x6 x7 x8 x9 (ix3 i0 b n) := by
  obtain rfl : i0 = 0 := Subsingleton.elim _ _
  unfold mixDec mixDecRow
  pointwise [val_main_v84, val_main_v83, val_main_v82, val_main_v80, val_main_v81, val_main_v76, val_main_v79, val_main_v75, val_main_v55, val_main_v78, val_main_v73, val_main_v74, val_main_v54, val_main_v77, val_main_v71, val_main_v72, val_main_v30, val_main_v70, val_main_v69]
  simp only [v29_ix, v39_ix, v68_ix, Nat.div_add_mod, Fin.val_zero, Fin.val_one, Nat.mul_zero, Nat.mul_one, Nat.add_zero, Nat.reduceAdd]

theorem v85_ix (i0 : Fin 1) (b : Fin 32) (c : Fin 512) :
    val_main_v85 x0 x2 x3 x4 (ix3 i0 b c) = vDec x0 x2 x3 x4 (ix3 i0 b c) := by
  obtain rfl : i0 = 0 := Subsingleton.elim _ _
  unfold vDec
  pointwise [val_main_v85]
  simp only [v53_ix]

end Cert.MixDecRefIdeal.Val

end
-- ==== Proof.MixDecClaim.lean ====
/- The claims about the mixers of the sample and its reference. -/
module

public import proofs.«01_k».proof.Defs
public import proofs.«01_k».proof.Proof.Gen.MixDec.Frame
public import proofs.«01_k».proof.Proof.MixDecVal
public import proofs.«01_k».proof.Proof.MixDecRef
public import Idealize.ShloMosaic.Adequacy
public import Idealize.ShloMosaic.Init

@[expose] public section

set_option maxRecDepth 16384

noncomputable section

namespace Cert.MixDecClaim

open Idealize.ShloMosaic Idealize.SL.Sem Cert.Layer

theorem frame : Cert.quiescent_MixDec (hMixDec := Cert.MixDec.Gen.facts) := fun m g _ => Cert.MixDec.Gen.frame m g

theorem frameIdeal : Cert.quiescent_MixDecIdeal (hMixDecIdeal := Cert.MixDecIdeal.Gen.facts) := fun m g _ => Cert.MixDecIdeal.Gen.frame m g

theorem frameRef : Cert.quiescent_MixDecRefIdeal (hMixDecRefIdeal := Cert.MixDecRefIdeal.Gen.facts) := fun m g _ =>
  (θ_run _ _ _).mono (fun r h => ⟨fun c => (h c).2.2, sem_eq_zero_of_no_sems (by decide) r.2⟩) (Cert.MixDecRefIdeal.Value.run m g)

/-- Both programs end with the same results, as functions of the arguments. -/
theorem algebraic : Cert.algebraic_MixDecIdeal_MixDecRefIdeal (hMixDecIdeal := Cert.MixDecIdeal.Gen.facts) (hMixDecRefIdeal := Cert.MixDecRefIdeal.Gen.facts) :=
  fun m g m' g' _ ha => ⟨fun c => (Cert.MixDecIdeal.Gen.dats m 0 c).arrAt 11 Cert.MixDecIdeal.cfg0.N, fun c => (Cert.MixDecIdeal.Gen.dats m 0 c).arrAt 12 Cert.MixDecIdeal.cfg0.N,
    Cert.MixDecIdeal.Value.run_blocks m g,
    (θ_run _ _ _).mono (fun r h c => by
      obtain ⟨h0, h1, hk⟩ := h c
      obtain ⟨a0, a1, a2, a3, a4, a5, a6, a7, a8, a9⟩ := ha c
      refine ⟨?_, ?_, hk⟩
      · refine h0.trans ((Cert.MixDecRefIdeal.Read.val_main_v84_eq m' c).trans (.trans ?_ (Cert.MixDecIdeal.Val.out11 m c).symm))
        rw [a0, a1, a2, a3, a4, a5, a6, a7, a8, a9]
        funext i
        idx_vars i
        exact Cert.MixDecRefIdeal.Val.v84_ix _ _ _ _ _ _ _ _ _ _ i0 i1 i2
      · refine h1.trans ((Cert.MixDecRefIdeal.Read.val_main_v85_eq m' c).trans (.trans ?_ (Cert.MixDecIdeal.Val.out12 m c).symm))
        rw [a0, a2, a3, a4]
        funext i
        idx_vars i
        exact Cert.MixDecRefIdeal.Val.v85_ix _ _ _ _ i0 i1 i2) (Cert.MixDecRefIdeal.Value.run m' g')⟩

end Cert.MixDecClaim

end
-- ==== Proof.SelIdealRuns.lean ====
/- What the runs of the sample's selection in its ideal form share: its conditions in closed form, the memrefs and the scratch of a point. -/
module

public import proofs.«01_k».proof.Proof.Gen.SelIdeal.Launch
public import proofs.«01_k».proof.Proof.Gen.SelIdeal.Skeleton
public import proofs.«01_k».proof.Proof.Gen.SelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.SelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_SelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x8x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x8x128 .i32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x384 .bf16 := Memref.whole cc0_scratch0
abbrev scM0_1 : Memref sig .tc .vmem S32x8x384 .f32 := Memref.whole cc0_scratch1
/-- The scratch `arg5` the kernel carries between points, as a view: what it holds is stated through it. -/
abbrev VS0_0 : View sig .tc .vmem S1024x384 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.SelIdeal.Gen

end
-- ==== Proof.SelIdealRunA.lean ====
/- The body of the sample's selection in its ideal form in the first case of its conditions. -/
module

public import proofs.«01_k».proof.Proof.SelIdealRuns

@[expose] public section

-- membership in a rectangle of production extents (`View.cover_of_tiled`): the elaborator's structural look
-- recurses once per coordinate of the long axes
set_option maxRecDepth 16384

noncomputable section

namespace Cert.SelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3) at anything, handed back at some contents nothing names. -/
noncomputable def kernelRun0_A (c : Dev nD) (i : grid0.Coords) (arg1 : Memref sig .tc .vmem S1x8x64 .f32) (harg1 : arg1.IsWhole) (arg2 : Memref sig .tc .vmem S1x1024x256 .f32) (harg2 : arg2.IsWhole) (arg3 : Memref sig .tc .vmem S1x8x64 .f32) (harg3 : arg3.IsWhole) (arg4 : Memref sig .tc .vmem S32x8x128 .i32) (harg4 : arg4.IsWhole) (arg5 : Memref sig .tc .vmem S1024x384 .bf16) (harg5 : arg5.IsWhole) (arg6 : Memref sig .tc .vmem S32x8x384 .f32) (harg6 : arg6.IsWhole) (hc0 : cond0_0 i) (hc1 : ¬cond0_1 i)
    (x0 : Vec F S1x8x64 .f32) (x1 : Vec F S1x1024x256 .f32) :
    { LS0 : List (View.Piece (Elt F) S1024x384 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ f, arg5.view.loc (c : Thread nD τ) ↦[arg5.view.set]{fullShare} arg5.view.writes (Elt F) f LS0) ∗ (∃ d, owns (c : Thread nD τ) arg6 fullShare d)) -∗ K ⟨⟩))
          ⊢ wp frame (wpE (defs₀ (F := F)) Variants.none c none) E (cc0_cmp_select_dec i arg1 harg1 arg2 harg2 arg3 harg3 arg4 harg4 arg5 harg5 arg6 harg6) K } := by
  refine ⟨?_, fun E K => ?run⟩
  case run =>
    simp only [cc0_cmp_select_dec_eq_skeleton]; unfold cc0_cmp_select_dec_skel
    simp only [k0_part12_eq_skeleton, k0_part9_eq_skeleton, k0_part10_eq_skeleton, k0_part11_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [HS0]; · iexists _; iexact HS0
    iexists _, _; isplitr; swap; · iexact HS1
    ipureintro; rfl

end Cert.SelIdeal.Gen

end
-- ==== Proof.SelIdealRunB.lean ====
/- The body of the sample's selection in its ideal form in the second case of its conditions. -/
module

public import proofs.«01_k».proof.Proof.SelIdealRunA

@[expose] public section

-- membership in a rectangle of production extents (`View.cover_of_tiled`): the elaborator's structural look
-- recurses once per coordinate of the long axes
set_option maxRecDepth 16384

noncomputable section

namespace Cert.SelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 30: 30 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3) at anything, handed back at some contents nothing names. -/
noncomputable def kernelRun0_B (c : Dev nD) (i : grid0.Coords) (arg1 : Memref sig .tc .vmem S1x8x64 .f32) (harg1 : arg1.IsWhole) (arg2 : Memref sig .tc .vmem S1x1024x256 .f32) (harg2 : arg2.IsWhole) (arg3 : Memref sig .tc .vmem S1x8x64 .f32) (harg3 : arg3.IsWhole) (arg4 : Memref sig .tc .vmem S32x8x128 .i32) (harg4 : arg4.IsWhole) (arg5 : Memref sig .tc .vmem S1024x384 .bf16) (harg5 : arg5.IsWhole) (arg6 : Memref sig .tc .vmem S32x8x384 .f32) (harg6 : arg6.IsWhole) (hc0 : ¬cond0_0 i) (hc1 : ¬cond0_1 i)
    (x0 : Vec F S1x8x64 .f32) (x1 : Vec F S1x1024x256 .f32) (xs0 : Vec F S1024x384 .bf16) :
    { LS0 : List (View.Piece (Elt F) S1024x384 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ (∃ d, owns (c : Thread nD τ) arg6 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ (∃ d, owns (c : Thread nD τ) arg6 fullShare d)) -∗ K ⟨⟩))
          ⊢ wp frame (wpE (defs₀ (F := F)) Variants.none c none) E (cc0_cmp_select_dec i arg1 harg1 arg2 harg2 arg3 harg3 arg4 harg4 arg5 harg5 arg6 harg6) K } := by
  refine ⟨[], fun E K => ?run⟩
  case run =>
    simp only [cc0_cmp_select_dec_eq_skeleton]; unfold cc0_cmp_select_dec_skel
    simp only [k0_part12_eq_skeleton, k0_part9_eq_skeleton, k0_part10_eq_skeleton, k0_part11_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%ds1, %fs1, -, HS1⟩, Hk⟩
    obtain rfl := harg1.eq_unread hf0; obtain rfl := harg2.eq_unread hf1; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [HS0]
    · iexists _; isplitr; · ipureintro; exact harg5.read_unread _
      iexact HS0
    iexists _, _; isplitr; swap; · iexact HS1
    ipureintro; rfl

end Cert.SelIdeal.Gen

end
-- ==== Proof.SelIdealRunC.lean ====
/- The body of the sample's selection in its ideal form in the third case of its conditions. -/
module

public import proofs.«01_k».proof.Proof.SelIdealRunB

@[expose] public section

-- membership in a rectangle of production extents (`View.cover_of_tiled`): the elaborator's structural look
-- recurses once per coordinate of the long axes
set_option maxRecDepth 16384

noncomputable section

namespace Cert.SelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (2, 3) at anything, handed back at some contents nothing names. -/
noncomputable def kernelRun0_C (c : Dev nD) (i : grid0.Coords) (arg1 : Memref sig .tc .vmem S1x8x64 .f32) (harg1 : arg1.IsWhole) (arg2 : Memref sig .tc .vmem S1x1024x256 .f32) (harg2 : arg2.IsWhole) (arg3 : Memref sig .tc .vmem S1x8x64 .f32) (harg3 : arg3.IsWhole) (arg4 : Memref sig .tc .vmem S32x8x128 .i32) (harg4 : arg4.IsWhole) (arg5 : Memref sig .tc .vmem S1024x384 .bf16) (harg5 : arg5.IsWhole) (arg6 : Memref sig .tc .vmem S32x8x384 .f32) (harg6 : arg6.IsWhole) (hc0 : ¬cond0_0 i) (hc1 : cond0_1 i)
    (x0 : Vec F S1x8x64 .f32) (x1 : Vec F S1x1024x256 .f32) (xs0 : Vec F S1024x384 .bf16) :
    { LS0 : List (View.Piece (Elt F) S1024x384 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ (∃ d, owns (c : Thread nD τ) arg6 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ (∃ d, owns (c : Thread nD τ) arg6 fullShare d)) -∗ K ⟨⟩))
          ⊢ wp frame (wpE (defs₀ (F := F)) Variants.none c none) E (cc0_cmp_select_dec i arg1 harg1 arg2 harg2 arg3 harg3 arg4 harg4 arg5 harg5 arg6 harg6) K } := by
  refine ⟨[], fun E K => ?run⟩
  case run =>
    simp only [cc0_cmp_select_dec_eq_skeleton]; unfold cc0_cmp_select_dec_skel
    simp only [k0_part12_eq_skeleton, k0_part9_eq_skeleton, k0_part10_eq_skeleton, k0_part11_eq_skeleton, k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%ds1, %fs1, -, HS1⟩, Hk⟩
    obtain rfl := harg1.eq_unread hf0; obtain rfl := harg2.eq_unread hf1; obtain rfl := harg5.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [HS0]
    · iexists _; isplitr; · ipureintro; exact harg5.read_unread _
      iexact HS0
    iexists _, _; isplitr; swap; · iexact HS1
    ipureintro; rfl

end Cert.SelIdeal.Gen

end
-- ==== Proof.SelIdealFrame.lean ====
/- The frame of the sample's selection in its ideal form: what its carried scratch holds point by point, the body's triple at every point,
   the run and the frame. Of the outputs nothing is named. -/
module

public import proofs.«01_k».proof.Proof.SelIdealRunC
public import Idealize.ShloMosaic.Lib.Claim

@[expose] public section

-- membership in a rectangle of production extents (`View.cover_of_tiled`): the elaborator's structural look
-- recurses once per coordinate of the long axes
set_option maxRecDepth 16384

noncomputable section

namespace Cert.SelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg5`, which the kernel carries between points, cover it: 1 piece of `S1024x384` tiling it (Lib/Ring.lean `Piece.tiledL`). -/
theorem scover0_A_0 (c : Dev nD) (i : grid0.Coords) (arg1 : Memref sig .tc .vmem S1x8x64 .f32) (harg1 : arg1.IsWhole) (arg2 : Memref sig .tc .vmem S1x1024x256 .f32) (harg2 : arg2.IsWhole) (arg3 : Memref sig .tc .vmem S1x8x64 .f32) (harg3 : arg3.IsWhole) (arg4 : Memref sig .tc .vmem S32x8x128 .i32) (harg4 : arg4.IsWhole) (arg5 : Memref sig .tc .vmem S1024x384 .bf16) (harg5 : arg5.IsWhole) (arg6 : Memref sig .tc .vmem S32x8x384 .f32) (harg6 : arg6.IsWhole) (hc0 : cond0_0 i) (hc1 : ¬cond0_1 i)
    (x0 : Vec F S1x8x64 .f32) (x1 : Vec F S1x1024x256 .f32) (y : S1024x384.Idx) :
    ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S1024x384.size (by sl_kernel_rfl) y

/-- What case A leaves in scratch `arg5`: its pieces read back over junk. -/
def sout0_A_0 (c : Dev nD) (i : grid0.Coords) (arg1 : Memref sig .tc .vmem S1x8x64 .f32) (harg1 : arg1.IsWhole) (arg2 : Memref sig .tc .vmem S1x1024x256 .f32) (harg2 : arg2.IsWhole) (arg3 : Memref sig .tc .vmem S1x8x64 .f32) (harg3 : arg3.IsWhole) (arg4 : Memref sig .tc .vmem S32x8x128 .i32) (harg4 : arg4.IsWhole) (arg5 : Memref sig .tc .vmem S1024x384 .bf16) (harg5 : arg5.IsWhole) (arg6 : Memref sig .tc .vmem S32x8x384 .f32) (harg6 : arg6.IsWhole) (hc0 : cond0_0 i) (hc1 : ¬cond0_1 i)
    (x0 : Vec F S1x8x64 .f32) (x1 : Vec F S1x1024x256 .f32) : Vec F S1024x384 .bf16 :=
  VS0_0.read (Elt F) (VS0_0.writes (Elt F) VS0_0.junk (kernelRun0_A c i arg1 harg1 arg2 harg2 arg3 harg3 arg4 harg4 arg5 harg5 arg6 harg6 hc0 hc1 x0 x1).1)

/-- Case B stores nothing into scratch `arg5`: it holds what the point before left. -/
def sout0_B_0 (c : Dev nD) (i : grid0.Coords) (arg1 : Memref sig .tc .vmem S1x8x64 .f32) (harg1 : arg1.IsWhole) (arg2 : Memref sig .tc .vmem S1x1024x256 .f32) (harg2 : arg2.IsWhole) (arg3 : Memref sig .tc .vmem S1x8x64 .f32) (harg3 : arg3.IsWhole) (arg4 : Memref sig .tc .vmem S32x8x128 .i32) (harg4 : arg4.IsWhole) (arg5 : Memref sig .tc .vmem S1024x384 .bf16) (harg5 : arg5.IsWhole) (arg6 : Memref sig .tc .vmem S32x8x384 .f32) (harg6 : arg6.IsWhole) (hc0 : ¬cond0_0 i) (hc1 : ¬cond0_1 i)
    (x0 : Vec F S1x8x64 .f32) (x1 : Vec F S1x1024x256 .f32) (xs0 : Vec F S1024x384 .bf16) : Vec F S1024x384 .bf16 := xs0

/-- Case C stores nothing into scratch `arg5`: it holds what the point before left. -/
def sout0_C_0 (c : Dev nD) (i : grid0.Coords) (arg1 : Memref sig .tc .vmem S1x8x64 .f32) (harg1 : arg1.IsWhole) (arg2 : Memref sig .tc .vmem S1x1024x256 .f32) (harg2 : arg2.IsWhole) (arg3 : Memref sig .tc .vmem S1x8x64 .f32) (harg3 : arg3.IsWhole) (arg4 : Memref sig .tc .vmem S32x8x128 .i32) (harg4 : arg4.IsWhole) (arg5 : Memref sig .tc .vmem S1024x384 .bf16) (harg5 : arg5.IsWhole) (arg6 : Memref sig .tc .vmem S32x8x384 .f32) (harg6 : arg6.IsWhole) (hc0 : ¬cond0_0 i) (hc1 : cond0_1 i)
    (x0 : Vec F S1x8x64 .f32) (x1 : Vec F S1x1024x256 .f32) (xs0 : Vec F S1024x384 .bf16) : Vec F S1024x384 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x384 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩)
  | n + 1, hn =>
    if h0 : (n + 1) % 32 = 0 then
      if h1 : (n + 1) % 32 = 31 then
        False.elim (by have hN : n + 1 < 32 := lt_of_lt_of_eq hn (show cfg0.N = 32 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩)
    else
      if h1 : (n + 1) % 32 = 31 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn))

/-- `outsAt0` at a point of case A: that case's contents. -/
theorem outsAt0_A (c : Dev nD) (t : Fin cfg0.N) (h0 : t.val % 32 = 0) (h1 : ¬t.val % 32 = 31) :
    outsAt0 m c t.val t.isLt = sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (2, 3): nothing reads what the kernel leaves in them, so nothing
    of it is named (Lib/Pipeline/Dat.lean `Dat.toRForget`). -/
def forgets0 : Fin 4 → Bool := fun w => w.val == 2 || w.val == 3

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d))

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      by_cases hz : t.val = 0
      · rw [PhiS_castSucc m c t, PhiS_zero m c _ _ hz, PhiA0_eq]
        rw [outsAt0_A m c t h0 h1]
        unfold sout0_A_0
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t)).2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, H2, H3, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            iexact HS1
          iexact Hg
        isplitl [Ho]; · iexact Ho
        isplitl [H0]; · iexact H0
        isplitl [H1]; · iexact H1
        isplitl [H2]; · iexact H2
        iexact H3
      · exfalso; have hN : t.val < 32 := lt_of_lt_of_eq t.isLt (show cfg0.N = 32 from N_0); omega
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold sout0_C_0
        iintro ⟨⟨⟨HS0, HS1⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) _).2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, H2, H3, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        iexact H3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold sout0_B_0
        iintro ⟨⟨⟨HS0, HS1⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) _).2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, H2, H3, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 2, 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_SelIdeal`'s statement (Defs.lean) at any `F` — Proof.lean cites it at `Bits`:
    `theorem Cert.Proof.claim : Cert.Claim := ⟨Cert.SelIdeal.Gen.facts, fun m ρ _ => Cert.SelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.SelIdeal.Gen

end
-- ==== Proof.lean ====
module

public import proofs.«01_k».proof.Defs
public import proofs.«01_k».proof.Proof.Gen.Kernel
public import proofs.«01_k».proof.Proof.Gen.KernelIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.Gen.Front
public import proofs.«01_k».proof.Proof.Gen.Front.Frame
public import proofs.«01_k».proof.Proof.Gen.FrontIdeal
public import proofs.«01_k».proof.Proof.Gen.FrontIdeal.Frame
public import proofs.«01_k».proof.Proof.Gen.FrontIdeal.Value
public import proofs.«01_k».proof.Proof.Gen.FrontRefIdeal
public import proofs.«01_k».proof.Proof.Gen.FrontRefIdeal.Run
public import proofs.«01_k».proof.Proof.Gen.FrontRefIdeal.Read
public import proofs.«01_k».proof.Proof.Gen.FrontDec
public import proofs.«01_k».proof.Proof.Gen.FrontDec.Frame
public import proofs.«01_k».proof.Proof.Gen.FrontDecIdeal
public import proofs.«01_k».proof.Proof.Gen.FrontDecIdeal.Frame
public import proofs.«01_k».proof.Proof.Gen.FrontDecIdeal.Value
public import proofs.«01_k».proof.Proof.Gen.FrontDecRefIdeal
public import proofs.«01_k».proof.Proof.Gen.FrontDecRefIdeal.Run
public import proofs.«01_k».proof.Proof.Gen.FrontDecRefIdeal.Read
public import proofs.«01_k».proof.Proof.Gen.MixDec
public import proofs.«01_k».proof.Proof.Gen.MixDec.Frame
public import proofs.«01_k».proof.Proof.Gen.MixDecIdeal
public import proofs.«01_k».proof.Proof.Gen.MixDecIdeal.Frame
public import proofs.«01_k».proof.Proof.Gen.MixDecIdeal.Value
public import proofs.«01_k».proof.Proof.Gen.MixDecRefIdeal
public import proofs.«01_k».proof.Proof.Gen.MixDecRefIdeal.Run
public import proofs.«01_k».proof.Proof.Gen.MixDecRefIdeal.Read
public import proofs.«01_k».proof.Proof.Gen.FfnDec
public import proofs.«01_k».proof.Proof.Gen.FfnDec.Frame
public import proofs.«01_k».proof.Proof.Gen.FfnDecIdeal
public import proofs.«01_k».proof.Proof.Gen.FfnDecIdeal.Frame
public import proofs.«01_k».proof.Proof.Gen.FfnDecIdeal.Value
public import proofs.«01_k».proof.Proof.Gen.FfnDecRefIdeal
public import proofs.«01_k».proof.Proof.Gen.FfnDecRefIdeal.Run
public import proofs.«01_k».proof.Proof.Gen.FfnDecRefIdeal.Read
public import proofs.«01_k».proof.Proof.Gen.Cmp
public import proofs.«01_k».proof.Proof.Gen.Cmp.Frame
public import proofs.«01_k».proof.Proof.Gen.CmpIdeal
public import proofs.«01_k».proof.Proof.Gen.CmpIdeal.Frame
public import proofs.«01_k».proof.Proof.Gen.CmpIdeal.Value
public import proofs.«01_k».proof.Proof.Gen.CmpRefIdeal
public import proofs.«01_k».proof.Proof.Gen.CmpRefIdeal.Run
public import proofs.«01_k».proof.Proof.Gen.CmpRefIdeal.Read
public import proofs.«01_k».proof.Proof.Gen.Sel
public import proofs.«01_k».proof.Proof.Gen.SelIdeal
public import proofs.«01_k».proof.Proof.AttnFrame
public import proofs.«01_k».proof.Proof.AttnIdealFrame
public import proofs.«01_k».proof.Proof.CmpClaim
public import proofs.«01_k».proof.Proof.FfnClaim
public import proofs.«01_k».proof.Proof.FfnDecClaim
public import proofs.«01_k».proof.Proof.FrontClaim
public import proofs.«01_k».proof.Proof.FrontDecClaim
public import proofs.«01_k».proof.Proof.MixClaim
public import proofs.«01_k».proof.Proof.MixDecClaim
public import proofs.«01_k».proof.Proof.SelFrame
public import proofs.«01_k».proof.Proof.SelIdealFrame

@[expose] public section

theorem Cert.Proof.claim : Cert.Claim :=
  ⟨Cert.Kernel.Gen.facts, Cert.KernelIdeal.Gen.facts, Cert.Ffn.Gen.facts, Cert.FfnIdeal.Gen.facts, Cert.FfnRefIdeal.Gen.facts, Cert.Mix.Gen.facts, Cert.MixIdeal.Gen.facts, Cert.MixRefIdeal.Gen.facts, Cert.Front.Gen.facts, Cert.FrontIdeal.Gen.facts, Cert.FrontRefIdeal.Gen.facts, Cert.FrontDec.Gen.facts, Cert.FrontDecIdeal.Gen.facts, Cert.FrontDecRefIdeal.Gen.facts, Cert.MixDec.Gen.facts, Cert.MixDecIdeal.Gen.facts, Cert.MixDecRefIdeal.Gen.facts, Cert.FfnDec.Gen.facts, Cert.FfnDecIdeal.Gen.facts, Cert.FfnDecRefIdeal.Gen.facts, Cert.Cmp.Gen.facts, Cert.CmpIdeal.Gen.facts, Cert.CmpRefIdeal.Gen.facts, Cert.Sel.Gen.facts, Cert.SelIdeal.Gen.facts,
    fun m g _ => Cert.Kernel.Gen.frame m g,
    fun m g _ => Cert.KernelIdeal.Gen.frame m g,
    Cert.FfnClaim.frame,
    Cert.FfnClaim.frameIdeal,
    Cert.FfnClaim.frameRef,
    Cert.MixClaim.frame,
    Cert.MixClaim.frameIdeal,
    Cert.MixClaim.frameRef,
    Cert.FrontClaim.frame,
    Cert.FrontClaim.frameIdeal,
    Cert.FrontClaim.frameRef,
    Cert.FrontDecClaim.frame,
    Cert.FrontDecClaim.frameIdeal,
    Cert.FrontDecClaim.frameRef,
    Cert.MixDecClaim.frame,
    Cert.MixDecClaim.frameIdeal,
    Cert.MixDecClaim.frameRef,
    Cert.FfnDecClaim.frame,
    Cert.FfnDecClaim.frameIdeal,
    Cert.FfnDecClaim.frameRef,
    Cert.CmpClaim.frame,
    Cert.CmpClaim.frameIdeal,
    Cert.CmpClaim.frameRef,
    fun m g _ => Cert.Sel.Gen.frame m g,
    fun m g _ => Cert.SelIdeal.Gen.frame m g,
    trivial,
    trivial,
    Cert.FfnClaim.algebraic,
    trivial,
    Cert.MixClaim.algebraic,
    trivial,
    Cert.FrontClaim.algebraic,
    trivial,
    Cert.FrontDecClaim.algebraic,
    trivial,
    Cert.MixDecClaim.algebraic,
    trivial,
    Cert.FfnDecClaim.algebraic,
    trivial,
    Cert.CmpClaim.algebraic,
    trivial⟩
